-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelDact (m : (ℓ : Loc Cert.KernelDact.nD Cert.KernelDact.τ Cert.KernelDact.sig) → Buf (Elt Bits) ℓ) : Prop :=
  True

def Pre_KernelDactIdeal (m : (ℓ : Loc Cert.KernelDactIdeal.nD Cert.KernelDactIdeal.τ Cert.KernelDactIdeal.sig) → Buf (Elt Ideal) ℓ) : Prop :=
  True

def Pre_ReferenceDactIdeal (m : (ℓ : Loc Cert.ReferenceDactIdeal.nD Cert.ReferenceDactIdeal.τ Cert.ReferenceDactIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelDwout (m : (ℓ : Loc Cert.KernelDwout.nD Cert.KernelDwout.τ Cert.KernelDwout.sig) → Buf (Elt Bits) ℓ) : Prop :=
  True

def Pre_KernelDwoutIdeal (m : (ℓ : Loc Cert.KernelDwoutIdeal.nD Cert.KernelDwoutIdeal.τ Cert.KernelDwoutIdeal.sig) → Buf (Elt Ideal) ℓ) : Prop :=
  True

def Pre_ReferenceDwoutIdeal (m : (ℓ : Loc Cert.ReferenceDwoutIdeal.nD Cert.ReferenceDwoutIdeal.τ Cert.ReferenceDwoutIdeal.sig) → Buf (Elt Ideal) ℓ) : Prop :=
  True

def Pre_KernelDwinLo (m : (ℓ : Loc Cert.KernelDwinLo.nD Cert.KernelDwinLo.τ Cert.KernelDwinLo.sig) → Buf (Elt Bits) ℓ) : Prop :=
  True

def Pre_KernelDwinLoIdeal (m : (ℓ : Loc Cert.KernelDwinLoIdeal.nD Cert.KernelDwinLoIdeal.τ Cert.KernelDwinLoIdeal.sig) → Buf (Elt Ideal) ℓ) : Prop :=
  True

def Pre_ReferenceDwinLoIdeal (m : (ℓ : Loc Cert.ReferenceDwinLoIdeal.nD Cert.ReferenceDwinLoIdeal.τ Cert.ReferenceDwinLoIdeal.sig) → Buf (Elt Ideal) ℓ) : Prop :=
  True

def Pre_KernelDwinHi (m : (ℓ : Loc Cert.KernelDwinHi.nD Cert.KernelDwinHi.τ Cert.KernelDwinHi.sig) → Buf (Elt Bits) ℓ) : Prop :=
  True

def Pre_KernelDwinHiIdeal (m : (ℓ : Loc Cert.KernelDwinHiIdeal.nD Cert.KernelDwinHiIdeal.τ Cert.KernelDwinHiIdeal.sig) → Buf (Elt Ideal) ℓ) : Prop :=
  True

def Pre_ReferenceDwinHiIdeal (m : (ℓ : Loc Cert.ReferenceDwinHiIdeal.nD Cert.ReferenceDwinHiIdeal.τ Cert.ReferenceDwinHiIdeal.sig) → Buf (Elt Ideal) ℓ) : Prop :=
  True

def Pre_KernelDu (m : (ℓ : Loc Cert.KernelDu.nD Cert.KernelDu.τ Cert.KernelDu.sig) → Buf (Elt Bits) ℓ) : Prop :=
  True

def Pre_KernelDuIdeal (m : (ℓ : Loc Cert.KernelDuIdeal.nD Cert.KernelDuIdeal.τ Cert.KernelDuIdeal.sig) → Buf (Elt Ideal) ℓ) : Prop :=
  True

def Pre_ReferenceDuIdeal (m : (ℓ : Loc Cert.ReferenceDuIdeal.nD Cert.ReferenceDuIdeal.τ Cert.ReferenceDuIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelSqDw (m : (ℓ : Loc Cert.KernelSqDw.nD Cert.KernelSqDw.τ Cert.KernelSqDw.sig) → Buf (Elt Bits) ℓ) : Prop :=
  True

def Pre_KernelSqDwIdeal (m : (ℓ : Loc Cert.KernelSqDwIdeal.nD Cert.KernelSqDwIdeal.τ Cert.KernelSqDwIdeal.sig) → Buf (Elt Ideal) ℓ) : Prop :=
  True

def Pre_ReferenceSqDwIdeal (m : (ℓ : Loc Cert.ReferenceSqDwIdeal.nD Cert.ReferenceSqDwIdeal.τ Cert.ReferenceSqDwIdeal.sig) → Buf (Elt Ideal) ℓ) : Prop :=
  True

def Pre_KernelSqDz (m : (ℓ : Loc Cert.KernelSqDz.nD Cert.KernelSqDz.τ Cert.KernelSqDz.sig) → Buf (Elt Bits) ℓ) : Prop :=
  True

def Pre_KernelSqDzIdeal (m : (ℓ : Loc Cert.KernelSqDzIdeal.nD Cert.KernelSqDzIdeal.τ Cert.KernelSqDzIdeal.sig) → Buf (Elt Ideal) ℓ) : Prop :=
  True

def Pre_ReferenceSqDzIdeal (m : (ℓ : Loc Cert.ReferenceSqDzIdeal.nD Cert.ReferenceSqDzIdeal.τ Cert.ReferenceSqDzIdeal.sig) → Buf (Elt Ideal) ℓ) : Prop :=
  True

def Pre_KernelHgrnDwinLo (m : (ℓ : Loc Cert.KernelHgrnDwinLo.nD Cert.KernelHgrnDwinLo.τ Cert.KernelHgrnDwinLo.sig) → Buf (Elt Bits) ℓ) : Prop :=
  True

def Pre_KernelHgrnDwinLoIdeal (m : (ℓ : Loc Cert.KernelHgrnDwinLoIdeal.nD Cert.KernelHgrnDwinLoIdeal.τ Cert.KernelHgrnDwinLoIdeal.sig) → Buf (Elt Ideal) ℓ) : Prop :=
  True

def Pre_ReferenceHgrnDwinLoIdeal (m : (ℓ : Loc Cert.ReferenceHgrnDwinLoIdeal.nD Cert.ReferenceHgrnDwinLoIdeal.τ Cert.ReferenceHgrnDwinLoIdeal.sig) → Buf (Elt Ideal) ℓ) : Prop :=
  True

def Pre_KernelHgrnDwinHi (m : (ℓ : Loc Cert.KernelHgrnDwinHi.nD Cert.KernelHgrnDwinHi.τ Cert.KernelHgrnDwinHi.sig) → Buf (Elt Bits) ℓ) : Prop :=
  True

def Pre_KernelHgrnDwinHiIdeal (m : (ℓ : Loc Cert.KernelHgrnDwinHiIdeal.nD Cert.KernelHgrnDwinHiIdeal.τ Cert.KernelHgrnDwinHiIdeal.sig) → Buf (Elt Ideal) ℓ) : Prop :=
  True

def Pre_ReferenceHgrnDwinHiIdeal (m : (ℓ : Loc Cert.ReferenceHgrnDwinHiIdeal.nD Cert.ReferenceHgrnDwinHiIdeal.τ Cert.ReferenceHgrnDwinHiIdeal.sig) → Buf (Elt Ideal) ℓ) : Prop :=
  True

def Pre_KernelHgrnDu (m : (ℓ : Loc Cert.KernelHgrnDu.nD Cert.KernelHgrnDu.τ Cert.KernelHgrnDu.sig) → Buf (Elt Bits) ℓ) : Prop :=
  True

def Pre_KernelHgrnDuIdeal (m : (ℓ : Loc Cert.KernelHgrnDuIdeal.nD Cert.KernelHgrnDuIdeal.τ Cert.KernelHgrnDuIdeal.sig) → Buf (Elt Ideal) ℓ) : Prop :=
  True

def Pre_ReferenceHgrnDuIdeal (m : (ℓ : Loc Cert.ReferenceHgrnDuIdeal.nD Cert.ReferenceHgrnDuIdeal.τ Cert.ReferenceHgrnDuIdeal.sig) → Buf (Elt Ideal) ℓ) : Prop :=
  True

def Pre_KernelHgrnProj (m : (ℓ : Loc Cert.KernelHgrnProj.nD Cert.KernelHgrnProj.τ Cert.KernelHgrnProj.sig) → Buf (Elt Bits) ℓ) : Prop :=
  True

def Pre_KernelHgrnProjIdeal (m : (ℓ : Loc Cert.KernelHgrnProjIdeal.nD Cert.KernelHgrnProjIdeal.τ Cert.KernelHgrnProjIdeal.sig) → Buf (Elt Ideal) ℓ) : Prop :=
  True

def Pre_ReferenceHgrnProjIdeal (m : (ℓ : Loc Cert.ReferenceHgrnProjIdeal.nD Cert.ReferenceHgrnProjIdeal.τ Cert.ReferenceHgrnProjIdeal.sig) → Buf (Elt Ideal) ℓ) : Prop :=
  True

def Pre_KernelSqOut (m : (ℓ : Loc Cert.KernelSqOut.nD Cert.KernelSqOut.τ Cert.KernelSqOut.sig) → Buf (Elt Bits) ℓ) : Prop :=
  True

def Pre_KernelSqOutIdeal (m : (ℓ : Loc Cert.KernelSqOutIdeal.nD Cert.KernelSqOutIdeal.τ Cert.KernelSqOutIdeal.sig) → Buf (Elt Ideal) ℓ) : Prop :=
  True

def Pre_ReferenceSqOutIdeal (m : (ℓ : Loc Cert.ReferenceSqOutIdeal.nD Cert.ReferenceSqOutIdeal.τ Cert.ReferenceSqOutIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelKvDw (m : (ℓ : Loc Cert.KernelKvDw.nD Cert.KernelKvDw.τ Cert.KernelKvDw.sig) → Buf (Elt Bits) ℓ) : Prop :=
  True

def Pre_KernelKvDwIdeal (m : (ℓ : Loc Cert.KernelKvDwIdeal.nD Cert.KernelKvDwIdeal.τ Cert.KernelKvDwIdeal.sig) → Buf (Elt Ideal) ℓ) : Prop :=
  True

def Pre_ReferenceKvDwIdeal (m : (ℓ : Loc Cert.ReferenceKvDwIdeal.nD Cert.ReferenceKvDwIdeal.τ Cert.ReferenceKvDwIdeal.sig) → Buf (Elt Ideal) ℓ) : Prop :=
  True

def Pre_KernelKvDu (m : (ℓ : Loc Cert.KernelKvDu.nD Cert.KernelKvDu.τ Cert.KernelKvDu.sig) → Buf (Elt Bits) ℓ) : Prop :=
  True

def Pre_KernelKvDuIdeal (m : (ℓ : Loc Cert.KernelKvDuIdeal.nD Cert.KernelKvDuIdeal.τ Cert.KernelKvDuIdeal.sig) → Buf (Elt Ideal) ℓ) : Prop :=
  True

def Pre_ReferenceKvDuIdeal (m : (ℓ : Loc Cert.ReferenceKvDuIdeal.nD Cert.ReferenceKvDuIdeal.τ Cert.ReferenceKvDuIdeal.sig) → Buf (Elt Ideal) ℓ) : Prop :=
  True

def Pre_KernelAttOut (m : (ℓ : Loc Cert.KernelAttOut.nD Cert.KernelAttOut.τ Cert.KernelAttOut.sig) → Buf (Elt Bits) ℓ) : Prop :=
  True

def Pre_KernelAttOutIdeal (m : (ℓ : Loc Cert.KernelAttOutIdeal.nD Cert.KernelAttOutIdeal.τ Cert.KernelAttOutIdeal.sig) → Buf (Elt Ideal) ℓ) : Prop :=
  True

def Pre_ReferenceAttOutIdeal (m : (ℓ : Loc Cert.ReferenceAttOutIdeal.nD Cert.ReferenceAttOutIdeal.τ Cert.ReferenceAttOutIdeal.sig) → Buf (Elt Ideal) ℓ) : Prop :=
  True

def Pre_KernelAttDw (m : (ℓ : Loc Cert.KernelAttDw.nD Cert.KernelAttDw.τ Cert.KernelAttDw.sig) → Buf (Elt Bits) ℓ) : Prop :=
  True

def Pre_KernelAttDwIdeal (m : (ℓ : Loc Cert.KernelAttDwIdeal.nD Cert.KernelAttDwIdeal.τ Cert.KernelAttDwIdeal.sig) → Buf (Elt Ideal) ℓ) : Prop :=
  True

def Pre_ReferenceAttDwIdeal (m : (ℓ : Loc Cert.ReferenceAttDwIdeal.nD Cert.ReferenceAttDwIdeal.τ Cert.ReferenceAttDwIdeal.sig) → Buf (Elt Ideal) ℓ) : Prop :=
  True

def Pre_KernelQDw (m : (ℓ : Loc Cert.KernelQDw.nD Cert.KernelQDw.τ Cert.KernelQDw.sig) → Buf (Elt Bits) ℓ) : Prop :=
  True

def Pre_KernelQDwIdeal (m : (ℓ : Loc Cert.KernelQDwIdeal.nD Cert.KernelQDwIdeal.τ Cert.KernelQDwIdeal.sig) → Buf (Elt Ideal) ℓ) : Prop :=
  True

def Pre_ReferenceQDwIdeal (m : (ℓ : Loc Cert.ReferenceQDwIdeal.nD Cert.ReferenceQDwIdeal.τ Cert.ReferenceQDwIdeal.sig) → Buf (Elt Ideal) ℓ) : Prop :=
  True

def Pre_KernelQDu (m : (ℓ : Loc Cert.KernelQDu.nD Cert.KernelQDu.τ Cert.KernelQDu.sig) → Buf (Elt Bits) ℓ) : Prop :=
  True

def Pre_KernelQDuIdeal (m : (ℓ : Loc Cert.KernelQDuIdeal.nD Cert.KernelQDuIdeal.τ Cert.KernelQDuIdeal.sig) → Buf (Elt Ideal) ℓ) : Prop :=
  True

def Pre_ReferenceQDuIdeal (m : (ℓ : Loc Cert.ReferenceQDuIdeal.nD Cert.ReferenceQDuIdeal.τ Cert.ReferenceQDuIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNormBwd (m : (ℓ : Loc Cert.KernelNormBwd.nD Cert.KernelNormBwd.τ Cert.KernelNormBwd.sig) → Buf (Elt Bits) ℓ) : Prop :=
  True

def Pre_KernelNormBwdIdeal (m : (ℓ : Loc Cert.KernelNormBwdIdeal.nD Cert.KernelNormBwdIdeal.τ Cert.KernelNormBwdIdeal.sig) → Buf (Elt Ideal) ℓ) : Prop :=
  True

def Pre_ReferenceNormBwdIdeal (m : (ℓ : Loc Cert.ReferenceNormBwdIdeal.nD Cert.ReferenceNormBwdIdeal.τ Cert.ReferenceNormBwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDact [hKernelDact : Cert.KernelDact.Facts] : Prop :=
  ∀ (m : (ℓ : Loc Cert.KernelDact.nD Cert.KernelDact.τ Cert.KernelDact.sig) → Buf (Elt Bits) ℓ) (g : Dev Cert.KernelDact.nD → PrngReg), Pre_KernelDact m →
    θ_run (Cert.KernelDact.defs (F := Bits)) (onTc (τ := Cert.KernelDact.τ) (Cert.KernelDact.main (F := Bits))) ⟨m, fun _ => 0, g⟩ (fun r => (∀ c : Dev Cert.KernelDact.nD,
      r.2.mem ((c.tc : Thread Cert.KernelDact.nD Cert.KernelDact.τ).loc Cert.KernelDact.main_arg0) = m ((c.tc : Thread Cert.KernelDact.nD Cert.KernelDact.τ).loc Cert.KernelDact.main_arg0)
      ∧ r.2.mem ((c.tc : Thread Cert.KernelDact.nD Cert.KernelDact.τ).loc Cert.KernelDact.main_arg1) = m ((c.tc : Thread Cert.KernelDact.nD Cert.KernelDact.τ).loc Cert.KernelDact.main_arg1)
      ∧ r.2.mem ((c.tc : Thread Cert.KernelDact.nD Cert.KernelDact.τ).loc Cert.KernelDact.main_arg2) = m ((c.tc : Thread Cert.KernelDact.nD Cert.KernelDact.τ).loc Cert.KernelDact.main_arg2)
      ∧ r.2.mem ((c.tc : Thread Cert.KernelDact.nD Cert.KernelDact.τ).loc Cert.KernelDact.main_arg3) = m ((c.tc : Thread Cert.KernelDact.nD Cert.KernelDact.τ).loc Cert.KernelDact.main_arg3))
      ∧ r.2.sem = fun _ => 0)

def quiescent_KernelDactIdeal [hKernelDactIdeal : Cert.KernelDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg), Pre_KernelDactIdeal m →
    θ_run (Cert.KernelDactIdeal.defs (F := Ideal)) (onTc (τ := Cert.KernelDactIdeal.τ) (Cert.KernelDactIdeal.main (F := Ideal))) ⟨m, fun _ => 0, g⟩ (fun r => (∀ c : Dev Cert.KernelDactIdeal.nD,
      r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
      ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1)
      ∧ r.2.mem ((c.tc : Thread Cert.KernelDactIdeal.nD Cert.KernelDactIdeal.τ).loc Cert.KernelDactIdeal.main_arg2) = m ((c.tc : Thread Cert.KernelDactIdeal.nD Cert.KernelDactIdeal.τ).loc Cert.KernelDactIdeal.main_arg2)
      ∧ r.2.mem ((c.tc : Thread Cert.KernelDactIdeal.nD Cert.KernelDactIdeal.τ).loc Cert.KernelDactIdeal.main_arg3) = m ((c.tc : Thread Cert.KernelDactIdeal.nD Cert.KernelDactIdeal.τ).loc Cert.KernelDactIdeal.main_arg3))
      ∧ r.2.sem = fun _ => 0)

def quiescent_ReferenceDactIdeal [hReferenceDactIdeal : Cert.ReferenceDactIdeal.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1)
      ∧ r.2.mem ((c.tc : Thread Cert.ReferenceDactIdeal.nD Cert.ReferenceDactIdeal.τ).loc Cert.ReferenceDactIdeal.main_arg2) = m ((c.tc : Thread Cert.ReferenceDactIdeal.nD Cert.ReferenceDactIdeal.τ).loc Cert.ReferenceDactIdeal.main_arg2)
      ∧ r.2.mem ((c.tc : Thread Cert.ReferenceDactIdeal.nD Cert.ReferenceDactIdeal.τ).loc Cert.ReferenceDactIdeal.main_arg3) = m ((c.tc : Thread Cert.ReferenceDactIdeal.nD Cert.ReferenceDactIdeal.τ).loc Cert.ReferenceDactIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelDwout [hKernelDwout : Cert.KernelDwout.Facts] : Prop :=
  ∀ (m : (ℓ : Loc Cert.KernelDwout.nD Cert.KernelDwout.τ Cert.KernelDwout.sig) → Buf (Elt Bits) ℓ) (g : Dev Cert.KernelDwout.nD → PrngReg), Pre_KernelDwout m →
    θ_run (Cert.KernelDwout.defs (F := Bits)) (onTc (τ := Cert.KernelDwout.τ) (Cert.KernelDwout.main (F := Bits))) ⟨m, fun _ => 0, g⟩ (fun r => (∀ c : Dev Cert.KernelDwout.nD,
      r.2.mem ((c.tc : Thread Cert.KernelDwout.nD Cert.KernelDwout.τ).loc Cert.KernelDwout.main_arg0) = m ((c.tc : Thread Cert.KernelDwout.nD Cert.KernelDwout.τ).loc Cert.KernelDwout.main_arg0)
      ∧ r.2.mem ((c.tc : Thread Cert.KernelDwout.nD Cert.KernelDwout.τ).loc Cert.KernelDwout.main_arg1) = m ((c.tc : Thread Cert.KernelDwout.nD Cert.KernelDwout.τ).loc Cert.KernelDwout.main_arg1))
      ∧ r.2.sem = fun _ => 0)

def quiescent_KernelDwoutIdeal [hKernelDwoutIdeal : Cert.KernelDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg), Pre_KernelDwoutIdeal m →
    θ_run (Cert.KernelDwoutIdeal.defs (F := Ideal)) (onTc (τ := Cert.KernelDwoutIdeal.τ) (Cert.KernelDwoutIdeal.main (F := Ideal))) ⟨m, fun _ => 0, g⟩ (fun r => (∀ c : Dev Cert.KernelDwoutIdeal.nD,
      r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
      ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ r.2.sem = fun _ => 0)

def quiescent_ReferenceDwoutIdeal [hReferenceDwoutIdeal : Cert.ReferenceDwoutIdeal.Facts] : Prop :=
  ∀ (m : (ℓ : Loc Cert.ReferenceDwoutIdeal.nD Cert.ReferenceDwoutIdeal.τ Cert.ReferenceDwoutIdeal.sig) → Buf (Elt Ideal) ℓ) (g : Dev Cert.ReferenceDwoutIdeal.nD → PrngReg), Pre_ReferenceDwoutIdeal m →
    θ_run (Cert.ReferenceDwoutIdeal.defs (F := Ideal)) (onTc (τ := Cert.ReferenceDwoutIdeal.τ) (Cert.ReferenceDwoutIdeal.main (F := Ideal))) ⟨m, fun _ => 0, g⟩ (fun r => (∀ c : Dev Cert.ReferenceDwoutIdeal.nD,
      r.2.mem ((c.tc : Thread Cert.ReferenceDwoutIdeal.nD Cert.ReferenceDwoutIdeal.τ).loc Cert.ReferenceDwoutIdeal.main_arg0) = m ((c.tc : Thread Cert.ReferenceDwoutIdeal.nD Cert.ReferenceDwoutIdeal.τ).loc Cert.ReferenceDwoutIdeal.main_arg0)
      ∧ r.2.mem ((c.tc : Thread Cert.ReferenceDwoutIdeal.nD Cert.ReferenceDwoutIdeal.τ).loc Cert.ReferenceDwoutIdeal.main_arg1) = m ((c.tc : Thread Cert.ReferenceDwoutIdeal.nD Cert.ReferenceDwoutIdeal.τ).loc Cert.ReferenceDwoutIdeal.main_arg1))
      ∧ r.2.sem = fun _ => 0)

def quiescent_KernelDwinLo [hKernelDwinLo : Cert.KernelDwinLo.Facts] : Prop :=
  ∀ (m : (ℓ : Loc Cert.KernelDwinLo.nD Cert.KernelDwinLo.τ Cert.KernelDwinLo.sig) → Buf (Elt Bits) ℓ) (g : Dev Cert.KernelDwinLo.nD → PrngReg), Pre_KernelDwinLo m →
    θ_run (Cert.KernelDwinLo.defs (F := Bits)) (onTc (τ := Cert.KernelDwinLo.τ) (Cert.KernelDwinLo.main (F := Bits))) ⟨m, fun _ => 0, g⟩ (fun r => (∀ c : Dev Cert.KernelDwinLo.nD,
      r.2.mem ((c.tc : Thread Cert.KernelDwinLo.nD Cert.KernelDwinLo.τ).loc Cert.KernelDwinLo.main_arg0) = m ((c.tc : Thread Cert.KernelDwinLo.nD Cert.KernelDwinLo.τ).loc Cert.KernelDwinLo.main_arg0)
      ∧ r.2.mem ((c.tc : Thread Cert.KernelDwinLo.nD Cert.KernelDwinLo.τ).loc Cert.KernelDwinLo.main_arg1) = m ((c.tc : Thread Cert.KernelDwinLo.nD Cert.KernelDwinLo.τ).loc Cert.KernelDwinLo.main_arg1))
      ∧ r.2.sem = fun _ => 0)

def quiescent_KernelDwinLoIdeal [hKernelDwinLoIdeal : Cert.KernelDwinLoIdeal.Facts] : Prop :=
  ∀ (m : (ℓ : Loc Cert.KernelDwinLoIdeal.nD Cert.KernelDwinLoIdeal.τ Cert.KernelDwinLoIdeal.sig) → Buf (Elt Ideal) ℓ) (g : Dev Cert.KernelDwinLoIdeal.nD → PrngReg), Pre_KernelDwinLoIdeal m →
    θ_run (Cert.KernelDwinLoIdeal.defs (F := Ideal)) (onTc (τ := Cert.KernelDwinLoIdeal.τ) (Cert.KernelDwinLoIdeal.main (F := Ideal))) ⟨m, fun _ => 0, g⟩ (fun r => (∀ c : Dev Cert.KernelDwinLoIdeal.nD,
      r.2.mem ((c.tc : Thread Cert.KernelDwinLoIdeal.nD Cert.KernelDwinLoIdeal.τ).loc Cert.KernelDwinLoIdeal.main_arg0) = m ((c.tc : Thread Cert.KernelDwinLoIdeal.nD Cert.KernelDwinLoIdeal.τ).loc Cert.KernelDwinLoIdeal.main_arg0)
      ∧ r.2.mem ((c.tc : Thread Cert.KernelDwinLoIdeal.nD Cert.KernelDwinLoIdeal.τ).loc Cert.KernelDwinLoIdeal.main_arg1) = m ((c.tc : Thread Cert.KernelDwinLoIdeal.nD Cert.KernelDwinLoIdeal.τ).loc Cert.KernelDwinLoIdeal.main_arg1))
      ∧ r.2.sem = fun _ => 0)

def quiescent_ReferenceDwinLoIdeal [hReferenceDwinLoIdeal : Cert.ReferenceDwinLoIdeal.Facts] : Prop :=
  ∀ (m : (ℓ : Loc Cert.ReferenceDwinLoIdeal.nD Cert.ReferenceDwinLoIdeal.τ Cert.ReferenceDwinLoIdeal.sig) → Buf (Elt Ideal) ℓ) (g : Dev Cert.ReferenceDwinLoIdeal.nD → PrngReg), Pre_ReferenceDwinLoIdeal m →
    θ_run (Cert.ReferenceDwinLoIdeal.defs (F := Ideal)) (onTc (τ := Cert.ReferenceDwinLoIdeal.τ) (Cert.ReferenceDwinLoIdeal.main (F := Ideal))) ⟨m, fun _ => 0, g⟩ (fun r => (∀ c : Dev Cert.ReferenceDwinLoIdeal.nD,
      r.2.mem ((c.tc : Thread Cert.ReferenceDwinLoIdeal.nD Cert.ReferenceDwinLoIdeal.τ).loc Cert.ReferenceDwinLoIdeal.main_arg0) = m ((c.tc : Thread Cert.ReferenceDwinLoIdeal.nD Cert.ReferenceDwinLoIdeal.τ).loc Cert.ReferenceDwinLoIdeal.main_arg0)
      ∧ r.2.mem ((c.tc : Thread Cert.ReferenceDwinLoIdeal.nD Cert.ReferenceDwinLoIdeal.τ).loc Cert.ReferenceDwinLoIdeal.main_arg1) = m ((c.tc : Thread Cert.ReferenceDwinLoIdeal.nD Cert.ReferenceDwinLoIdeal.τ).loc Cert.ReferenceDwinLoIdeal.main_arg1))
      ∧ r.2.sem = fun _ => 0)

def quiescent_KernelDwinHi [hKernelDwinHi : Cert.KernelDwinHi.Facts] : Prop :=
  ∀ (m : (ℓ : Loc Cert.KernelDwinHi.nD Cert.KernelDwinHi.τ Cert.KernelDwinHi.sig) → Buf (Elt Bits) ℓ) (g : Dev Cert.KernelDwinHi.nD → PrngReg), Pre_KernelDwinHi m →
    θ_run (Cert.KernelDwinHi.defs (F := Bits)) (onTc (τ := Cert.KernelDwinHi.τ) (Cert.KernelDwinHi.main (F := Bits))) ⟨m, fun _ => 0, g⟩ (fun r => (∀ c : Dev Cert.KernelDwinHi.nD,
      r.2.mem ((c.tc : Thread Cert.KernelDwinHi.nD Cert.KernelDwinHi.τ).loc Cert.KernelDwinHi.main_arg0) = m ((c.tc : Thread Cert.KernelDwinHi.nD Cert.KernelDwinHi.τ).loc Cert.KernelDwinHi.main_arg0)
      ∧ r.2.mem ((c.tc : Thread Cert.KernelDwinHi.nD Cert.KernelDwinHi.τ).loc Cert.KernelDwinHi.main_arg1) = m ((c.tc : Thread Cert.KernelDwinHi.nD Cert.KernelDwinHi.τ).loc Cert.KernelDwinHi.main_arg1))
      ∧ r.2.sem = fun _ => 0)

def quiescent_KernelDwinHiIdeal [hKernelDwinHiIdeal : Cert.KernelDwinHiIdeal.Facts] : Prop :=
  ∀ (m : (ℓ : Loc Cert.KernelDwinHiIdeal.nD Cert.KernelDwinHiIdeal.τ Cert.KernelDwinHiIdeal.sig) → Buf (Elt Ideal) ℓ) (g : Dev Cert.KernelDwinHiIdeal.nD → PrngReg), Pre_KernelDwinHiIdeal m →
    θ_run (Cert.KernelDwinHiIdeal.defs (F := Ideal)) (onTc (τ := Cert.KernelDwinHiIdeal.τ) (Cert.KernelDwinHiIdeal.main (F := Ideal))) ⟨m, fun _ => 0, g⟩ (fun r => (∀ c : Dev Cert.KernelDwinHiIdeal.nD,
      r.2.mem ((c.tc : Thread Cert.KernelDwinHiIdeal.nD Cert.KernelDwinHiIdeal.τ).loc Cert.KernelDwinHiIdeal.main_arg0) = m ((c.tc : Thread Cert.KernelDwinHiIdeal.nD Cert.KernelDwinHiIdeal.τ).loc Cert.KernelDwinHiIdeal.main_arg0)
      ∧ r.2.mem ((c.tc : Thread Cert.KernelDwinHiIdeal.nD Cert.KernelDwinHiIdeal.τ).loc Cert.KernelDwinHiIdeal.main_arg1) = m ((c.tc : Thread Cert.KernelDwinHiIdeal.nD Cert.KernelDwinHiIdeal.τ).loc Cert.KernelDwinHiIdeal.main_arg1))
      ∧ r.2.sem = fun _ => 0)

def quiescent_ReferenceDwinHiIdeal [hReferenceDwinHiIdeal : Cert.ReferenceDwinHiIdeal.Facts] : Prop :=
  ∀ (m : (ℓ : Loc Cert.ReferenceDwinHiIdeal.nD Cert.ReferenceDwinHiIdeal.τ Cert.ReferenceDwinHiIdeal.sig) → Buf (Elt Ideal) ℓ) (g : Dev Cert.ReferenceDwinHiIdeal.nD → PrngReg), Pre_ReferenceDwinHiIdeal m →
    θ_run (Cert.ReferenceDwinHiIdeal.defs (F := Ideal)) (onTc (τ := Cert.ReferenceDwinHiIdeal.τ) (Cert.ReferenceDwinHiIdeal.main (F := Ideal))) ⟨m, fun _ => 0, g⟩ (fun r => (∀ c : Dev Cert.ReferenceDwinHiIdeal.nD,
      r.2.mem ((c.tc : Thread Cert.ReferenceDwinHiIdeal.nD Cert.ReferenceDwinHiIdeal.τ).loc Cert.ReferenceDwinHiIdeal.main_arg0) = m ((c.tc : Thread Cert.ReferenceDwinHiIdeal.nD Cert.ReferenceDwinHiIdeal.τ).loc Cert.ReferenceDwinHiIdeal.main_arg0)
      ∧ r.2.mem ((c.tc : Thread Cert.ReferenceDwinHiIdeal.nD Cert.ReferenceDwinHiIdeal.τ).loc Cert.ReferenceDwinHiIdeal.main_arg1) = m ((c.tc : Thread Cert.ReferenceDwinHiIdeal.nD Cert.ReferenceDwinHiIdeal.τ).loc Cert.ReferenceDwinHiIdeal.main_arg1))
      ∧ r.2.sem = fun _ => 0)

def quiescent_KernelDu [hKernelDu : Cert.KernelDu.Facts] : Prop :=
  ∀ (m : (ℓ : Loc Cert.KernelDu.nD Cert.KernelDu.τ Cert.KernelDu.sig) → Buf (Elt Bits) ℓ) (g : Dev Cert.KernelDu.nD → PrngReg), Pre_KernelDu m →
    θ_run (Cert.KernelDu.defs (F := Bits)) (onTc (τ := Cert.KernelDu.τ) (Cert.KernelDu.main (F := Bits))) ⟨m, fun _ => 0, g⟩ (fun r => (∀ c : Dev Cert.KernelDu.nD,
      r.2.mem ((c.tc : Thread Cert.KernelDu.nD Cert.KernelDu.τ).loc Cert.KernelDu.main_arg0) = m ((c.tc : Thread Cert.KernelDu.nD Cert.KernelDu.τ).loc Cert.KernelDu.main_arg0)
      ∧ r.2.mem ((c.tc : Thread Cert.KernelDu.nD Cert.KernelDu.τ).loc Cert.KernelDu.main_arg1) = m ((c.tc : Thread Cert.KernelDu.nD Cert.KernelDu.τ).loc Cert.KernelDu.main_arg1))
      ∧ r.2.sem = fun _ => 0)

def quiescent_KernelDuIdeal [hKernelDuIdeal : Cert.KernelDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg), Pre_KernelDuIdeal m →
    θ_run (Cert.KernelDuIdeal.defs (F := Ideal)) (onTc (τ := Cert.KernelDuIdeal.τ) (Cert.KernelDuIdeal.main (F := Ideal))) ⟨m, fun _ => 0, g⟩ (fun r => (∀ c : Dev Cert.KernelDuIdeal.nD,
      r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
      ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1))
      ∧ r.2.sem = fun _ => 0)

def quiescent_ReferenceDuIdeal [hReferenceDuIdeal : Cert.ReferenceDuIdeal.Facts] : Prop :=
  ∀ (m : (ℓ : Loc Cert.ReferenceDuIdeal.nD Cert.ReferenceDuIdeal.τ Cert.ReferenceDuIdeal.sig) → Buf (Elt Ideal) ℓ) (g : Dev Cert.ReferenceDuIdeal.nD → PrngReg), Pre_ReferenceDuIdeal m →
    θ_run (Cert.ReferenceDuIdeal.defs (F := Ideal)) (onTc (τ := Cert.ReferenceDuIdeal.τ) (Cert.ReferenceDuIdeal.main (F := Ideal))) ⟨m, fun _ => 0, g⟩ (fun r => (∀ c : Dev Cert.ReferenceDuIdeal.nD,
      r.2.mem ((c.tc : Thread Cert.ReferenceDuIdeal.nD Cert.ReferenceDuIdeal.τ).loc Cert.ReferenceDuIdeal.main_arg0) = m ((c.tc : Thread Cert.ReferenceDuIdeal.nD Cert.ReferenceDuIdeal.τ).loc Cert.ReferenceDuIdeal.main_arg0)
      ∧ r.2.mem ((c.tc : Thread Cert.ReferenceDuIdeal.nD Cert.ReferenceDuIdeal.τ).loc Cert.ReferenceDuIdeal.main_arg1) = m ((c.tc : Thread Cert.ReferenceDuIdeal.nD Cert.ReferenceDuIdeal.τ).loc Cert.ReferenceDuIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelSqDw [hKernelSqDw : Cert.KernelSqDw.Facts] : Prop :=
  ∀ (m : (ℓ : Loc Cert.KernelSqDw.nD Cert.KernelSqDw.τ Cert.KernelSqDw.sig) → Buf (Elt Bits) ℓ) (g : Dev Cert.KernelSqDw.nD → PrngReg), Pre_KernelSqDw m →
    θ_run (Cert.KernelSqDw.defs (F := Bits)) (onTc (τ := Cert.KernelSqDw.τ) (Cert.KernelSqDw.main (F := Bits))) ⟨m, fun _ => 0, g⟩ (fun r => (∀ c : Dev Cert.KernelSqDw.nD,
      r.2.mem ((c.tc : Thread Cert.KernelSqDw.nD Cert.KernelSqDw.τ).loc Cert.KernelSqDw.main_arg0) = m ((c.tc : Thread Cert.KernelSqDw.nD Cert.KernelSqDw.τ).loc Cert.KernelSqDw.main_arg0)
      ∧ r.2.mem ((c.tc : Thread Cert.KernelSqDw.nD Cert.KernelSqDw.τ).loc Cert.KernelSqDw.main_arg1) = m ((c.tc : Thread Cert.KernelSqDw.nD Cert.KernelSqDw.τ).loc Cert.KernelSqDw.main_arg1))
      ∧ r.2.sem = fun _ => 0)

def quiescent_KernelSqDwIdeal [hKernelSqDwIdeal : Cert.KernelSqDwIdeal.Facts] : Prop :=
  ∀ (m : (ℓ : Loc Cert.KernelSqDwIdeal.nD Cert.KernelSqDwIdeal.τ Cert.KernelSqDwIdeal.sig) → Buf (Elt Ideal) ℓ) (g : Dev Cert.KernelSqDwIdeal.nD → PrngReg), Pre_KernelSqDwIdeal m →
    θ_run (Cert.KernelSqDwIdeal.defs (F := Ideal)) (onTc (τ := Cert.KernelSqDwIdeal.τ) (Cert.KernelSqDwIdeal.main (F := Ideal))) ⟨m, fun _ => 0, g⟩ (fun r => (∀ c : Dev Cert.KernelSqDwIdeal.nD,
      r.2.mem ((c.tc : Thread Cert.KernelSqDwIdeal.nD Cert.KernelSqDwIdeal.τ).loc Cert.KernelSqDwIdeal.main_arg0) = m ((c.tc : Thread Cert.KernelSqDwIdeal.nD Cert.KernelSqDwIdeal.τ).loc Cert.KernelSqDwIdeal.main_arg0)
      ∧ r.2.mem ((c.tc : Thread Cert.KernelSqDwIdeal.nD Cert.KernelSqDwIdeal.τ).loc Cert.KernelSqDwIdeal.main_arg1) = m ((c.tc : Thread Cert.KernelSqDwIdeal.nD Cert.KernelSqDwIdeal.τ).loc Cert.KernelSqDwIdeal.main_arg1))
      ∧ r.2.sem = fun _ => 0)

def quiescent_ReferenceSqDwIdeal [hReferenceSqDwIdeal : Cert.ReferenceSqDwIdeal.Facts] : Prop :=
  ∀ (m : (ℓ : Loc Cert.ReferenceSqDwIdeal.nD Cert.ReferenceSqDwIdeal.τ Cert.ReferenceSqDwIdeal.sig) → Buf (Elt Ideal) ℓ) (g : Dev Cert.ReferenceSqDwIdeal.nD → PrngReg), Pre_ReferenceSqDwIdeal m →
    θ_run (Cert.ReferenceSqDwIdeal.defs (F := Ideal)) (onTc (τ := Cert.ReferenceSqDwIdeal.τ) (Cert.ReferenceSqDwIdeal.main (F := Ideal))) ⟨m, fun _ => 0, g⟩ (fun r => (∀ c : Dev Cert.ReferenceSqDwIdeal.nD,
      r.2.mem ((c.tc : Thread Cert.ReferenceSqDwIdeal.nD Cert.ReferenceSqDwIdeal.τ).loc Cert.ReferenceSqDwIdeal.main_arg0) = m ((c.tc : Thread Cert.ReferenceSqDwIdeal.nD Cert.ReferenceSqDwIdeal.τ).loc Cert.ReferenceSqDwIdeal.main_arg0)
      ∧ r.2.mem ((c.tc : Thread Cert.ReferenceSqDwIdeal.nD Cert.ReferenceSqDwIdeal.τ).loc Cert.ReferenceSqDwIdeal.main_arg1) = m ((c.tc : Thread Cert.ReferenceSqDwIdeal.nD Cert.ReferenceSqDwIdeal.τ).loc Cert.ReferenceSqDwIdeal.main_arg1))
      ∧ r.2.sem = fun _ => 0)

def quiescent_KernelSqDz [hKernelSqDz : Cert.KernelSqDz.Facts] : Prop :=
  ∀ (m : (ℓ : Loc Cert.KernelSqDz.nD Cert.KernelSqDz.τ Cert.KernelSqDz.sig) → Buf (Elt Bits) ℓ) (g : Dev Cert.KernelSqDz.nD → PrngReg), Pre_KernelSqDz m →
    θ_run (Cert.KernelSqDz.defs (F := Bits)) (onTc (τ := Cert.KernelSqDz.τ) (Cert.KernelSqDz.main (F := Bits))) ⟨m, fun _ => 0, g⟩ (fun r => (∀ c : Dev Cert.KernelSqDz.nD,
      r.2.mem ((c.tc : Thread Cert.KernelSqDz.nD Cert.KernelSqDz.τ).loc Cert.KernelSqDz.main_arg0) = m ((c.tc : Thread Cert.KernelSqDz.nD Cert.KernelSqDz.τ).loc Cert.KernelSqDz.main_arg0)
      ∧ r.2.mem ((c.tc : Thread Cert.KernelSqDz.nD Cert.KernelSqDz.τ).loc Cert.KernelSqDz.main_arg1) = m ((c.tc : Thread Cert.KernelSqDz.nD Cert.KernelSqDz.τ).loc Cert.KernelSqDz.main_arg1))
      ∧ r.2.sem = fun _ => 0)

def quiescent_KernelSqDzIdeal [hKernelSqDzIdeal : Cert.KernelSqDzIdeal.Facts] : Prop :=
  ∀ (m : (ℓ : Loc Cert.KernelSqDzIdeal.nD Cert.KernelSqDzIdeal.τ Cert.KernelSqDzIdeal.sig) → Buf (Elt Ideal) ℓ) (g : Dev Cert.KernelSqDzIdeal.nD → PrngReg), Pre_KernelSqDzIdeal m →
    θ_run (Cert.KernelSqDzIdeal.defs (F := Ideal)) (onTc (τ := Cert.KernelSqDzIdeal.τ) (Cert.KernelSqDzIdeal.main (F := Ideal))) ⟨m, fun _ => 0, g⟩ (fun r => (∀ c : Dev Cert.KernelSqDzIdeal.nD,
      r.2.mem ((c.tc : Thread Cert.KernelSqDzIdeal.nD Cert.KernelSqDzIdeal.τ).loc Cert.KernelSqDzIdeal.main_arg0) = m ((c.tc : Thread Cert.KernelSqDzIdeal.nD Cert.KernelSqDzIdeal.τ).loc Cert.KernelSqDzIdeal.main_arg0)
      ∧ r.2.mem ((c.tc : Thread Cert.KernelSqDzIdeal.nD Cert.KernelSqDzIdeal.τ).loc Cert.KernelSqDzIdeal.main_arg1) = m ((c.tc : Thread Cert.KernelSqDzIdeal.nD Cert.KernelSqDzIdeal.τ).loc Cert.KernelSqDzIdeal.main_arg1))
      ∧ r.2.sem = fun _ => 0)

def quiescent_ReferenceSqDzIdeal [hReferenceSqDzIdeal : Cert.ReferenceSqDzIdeal.Facts] : Prop :=
  ∀ (m : (ℓ : Loc Cert.ReferenceSqDzIdeal.nD Cert.ReferenceSqDzIdeal.τ Cert.ReferenceSqDzIdeal.sig) → Buf (Elt Ideal) ℓ) (g : Dev Cert.ReferenceSqDzIdeal.nD → PrngReg), Pre_ReferenceSqDzIdeal m →
    θ_run (Cert.ReferenceSqDzIdeal.defs (F := Ideal)) (onTc (τ := Cert.ReferenceSqDzIdeal.τ) (Cert.ReferenceSqDzIdeal.main (F := Ideal))) ⟨m, fun _ => 0, g⟩ (fun r => (∀ c : Dev Cert.ReferenceSqDzIdeal.nD,
      r.2.mem ((c.tc : Thread Cert.ReferenceSqDzIdeal.nD Cert.ReferenceSqDzIdeal.τ).loc Cert.ReferenceSqDzIdeal.main_arg0) = m ((c.tc : Thread Cert.ReferenceSqDzIdeal.nD Cert.ReferenceSqDzIdeal.τ).loc Cert.ReferenceSqDzIdeal.main_arg0)
      ∧ r.2.mem ((c.tc : Thread Cert.ReferenceSqDzIdeal.nD Cert.ReferenceSqDzIdeal.τ).loc Cert.ReferenceSqDzIdeal.main_arg1) = m ((c.tc : Thread Cert.ReferenceSqDzIdeal.nD Cert.ReferenceSqDzIdeal.τ).loc Cert.ReferenceSqDzIdeal.main_arg1))
      ∧ r.2.sem = fun _ => 0)

def quiescent_KernelHgrnDwinLo [hKernelHgrnDwinLo : Cert.KernelHgrnDwinLo.Facts] : Prop :=
  ∀ (m : (ℓ : Loc Cert.KernelHgrnDwinLo.nD Cert.KernelHgrnDwinLo.τ Cert.KernelHgrnDwinLo.sig) → Buf (Elt Bits) ℓ) (g : Dev Cert.KernelHgrnDwinLo.nD → PrngReg), Pre_KernelHgrnDwinLo m →
    θ_run (Cert.KernelHgrnDwinLo.defs (F := Bits)) (onTc (τ := Cert.KernelHgrnDwinLo.τ) (Cert.KernelHgrnDwinLo.main (F := Bits))) ⟨m, fun _ => 0, g⟩ (fun r => (∀ c : Dev Cert.KernelHgrnDwinLo.nD,
      r.2.mem ((c.tc : Thread Cert.KernelHgrnDwinLo.nD Cert.KernelHgrnDwinLo.τ).loc Cert.KernelHgrnDwinLo.main_arg0) = m ((c.tc : Thread Cert.KernelHgrnDwinLo.nD Cert.KernelHgrnDwinLo.τ).loc Cert.KernelHgrnDwinLo.main_arg0)
      ∧ r.2.mem ((c.tc : Thread Cert.KernelHgrnDwinLo.nD Cert.KernelHgrnDwinLo.τ).loc Cert.KernelHgrnDwinLo.main_arg1) = m ((c.tc : Thread Cert.KernelHgrnDwinLo.nD Cert.KernelHgrnDwinLo.τ).loc Cert.KernelHgrnDwinLo.main_arg1))
      ∧ r.2.sem = fun _ => 0)

def quiescent_KernelHgrnDwinLoIdeal [hKernelHgrnDwinLoIdeal : Cert.KernelHgrnDwinLoIdeal.Facts] : Prop :=
  ∀ (m : (ℓ : Loc Cert.KernelHgrnDwinLoIdeal.nD Cert.KernelHgrnDwinLoIdeal.τ Cert.KernelHgrnDwinLoIdeal.sig) → Buf (Elt Ideal) ℓ) (g : Dev Cert.KernelHgrnDwinLoIdeal.nD → PrngReg), Pre_KernelHgrnDwinLoIdeal m →
    θ_run (Cert.KernelHgrnDwinLoIdeal.defs (F := Ideal)) (onTc (τ := Cert.KernelHgrnDwinLoIdeal.τ) (Cert.KernelHgrnDwinLoIdeal.main (F := Ideal))) ⟨m, fun _ => 0, g⟩ (fun r => (∀ c : Dev Cert.KernelHgrnDwinLoIdeal.nD,
      r.2.mem ((c.tc : Thread Cert.KernelHgrnDwinLoIdeal.nD Cert.KernelHgrnDwinLoIdeal.τ).loc Cert.KernelHgrnDwinLoIdeal.main_arg0) = m ((c.tc : Thread Cert.KernelHgrnDwinLoIdeal.nD Cert.KernelHgrnDwinLoIdeal.τ).loc Cert.KernelHgrnDwinLoIdeal.main_arg0)
      ∧ r.2.mem ((c.tc : Thread Cert.KernelHgrnDwinLoIdeal.nD Cert.KernelHgrnDwinLoIdeal.τ).loc Cert.KernelHgrnDwinLoIdeal.main_arg1) = m ((c.tc : Thread Cert.KernelHgrnDwinLoIdeal.nD Cert.KernelHgrnDwinLoIdeal.τ).loc Cert.KernelHgrnDwinLoIdeal.main_arg1))
      ∧ r.2.sem = fun _ => 0)

def quiescent_ReferenceHgrnDwinLoIdeal [hReferenceHgrnDwinLoIdeal : Cert.ReferenceHgrnDwinLoIdeal.Facts] : Prop :=
  ∀ (m : (ℓ : Loc Cert.ReferenceHgrnDwinLoIdeal.nD Cert.ReferenceHgrnDwinLoIdeal.τ Cert.ReferenceHgrnDwinLoIdeal.sig) → Buf (Elt Ideal) ℓ) (g : Dev Cert.ReferenceHgrnDwinLoIdeal.nD → PrngReg), Pre_ReferenceHgrnDwinLoIdeal m →
    θ_run (Cert.ReferenceHgrnDwinLoIdeal.defs (F := Ideal)) (onTc (τ := Cert.ReferenceHgrnDwinLoIdeal.τ) (Cert.ReferenceHgrnDwinLoIdeal.main (F := Ideal))) ⟨m, fun _ => 0, g⟩ (fun r => (∀ c : Dev Cert.ReferenceHgrnDwinLoIdeal.nD,
      r.2.mem ((c.tc : Thread Cert.ReferenceHgrnDwinLoIdeal.nD Cert.ReferenceHgrnDwinLoIdeal.τ).loc Cert.ReferenceHgrnDwinLoIdeal.main_arg0) = m ((c.tc : Thread Cert.ReferenceHgrnDwinLoIdeal.nD Cert.ReferenceHgrnDwinLoIdeal.τ).loc Cert.ReferenceHgrnDwinLoIdeal.main_arg0)
      ∧ r.2.mem ((c.tc : Thread Cert.ReferenceHgrnDwinLoIdeal.nD Cert.ReferenceHgrnDwinLoIdeal.τ).loc Cert.ReferenceHgrnDwinLoIdeal.main_arg1) = m ((c.tc : Thread Cert.ReferenceHgrnDwinLoIdeal.nD Cert.ReferenceHgrnDwinLoIdeal.τ).loc Cert.ReferenceHgrnDwinLoIdeal.main_arg1))
      ∧ r.2.sem = fun _ => 0)

def quiescent_KernelHgrnDwinHi [hKernelHgrnDwinHi : Cert.KernelHgrnDwinHi.Facts] : Prop :=
  ∀ (m : (ℓ : Loc Cert.KernelHgrnDwinHi.nD Cert.KernelHgrnDwinHi.τ Cert.KernelHgrnDwinHi.sig) → Buf (Elt Bits) ℓ) (g : Dev Cert.KernelHgrnDwinHi.nD → PrngReg), Pre_KernelHgrnDwinHi m →
    θ_run (Cert.KernelHgrnDwinHi.defs (F := Bits)) (onTc (τ := Cert.KernelHgrnDwinHi.τ) (Cert.KernelHgrnDwinHi.main (F := Bits))) ⟨m, fun _ => 0, g⟩ (fun r => (∀ c : Dev Cert.KernelHgrnDwinHi.nD,
      r.2.mem ((c.tc : Thread Cert.KernelHgrnDwinHi.nD Cert.KernelHgrnDwinHi.τ).loc Cert.KernelHgrnDwinHi.main_arg0) = m ((c.tc : Thread Cert.KernelHgrnDwinHi.nD Cert.KernelHgrnDwinHi.τ).loc Cert.KernelHgrnDwinHi.main_arg0)
      ∧ r.2.mem ((c.tc : Thread Cert.KernelHgrnDwinHi.nD Cert.KernelHgrnDwinHi.τ).loc Cert.KernelHgrnDwinHi.main_arg1) = m ((c.tc : Thread Cert.KernelHgrnDwinHi.nD Cert.KernelHgrnDwinHi.τ).loc Cert.KernelHgrnDwinHi.main_arg1))
      ∧ r.2.sem = fun _ => 0)

def quiescent_KernelHgrnDwinHiIdeal [hKernelHgrnDwinHiIdeal : Cert.KernelHgrnDwinHiIdeal.Facts] : Prop :=
  ∀ (m : (ℓ : Loc Cert.KernelHgrnDwinHiIdeal.nD Cert.KernelHgrnDwinHiIdeal.τ Cert.KernelHgrnDwinHiIdeal.sig) → Buf (Elt Ideal) ℓ) (g : Dev Cert.KernelHgrnDwinHiIdeal.nD → PrngReg), Pre_KernelHgrnDwinHiIdeal m →
    θ_run (Cert.KernelHgrnDwinHiIdeal.defs (F := Ideal)) (onTc (τ := Cert.KernelHgrnDwinHiIdeal.τ) (Cert.KernelHgrnDwinHiIdeal.main (F := Ideal))) ⟨m, fun _ => 0, g⟩ (fun r => (∀ c : Dev Cert.KernelHgrnDwinHiIdeal.nD,
      r.2.mem ((c.tc : Thread Cert.KernelHgrnDwinHiIdeal.nD Cert.KernelHgrnDwinHiIdeal.τ).loc Cert.KernelHgrnDwinHiIdeal.main_arg0) = m ((c.tc : Thread Cert.KernelHgrnDwinHiIdeal.nD Cert.KernelHgrnDwinHiIdeal.τ).loc Cert.KernelHgrnDwinHiIdeal.main_arg0)
      ∧ r.2.mem ((c.tc : Thread Cert.KernelHgrnDwinHiIdeal.nD Cert.KernelHgrnDwinHiIdeal.τ).loc Cert.KernelHgrnDwinHiIdeal.main_arg1) = m ((c.tc : Thread Cert.KernelHgrnDwinHiIdeal.nD Cert.KernelHgrnDwinHiIdeal.τ).loc Cert.KernelHgrnDwinHiIdeal.main_arg1))
      ∧ r.2.sem = fun _ => 0)

def quiescent_ReferenceHgrnDwinHiIdeal [hReferenceHgrnDwinHiIdeal : Cert.ReferenceHgrnDwinHiIdeal.Facts] : Prop :=
  ∀ (m : (ℓ : Loc Cert.ReferenceHgrnDwinHiIdeal.nD Cert.ReferenceHgrnDwinHiIdeal.τ Cert.ReferenceHgrnDwinHiIdeal.sig) → Buf (Elt Ideal) ℓ) (g : Dev Cert.ReferenceHgrnDwinHiIdeal.nD → PrngReg), Pre_ReferenceHgrnDwinHiIdeal m →
    θ_run (Cert.ReferenceHgrnDwinHiIdeal.defs (F := Ideal)) (onTc (τ := Cert.ReferenceHgrnDwinHiIdeal.τ) (Cert.ReferenceHgrnDwinHiIdeal.main (F := Ideal))) ⟨m, fun _ => 0, g⟩ (fun r => (∀ c : Dev Cert.ReferenceHgrnDwinHiIdeal.nD,
      r.2.mem ((c.tc : Thread Cert.ReferenceHgrnDwinHiIdeal.nD Cert.ReferenceHgrnDwinHiIdeal.τ).loc Cert.ReferenceHgrnDwinHiIdeal.main_arg0) = m ((c.tc : Thread Cert.ReferenceHgrnDwinHiIdeal.nD Cert.ReferenceHgrnDwinHiIdeal.τ).loc Cert.ReferenceHgrnDwinHiIdeal.main_arg0)
      ∧ r.2.mem ((c.tc : Thread Cert.ReferenceHgrnDwinHiIdeal.nD Cert.ReferenceHgrnDwinHiIdeal.τ).loc Cert.ReferenceHgrnDwinHiIdeal.main_arg1) = m ((c.tc : Thread Cert.ReferenceHgrnDwinHiIdeal.nD Cert.ReferenceHgrnDwinHiIdeal.τ).loc Cert.ReferenceHgrnDwinHiIdeal.main_arg1))
      ∧ r.2.sem = fun _ => 0)

def quiescent_KernelHgrnDu [hKernelHgrnDu : Cert.KernelHgrnDu.Facts] : Prop :=
  ∀ (m : (ℓ : Loc Cert.KernelHgrnDu.nD Cert.KernelHgrnDu.τ Cert.KernelHgrnDu.sig) → Buf (Elt Bits) ℓ) (g : Dev Cert.KernelHgrnDu.nD → PrngReg), Pre_KernelHgrnDu m →
    θ_run (Cert.KernelHgrnDu.defs (F := Bits)) (onTc (τ := Cert.KernelHgrnDu.τ) (Cert.KernelHgrnDu.main (F := Bits))) ⟨m, fun _ => 0, g⟩ (fun r => (∀ c : Dev Cert.KernelHgrnDu.nD,
      r.2.mem ((c.tc : Thread Cert.KernelHgrnDu.nD Cert.KernelHgrnDu.τ).loc Cert.KernelHgrnDu.main_arg0) = m ((c.tc : Thread Cert.KernelHgrnDu.nD Cert.KernelHgrnDu.τ).loc Cert.KernelHgrnDu.main_arg0)
      ∧ r.2.mem ((c.tc : Thread Cert.KernelHgrnDu.nD Cert.KernelHgrnDu.τ).loc Cert.KernelHgrnDu.main_arg1) = m ((c.tc : Thread Cert.KernelHgrnDu.nD Cert.KernelHgrnDu.τ).loc Cert.KernelHgrnDu.main_arg1))
      ∧ r.2.sem = fun _ => 0)

def quiescent_KernelHgrnDuIdeal [hKernelHgrnDuIdeal : Cert.KernelHgrnDuIdeal.Facts] : Prop :=
  ∀ (m : (ℓ : Loc Cert.KernelHgrnDuIdeal.nD Cert.KernelHgrnDuIdeal.τ Cert.KernelHgrnDuIdeal.sig) → Buf (Elt Ideal) ℓ) (g : Dev Cert.KernelHgrnDuIdeal.nD → PrngReg), Pre_KernelHgrnDuIdeal m →
    θ_run (Cert.KernelHgrnDuIdeal.defs (F := Ideal)) (onTc (τ := Cert.KernelHgrnDuIdeal.τ) (Cert.KernelHgrnDuIdeal.main (F := Ideal))) ⟨m, fun _ => 0, g⟩ (fun r => (∀ c : Dev Cert.KernelHgrnDuIdeal.nD,
      r.2.mem ((c.tc : Thread Cert.KernelHgrnDuIdeal.nD Cert.KernelHgrnDuIdeal.τ).loc Cert.KernelHgrnDuIdeal.main_arg0) = m ((c.tc : Thread Cert.KernelHgrnDuIdeal.nD Cert.KernelHgrnDuIdeal.τ).loc Cert.KernelHgrnDuIdeal.main_arg0)
      ∧ r.2.mem ((c.tc : Thread Cert.KernelHgrnDuIdeal.nD Cert.KernelHgrnDuIdeal.τ).loc Cert.KernelHgrnDuIdeal.main_arg1) = m ((c.tc : Thread Cert.KernelHgrnDuIdeal.nD Cert.KernelHgrnDuIdeal.τ).loc Cert.KernelHgrnDuIdeal.main_arg1))
      ∧ r.2.sem = fun _ => 0)

def quiescent_ReferenceHgrnDuIdeal [hReferenceHgrnDuIdeal : Cert.ReferenceHgrnDuIdeal.Facts] : Prop :=
  ∀ (m : (ℓ : Loc Cert.ReferenceHgrnDuIdeal.nD Cert.ReferenceHgrnDuIdeal.τ Cert.ReferenceHgrnDuIdeal.sig) → Buf (Elt Ideal) ℓ) (g : Dev Cert.ReferenceHgrnDuIdeal.nD → PrngReg), Pre_ReferenceHgrnDuIdeal m →
    θ_run (Cert.ReferenceHgrnDuIdeal.defs (F := Ideal)) (onTc (τ := Cert.ReferenceHgrnDuIdeal.τ) (Cert.ReferenceHgrnDuIdeal.main (F := Ideal))) ⟨m, fun _ => 0, g⟩ (fun r => (∀ c : Dev Cert.ReferenceHgrnDuIdeal.nD,
      r.2.mem ((c.tc : Thread Cert.ReferenceHgrnDuIdeal.nD Cert.ReferenceHgrnDuIdeal.τ).loc Cert.ReferenceHgrnDuIdeal.main_arg0) = m ((c.tc : Thread Cert.ReferenceHgrnDuIdeal.nD Cert.ReferenceHgrnDuIdeal.τ).loc Cert.ReferenceHgrnDuIdeal.main_arg0)
      ∧ r.2.mem ((c.tc : Thread Cert.ReferenceHgrnDuIdeal.nD Cert.ReferenceHgrnDuIdeal.τ).loc Cert.ReferenceHgrnDuIdeal.main_arg1) = m ((c.tc : Thread Cert.ReferenceHgrnDuIdeal.nD Cert.ReferenceHgrnDuIdeal.τ).loc Cert.ReferenceHgrnDuIdeal.main_arg1))
      ∧ r.2.sem = fun _ => 0)

def quiescent_KernelHgrnProj [hKernelHgrnProj : Cert.KernelHgrnProj.Facts] : Prop :=
  ∀ (m : (ℓ : Loc Cert.KernelHgrnProj.nD Cert.KernelHgrnProj.τ Cert.KernelHgrnProj.sig) → Buf (Elt Bits) ℓ) (g : Dev Cert.KernelHgrnProj.nD → PrngReg), Pre_KernelHgrnProj m →
    θ_run (Cert.KernelHgrnProj.defs (F := Bits)) (onTc (τ := Cert.KernelHgrnProj.τ) (Cert.KernelHgrnProj.main (F := Bits))) ⟨m, fun _ => 0, g⟩ (fun r => (∀ c : Dev Cert.KernelHgrnProj.nD,
      r.2.mem ((c.tc : Thread Cert.KernelHgrnProj.nD Cert.KernelHgrnProj.τ).loc Cert.KernelHgrnProj.main_arg0) = m ((c.tc : Thread Cert.KernelHgrnProj.nD Cert.KernelHgrnProj.τ).loc Cert.KernelHgrnProj.main_arg0)
      ∧ r.2.mem ((c.tc : Thread Cert.KernelHgrnProj.nD Cert.KernelHgrnProj.τ).loc Cert.KernelHgrnProj.main_arg1) = m ((c.tc : Thread Cert.KernelHgrnProj.nD Cert.KernelHgrnProj.τ).loc Cert.KernelHgrnProj.main_arg1))
      ∧ r.2.sem = fun _ => 0)

def quiescent_KernelHgrnProjIdeal [hKernelHgrnProjIdeal : Cert.KernelHgrnProjIdeal.Facts] : Prop :=
  ∀ (m : (ℓ : Loc Cert.KernelHgrnProjIdeal.nD Cert.KernelHgrnProjIdeal.τ Cert.KernelHgrnProjIdeal.sig) → Buf (Elt Ideal) ℓ) (g : Dev Cert.KernelHgrnProjIdeal.nD → PrngReg), Pre_KernelHgrnProjIdeal m →
    θ_run (Cert.KernelHgrnProjIdeal.defs (F := Ideal)) (onTc (τ := Cert.KernelHgrnProjIdeal.τ) (Cert.KernelHgrnProjIdeal.main (F := Ideal))) ⟨m, fun _ => 0, g⟩ (fun r => (∀ c : Dev Cert.KernelHgrnProjIdeal.nD,
      r.2.mem ((c.tc : Thread Cert.KernelHgrnProjIdeal.nD Cert.KernelHgrnProjIdeal.τ).loc Cert.KernelHgrnProjIdeal.main_arg0) = m ((c.tc : Thread Cert.KernelHgrnProjIdeal.nD Cert.KernelHgrnProjIdeal.τ).loc Cert.KernelHgrnProjIdeal.main_arg0)
      ∧ r.2.mem ((c.tc : Thread Cert.KernelHgrnProjIdeal.nD Cert.KernelHgrnProjIdeal.τ).loc Cert.KernelHgrnProjIdeal.main_arg1) = m ((c.tc : Thread Cert.KernelHgrnProjIdeal.nD Cert.KernelHgrnProjIdeal.τ).loc Cert.KernelHgrnProjIdeal.main_arg1))
      ∧ r.2.sem = fun _ => 0)

def quiescent_ReferenceHgrnProjIdeal [hReferenceHgrnProjIdeal : Cert.ReferenceHgrnProjIdeal.Facts] : Prop :=
  ∀ (m : (ℓ : Loc Cert.ReferenceHgrnProjIdeal.nD Cert.ReferenceHgrnProjIdeal.τ Cert.ReferenceHgrnProjIdeal.sig) → Buf (Elt Ideal) ℓ) (g : Dev Cert.ReferenceHgrnProjIdeal.nD → PrngReg), Pre_ReferenceHgrnProjIdeal m →
    θ_run (Cert.ReferenceHgrnProjIdeal.defs (F := Ideal)) (onTc (τ := Cert.ReferenceHgrnProjIdeal.τ) (Cert.ReferenceHgrnProjIdeal.main (F := Ideal))) ⟨m, fun _ => 0, g⟩ (fun r => (∀ c : Dev Cert.ReferenceHgrnProjIdeal.nD,
      r.2.mem ((c.tc : Thread Cert.ReferenceHgrnProjIdeal.nD Cert.ReferenceHgrnProjIdeal.τ).loc Cert.ReferenceHgrnProjIdeal.main_arg0) = m ((c.tc : Thread Cert.ReferenceHgrnProjIdeal.nD Cert.ReferenceHgrnProjIdeal.τ).loc Cert.ReferenceHgrnProjIdeal.main_arg0)
      ∧ r.2.mem ((c.tc : Thread Cert.ReferenceHgrnProjIdeal.nD Cert.ReferenceHgrnProjIdeal.τ).loc Cert.ReferenceHgrnProjIdeal.main_arg1) = m ((c.tc : Thread Cert.ReferenceHgrnProjIdeal.nD Cert.ReferenceHgrnProjIdeal.τ).loc Cert.ReferenceHgrnProjIdeal.main_arg1))
      ∧ r.2.sem = fun _ => 0)

def quiescent_KernelSqOut [hKernelSqOut : Cert.KernelSqOut.Facts] : Prop :=
  ∀ (m : (ℓ : Loc Cert.KernelSqOut.nD Cert.KernelSqOut.τ Cert.KernelSqOut.sig) → Buf (Elt Bits) ℓ) (g : Dev Cert.KernelSqOut.nD → PrngReg), Pre_KernelSqOut m →
    θ_run (Cert.KernelSqOut.defs (F := Bits)) (onTc (τ := Cert.KernelSqOut.τ) (Cert.KernelSqOut.main (F := Bits))) ⟨m, fun _ => 0, g⟩ (fun r => (∀ c : Dev Cert.KernelSqOut.nD,
      r.2.mem ((c.tc : Thread Cert.KernelSqOut.nD Cert.KernelSqOut.τ).loc Cert.KernelSqOut.main_arg0) = m ((c.tc : Thread Cert.KernelSqOut.nD Cert.KernelSqOut.τ).loc Cert.KernelSqOut.main_arg0)
      ∧ r.2.mem ((c.tc : Thread Cert.KernelSqOut.nD Cert.KernelSqOut.τ).loc Cert.KernelSqOut.main_arg1) = m ((c.tc : Thread Cert.KernelSqOut.nD Cert.KernelSqOut.τ).loc Cert.KernelSqOut.main_arg1)
      ∧ r.2.mem ((c.tc : Thread Cert.KernelSqOut.nD Cert.KernelSqOut.τ).loc Cert.KernelSqOut.main_arg2) = m ((c.tc : Thread Cert.KernelSqOut.nD Cert.KernelSqOut.τ).loc Cert.KernelSqOut.main_arg2)
      ∧ r.2.mem ((c.tc : Thread Cert.KernelSqOut.nD Cert.KernelSqOut.τ).loc Cert.KernelSqOut.main_arg3) = m ((c.tc : Thread Cert.KernelSqOut.nD Cert.KernelSqOut.τ).loc Cert.KernelSqOut.main_arg3))
      ∧ r.2.sem = fun _ => 0)

def quiescent_KernelSqOutIdeal [hKernelSqOutIdeal : Cert.KernelSqOutIdeal.Facts] : Prop :=
  ∀ (m : (ℓ : Loc Cert.KernelSqOutIdeal.nD Cert.KernelSqOutIdeal.τ Cert.KernelSqOutIdeal.sig) → Buf (Elt Ideal) ℓ) (g : Dev Cert.KernelSqOutIdeal.nD → PrngReg), Pre_KernelSqOutIdeal m →
    θ_run (Cert.KernelSqOutIdeal.defs (F := Ideal)) (onTc (τ := Cert.KernelSqOutIdeal.τ) (Cert.KernelSqOutIdeal.main (F := Ideal))) ⟨m, fun _ => 0, g⟩ (fun r => (∀ c : Dev Cert.KernelSqOutIdeal.nD,
      r.2.mem ((c.tc : Thread Cert.KernelSqOutIdeal.nD Cert.KernelSqOutIdeal.τ).loc Cert.KernelSqOutIdeal.main_arg0) = m ((c.tc : Thread Cert.KernelSqOutIdeal.nD Cert.KernelSqOutIdeal.τ).loc Cert.KernelSqOutIdeal.main_arg0)
      ∧ r.2.mem ((c.tc : Thread Cert.KernelSqOutIdeal.nD Cert.KernelSqOutIdeal.τ).loc Cert.KernelSqOutIdeal.main_arg1) = m ((c.tc : Thread Cert.KernelSqOutIdeal.nD Cert.KernelSqOutIdeal.τ).loc Cert.KernelSqOutIdeal.main_arg1)
      ∧ r.2.mem ((c.tc : Thread Cert.KernelSqOutIdeal.nD Cert.KernelSqOutIdeal.τ).loc Cert.KernelSqOutIdeal.main_arg2) = m ((c.tc : Thread Cert.KernelSqOutIdeal.nD Cert.KernelSqOutIdeal.τ).loc Cert.KernelSqOutIdeal.main_arg2)
      ∧ r.2.mem ((c.tc : Thread Cert.KernelSqOutIdeal.nD Cert.KernelSqOutIdeal.τ).loc Cert.KernelSqOutIdeal.main_arg3) = m ((c.tc : Thread Cert.KernelSqOutIdeal.nD Cert.KernelSqOutIdeal.τ).loc Cert.KernelSqOutIdeal.main_arg3))
      ∧ r.2.sem = fun _ => 0)

def quiescent_ReferenceSqOutIdeal [hReferenceSqOutIdeal : Cert.ReferenceSqOutIdeal.Facts] : Prop :=
  ∀ (m : (ℓ : Loc Cert.ReferenceSqOutIdeal.nD Cert.ReferenceSqOutIdeal.τ Cert.ReferenceSqOutIdeal.sig) → Buf (Elt Ideal) ℓ) (g : Dev Cert.ReferenceSqOutIdeal.nD → PrngReg), Pre_ReferenceSqOutIdeal m →
    θ_run (Cert.ReferenceSqOutIdeal.defs (F := Ideal)) (onTc (τ := Cert.ReferenceSqOutIdeal.τ) (Cert.ReferenceSqOutIdeal.main (F := Ideal))) ⟨m, fun _ => 0, g⟩ (fun r => (∀ c : Dev Cert.ReferenceSqOutIdeal.nD,
      r.2.mem ((c.tc : Thread Cert.ReferenceSqOutIdeal.nD Cert.ReferenceSqOutIdeal.τ).loc Cert.ReferenceSqOutIdeal.main_arg0) = m ((c.tc : Thread Cert.ReferenceSqOutIdeal.nD Cert.ReferenceSqOutIdeal.τ).loc Cert.ReferenceSqOutIdeal.main_arg0)
      ∧ r.2.mem ((c.tc : Thread Cert.ReferenceSqOutIdeal.nD Cert.ReferenceSqOutIdeal.τ).loc Cert.ReferenceSqOutIdeal.main_arg1) = m ((c.tc : Thread Cert.ReferenceSqOutIdeal.nD Cert.ReferenceSqOutIdeal.τ).loc Cert.ReferenceSqOutIdeal.main_arg1)
      ∧ r.2.mem ((c.tc : Thread Cert.ReferenceSqOutIdeal.nD Cert.ReferenceSqOutIdeal.τ).loc Cert.ReferenceSqOutIdeal.main_arg2) = m ((c.tc : Thread Cert.ReferenceSqOutIdeal.nD Cert.ReferenceSqOutIdeal.τ).loc Cert.ReferenceSqOutIdeal.main_arg2)
      ∧ r.2.mem ((c.tc : Thread Cert.ReferenceSqOutIdeal.nD Cert.ReferenceSqOutIdeal.τ).loc Cert.ReferenceSqOutIdeal.main_arg3) = m ((c.tc : Thread Cert.ReferenceSqOutIdeal.nD Cert.ReferenceSqOutIdeal.τ).loc Cert.ReferenceSqOutIdeal.main_arg3))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelKvDw [hKernelKvDw : Cert.KernelKvDw.Facts] : Prop :=
  ∀ (m : (ℓ : Loc Cert.KernelKvDw.nD Cert.KernelKvDw.τ Cert.KernelKvDw.sig) → Buf (Elt Bits) ℓ) (g : Dev Cert.KernelKvDw.nD → PrngReg), Pre_KernelKvDw m →
    θ_run (Cert.KernelKvDw.defs (F := Bits)) (onTc (τ := Cert.KernelKvDw.τ) (Cert.KernelKvDw.main (F := Bits))) ⟨m, fun _ => 0, g⟩ (fun r => (∀ c : Dev Cert.KernelKvDw.nD,
      r.2.mem ((c.tc : Thread Cert.KernelKvDw.nD Cert.KernelKvDw.τ).loc Cert.KernelKvDw.main_arg0) = m ((c.tc : Thread Cert.KernelKvDw.nD Cert.KernelKvDw.τ).loc Cert.KernelKvDw.main_arg0)
      ∧ r.2.mem ((c.tc : Thread Cert.KernelKvDw.nD Cert.KernelKvDw.τ).loc Cert.KernelKvDw.main_arg1) = m ((c.tc : Thread Cert.KernelKvDw.nD Cert.KernelKvDw.τ).loc Cert.KernelKvDw.main_arg1))
      ∧ r.2.sem = fun _ => 0)

def quiescent_KernelKvDwIdeal [hKernelKvDwIdeal : Cert.KernelKvDwIdeal.Facts] : Prop :=
  ∀ (m : (ℓ : Loc Cert.KernelKvDwIdeal.nD Cert.KernelKvDwIdeal.τ Cert.KernelKvDwIdeal.sig) → Buf (Elt Ideal) ℓ) (g : Dev Cert.KernelKvDwIdeal.nD → PrngReg), Pre_KernelKvDwIdeal m →
    θ_run (Cert.KernelKvDwIdeal.defs (F := Ideal)) (onTc (τ := Cert.KernelKvDwIdeal.τ) (Cert.KernelKvDwIdeal.main (F := Ideal))) ⟨m, fun _ => 0, g⟩ (fun r => (∀ c : Dev Cert.KernelKvDwIdeal.nD,
      r.2.mem ((c.tc : Thread Cert.KernelKvDwIdeal.nD Cert.KernelKvDwIdeal.τ).loc Cert.KernelKvDwIdeal.main_arg0) = m ((c.tc : Thread Cert.KernelKvDwIdeal.nD Cert.KernelKvDwIdeal.τ).loc Cert.KernelKvDwIdeal.main_arg0)
      ∧ r.2.mem ((c.tc : Thread Cert.KernelKvDwIdeal.nD Cert.KernelKvDwIdeal.τ).loc Cert.KernelKvDwIdeal.main_arg1) = m ((c.tc : Thread Cert.KernelKvDwIdeal.nD Cert.KernelKvDwIdeal.τ).loc Cert.KernelKvDwIdeal.main_arg1))
      ∧ r.2.sem = fun _ => 0)

def quiescent_ReferenceKvDwIdeal [hReferenceKvDwIdeal : Cert.ReferenceKvDwIdeal.Facts] : Prop :=
  ∀ (m : (ℓ : Loc Cert.ReferenceKvDwIdeal.nD Cert.ReferenceKvDwIdeal.τ Cert.ReferenceKvDwIdeal.sig) → Buf (Elt Ideal) ℓ) (g : Dev Cert.ReferenceKvDwIdeal.nD → PrngReg), Pre_ReferenceKvDwIdeal m →
    θ_run (Cert.ReferenceKvDwIdeal.defs (F := Ideal)) (onTc (τ := Cert.ReferenceKvDwIdeal.τ) (Cert.ReferenceKvDwIdeal.main (F := Ideal))) ⟨m, fun _ => 0, g⟩ (fun r => (∀ c : Dev Cert.ReferenceKvDwIdeal.nD,
      r.2.mem ((c.tc : Thread Cert.ReferenceKvDwIdeal.nD Cert.ReferenceKvDwIdeal.τ).loc Cert.ReferenceKvDwIdeal.main_arg0) = m ((c.tc : Thread Cert.ReferenceKvDwIdeal.nD Cert.ReferenceKvDwIdeal.τ).loc Cert.ReferenceKvDwIdeal.main_arg0)
      ∧ r.2.mem ((c.tc : Thread Cert.ReferenceKvDwIdeal.nD Cert.ReferenceKvDwIdeal.τ).loc Cert.ReferenceKvDwIdeal.main_arg1) = m ((c.tc : Thread Cert.ReferenceKvDwIdeal.nD Cert.ReferenceKvDwIdeal.τ).loc Cert.ReferenceKvDwIdeal.main_arg1))
      ∧ r.2.sem = fun _ => 0)

def quiescent_KernelKvDu [hKernelKvDu : Cert.KernelKvDu.Facts] : Prop :=
  ∀ (m : (ℓ : Loc Cert.KernelKvDu.nD Cert.KernelKvDu.τ Cert.KernelKvDu.sig) → Buf (Elt Bits) ℓ) (g : Dev Cert.KernelKvDu.nD → PrngReg), Pre_KernelKvDu m →
    θ_run (Cert.KernelKvDu.defs (F := Bits)) (onTc (τ := Cert.KernelKvDu.τ) (Cert.KernelKvDu.main (F := Bits))) ⟨m, fun _ => 0, g⟩ (fun r => (∀ c : Dev Cert.KernelKvDu.nD,
      r.2.mem ((c.tc : Thread Cert.KernelKvDu.nD Cert.KernelKvDu.τ).loc Cert.KernelKvDu.main_arg0) = m ((c.tc : Thread Cert.KernelKvDu.nD Cert.KernelKvDu.τ).loc Cert.KernelKvDu.main_arg0)
      ∧ r.2.mem ((c.tc : Thread Cert.KernelKvDu.nD Cert.KernelKvDu.τ).loc Cert.KernelKvDu.main_arg1) = m ((c.tc : Thread Cert.KernelKvDu.nD Cert.KernelKvDu.τ).loc Cert.KernelKvDu.main_arg1))
      ∧ r.2.sem = fun _ => 0)

def quiescent_KernelKvDuIdeal [hKernelKvDuIdeal : Cert.KernelKvDuIdeal.Facts] : Prop :=
  ∀ (m : (ℓ : Loc Cert.KernelKvDuIdeal.nD Cert.KernelKvDuIdeal.τ Cert.KernelKvDuIdeal.sig) → Buf (Elt Ideal) ℓ) (g : Dev Cert.KernelKvDuIdeal.nD → PrngReg), Pre_KernelKvDuIdeal m →
    θ_run (Cert.KernelKvDuIdeal.defs (F := Ideal)) (onTc (τ := Cert.KernelKvDuIdeal.τ) (Cert.KernelKvDuIdeal.main (F := Ideal))) ⟨m, fun _ => 0, g⟩ (fun r => (∀ c : Dev Cert.KernelKvDuIdeal.nD,
      r.2.mem ((c.tc : Thread Cert.KernelKvDuIdeal.nD Cert.KernelKvDuIdeal.τ).loc Cert.KernelKvDuIdeal.main_arg0) = m ((c.tc : Thread Cert.KernelKvDuIdeal.nD Cert.KernelKvDuIdeal.τ).loc Cert.KernelKvDuIdeal.main_arg0)
      ∧ r.2.mem ((c.tc : Thread Cert.KernelKvDuIdeal.nD Cert.KernelKvDuIdeal.τ).loc Cert.KernelKvDuIdeal.main_arg1) = m ((c.tc : Thread Cert.KernelKvDuIdeal.nD Cert.KernelKvDuIdeal.τ).loc Cert.KernelKvDuIdeal.main_arg1))
      ∧ r.2.sem = fun _ => 0)

def quiescent_ReferenceKvDuIdeal [hReferenceKvDuIdeal : Cert.ReferenceKvDuIdeal.Facts] : Prop :=
  ∀ (m : (ℓ : Loc Cert.ReferenceKvDuIdeal.nD Cert.ReferenceKvDuIdeal.τ Cert.ReferenceKvDuIdeal.sig) → Buf (Elt Ideal) ℓ) (g : Dev Cert.ReferenceKvDuIdeal.nD → PrngReg), Pre_ReferenceKvDuIdeal m →
    θ_run (Cert.ReferenceKvDuIdeal.defs (F := Ideal)) (onTc (τ := Cert.ReferenceKvDuIdeal.τ) (Cert.ReferenceKvDuIdeal.main (F := Ideal))) ⟨m, fun _ => 0, g⟩ (fun r => (∀ c : Dev Cert.ReferenceKvDuIdeal.nD,
      r.2.mem ((c.tc : Thread Cert.ReferenceKvDuIdeal.nD Cert.ReferenceKvDuIdeal.τ).loc Cert.ReferenceKvDuIdeal.main_arg0) = m ((c.tc : Thread Cert.ReferenceKvDuIdeal.nD Cert.ReferenceKvDuIdeal.τ).loc Cert.ReferenceKvDuIdeal.main_arg0)
      ∧ r.2.mem ((c.tc : Thread Cert.ReferenceKvDuIdeal.nD Cert.ReferenceKvDuIdeal.τ).loc Cert.ReferenceKvDuIdeal.main_arg1) = m ((c.tc : Thread Cert.ReferenceKvDuIdeal.nD Cert.ReferenceKvDuIdeal.τ).loc Cert.ReferenceKvDuIdeal.main_arg1))
      ∧ r.2.sem = fun _ => 0)

def quiescent_KernelAttOut [hKernelAttOut : Cert.KernelAttOut.Facts] : Prop :=
  ∀ (m : (ℓ : Loc Cert.KernelAttOut.nD Cert.KernelAttOut.τ Cert.KernelAttOut.sig) → Buf (Elt Bits) ℓ) (g : Dev Cert.KernelAttOut.nD → PrngReg), Pre_KernelAttOut m →
    θ_run (Cert.KernelAttOut.defs (F := Bits)) (onTc (τ := Cert.KernelAttOut.τ) (Cert.KernelAttOut.main (F := Bits))) ⟨m, fun _ => 0, g⟩ (fun r => (∀ c : Dev Cert.KernelAttOut.nD,
      r.2.mem ((c.tc : Thread Cert.KernelAttOut.nD Cert.KernelAttOut.τ).loc Cert.KernelAttOut.main_arg0) = m ((c.tc : Thread Cert.KernelAttOut.nD Cert.KernelAttOut.τ).loc Cert.KernelAttOut.main_arg0)
      ∧ r.2.mem ((c.tc : Thread Cert.KernelAttOut.nD Cert.KernelAttOut.τ).loc Cert.KernelAttOut.main_arg1) = m ((c.tc : Thread Cert.KernelAttOut.nD Cert.KernelAttOut.τ).loc Cert.KernelAttOut.main_arg1)
      ∧ r.2.mem ((c.tc : Thread Cert.KernelAttOut.nD Cert.KernelAttOut.τ).loc Cert.KernelAttOut.main_arg2) = m ((c.tc : Thread Cert.KernelAttOut.nD Cert.KernelAttOut.τ).loc Cert.KernelAttOut.main_arg2)
      ∧ r.2.mem ((c.tc : Thread Cert.KernelAttOut.nD Cert.KernelAttOut.τ).loc Cert.KernelAttOut.main_arg3) = m ((c.tc : Thread Cert.KernelAttOut.nD Cert.KernelAttOut.τ).loc Cert.KernelAttOut.main_arg3))
      ∧ r.2.sem = fun _ => 0)

def quiescent_KernelAttOutIdeal [hKernelAttOutIdeal : Cert.KernelAttOutIdeal.Facts] : Prop :=
  ∀ (m : (ℓ : Loc Cert.KernelAttOutIdeal.nD Cert.KernelAttOutIdeal.τ Cert.KernelAttOutIdeal.sig) → Buf (Elt Ideal) ℓ) (g : Dev Cert.KernelAttOutIdeal.nD → PrngReg), Pre_KernelAttOutIdeal m →
    θ_run (Cert.KernelAttOutIdeal.defs (F := Ideal)) (onTc (τ := Cert.KernelAttOutIdeal.τ) (Cert.KernelAttOutIdeal.main (F := Ideal))) ⟨m, fun _ => 0, g⟩ (fun r => (∀ c : Dev Cert.KernelAttOutIdeal.nD,
      r.2.mem ((c.tc : Thread Cert.KernelAttOutIdeal.nD Cert.KernelAttOutIdeal.τ).loc Cert.KernelAttOutIdeal.main_arg0) = m ((c.tc : Thread Cert.KernelAttOutIdeal.nD Cert.KernelAttOutIdeal.τ).loc Cert.KernelAttOutIdeal.main_arg0)
      ∧ r.2.mem ((c.tc : Thread Cert.KernelAttOutIdeal.nD Cert.KernelAttOutIdeal.τ).loc Cert.KernelAttOutIdeal.main_arg1) = m ((c.tc : Thread Cert.KernelAttOutIdeal.nD Cert.KernelAttOutIdeal.τ).loc Cert.KernelAttOutIdeal.main_arg1)
      ∧ r.2.mem ((c.tc : Thread Cert.KernelAttOutIdeal.nD Cert.KernelAttOutIdeal.τ).loc Cert.KernelAttOutIdeal.main_arg2) = m ((c.tc : Thread Cert.KernelAttOutIdeal.nD Cert.KernelAttOutIdeal.τ).loc Cert.KernelAttOutIdeal.main_arg2)
      ∧ r.2.mem ((c.tc : Thread Cert.KernelAttOutIdeal.nD Cert.KernelAttOutIdeal.τ).loc Cert.KernelAttOutIdeal.main_arg3) = m ((c.tc : Thread Cert.KernelAttOutIdeal.nD Cert.KernelAttOutIdeal.τ).loc Cert.KernelAttOutIdeal.main_arg3))
      ∧ r.2.sem = fun _ => 0)

def quiescent_ReferenceAttOutIdeal [hReferenceAttOutIdeal : Cert.ReferenceAttOutIdeal.Facts] : Prop :=
  ∀ (m : (ℓ : Loc Cert.ReferenceAttOutIdeal.nD Cert.ReferenceAttOutIdeal.τ Cert.ReferenceAttOutIdeal.sig) → Buf (Elt Ideal) ℓ) (g : Dev Cert.ReferenceAttOutIdeal.nD → PrngReg), Pre_ReferenceAttOutIdeal m →
    θ_run (Cert.ReferenceAttOutIdeal.defs (F := Ideal)) (onTc (τ := Cert.ReferenceAttOutIdeal.τ) (Cert.ReferenceAttOutIdeal.main (F := Ideal))) ⟨m, fun _ => 0, g⟩ (fun r => (∀ c : Dev Cert.ReferenceAttOutIdeal.nD,
      r.2.mem ((c.tc : Thread Cert.ReferenceAttOutIdeal.nD Cert.ReferenceAttOutIdeal.τ).loc Cert.ReferenceAttOutIdeal.main_arg0) = m ((c.tc : Thread Cert.ReferenceAttOutIdeal.nD Cert.ReferenceAttOutIdeal.τ).loc Cert.ReferenceAttOutIdeal.main_arg0)
      ∧ r.2.mem ((c.tc : Thread Cert.ReferenceAttOutIdeal.nD Cert.ReferenceAttOutIdeal.τ).loc Cert.ReferenceAttOutIdeal.main_arg1) = m ((c.tc : Thread Cert.ReferenceAttOutIdeal.nD Cert.ReferenceAttOutIdeal.τ).loc Cert.ReferenceAttOutIdeal.main_arg1)
      ∧ r.2.mem ((c.tc : Thread Cert.ReferenceAttOutIdeal.nD Cert.ReferenceAttOutIdeal.τ).loc Cert.ReferenceAttOutIdeal.main_arg2) = m ((c.tc : Thread Cert.ReferenceAttOutIdeal.nD Cert.ReferenceAttOutIdeal.τ).loc Cert.ReferenceAttOutIdeal.main_arg2)
      ∧ r.2.mem ((c.tc : Thread Cert.ReferenceAttOutIdeal.nD Cert.ReferenceAttOutIdeal.τ).loc Cert.ReferenceAttOutIdeal.main_arg3) = m ((c.tc : Thread Cert.ReferenceAttOutIdeal.nD Cert.ReferenceAttOutIdeal.τ).loc Cert.ReferenceAttOutIdeal.main_arg3))
      ∧ r.2.sem = fun _ => 0)

def quiescent_KernelAttDw [hKernelAttDw : Cert.KernelAttDw.Facts] : Prop :=
  ∀ (m : (ℓ : Loc Cert.KernelAttDw.nD Cert.KernelAttDw.τ Cert.KernelAttDw.sig) → Buf (Elt Bits) ℓ) (g : Dev Cert.KernelAttDw.nD → PrngReg), Pre_KernelAttDw m →
    θ_run (Cert.KernelAttDw.defs (F := Bits)) (onTc (τ := Cert.KernelAttDw.τ) (Cert.KernelAttDw.main (F := Bits))) ⟨m, fun _ => 0, g⟩ (fun r => (∀ c : Dev Cert.KernelAttDw.nD,
      r.2.mem ((c.tc : Thread Cert.KernelAttDw.nD Cert.KernelAttDw.τ).loc Cert.KernelAttDw.main_arg0) = m ((c.tc : Thread Cert.KernelAttDw.nD Cert.KernelAttDw.τ).loc Cert.KernelAttDw.main_arg0)
      ∧ r.2.mem ((c.tc : Thread Cert.KernelAttDw.nD Cert.KernelAttDw.τ).loc Cert.KernelAttDw.main_arg1) = m ((c.tc : Thread Cert.KernelAttDw.nD Cert.KernelAttDw.τ).loc Cert.KernelAttDw.main_arg1))
      ∧ r.2.sem = fun _ => 0)

def quiescent_KernelAttDwIdeal [hKernelAttDwIdeal : Cert.KernelAttDwIdeal.Facts] : Prop :=
  ∀ (m : (ℓ : Loc Cert.KernelAttDwIdeal.nD Cert.KernelAttDwIdeal.τ Cert.KernelAttDwIdeal.sig) → Buf (Elt Ideal) ℓ) (g : Dev Cert.KernelAttDwIdeal.nD → PrngReg), Pre_KernelAttDwIdeal m →
    θ_run (Cert.KernelAttDwIdeal.defs (F := Ideal)) (onTc (τ := Cert.KernelAttDwIdeal.τ) (Cert.KernelAttDwIdeal.main (F := Ideal))) ⟨m, fun _ => 0, g⟩ (fun r => (∀ c : Dev Cert.KernelAttDwIdeal.nD,
      r.2.mem ((c.tc : Thread Cert.KernelAttDwIdeal.nD Cert.KernelAttDwIdeal.τ).loc Cert.KernelAttDwIdeal.main_arg0) = m ((c.tc : Thread Cert.KernelAttDwIdeal.nD Cert.KernelAttDwIdeal.τ).loc Cert.KernelAttDwIdeal.main_arg0)
      ∧ r.2.mem ((c.tc : Thread Cert.KernelAttDwIdeal.nD Cert.KernelAttDwIdeal.τ).loc Cert.KernelAttDwIdeal.main_arg1) = m ((c.tc : Thread Cert.KernelAttDwIdeal.nD Cert.KernelAttDwIdeal.τ).loc Cert.KernelAttDwIdeal.main_arg1))
      ∧ r.2.sem = fun _ => 0)

def quiescent_ReferenceAttDwIdeal [hReferenceAttDwIdeal : Cert.ReferenceAttDwIdeal.Facts] : Prop :=
  ∀ (m : (ℓ : Loc Cert.ReferenceAttDwIdeal.nD Cert.ReferenceAttDwIdeal.τ Cert.ReferenceAttDwIdeal.sig) → Buf (Elt Ideal) ℓ) (g : Dev Cert.ReferenceAttDwIdeal.nD → PrngReg), Pre_ReferenceAttDwIdeal m →
    θ_run (Cert.ReferenceAttDwIdeal.defs (F := Ideal)) (onTc (τ := Cert.ReferenceAttDwIdeal.τ) (Cert.ReferenceAttDwIdeal.main (F := Ideal))) ⟨m, fun _ => 0, g⟩ (fun r => (∀ c : Dev Cert.ReferenceAttDwIdeal.nD,
      r.2.mem ((c.tc : Thread Cert.ReferenceAttDwIdeal.nD Cert.ReferenceAttDwIdeal.τ).loc Cert.ReferenceAttDwIdeal.main_arg0) = m ((c.tc : Thread Cert.ReferenceAttDwIdeal.nD Cert.ReferenceAttDwIdeal.τ).loc Cert.ReferenceAttDwIdeal.main_arg0)
      ∧ r.2.mem ((c.tc : Thread Cert.ReferenceAttDwIdeal.nD Cert.ReferenceAttDwIdeal.τ).loc Cert.ReferenceAttDwIdeal.main_arg1) = m ((c.tc : Thread Cert.ReferenceAttDwIdeal.nD Cert.ReferenceAttDwIdeal.τ).loc Cert.ReferenceAttDwIdeal.main_arg1))
      ∧ r.2.sem = fun _ => 0)

def quiescent_KernelQDw [hKernelQDw : Cert.KernelQDw.Facts] : Prop :=
  ∀ (m : (ℓ : Loc Cert.KernelQDw.nD Cert.KernelQDw.τ Cert.KernelQDw.sig) → Buf (Elt Bits) ℓ) (g : Dev Cert.KernelQDw.nD → PrngReg), Pre_KernelQDw m →
    θ_run (Cert.KernelQDw.defs (F := Bits)) (onTc (τ := Cert.KernelQDw.τ) (Cert.KernelQDw.main (F := Bits))) ⟨m, fun _ => 0, g⟩ (fun r => (∀ c : Dev Cert.KernelQDw.nD,
      r.2.mem ((c.tc : Thread Cert.KernelQDw.nD Cert.KernelQDw.τ).loc Cert.KernelQDw.main_arg0) = m ((c.tc : Thread Cert.KernelQDw.nD Cert.KernelQDw.τ).loc Cert.KernelQDw.main_arg0)
      ∧ r.2.mem ((c.tc : Thread Cert.KernelQDw.nD Cert.KernelQDw.τ).loc Cert.KernelQDw.main_arg1) = m ((c.tc : Thread Cert.KernelQDw.nD Cert.KernelQDw.τ).loc Cert.KernelQDw.main_arg1))
      ∧ r.2.sem = fun _ => 0)

def quiescent_KernelQDwIdeal [hKernelQDwIdeal : Cert.KernelQDwIdeal.Facts] : Prop :=
  ∀ (m : (ℓ : Loc Cert.KernelQDwIdeal.nD Cert.KernelQDwIdeal.τ Cert.KernelQDwIdeal.sig) → Buf (Elt Ideal) ℓ) (g : Dev Cert.KernelQDwIdeal.nD → PrngReg), Pre_KernelQDwIdeal m →
    θ_run (Cert.KernelQDwIdeal.defs (F := Ideal)) (onTc (τ := Cert.KernelQDwIdeal.τ) (Cert.KernelQDwIdeal.main (F := Ideal))) ⟨m, fun _ => 0, g⟩ (fun r => (∀ c : Dev Cert.KernelQDwIdeal.nD,
      r.2.mem ((c.tc : Thread Cert.KernelQDwIdeal.nD Cert.KernelQDwIdeal.τ).loc Cert.KernelQDwIdeal.main_arg0) = m ((c.tc : Thread Cert.KernelQDwIdeal.nD Cert.KernelQDwIdeal.τ).loc Cert.KernelQDwIdeal.main_arg0)
      ∧ r.2.mem ((c.tc : Thread Cert.KernelQDwIdeal.nD Cert.KernelQDwIdeal.τ).loc Cert.KernelQDwIdeal.main_arg1) = m ((c.tc : Thread Cert.KernelQDwIdeal.nD Cert.KernelQDwIdeal.τ).loc Cert.KernelQDwIdeal.main_arg1))
      ∧ r.2.sem = fun _ => 0)

def quiescent_ReferenceQDwIdeal [hReferenceQDwIdeal : Cert.ReferenceQDwIdeal.Facts] : Prop :=
  ∀ (m : (ℓ : Loc Cert.ReferenceQDwIdeal.nD Cert.ReferenceQDwIdeal.τ Cert.ReferenceQDwIdeal.sig) → Buf (Elt Ideal) ℓ) (g : Dev Cert.ReferenceQDwIdeal.nD → PrngReg), Pre_ReferenceQDwIdeal m →
    θ_run (Cert.ReferenceQDwIdeal.defs (F := Ideal)) (onTc (τ := Cert.ReferenceQDwIdeal.τ) (Cert.ReferenceQDwIdeal.main (F := Ideal))) ⟨m, fun _ => 0, g⟩ (fun r => (∀ c : Dev Cert.ReferenceQDwIdeal.nD,
      r.2.mem ((c.tc : Thread Cert.ReferenceQDwIdeal.nD Cert.ReferenceQDwIdeal.τ).loc Cert.ReferenceQDwIdeal.main_arg0) = m ((c.tc : Thread Cert.ReferenceQDwIdeal.nD Cert.ReferenceQDwIdeal.τ).loc Cert.ReferenceQDwIdeal.main_arg0)
      ∧ r.2.mem ((c.tc : Thread Cert.ReferenceQDwIdeal.nD Cert.ReferenceQDwIdeal.τ).loc Cert.ReferenceQDwIdeal.main_arg1) = m ((c.tc : Thread Cert.ReferenceQDwIdeal.nD Cert.ReferenceQDwIdeal.τ).loc Cert.ReferenceQDwIdeal.main_arg1))
      ∧ r.2.sem = fun _ => 0)

def quiescent_KernelQDu [hKernelQDu : Cert.KernelQDu.Facts] : Prop :=
  ∀ (m : (ℓ : Loc Cert.KernelQDu.nD Cert.KernelQDu.τ Cert.KernelQDu.sig) → Buf (Elt Bits) ℓ) (g : Dev Cert.KernelQDu.nD → PrngReg), Pre_KernelQDu m →
    θ_run (Cert.KernelQDu.defs (F := Bits)) (onTc (τ := Cert.KernelQDu.τ) (Cert.KernelQDu.main (F := Bits))) ⟨m, fun _ => 0, g⟩ (fun r => (∀ c : Dev Cert.KernelQDu.nD,
      r.2.mem ((c.tc : Thread Cert.KernelQDu.nD Cert.KernelQDu.τ).loc Cert.KernelQDu.main_arg0) = m ((c.tc : Thread Cert.KernelQDu.nD Cert.KernelQDu.τ).loc Cert.KernelQDu.main_arg0)
      ∧ r.2.mem ((c.tc : Thread Cert.KernelQDu.nD Cert.KernelQDu.τ).loc Cert.KernelQDu.main_arg1) = m ((c.tc : Thread Cert.KernelQDu.nD Cert.KernelQDu.τ).loc Cert.KernelQDu.main_arg1))
      ∧ r.2.sem = fun _ => 0)

def quiescent_KernelQDuIdeal [hKernelQDuIdeal : Cert.KernelQDuIdeal.Facts] : Prop :=
  ∀ (m : (ℓ : Loc Cert.KernelQDuIdeal.nD Cert.KernelQDuIdeal.τ Cert.KernelQDuIdeal.sig) → Buf (Elt Ideal) ℓ) (g : Dev Cert.KernelQDuIdeal.nD → PrngReg), Pre_KernelQDuIdeal m →
    θ_run (Cert.KernelQDuIdeal.defs (F := Ideal)) (onTc (τ := Cert.KernelQDuIdeal.τ) (Cert.KernelQDuIdeal.main (F := Ideal))) ⟨m, fun _ => 0, g⟩ (fun r => (∀ c : Dev Cert.KernelQDuIdeal.nD,
      r.2.mem ((c.tc : Thread Cert.KernelQDuIdeal.nD Cert.KernelQDuIdeal.τ).loc Cert.KernelQDuIdeal.main_arg0) = m ((c.tc : Thread Cert.KernelQDuIdeal.nD Cert.KernelQDuIdeal.τ).loc Cert.KernelQDuIdeal.main_arg0)
      ∧ r.2.mem ((c.tc : Thread Cert.KernelQDuIdeal.nD Cert.KernelQDuIdeal.τ).loc Cert.KernelQDuIdeal.main_arg1) = m ((c.tc : Thread Cert.KernelQDuIdeal.nD Cert.KernelQDuIdeal.τ).loc Cert.KernelQDuIdeal.main_arg1))
      ∧ r.2.sem = fun _ => 0)

def quiescent_ReferenceQDuIdeal [hReferenceQDuIdeal : Cert.ReferenceQDuIdeal.Facts] : Prop :=
  ∀ (m : (ℓ : Loc Cert.ReferenceQDuIdeal.nD Cert.ReferenceQDuIdeal.τ Cert.ReferenceQDuIdeal.sig) → Buf (Elt Ideal) ℓ) (g : Dev Cert.ReferenceQDuIdeal.nD → PrngReg), Pre_ReferenceQDuIdeal m →
    θ_run (Cert.ReferenceQDuIdeal.defs (F := Ideal)) (onTc (τ := Cert.ReferenceQDuIdeal.τ) (Cert.ReferenceQDuIdeal.main (F := Ideal))) ⟨m, fun _ => 0, g⟩ (fun r => (∀ c : Dev Cert.ReferenceQDuIdeal.nD,
      r.2.mem ((c.tc : Thread Cert.ReferenceQDuIdeal.nD Cert.ReferenceQDuIdeal.τ).loc Cert.ReferenceQDuIdeal.main_arg0) = m ((c.tc : Thread Cert.ReferenceQDuIdeal.nD Cert.ReferenceQDuIdeal.τ).loc Cert.ReferenceQDuIdeal.main_arg0)
      ∧ r.2.mem ((c.tc : Thread Cert.ReferenceQDuIdeal.nD Cert.ReferenceQDuIdeal.τ).loc Cert.ReferenceQDuIdeal.main_arg1) = m ((c.tc : Thread Cert.ReferenceQDuIdeal.nD Cert.ReferenceQDuIdeal.τ).loc Cert.ReferenceQDuIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelNormBwd [hKernelNormBwd : Cert.KernelNormBwd.Facts] : Prop :=
  ∀ (m : (ℓ : Loc Cert.KernelNormBwd.nD Cert.KernelNormBwd.τ Cert.KernelNormBwd.sig) → Buf (Elt Bits) ℓ) (g : Dev Cert.KernelNormBwd.nD → PrngReg), Pre_KernelNormBwd m →
    θ_run (Cert.KernelNormBwd.defs (F := Bits)) (onTc (τ := Cert.KernelNormBwd.τ) (Cert.KernelNormBwd.main (F := Bits))) ⟨m, fun _ => 0, g⟩ (fun r => (∀ c : Dev Cert.KernelNormBwd.nD,
      r.2.mem ((c.tc : Thread Cert.KernelNormBwd.nD Cert.KernelNormBwd.τ).loc Cert.KernelNormBwd.main_arg0) = m ((c.tc : Thread Cert.KernelNormBwd.nD Cert.KernelNormBwd.τ).loc Cert.KernelNormBwd.main_arg0)
      ∧ r.2.mem ((c.tc : Thread Cert.KernelNormBwd.nD Cert.KernelNormBwd.τ).loc Cert.KernelNormBwd.main_arg1) = m ((c.tc : Thread Cert.KernelNormBwd.nD Cert.KernelNormBwd.τ).loc Cert.KernelNormBwd.main_arg1)
      ∧ r.2.mem ((c.tc : Thread Cert.KernelNormBwd.nD Cert.KernelNormBwd.τ).loc Cert.KernelNormBwd.main_arg2) = m ((c.tc : Thread Cert.KernelNormBwd.nD Cert.KernelNormBwd.τ).loc Cert.KernelNormBwd.main_arg2)
      ∧ r.2.mem ((c.tc : Thread Cert.KernelNormBwd.nD Cert.KernelNormBwd.τ).loc Cert.KernelNormBwd.main_arg3) = m ((c.tc : Thread Cert.KernelNormBwd.nD Cert.KernelNormBwd.τ).loc Cert.KernelNormBwd.main_arg3)
      ∧ r.2.mem ((c.tc : Thread Cert.KernelNormBwd.nD Cert.KernelNormBwd.τ).loc Cert.KernelNormBwd.main_arg4) = m ((c.tc : Thread Cert.KernelNormBwd.nD Cert.KernelNormBwd.τ).loc Cert.KernelNormBwd.main_arg4)
      ∧ r.2.mem ((c.tc : Thread Cert.KernelNormBwd.nD Cert.KernelNormBwd.τ).loc Cert.KernelNormBwd.main_arg5) = m ((c.tc : Thread Cert.KernelNormBwd.nD Cert.KernelNormBwd.τ).loc Cert.KernelNormBwd.main_arg5))
      ∧ r.2.sem = fun _ => 0)

def quiescent_KernelNormBwdIdeal [hKernelNormBwdIdeal : Cert.KernelNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg), Pre_KernelNormBwdIdeal m →
    θ_run (Cert.KernelNormBwdIdeal.defs (F := Ideal)) (onTc (τ := Cert.KernelNormBwdIdeal.τ) (Cert.KernelNormBwdIdeal.main (F := Ideal))) ⟨m, fun _ => 0, g⟩ (fun r => (∀ c : Dev Cert.KernelNormBwdIdeal.nD,
      r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
      ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
      ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
      ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3)
      ∧ r.2.mem ((c.tc : Thread Cert.KernelNormBwdIdeal.nD Cert.KernelNormBwdIdeal.τ).loc Cert.KernelNormBwdIdeal.main_arg4) = m ((c.tc : Thread Cert.KernelNormBwdIdeal.nD Cert.KernelNormBwdIdeal.τ).loc Cert.KernelNormBwdIdeal.main_arg4)
      ∧ r.2.mem ((c.tc : Thread Cert.KernelNormBwdIdeal.nD Cert.KernelNormBwdIdeal.τ).loc Cert.KernelNormBwdIdeal.main_arg5) = m ((c.tc : Thread Cert.KernelNormBwdIdeal.nD Cert.KernelNormBwdIdeal.τ).loc Cert.KernelNormBwdIdeal.main_arg5))
      ∧ r.2.sem = fun _ => 0)

def quiescent_ReferenceNormBwdIdeal [hReferenceNormBwdIdeal : Cert.ReferenceNormBwdIdeal.Facts] : Prop :=
  ∀ (m : (ℓ : Loc Cert.ReferenceNormBwdIdeal.nD Cert.ReferenceNormBwdIdeal.τ Cert.ReferenceNormBwdIdeal.sig) → Buf (Elt Ideal) ℓ) (g : Dev Cert.ReferenceNormBwdIdeal.nD → PrngReg), Pre_ReferenceNormBwdIdeal m →
    θ_run (Cert.ReferenceNormBwdIdeal.defs (F := Ideal)) (onTc (τ := Cert.ReferenceNormBwdIdeal.τ) (Cert.ReferenceNormBwdIdeal.main (F := Ideal))) ⟨m, fun _ => 0, g⟩ (fun r => (∀ c : Dev Cert.ReferenceNormBwdIdeal.nD,
      r.2.mem ((c.tc : Thread Cert.ReferenceNormBwdIdeal.nD Cert.ReferenceNormBwdIdeal.τ).loc Cert.ReferenceNormBwdIdeal.main_arg0) = m ((c.tc : Thread Cert.ReferenceNormBwdIdeal.nD Cert.ReferenceNormBwdIdeal.τ).loc Cert.ReferenceNormBwdIdeal.main_arg0)
      ∧ r.2.mem ((c.tc : Thread Cert.ReferenceNormBwdIdeal.nD Cert.ReferenceNormBwdIdeal.τ).loc Cert.ReferenceNormBwdIdeal.main_arg1) = m ((c.tc : Thread Cert.ReferenceNormBwdIdeal.nD Cert.ReferenceNormBwdIdeal.τ).loc Cert.ReferenceNormBwdIdeal.main_arg1)
      ∧ r.2.mem ((c.tc : Thread Cert.ReferenceNormBwdIdeal.nD Cert.ReferenceNormBwdIdeal.τ).loc Cert.ReferenceNormBwdIdeal.main_arg2) = m ((c.tc : Thread Cert.ReferenceNormBwdIdeal.nD Cert.ReferenceNormBwdIdeal.τ).loc Cert.ReferenceNormBwdIdeal.main_arg2)
      ∧ r.2.mem ((c.tc : Thread Cert.ReferenceNormBwdIdeal.nD Cert.ReferenceNormBwdIdeal.τ).loc Cert.ReferenceNormBwdIdeal.main_arg3) = m ((c.tc : Thread Cert.ReferenceNormBwdIdeal.nD Cert.ReferenceNormBwdIdeal.τ).loc Cert.ReferenceNormBwdIdeal.main_arg3)
      ∧ r.2.mem ((c.tc : Thread Cert.ReferenceNormBwdIdeal.nD Cert.ReferenceNormBwdIdeal.τ).loc Cert.ReferenceNormBwdIdeal.main_arg4) = m ((c.tc : Thread Cert.ReferenceNormBwdIdeal.nD Cert.ReferenceNormBwdIdeal.τ).loc Cert.ReferenceNormBwdIdeal.main_arg4)
      ∧ r.2.mem ((c.tc : Thread Cert.ReferenceNormBwdIdeal.nD Cert.ReferenceNormBwdIdeal.τ).loc Cert.ReferenceNormBwdIdeal.main_arg5) = m ((c.tc : Thread Cert.ReferenceNormBwdIdeal.nD Cert.ReferenceNormBwdIdeal.τ).loc Cert.ReferenceNormBwdIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_v147) = v4 c
          ∧ r.2.mem ((c.tc : Thread Cert.ReferenceIdeal.nD Cert.ReferenceIdeal.τ).loc Cert.ReferenceIdeal.main_v148) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDact_KernelDactIdeal : Prop :=
  True

def algebraic_KernelDactIdeal_ReferenceDactIdeal [hKernelDactIdeal : Cert.KernelDactIdeal.Facts] [hReferenceDactIdeal : Cert.ReferenceDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg)
    (m' : (ℓ : Loc Cert.ReferenceDactIdeal.nD Cert.ReferenceDactIdeal.τ Cert.ReferenceDactIdeal.sig) → Buf (Elt Ideal) ℓ) (g' : Dev Cert.ReferenceDactIdeal.nD → PrngReg), Pre_KernelDactIdeal m →
    (∀ c : Dev Cert.KernelDactIdeal.nD,
      m' ((c.tc : Thread Cert.ReferenceDactIdeal.nD Cert.ReferenceDactIdeal.τ).loc Cert.ReferenceDactIdeal.main_arg0) = m ((c.tc : Thread Cert.KernelDactIdeal.nD Cert.KernelDactIdeal.τ).loc Cert.KernelDactIdeal.main_arg0)
      ∧ m' ((c.tc : Thread Cert.ReferenceDactIdeal.nD Cert.ReferenceDactIdeal.τ).loc Cert.ReferenceDactIdeal.main_arg1) = m ((c.tc : Thread Cert.KernelDactIdeal.nD Cert.KernelDactIdeal.τ).loc Cert.KernelDactIdeal.main_arg1)
      ∧ m' ((c.tc : Thread Cert.ReferenceDactIdeal.nD Cert.ReferenceDactIdeal.τ).loc Cert.ReferenceDactIdeal.main_arg2) = m ((c.tc : Thread Cert.KernelDactIdeal.nD Cert.KernelDactIdeal.τ).loc Cert.KernelDactIdeal.main_arg2)
      ∧ m' ((c.tc : Thread Cert.ReferenceDactIdeal.nD Cert.ReferenceDactIdeal.τ).loc Cert.ReferenceDactIdeal.main_arg3) = m ((c.tc : Thread Cert.KernelDactIdeal.nD Cert.KernelDactIdeal.τ).loc Cert.KernelDactIdeal.main_arg3)) →
    ∃ (v0 : (c : Dev Cert.KernelDactIdeal.nD) → Buf (Elt Ideal) ((c.tc : Thread Cert.KernelDactIdeal.nD Cert.KernelDactIdeal.τ).loc Cert.KernelDactIdeal.main_v10)),
      θ_run (Cert.KernelDactIdeal.defs (F := Ideal)) (onTc (τ := Cert.KernelDactIdeal.τ) (Cert.KernelDactIdeal.main (F := Ideal))) ⟨m, fun _ => 0, g⟩ (fun r => ∀ c : Dev Cert.KernelDactIdeal.nD,
          r.2.mem ((c.tc : Thread Cert.KernelDactIdeal.nD Cert.KernelDactIdeal.τ).loc Cert.KernelDactIdeal.main_v10) = v0 c
          ∧ r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
          ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1)
          ∧ r.2.mem ((c.tc : Thread Cert.KernelDactIdeal.nD Cert.KernelDactIdeal.τ).loc Cert.KernelDactIdeal.main_arg2) = m ((c.tc : Thread Cert.KernelDactIdeal.nD Cert.KernelDactIdeal.τ).loc Cert.KernelDactIdeal.main_arg2)
          ∧ r.2.mem ((c.tc : Thread Cert.KernelDactIdeal.nD Cert.KernelDactIdeal.τ).loc Cert.KernelDactIdeal.main_arg3) = m ((c.tc : Thread Cert.KernelDactIdeal.nD Cert.KernelDactIdeal.τ).loc Cert.KernelDactIdeal.main_arg3))
      ∧ θ_run (Cert.ReferenceDactIdeal.defs (F := Ideal)) (onTc (τ := Cert.ReferenceDactIdeal.τ) (Cert.ReferenceDactIdeal.main (F := Ideal))) ⟨m', fun _ => 0, g'⟩ (fun r => ∀ c : Dev Cert.ReferenceDactIdeal.nD,
          r.2.mem ((c.tc : Thread Cert.ReferenceDactIdeal.nD Cert.ReferenceDactIdeal.τ).loc Cert.ReferenceDactIdeal.main_v14) = v0 c
          ∧ r.2.mem ((c.tc : Thread Cert.ReferenceDactIdeal.nD Cert.ReferenceDactIdeal.τ).loc Cert.ReferenceDactIdeal.main_arg0) = m' ((c.tc : Thread Cert.ReferenceDactIdeal.nD Cert.ReferenceDactIdeal.τ).loc Cert.ReferenceDactIdeal.main_arg0)
          ∧ r.2.mem ((c.tc : Thread Cert.ReferenceDactIdeal.nD Cert.ReferenceDactIdeal.τ).loc Cert.ReferenceDactIdeal.main_arg1) = m' ((c.tc : Thread Cert.ReferenceDactIdeal.nD Cert.ReferenceDactIdeal.τ).loc Cert.ReferenceDactIdeal.main_arg1)
          ∧ r.2.mem ((c.tc : Thread Cert.ReferenceDactIdeal.nD Cert.ReferenceDactIdeal.τ).loc Cert.ReferenceDactIdeal.main_arg2) = m' ((c.tc : Thread Cert.ReferenceDactIdeal.nD Cert.ReferenceDactIdeal.τ).loc Cert.ReferenceDactIdeal.main_arg2)
          ∧ r.2.mem ((c.tc : Thread Cert.ReferenceDactIdeal.nD Cert.ReferenceDactIdeal.τ).loc Cert.ReferenceDactIdeal.main_arg3) = m' ((c.tc : Thread Cert.ReferenceDactIdeal.nD Cert.ReferenceDactIdeal.τ).loc Cert.ReferenceDactIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v4_0)) (v1 : (c : Dev Cert.KernelInIdeal.nD) → Buf (Elt Ideal) ((c.tc : Thread Cert.KernelInIdeal.nD Cert.KernelInIdeal.τ).loc Cert.KernelInIdeal.main_v4_1)) (v2 : (c : Dev Cert.KernelInIdeal.nD) → Buf (Elt Ideal) ((c.tc : Thread Cert.KernelInIdeal.nD Cert.KernelInIdeal.τ).loc Cert.KernelInIdeal.main_v4_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4_0) = v0 c
          ∧ r.2.mem ((c.tc : Thread Cert.KernelInIdeal.nD Cert.KernelInIdeal.τ).loc Cert.KernelInIdeal.main_v4_1) = v1 c
          ∧ r.2.mem ((c.tc : Thread Cert.KernelInIdeal.nD Cert.KernelInIdeal.τ).loc Cert.KernelInIdeal.main_v4_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v14) = v0 c
          ∧ r.2.mem ((c.tc : Thread Cert.ReferenceInIdeal.nD Cert.ReferenceInIdeal.τ).loc Cert.ReferenceInIdeal.main_v7) = v1 c
          ∧ r.2.mem ((c.tc : Thread Cert.ReferenceInIdeal.nD Cert.ReferenceInIdeal.τ).loc Cert.ReferenceInIdeal.main_v15) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelDwout_KernelDwoutIdeal : Prop :=
  True

def algebraic_KernelDwoutIdeal_ReferenceDwoutIdeal [hKernelDwoutIdeal : Cert.KernelDwoutIdeal.Facts] [hReferenceDwoutIdeal : Cert.ReferenceDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg)
    (m' : (ℓ : Loc Cert.ReferenceDwoutIdeal.nD Cert.ReferenceDwoutIdeal.τ Cert.ReferenceDwoutIdeal.sig) → Buf (Elt Ideal) ℓ) (g' : Dev Cert.ReferenceDwoutIdeal.nD → PrngReg), Pre_KernelDwoutIdeal m →
    (∀ c : Dev Cert.KernelDwoutIdeal.nD,
      m' ((c.tc : Thread Cert.ReferenceDwoutIdeal.nD Cert.ReferenceDwoutIdeal.τ).loc Cert.ReferenceDwoutIdeal.main_arg0) = m ((c.tc : Thread Cert.KernelDwoutIdeal.nD Cert.KernelDwoutIdeal.τ).loc Cert.KernelDwoutIdeal.main_arg0)
      ∧ m' ((c.tc : Thread Cert.ReferenceDwoutIdeal.nD Cert.ReferenceDwoutIdeal.τ).loc Cert.ReferenceDwoutIdeal.main_arg1) = m ((c.tc : Thread Cert.KernelDwoutIdeal.nD Cert.KernelDwoutIdeal.τ).loc Cert.KernelDwoutIdeal.main_arg1)) →
    ∃ (v0 : (c : Dev Cert.KernelDwoutIdeal.nD) → Buf (Elt Ideal) ((c.tc : Thread Cert.KernelDwoutIdeal.nD Cert.KernelDwoutIdeal.τ).loc Cert.KernelDwoutIdeal.main_v5)),
      θ_run (Cert.KernelDwoutIdeal.defs (F := Ideal)) (onTc (τ := Cert.KernelDwoutIdeal.τ) (Cert.KernelDwoutIdeal.main (F := Ideal))) ⟨m, fun _ => 0, g⟩ (fun r => ∀ c : Dev Cert.KernelDwoutIdeal.nD,
          r.2.mem ((c.tc : Thread Cert.KernelDwoutIdeal.nD Cert.KernelDwoutIdeal.τ).loc Cert.KernelDwoutIdeal.main_v5) = v0 c
          ∧ r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
          ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ θ_run (Cert.ReferenceDwoutIdeal.defs (F := Ideal)) (onTc (τ := Cert.ReferenceDwoutIdeal.τ) (Cert.ReferenceDwoutIdeal.main (F := Ideal))) ⟨m', fun _ => 0, g'⟩ (fun r => ∀ c : Dev Cert.ReferenceDwoutIdeal.nD,
          r.2.mem ((c.tc : Thread Cert.ReferenceDwoutIdeal.nD Cert.ReferenceDwoutIdeal.τ).loc Cert.ReferenceDwoutIdeal.main_v4) = v0 c
          ∧ r.2.mem ((c.tc : Thread Cert.ReferenceDwoutIdeal.nD Cert.ReferenceDwoutIdeal.τ).loc Cert.ReferenceDwoutIdeal.main_arg0) = m' ((c.tc : Thread Cert.ReferenceDwoutIdeal.nD Cert.ReferenceDwoutIdeal.τ).loc Cert.ReferenceDwoutIdeal.main_arg0)
          ∧ r.2.mem ((c.tc : Thread Cert.ReferenceDwoutIdeal.nD Cert.ReferenceDwoutIdeal.τ).loc Cert.ReferenceDwoutIdeal.main_arg1) = m' ((c.tc : Thread Cert.ReferenceDwoutIdeal.nD Cert.ReferenceDwoutIdeal.τ).loc Cert.ReferenceDwoutIdeal.main_arg1))

def preserves_KernelDwinLo_KernelDwinLoIdeal : Prop :=
  True

def algebraic_KernelDwinLoIdeal_ReferenceDwinLoIdeal [hKernelDwinLoIdeal : Cert.KernelDwinLoIdeal.Facts] [hReferenceDwinLoIdeal : Cert.ReferenceDwinLoIdeal.Facts] : Prop :=
  ∀ (m : (ℓ : Loc Cert.KernelDwinLoIdeal.nD Cert.KernelDwinLoIdeal.τ Cert.KernelDwinLoIdeal.sig) → Buf (Elt Ideal) ℓ) (g : Dev Cert.KernelDwinLoIdeal.nD → PrngReg)
    (m' : (ℓ : Loc Cert.ReferenceDwinLoIdeal.nD Cert.ReferenceDwinLoIdeal.τ Cert.ReferenceDwinLoIdeal.sig) → Buf (Elt Ideal) ℓ) (g' : Dev Cert.ReferenceDwinLoIdeal.nD → PrngReg), Pre_KernelDwinLoIdeal m →
    (∀ c : Dev Cert.KernelDwinLoIdeal.nD,
      m' ((c.tc : Thread Cert.ReferenceDwinLoIdeal.nD Cert.ReferenceDwinLoIdeal.τ).loc Cert.ReferenceDwinLoIdeal.main_arg0) = m ((c.tc : Thread Cert.KernelDwinLoIdeal.nD Cert.KernelDwinLoIdeal.τ).loc Cert.KernelDwinLoIdeal.main_arg0)
      ∧ m' ((c.tc : Thread Cert.ReferenceDwinLoIdeal.nD Cert.ReferenceDwinLoIdeal.τ).loc Cert.ReferenceDwinLoIdeal.main_arg1) = m ((c.tc : Thread Cert.KernelDwinLoIdeal.nD Cert.KernelDwinLoIdeal.τ).loc Cert.KernelDwinLoIdeal.main_arg1)) →
    ∃ (v0 : (c : Dev Cert.KernelDwinLoIdeal.nD) → Buf (Elt Ideal) ((c.tc : Thread Cert.KernelDwinLoIdeal.nD Cert.KernelDwinLoIdeal.τ).loc Cert.KernelDwinLoIdeal.main_v7)),
      θ_run (Cert.KernelDwinLoIdeal.defs (F := Ideal)) (onTc (τ := Cert.KernelDwinLoIdeal.τ) (Cert.KernelDwinLoIdeal.main (F := Ideal))) ⟨m, fun _ => 0, g⟩ (fun r => ∀ c : Dev Cert.KernelDwinLoIdeal.nD,
          r.2.mem ((c.tc : Thread Cert.KernelDwinLoIdeal.nD Cert.KernelDwinLoIdeal.τ).loc Cert.KernelDwinLoIdeal.main_v7) = v0 c
          ∧ r.2.mem ((c.tc : Thread Cert.KernelDwinLoIdeal.nD Cert.KernelDwinLoIdeal.τ).loc Cert.KernelDwinLoIdeal.main_arg0) = m ((c.tc : Thread Cert.KernelDwinLoIdeal.nD Cert.KernelDwinLoIdeal.τ).loc Cert.KernelDwinLoIdeal.main_arg0)
          ∧ r.2.mem ((c.tc : Thread Cert.KernelDwinLoIdeal.nD Cert.KernelDwinLoIdeal.τ).loc Cert.KernelDwinLoIdeal.main_arg1) = m ((c.tc : Thread Cert.KernelDwinLoIdeal.nD Cert.KernelDwinLoIdeal.τ).loc Cert.KernelDwinLoIdeal.main_arg1))
      ∧ θ_run (Cert.ReferenceDwinLoIdeal.defs (F := Ideal)) (onTc (τ := Cert.ReferenceDwinLoIdeal.τ) (Cert.ReferenceDwinLoIdeal.main (F := Ideal))) ⟨m', fun _ => 0, g'⟩ (fun r => ∀ c : Dev Cert.ReferenceDwinLoIdeal.nD,
          r.2.mem ((c.tc : Thread Cert.ReferenceDwinLoIdeal.nD Cert.ReferenceDwinLoIdeal.τ).loc Cert.ReferenceDwinLoIdeal.main_v7) = v0 c
          ∧ r.2.mem ((c.tc : Thread Cert.ReferenceDwinLoIdeal.nD Cert.ReferenceDwinLoIdeal.τ).loc Cert.ReferenceDwinLoIdeal.main_arg0) = m' ((c.tc : Thread Cert.ReferenceDwinLoIdeal.nD Cert.ReferenceDwinLoIdeal.τ).loc Cert.ReferenceDwinLoIdeal.main_arg0)
          ∧ r.2.mem ((c.tc : Thread Cert.ReferenceDwinLoIdeal.nD Cert.ReferenceDwinLoIdeal.τ).loc Cert.ReferenceDwinLoIdeal.main_arg1) = m' ((c.tc : Thread Cert.ReferenceDwinLoIdeal.nD Cert.ReferenceDwinLoIdeal.τ).loc Cert.ReferenceDwinLoIdeal.main_arg1))

def preserves_KernelDwinHi_KernelDwinHiIdeal : Prop :=
  True

def algebraic_KernelDwinHiIdeal_ReferenceDwinHiIdeal [hKernelDwinHiIdeal : Cert.KernelDwinHiIdeal.Facts] [hReferenceDwinHiIdeal : Cert.ReferenceDwinHiIdeal.Facts] : Prop :=
  ∀ (m : (ℓ : Loc Cert.KernelDwinHiIdeal.nD Cert.KernelDwinHiIdeal.τ Cert.KernelDwinHiIdeal.sig) → Buf (Elt Ideal) ℓ) (g : Dev Cert.KernelDwinHiIdeal.nD → PrngReg)
    (m' : (ℓ : Loc Cert.ReferenceDwinHiIdeal.nD Cert.ReferenceDwinHiIdeal.τ Cert.ReferenceDwinHiIdeal.sig) → Buf (Elt Ideal) ℓ) (g' : Dev Cert.ReferenceDwinHiIdeal.nD → PrngReg), Pre_KernelDwinHiIdeal m →
    (∀ c : Dev Cert.KernelDwinHiIdeal.nD,
      m' ((c.tc : Thread Cert.ReferenceDwinHiIdeal.nD Cert.ReferenceDwinHiIdeal.τ).loc Cert.ReferenceDwinHiIdeal.main_arg0) = m ((c.tc : Thread Cert.KernelDwinHiIdeal.nD Cert.KernelDwinHiIdeal.τ).loc Cert.KernelDwinHiIdeal.main_arg0)
      ∧ m' ((c.tc : Thread Cert.ReferenceDwinHiIdeal.nD Cert.ReferenceDwinHiIdeal.τ).loc Cert.ReferenceDwinHiIdeal.main_arg1) = m ((c.tc : Thread Cert.KernelDwinHiIdeal.nD Cert.KernelDwinHiIdeal.τ).loc Cert.KernelDwinHiIdeal.main_arg1)) →
    ∃ (v0 : (c : Dev Cert.KernelDwinHiIdeal.nD) → Buf (Elt Ideal) ((c.tc : Thread Cert.KernelDwinHiIdeal.nD Cert.KernelDwinHiIdeal.τ).loc Cert.KernelDwinHiIdeal.main_v7)),
      θ_run (Cert.KernelDwinHiIdeal.defs (F := Ideal)) (onTc (τ := Cert.KernelDwinHiIdeal.τ) (Cert.KernelDwinHiIdeal.main (F := Ideal))) ⟨m, fun _ => 0, g⟩ (fun r => ∀ c : Dev Cert.KernelDwinHiIdeal.nD,
          r.2.mem ((c.tc : Thread Cert.KernelDwinHiIdeal.nD Cert.KernelDwinHiIdeal.τ).loc Cert.KernelDwinHiIdeal.main_v7) = v0 c
          ∧ r.2.mem ((c.tc : Thread Cert.KernelDwinHiIdeal.nD Cert.KernelDwinHiIdeal.τ).loc Cert.KernelDwinHiIdeal.main_arg0) = m ((c.tc : Thread Cert.KernelDwinHiIdeal.nD Cert.KernelDwinHiIdeal.τ).loc Cert.KernelDwinHiIdeal.main_arg0)
          ∧ r.2.mem ((c.tc : Thread Cert.KernelDwinHiIdeal.nD Cert.KernelDwinHiIdeal.τ).loc Cert.KernelDwinHiIdeal.main_arg1) = m ((c.tc : Thread Cert.KernelDwinHiIdeal.nD Cert.KernelDwinHiIdeal.τ).loc Cert.KernelDwinHiIdeal.main_arg1))
      ∧ θ_run (Cert.ReferenceDwinHiIdeal.defs (F := Ideal)) (onTc (τ := Cert.ReferenceDwinHiIdeal.τ) (Cert.ReferenceDwinHiIdeal.main (F := Ideal))) ⟨m', fun _ => 0, g'⟩ (fun r => ∀ c : Dev Cert.ReferenceDwinHiIdeal.nD,
          r.2.mem ((c.tc : Thread Cert.ReferenceDwinHiIdeal.nD Cert.ReferenceDwinHiIdeal.τ).loc Cert.ReferenceDwinHiIdeal.main_v7) = v0 c
          ∧ r.2.mem ((c.tc : Thread Cert.ReferenceDwinHiIdeal.nD Cert.ReferenceDwinHiIdeal.τ).loc Cert.ReferenceDwinHiIdeal.main_arg0) = m' ((c.tc : Thread Cert.ReferenceDwinHiIdeal.nD Cert.ReferenceDwinHiIdeal.τ).loc Cert.ReferenceDwinHiIdeal.main_arg0)
          ∧ r.2.mem ((c.tc : Thread Cert.ReferenceDwinHiIdeal.nD Cert.ReferenceDwinHiIdeal.τ).loc Cert.ReferenceDwinHiIdeal.main_arg1) = m' ((c.tc : Thread Cert.ReferenceDwinHiIdeal.nD Cert.ReferenceDwinHiIdeal.τ).loc Cert.ReferenceDwinHiIdeal.main_arg1))

def preserves_KernelDu_KernelDuIdeal : Prop :=
  True

def algebraic_KernelDuIdeal_ReferenceDuIdeal [hKernelDuIdeal : Cert.KernelDuIdeal.Facts] [hReferenceDuIdeal : Cert.ReferenceDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg)
    (m' : (ℓ : Loc Cert.ReferenceDuIdeal.nD Cert.ReferenceDuIdeal.τ Cert.ReferenceDuIdeal.sig) → Buf (Elt Ideal) ℓ) (g' : Dev Cert.ReferenceDuIdeal.nD → PrngReg), Pre_KernelDuIdeal m →
    (∀ c : Dev Cert.KernelDuIdeal.nD,
      m' ((c.tc : Thread Cert.ReferenceDuIdeal.nD Cert.ReferenceDuIdeal.τ).loc Cert.ReferenceDuIdeal.main_arg0) = m ((c.tc : Thread Cert.KernelDuIdeal.nD Cert.KernelDuIdeal.τ).loc Cert.KernelDuIdeal.main_arg0)
      ∧ m' ((c.tc : Thread Cert.ReferenceDuIdeal.nD Cert.ReferenceDuIdeal.τ).loc Cert.ReferenceDuIdeal.main_arg1) = m ((c.tc : Thread Cert.KernelDuIdeal.nD Cert.KernelDuIdeal.τ).loc Cert.KernelDuIdeal.main_arg1)) →
    ∃ (v0 : (c : Dev Cert.KernelDuIdeal.nD) → Buf (Elt Ideal) ((c.tc : Thread Cert.KernelDuIdeal.nD Cert.KernelDuIdeal.τ).loc Cert.KernelDuIdeal.main_v9)),
      θ_run (Cert.KernelDuIdeal.defs (F := Ideal)) (onTc (τ := Cert.KernelDuIdeal.τ) (Cert.KernelDuIdeal.main (F := Ideal))) ⟨m, fun _ => 0, g⟩ (fun r => ∀ c : Dev Cert.KernelDuIdeal.nD,
          r.2.mem ((c.tc : Thread Cert.KernelDuIdeal.nD Cert.KernelDuIdeal.τ).loc Cert.KernelDuIdeal.main_v9) = v0 c
          ∧ r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
          ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1))
      ∧ θ_run (Cert.ReferenceDuIdeal.defs (F := Ideal)) (onTc (τ := Cert.ReferenceDuIdeal.τ) (Cert.ReferenceDuIdeal.main (F := Ideal))) ⟨m', fun _ => 0, g'⟩ (fun r => ∀ c : Dev Cert.ReferenceDuIdeal.nD,
          r.2.mem ((c.tc : Thread Cert.ReferenceDuIdeal.nD Cert.ReferenceDuIdeal.τ).loc Cert.ReferenceDuIdeal.main_v2) = v0 c
          ∧ r.2.mem ((c.tc : Thread Cert.ReferenceDuIdeal.nD Cert.ReferenceDuIdeal.τ).loc Cert.ReferenceDuIdeal.main_arg0) = m' ((c.tc : Thread Cert.ReferenceDuIdeal.nD Cert.ReferenceDuIdeal.τ).loc Cert.ReferenceDuIdeal.main_arg0)
          ∧ r.2.mem ((c.tc : Thread Cert.ReferenceDuIdeal.nD Cert.ReferenceDuIdeal.τ).loc Cert.ReferenceDuIdeal.main_arg1) = m' ((c.tc : Thread Cert.ReferenceDuIdeal.nD Cert.ReferenceDuIdeal.τ).loc Cert.ReferenceDuIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v7_0)) (v1 : (c : Dev Cert.KernelOutIdeal.nD) → Buf (Elt Ideal) ((c.tc : Thread Cert.KernelOutIdeal.nD Cert.KernelOutIdeal.τ).loc Cert.KernelOutIdeal.main_v7_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v7_0) = v0 c
          ∧ r.2.mem ((c.tc : Thread Cert.KernelOutIdeal.nD Cert.KernelOutIdeal.τ).loc Cert.KernelOutIdeal.main_v7_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v0) = v0 c
          ∧ r.2.mem ((c.tc : Thread Cert.ReferenceOutIdeal.nD Cert.ReferenceOutIdeal.τ).loc Cert.ReferenceOutIdeal.main_v5) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelSqDw_KernelSqDwIdeal : Prop :=
  True

def algebraic_KernelSqDwIdeal_ReferenceSqDwIdeal [hKernelSqDwIdeal : Cert.KernelSqDwIdeal.Facts] [hReferenceSqDwIdeal : Cert.ReferenceSqDwIdeal.Facts] : Prop :=
  ∀ (m : (ℓ : Loc Cert.KernelSqDwIdeal.nD Cert.KernelSqDwIdeal.τ Cert.KernelSqDwIdeal.sig) → Buf (Elt Ideal) ℓ) (g : Dev Cert.KernelSqDwIdeal.nD → PrngReg)
    (m' : (ℓ : Loc Cert.ReferenceSqDwIdeal.nD Cert.ReferenceSqDwIdeal.τ Cert.ReferenceSqDwIdeal.sig) → Buf (Elt Ideal) ℓ) (g' : Dev Cert.ReferenceSqDwIdeal.nD → PrngReg), Pre_KernelSqDwIdeal m →
    (∀ c : Dev Cert.KernelSqDwIdeal.nD,
      m' ((c.tc : Thread Cert.ReferenceSqDwIdeal.nD Cert.ReferenceSqDwIdeal.τ).loc Cert.ReferenceSqDwIdeal.main_arg0) = m ((c.tc : Thread Cert.KernelSqDwIdeal.nD Cert.KernelSqDwIdeal.τ).loc Cert.KernelSqDwIdeal.main_arg0)
      ∧ m' ((c.tc : Thread Cert.ReferenceSqDwIdeal.nD Cert.ReferenceSqDwIdeal.τ).loc Cert.ReferenceSqDwIdeal.main_arg1) = m ((c.tc : Thread Cert.KernelSqDwIdeal.nD Cert.KernelSqDwIdeal.τ).loc Cert.KernelSqDwIdeal.main_arg1)) →
    ∃ (v0 : (c : Dev Cert.KernelSqDwIdeal.nD) → Buf (Elt Ideal) ((c.tc : Thread Cert.KernelSqDwIdeal.nD Cert.KernelSqDwIdeal.τ).loc Cert.KernelSqDwIdeal.main_v5)),
      θ_run (Cert.KernelSqDwIdeal.defs (F := Ideal)) (onTc (τ := Cert.KernelSqDwIdeal.τ) (Cert.KernelSqDwIdeal.main (F := Ideal))) ⟨m, fun _ => 0, g⟩ (fun r => ∀ c : Dev Cert.KernelSqDwIdeal.nD,
          r.2.mem ((c.tc : Thread Cert.KernelSqDwIdeal.nD Cert.KernelSqDwIdeal.τ).loc Cert.KernelSqDwIdeal.main_v5) = v0 c
          ∧ r.2.mem ((c.tc : Thread Cert.KernelSqDwIdeal.nD Cert.KernelSqDwIdeal.τ).loc Cert.KernelSqDwIdeal.main_arg0) = m ((c.tc : Thread Cert.KernelSqDwIdeal.nD Cert.KernelSqDwIdeal.τ).loc Cert.KernelSqDwIdeal.main_arg0)
          ∧ r.2.mem ((c.tc : Thread Cert.KernelSqDwIdeal.nD Cert.KernelSqDwIdeal.τ).loc Cert.KernelSqDwIdeal.main_arg1) = m ((c.tc : Thread Cert.KernelSqDwIdeal.nD Cert.KernelSqDwIdeal.τ).loc Cert.KernelSqDwIdeal.main_arg1))
      ∧ θ_run (Cert.ReferenceSqDwIdeal.defs (F := Ideal)) (onTc (τ := Cert.ReferenceSqDwIdeal.τ) (Cert.ReferenceSqDwIdeal.main (F := Ideal))) ⟨m', fun _ => 0, g'⟩ (fun r => ∀ c : Dev Cert.ReferenceSqDwIdeal.nD,
          r.2.mem ((c.tc : Thread Cert.ReferenceSqDwIdeal.nD Cert.ReferenceSqDwIdeal.τ).loc Cert.ReferenceSqDwIdeal.main_v4) = v0 c
          ∧ r.2.mem ((c.tc : Thread Cert.ReferenceSqDwIdeal.nD Cert.ReferenceSqDwIdeal.τ).loc Cert.ReferenceSqDwIdeal.main_arg0) = m' ((c.tc : Thread Cert.ReferenceSqDwIdeal.nD Cert.ReferenceSqDwIdeal.τ).loc Cert.ReferenceSqDwIdeal.main_arg0)
          ∧ r.2.mem ((c.tc : Thread Cert.ReferenceSqDwIdeal.nD Cert.ReferenceSqDwIdeal.τ).loc Cert.ReferenceSqDwIdeal.main_arg1) = m' ((c.tc : Thread Cert.ReferenceSqDwIdeal.nD Cert.ReferenceSqDwIdeal.τ).loc Cert.ReferenceSqDwIdeal.main_arg1))

def preserves_KernelSqDz_KernelSqDzIdeal : Prop :=
  True

def algebraic_KernelSqDzIdeal_ReferenceSqDzIdeal [hKernelSqDzIdeal : Cert.KernelSqDzIdeal.Facts] [hReferenceSqDzIdeal : Cert.ReferenceSqDzIdeal.Facts] : Prop :=
  ∀ (m : (ℓ : Loc Cert.KernelSqDzIdeal.nD Cert.KernelSqDzIdeal.τ Cert.KernelSqDzIdeal.sig) → Buf (Elt Ideal) ℓ) (g : Dev Cert.KernelSqDzIdeal.nD → PrngReg)
    (m' : (ℓ : Loc Cert.ReferenceSqDzIdeal.nD Cert.ReferenceSqDzIdeal.τ Cert.ReferenceSqDzIdeal.sig) → Buf (Elt Ideal) ℓ) (g' : Dev Cert.ReferenceSqDzIdeal.nD → PrngReg), Pre_KernelSqDzIdeal m →
    (∀ c : Dev Cert.KernelSqDzIdeal.nD,
      m' ((c.tc : Thread Cert.ReferenceSqDzIdeal.nD Cert.ReferenceSqDzIdeal.τ).loc Cert.ReferenceSqDzIdeal.main_arg0) = m ((c.tc : Thread Cert.KernelSqDzIdeal.nD Cert.KernelSqDzIdeal.τ).loc Cert.KernelSqDzIdeal.main_arg0)
      ∧ m' ((c.tc : Thread Cert.ReferenceSqDzIdeal.nD Cert.ReferenceSqDzIdeal.τ).loc Cert.ReferenceSqDzIdeal.main_arg1) = m ((c.tc : Thread Cert.KernelSqDzIdeal.nD Cert.KernelSqDzIdeal.τ).loc Cert.KernelSqDzIdeal.main_arg1)) →
    ∃ (v0 : (c : Dev Cert.KernelSqDzIdeal.nD) → Buf (Elt Ideal) ((c.tc : Thread Cert.KernelSqDzIdeal.nD Cert.KernelSqDzIdeal.τ).loc Cert.KernelSqDzIdeal.main_v4)),
      θ_run (Cert.KernelSqDzIdeal.defs (F := Ideal)) (onTc (τ := Cert.KernelSqDzIdeal.τ) (Cert.KernelSqDzIdeal.main (F := Ideal))) ⟨m, fun _ => 0, g⟩ (fun r => ∀ c : Dev Cert.KernelSqDzIdeal.nD,
          r.2.mem ((c.tc : Thread Cert.KernelSqDzIdeal.nD Cert.KernelSqDzIdeal.τ).loc Cert.KernelSqDzIdeal.main_v4) = v0 c
          ∧ r.2.mem ((c.tc : Thread Cert.KernelSqDzIdeal.nD Cert.KernelSqDzIdeal.τ).loc Cert.KernelSqDzIdeal.main_arg0) = m ((c.tc : Thread Cert.KernelSqDzIdeal.nD Cert.KernelSqDzIdeal.τ).loc Cert.KernelSqDzIdeal.main_arg0)
          ∧ r.2.mem ((c.tc : Thread Cert.KernelSqDzIdeal.nD Cert.KernelSqDzIdeal.τ).loc Cert.KernelSqDzIdeal.main_arg1) = m ((c.tc : Thread Cert.KernelSqDzIdeal.nD Cert.KernelSqDzIdeal.τ).loc Cert.KernelSqDzIdeal.main_arg1))
      ∧ θ_run (Cert.ReferenceSqDzIdeal.defs (F := Ideal)) (onTc (τ := Cert.ReferenceSqDzIdeal.τ) (Cert.ReferenceSqDzIdeal.main (F := Ideal))) ⟨m', fun _ => 0, g'⟩ (fun r => ∀ c : Dev Cert.ReferenceSqDzIdeal.nD,
          r.2.mem ((c.tc : Thread Cert.ReferenceSqDzIdeal.nD Cert.ReferenceSqDzIdeal.τ).loc Cert.ReferenceSqDzIdeal.main_v2) = v0 c
          ∧ r.2.mem ((c.tc : Thread Cert.ReferenceSqDzIdeal.nD Cert.ReferenceSqDzIdeal.τ).loc Cert.ReferenceSqDzIdeal.main_arg0) = m' ((c.tc : Thread Cert.ReferenceSqDzIdeal.nD Cert.ReferenceSqDzIdeal.τ).loc Cert.ReferenceSqDzIdeal.main_arg0)
          ∧ r.2.mem ((c.tc : Thread Cert.ReferenceSqDzIdeal.nD Cert.ReferenceSqDzIdeal.τ).loc Cert.ReferenceSqDzIdeal.main_arg1) = m' ((c.tc : Thread Cert.ReferenceSqDzIdeal.nD Cert.ReferenceSqDzIdeal.τ).loc Cert.ReferenceSqDzIdeal.main_arg1))

def preserves_KernelHgrnDwinLo_KernelHgrnDwinLoIdeal : Prop :=
  True

def algebraic_KernelHgrnDwinLoIdeal_ReferenceHgrnDwinLoIdeal [hKernelHgrnDwinLoIdeal : Cert.KernelHgrnDwinLoIdeal.Facts] [hReferenceHgrnDwinLoIdeal : Cert.ReferenceHgrnDwinLoIdeal.Facts] : Prop :=
  ∀ (m : (ℓ : Loc Cert.KernelHgrnDwinLoIdeal.nD Cert.KernelHgrnDwinLoIdeal.τ Cert.KernelHgrnDwinLoIdeal.sig) → Buf (Elt Ideal) ℓ) (g : Dev Cert.KernelHgrnDwinLoIdeal.nD → PrngReg)
    (m' : (ℓ : Loc Cert.ReferenceHgrnDwinLoIdeal.nD Cert.ReferenceHgrnDwinLoIdeal.τ Cert.ReferenceHgrnDwinLoIdeal.sig) → Buf (Elt Ideal) ℓ) (g' : Dev Cert.ReferenceHgrnDwinLoIdeal.nD → PrngReg), Pre_KernelHgrnDwinLoIdeal m →
    (∀ c : Dev Cert.KernelHgrnDwinLoIdeal.nD,
      m' ((c.tc : Thread Cert.ReferenceHgrnDwinLoIdeal.nD Cert.ReferenceHgrnDwinLoIdeal.τ).loc Cert.ReferenceHgrnDwinLoIdeal.main_arg0) = m ((c.tc : Thread Cert.KernelHgrnDwinLoIdeal.nD Cert.KernelHgrnDwinLoIdeal.τ).loc Cert.KernelHgrnDwinLoIdeal.main_arg0)
      ∧ m' ((c.tc : Thread Cert.ReferenceHgrnDwinLoIdeal.nD Cert.ReferenceHgrnDwinLoIdeal.τ).loc Cert.ReferenceHgrnDwinLoIdeal.main_arg1) = m ((c.tc : Thread Cert.KernelHgrnDwinLoIdeal.nD Cert.KernelHgrnDwinLoIdeal.τ).loc Cert.KernelHgrnDwinLoIdeal.main_arg1)) →
    ∃ (v0 : (c : Dev Cert.KernelHgrnDwinLoIdeal.nD) → Buf (Elt Ideal) ((c.tc : Thread Cert.KernelHgrnDwinLoIdeal.nD Cert.KernelHgrnDwinLoIdeal.τ).loc Cert.KernelHgrnDwinLoIdeal.main_v4)),
      θ_run (Cert.KernelHgrnDwinLoIdeal.defs (F := Ideal)) (onTc (τ := Cert.KernelHgrnDwinLoIdeal.τ) (Cert.KernelHgrnDwinLoIdeal.main (F := Ideal))) ⟨m, fun _ => 0, g⟩ (fun r => ∀ c : Dev Cert.KernelHgrnDwinLoIdeal.nD,
          r.2.mem ((c.tc : Thread Cert.KernelHgrnDwinLoIdeal.nD Cert.KernelHgrnDwinLoIdeal.τ).loc Cert.KernelHgrnDwinLoIdeal.main_v4) = v0 c
          ∧ r.2.mem ((c.tc : Thread Cert.KernelHgrnDwinLoIdeal.nD Cert.KernelHgrnDwinLoIdeal.τ).loc Cert.KernelHgrnDwinLoIdeal.main_arg0) = m ((c.tc : Thread Cert.KernelHgrnDwinLoIdeal.nD Cert.KernelHgrnDwinLoIdeal.τ).loc Cert.KernelHgrnDwinLoIdeal.main_arg0)
          ∧ r.2.mem ((c.tc : Thread Cert.KernelHgrnDwinLoIdeal.nD Cert.KernelHgrnDwinLoIdeal.τ).loc Cert.KernelHgrnDwinLoIdeal.main_arg1) = m ((c.tc : Thread Cert.KernelHgrnDwinLoIdeal.nD Cert.KernelHgrnDwinLoIdeal.τ).loc Cert.KernelHgrnDwinLoIdeal.main_arg1))
      ∧ θ_run (Cert.ReferenceHgrnDwinLoIdeal.defs (F := Ideal)) (onTc (τ := Cert.ReferenceHgrnDwinLoIdeal.τ) (Cert.ReferenceHgrnDwinLoIdeal.main (F := Ideal))) ⟨m', fun _ => 0, g'⟩ (fun r => ∀ c : Dev Cert.ReferenceHgrnDwinLoIdeal.nD,
          r.2.mem ((c.tc : Thread Cert.ReferenceHgrnDwinLoIdeal.nD Cert.ReferenceHgrnDwinLoIdeal.τ).loc Cert.ReferenceHgrnDwinLoIdeal.main_v7) = v0 c
          ∧ r.2.mem ((c.tc : Thread Cert.ReferenceHgrnDwinLoIdeal.nD Cert.ReferenceHgrnDwinLoIdeal.τ).loc Cert.ReferenceHgrnDwinLoIdeal.main_arg0) = m' ((c.tc : Thread Cert.ReferenceHgrnDwinLoIdeal.nD Cert.ReferenceHgrnDwinLoIdeal.τ).loc Cert.ReferenceHgrnDwinLoIdeal.main_arg0)
          ∧ r.2.mem ((c.tc : Thread Cert.ReferenceHgrnDwinLoIdeal.nD Cert.ReferenceHgrnDwinLoIdeal.τ).loc Cert.ReferenceHgrnDwinLoIdeal.main_arg1) = m' ((c.tc : Thread Cert.ReferenceHgrnDwinLoIdeal.nD Cert.ReferenceHgrnDwinLoIdeal.τ).loc Cert.ReferenceHgrnDwinLoIdeal.main_arg1))

def preserves_KernelHgrnDwinHi_KernelHgrnDwinHiIdeal : Prop :=
  True

def algebraic_KernelHgrnDwinHiIdeal_ReferenceHgrnDwinHiIdeal [hKernelHgrnDwinHiIdeal : Cert.KernelHgrnDwinHiIdeal.Facts] [hReferenceHgrnDwinHiIdeal : Cert.ReferenceHgrnDwinHiIdeal.Facts] : Prop :=
  ∀ (m : (ℓ : Loc Cert.KernelHgrnDwinHiIdeal.nD Cert.KernelHgrnDwinHiIdeal.τ Cert.KernelHgrnDwinHiIdeal.sig) → Buf (Elt Ideal) ℓ) (g : Dev Cert.KernelHgrnDwinHiIdeal.nD → PrngReg)
    (m' : (ℓ : Loc Cert.ReferenceHgrnDwinHiIdeal.nD Cert.ReferenceHgrnDwinHiIdeal.τ Cert.ReferenceHgrnDwinHiIdeal.sig) → Buf (Elt Ideal) ℓ) (g' : Dev Cert.ReferenceHgrnDwinHiIdeal.nD → PrngReg), Pre_KernelHgrnDwinHiIdeal m →
    (∀ c : Dev Cert.KernelHgrnDwinHiIdeal.nD,
      m' ((c.tc : Thread Cert.ReferenceHgrnDwinHiIdeal.nD Cert.ReferenceHgrnDwinHiIdeal.τ).loc Cert.ReferenceHgrnDwinHiIdeal.main_arg0) = m ((c.tc : Thread Cert.KernelHgrnDwinHiIdeal.nD Cert.KernelHgrnDwinHiIdeal.τ).loc Cert.KernelHgrnDwinHiIdeal.main_arg0)
      ∧ m' ((c.tc : Thread Cert.ReferenceHgrnDwinHiIdeal.nD Cert.ReferenceHgrnDwinHiIdeal.τ).loc Cert.ReferenceHgrnDwinHiIdeal.main_arg1) = m ((c.tc : Thread Cert.KernelHgrnDwinHiIdeal.nD Cert.KernelHgrnDwinHiIdeal.τ).loc Cert.KernelHgrnDwinHiIdeal.main_arg1)) →
    ∃ (v0 : (c : Dev Cert.KernelHgrnDwinHiIdeal.nD) → Buf (Elt Ideal) ((c.tc : Thread Cert.KernelHgrnDwinHiIdeal.nD Cert.KernelHgrnDwinHiIdeal.τ).loc Cert.KernelHgrnDwinHiIdeal.main_v4)),
      θ_run (Cert.KernelHgrnDwinHiIdeal.defs (F := Ideal)) (onTc (τ := Cert.KernelHgrnDwinHiIdeal.τ) (Cert.KernelHgrnDwinHiIdeal.main (F := Ideal))) ⟨m, fun _ => 0, g⟩ (fun r => ∀ c : Dev Cert.KernelHgrnDwinHiIdeal.nD,
          r.2.mem ((c.tc : Thread Cert.KernelHgrnDwinHiIdeal.nD Cert.KernelHgrnDwinHiIdeal.τ).loc Cert.KernelHgrnDwinHiIdeal.main_v4) = v0 c
          ∧ r.2.mem ((c.tc : Thread Cert.KernelHgrnDwinHiIdeal.nD Cert.KernelHgrnDwinHiIdeal.τ).loc Cert.KernelHgrnDwinHiIdeal.main_arg0) = m ((c.tc : Thread Cert.KernelHgrnDwinHiIdeal.nD Cert.KernelHgrnDwinHiIdeal.τ).loc Cert.KernelHgrnDwinHiIdeal.main_arg0)
          ∧ r.2.mem ((c.tc : Thread Cert.KernelHgrnDwinHiIdeal.nD Cert.KernelHgrnDwinHiIdeal.τ).loc Cert.KernelHgrnDwinHiIdeal.main_arg1) = m ((c.tc : Thread Cert.KernelHgrnDwinHiIdeal.nD Cert.KernelHgrnDwinHiIdeal.τ).loc Cert.KernelHgrnDwinHiIdeal.main_arg1))
      ∧ θ_run (Cert.ReferenceHgrnDwinHiIdeal.defs (F := Ideal)) (onTc (τ := Cert.ReferenceHgrnDwinHiIdeal.τ) (Cert.ReferenceHgrnDwinHiIdeal.main (F := Ideal))) ⟨m', fun _ => 0, g'⟩ (fun r => ∀ c : Dev Cert.ReferenceHgrnDwinHiIdeal.nD,
          r.2.mem ((c.tc : Thread Cert.ReferenceHgrnDwinHiIdeal.nD Cert.ReferenceHgrnDwinHiIdeal.τ).loc Cert.ReferenceHgrnDwinHiIdeal.main_v7) = v0 c
          ∧ r.2.mem ((c.tc : Thread Cert.ReferenceHgrnDwinHiIdeal.nD Cert.ReferenceHgrnDwinHiIdeal.τ).loc Cert.ReferenceHgrnDwinHiIdeal.main_arg0) = m' ((c.tc : Thread Cert.ReferenceHgrnDwinHiIdeal.nD Cert.ReferenceHgrnDwinHiIdeal.τ).loc Cert.ReferenceHgrnDwinHiIdeal.main_arg0)
          ∧ r.2.mem ((c.tc : Thread Cert.ReferenceHgrnDwinHiIdeal.nD Cert.ReferenceHgrnDwinHiIdeal.τ).loc Cert.ReferenceHgrnDwinHiIdeal.main_arg1) = m' ((c.tc : Thread Cert.ReferenceHgrnDwinHiIdeal.nD Cert.ReferenceHgrnDwinHiIdeal.τ).loc Cert.ReferenceHgrnDwinHiIdeal.main_arg1))

def preserves_KernelHgrnDu_KernelHgrnDuIdeal : Prop :=
  True

def algebraic_KernelHgrnDuIdeal_ReferenceHgrnDuIdeal [hKernelHgrnDuIdeal : Cert.KernelHgrnDuIdeal.Facts] [hReferenceHgrnDuIdeal : Cert.ReferenceHgrnDuIdeal.Facts] : Prop :=
  ∀ (m : (ℓ : Loc Cert.KernelHgrnDuIdeal.nD Cert.KernelHgrnDuIdeal.τ Cert.KernelHgrnDuIdeal.sig) → Buf (Elt Ideal) ℓ) (g : Dev Cert.KernelHgrnDuIdeal.nD → PrngReg)
    (m' : (ℓ : Loc Cert.ReferenceHgrnDuIdeal.nD Cert.ReferenceHgrnDuIdeal.τ Cert.ReferenceHgrnDuIdeal.sig) → Buf (Elt Ideal) ℓ) (g' : Dev Cert.ReferenceHgrnDuIdeal.nD → PrngReg), Pre_KernelHgrnDuIdeal m →
    (∀ c : Dev Cert.KernelHgrnDuIdeal.nD,
      m' ((c.tc : Thread Cert.ReferenceHgrnDuIdeal.nD Cert.ReferenceHgrnDuIdeal.τ).loc Cert.ReferenceHgrnDuIdeal.main_arg0) = m ((c.tc : Thread Cert.KernelHgrnDuIdeal.nD Cert.KernelHgrnDuIdeal.τ).loc Cert.KernelHgrnDuIdeal.main_arg0)
      ∧ m' ((c.tc : Thread Cert.ReferenceHgrnDuIdeal.nD Cert.ReferenceHgrnDuIdeal.τ).loc Cert.ReferenceHgrnDuIdeal.main_arg1) = m ((c.tc : Thread Cert.KernelHgrnDuIdeal.nD Cert.KernelHgrnDuIdeal.τ).loc Cert.KernelHgrnDuIdeal.main_arg1)) →
    ∃ (v0 : (c : Dev Cert.KernelHgrnDuIdeal.nD) → Buf (Elt Ideal) ((c.tc : Thread Cert.KernelHgrnDuIdeal.nD Cert.KernelHgrnDuIdeal.τ).loc Cert.KernelHgrnDuIdeal.main_v5)),
      θ_run (Cert.KernelHgrnDuIdeal.defs (F := Ideal)) (onTc (τ := Cert.KernelHgrnDuIdeal.τ) (Cert.KernelHgrnDuIdeal.main (F := Ideal))) ⟨m, fun _ => 0, g⟩ (fun r => ∀ c : Dev Cert.KernelHgrnDuIdeal.nD,
          r.2.mem ((c.tc : Thread Cert.KernelHgrnDuIdeal.nD Cert.KernelHgrnDuIdeal.τ).loc Cert.KernelHgrnDuIdeal.main_v5) = v0 c
          ∧ r.2.mem ((c.tc : Thread Cert.KernelHgrnDuIdeal.nD Cert.KernelHgrnDuIdeal.τ).loc Cert.KernelHgrnDuIdeal.main_arg0) = m ((c.tc : Thread Cert.KernelHgrnDuIdeal.nD Cert.KernelHgrnDuIdeal.τ).loc Cert.KernelHgrnDuIdeal.main_arg0)
          ∧ r.2.mem ((c.tc : Thread Cert.KernelHgrnDuIdeal.nD Cert.KernelHgrnDuIdeal.τ).loc Cert.KernelHgrnDuIdeal.main_arg1) = m ((c.tc : Thread Cert.KernelHgrnDuIdeal.nD Cert.KernelHgrnDuIdeal.τ).loc Cert.KernelHgrnDuIdeal.main_arg1))
      ∧ θ_run (Cert.ReferenceHgrnDuIdeal.defs (F := Ideal)) (onTc (τ := Cert.ReferenceHgrnDuIdeal.τ) (Cert.ReferenceHgrnDuIdeal.main (F := Ideal))) ⟨m', fun _ => 0, g'⟩ (fun r => ∀ c : Dev Cert.ReferenceHgrnDuIdeal.nD,
          r.2.mem ((c.tc : Thread Cert.ReferenceHgrnDuIdeal.nD Cert.ReferenceHgrnDuIdeal.τ).loc Cert.ReferenceHgrnDuIdeal.main_v2) = v0 c
          ∧ r.2.mem ((c.tc : Thread Cert.ReferenceHgrnDuIdeal.nD Cert.ReferenceHgrnDuIdeal.τ).loc Cert.ReferenceHgrnDuIdeal.main_arg0) = m' ((c.tc : Thread Cert.ReferenceHgrnDuIdeal.nD Cert.ReferenceHgrnDuIdeal.τ).loc Cert.ReferenceHgrnDuIdeal.main_arg0)
          ∧ r.2.mem ((c.tc : Thread Cert.ReferenceHgrnDuIdeal.nD Cert.ReferenceHgrnDuIdeal.τ).loc Cert.ReferenceHgrnDuIdeal.main_arg1) = m' ((c.tc : Thread Cert.ReferenceHgrnDuIdeal.nD Cert.ReferenceHgrnDuIdeal.τ).loc Cert.ReferenceHgrnDuIdeal.main_arg1))

def preserves_KernelHgrnProj_KernelHgrnProjIdeal : Prop :=
  True

def algebraic_KernelHgrnProjIdeal_ReferenceHgrnProjIdeal [hKernelHgrnProjIdeal : Cert.KernelHgrnProjIdeal.Facts] [hReferenceHgrnProjIdeal : Cert.ReferenceHgrnProjIdeal.Facts] : Prop :=
  ∀ (m : (ℓ : Loc Cert.KernelHgrnProjIdeal.nD Cert.KernelHgrnProjIdeal.τ Cert.KernelHgrnProjIdeal.sig) → Buf (Elt Ideal) ℓ) (g : Dev Cert.KernelHgrnProjIdeal.nD → PrngReg)
    (m' : (ℓ : Loc Cert.ReferenceHgrnProjIdeal.nD Cert.ReferenceHgrnProjIdeal.τ Cert.ReferenceHgrnProjIdeal.sig) → Buf (Elt Ideal) ℓ) (g' : Dev Cert.ReferenceHgrnProjIdeal.nD → PrngReg), Pre_KernelHgrnProjIdeal m →
    (∀ c : Dev Cert.KernelHgrnProjIdeal.nD,
      m' ((c.tc : Thread Cert.ReferenceHgrnProjIdeal.nD Cert.ReferenceHgrnProjIdeal.τ).loc Cert.ReferenceHgrnProjIdeal.main_arg0) = m ((c.tc : Thread Cert.KernelHgrnProjIdeal.nD Cert.KernelHgrnProjIdeal.τ).loc Cert.KernelHgrnProjIdeal.main_arg0)
      ∧ m' ((c.tc : Thread Cert.ReferenceHgrnProjIdeal.nD Cert.ReferenceHgrnProjIdeal.τ).loc Cert.ReferenceHgrnProjIdeal.main_arg1) = m ((c.tc : Thread Cert.KernelHgrnProjIdeal.nD Cert.KernelHgrnProjIdeal.τ).loc Cert.KernelHgrnProjIdeal.main_arg1)) →
    ∃ (v0 : (c : Dev Cert.KernelHgrnProjIdeal.nD) → Buf (Elt Ideal) ((c.tc : Thread Cert.KernelHgrnProjIdeal.nD Cert.KernelHgrnProjIdeal.τ).loc Cert.KernelHgrnProjIdeal.main_v6)),
      θ_run (Cert.KernelHgrnProjIdeal.defs (F := Ideal)) (onTc (τ := Cert.KernelHgrnProjIdeal.τ) (Cert.KernelHgrnProjIdeal.main (F := Ideal))) ⟨m, fun _ => 0, g⟩ (fun r => ∀ c : Dev Cert.KernelHgrnProjIdeal.nD,
          r.2.mem ((c.tc : Thread Cert.KernelHgrnProjIdeal.nD Cert.KernelHgrnProjIdeal.τ).loc Cert.KernelHgrnProjIdeal.main_v6) = v0 c
          ∧ r.2.mem ((c.tc : Thread Cert.KernelHgrnProjIdeal.nD Cert.KernelHgrnProjIdeal.τ).loc Cert.KernelHgrnProjIdeal.main_arg0) = m ((c.tc : Thread Cert.KernelHgrnProjIdeal.nD Cert.KernelHgrnProjIdeal.τ).loc Cert.KernelHgrnProjIdeal.main_arg0)
          ∧ r.2.mem ((c.tc : Thread Cert.KernelHgrnProjIdeal.nD Cert.KernelHgrnProjIdeal.τ).loc Cert.KernelHgrnProjIdeal.main_arg1) = m ((c.tc : Thread Cert.KernelHgrnProjIdeal.nD Cert.KernelHgrnProjIdeal.τ).loc Cert.KernelHgrnProjIdeal.main_arg1))
      ∧ θ_run (Cert.ReferenceHgrnProjIdeal.defs (F := Ideal)) (onTc (τ := Cert.ReferenceHgrnProjIdeal.τ) (Cert.ReferenceHgrnProjIdeal.main (F := Ideal))) ⟨m', fun _ => 0, g'⟩ (fun r => ∀ c : Dev Cert.ReferenceHgrnProjIdeal.nD,
          r.2.mem ((c.tc : Thread Cert.ReferenceHgrnProjIdeal.nD Cert.ReferenceHgrnProjIdeal.τ).loc Cert.ReferenceHgrnProjIdeal.main_v0) = v0 c
          ∧ r.2.mem ((c.tc : Thread Cert.ReferenceHgrnProjIdeal.nD Cert.ReferenceHgrnProjIdeal.τ).loc Cert.ReferenceHgrnProjIdeal.main_arg0) = m' ((c.tc : Thread Cert.ReferenceHgrnProjIdeal.nD Cert.ReferenceHgrnProjIdeal.τ).loc Cert.ReferenceHgrnProjIdeal.main_arg0)
          ∧ r.2.mem ((c.tc : Thread Cert.ReferenceHgrnProjIdeal.nD Cert.ReferenceHgrnProjIdeal.τ).loc Cert.ReferenceHgrnProjIdeal.main_arg1) = m' ((c.tc : Thread Cert.ReferenceHgrnProjIdeal.nD Cert.ReferenceHgrnProjIdeal.τ).loc Cert.ReferenceHgrnProjIdeal.main_arg1))

def preserves_KernelSqOut_KernelSqOutIdeal : Prop :=
  True

def algebraic_KernelSqOutIdeal_ReferenceSqOutIdeal [hKernelSqOutIdeal : Cert.KernelSqOutIdeal.Facts] [hReferenceSqOutIdeal : Cert.ReferenceSqOutIdeal.Facts] : Prop :=
  ∀ (m : (ℓ : Loc Cert.KernelSqOutIdeal.nD Cert.KernelSqOutIdeal.τ Cert.KernelSqOutIdeal.sig) → Buf (Elt Ideal) ℓ) (g : Dev Cert.KernelSqOutIdeal.nD → PrngReg)
    (m' : (ℓ : Loc Cert.ReferenceSqOutIdeal.nD Cert.ReferenceSqOutIdeal.τ Cert.ReferenceSqOutIdeal.sig) → Buf (Elt Ideal) ℓ) (g' : Dev Cert.ReferenceSqOutIdeal.nD → PrngReg), Pre_KernelSqOutIdeal m →
    (∀ c : Dev Cert.KernelSqOutIdeal.nD,
      m' ((c.tc : Thread Cert.ReferenceSqOutIdeal.nD Cert.ReferenceSqOutIdeal.τ).loc Cert.ReferenceSqOutIdeal.main_arg0) = m ((c.tc : Thread Cert.KernelSqOutIdeal.nD Cert.KernelSqOutIdeal.τ).loc Cert.KernelSqOutIdeal.main_arg0)
      ∧ m' ((c.tc : Thread Cert.ReferenceSqOutIdeal.nD Cert.ReferenceSqOutIdeal.τ).loc Cert.ReferenceSqOutIdeal.main_arg1) = m ((c.tc : Thread Cert.KernelSqOutIdeal.nD Cert.KernelSqOutIdeal.τ).loc Cert.KernelSqOutIdeal.main_arg1)
      ∧ m' ((c.tc : Thread Cert.ReferenceSqOutIdeal.nD Cert.ReferenceSqOutIdeal.τ).loc Cert.ReferenceSqOutIdeal.main_arg2) = m ((c.tc : Thread Cert.KernelSqOutIdeal.nD Cert.KernelSqOutIdeal.τ).loc Cert.KernelSqOutIdeal.main_arg2)
      ∧ m' ((c.tc : Thread Cert.ReferenceSqOutIdeal.nD Cert.ReferenceSqOutIdeal.τ).loc Cert.ReferenceSqOutIdeal.main_arg3) = m ((c.tc : Thread Cert.KernelSqOutIdeal.nD Cert.KernelSqOutIdeal.τ).loc Cert.KernelSqOutIdeal.main_arg3)) →
    ∃ (v0 : (c : Dev Cert.KernelSqOutIdeal.nD) → Buf (Elt Ideal) ((c.tc : Thread Cert.KernelSqOutIdeal.nD Cert.KernelSqOutIdeal.τ).loc Cert.KernelSqOutIdeal.main_v4_0)) (v1 : (c : Dev Cert.KernelSqOutIdeal.nD) → Buf (Elt Ideal) ((c.tc : Thread Cert.KernelSqOutIdeal.nD Cert.KernelSqOutIdeal.τ).loc Cert.KernelSqOutIdeal.main_v4_1)),
      θ_run (Cert.KernelSqOutIdeal.defs (F := Ideal)) (onTc (τ := Cert.KernelSqOutIdeal.τ) (Cert.KernelSqOutIdeal.main (F := Ideal))) ⟨m, fun _ => 0, g⟩ (fun r => ∀ c : Dev Cert.KernelSqOutIdeal.nD,
          r.2.mem ((c.tc : Thread Cert.KernelSqOutIdeal.nD Cert.KernelSqOutIdeal.τ).loc Cert.KernelSqOutIdeal.main_v4_0) = v0 c
          ∧ r.2.mem ((c.tc : Thread Cert.KernelSqOutIdeal.nD Cert.KernelSqOutIdeal.τ).loc Cert.KernelSqOutIdeal.main_v4_1) = v1 c
          ∧ r.2.mem ((c.tc : Thread Cert.KernelSqOutIdeal.nD Cert.KernelSqOutIdeal.τ).loc Cert.KernelSqOutIdeal.main_arg0) = m ((c.tc : Thread Cert.KernelSqOutIdeal.nD Cert.KernelSqOutIdeal.τ).loc Cert.KernelSqOutIdeal.main_arg0)
          ∧ r.2.mem ((c.tc : Thread Cert.KernelSqOutIdeal.nD Cert.KernelSqOutIdeal.τ).loc Cert.KernelSqOutIdeal.main_arg1) = m ((c.tc : Thread Cert.KernelSqOutIdeal.nD Cert.KernelSqOutIdeal.τ).loc Cert.KernelSqOutIdeal.main_arg1)
          ∧ r.2.mem ((c.tc : Thread Cert.KernelSqOutIdeal.nD Cert.KernelSqOutIdeal.τ).loc Cert.KernelSqOutIdeal.main_arg2) = m ((c.tc : Thread Cert.KernelSqOutIdeal.nD Cert.KernelSqOutIdeal.τ).loc Cert.KernelSqOutIdeal.main_arg2)
          ∧ r.2.mem ((c.tc : Thread Cert.KernelSqOutIdeal.nD Cert.KernelSqOutIdeal.τ).loc Cert.KernelSqOutIdeal.main_arg3) = m ((c.tc : Thread Cert.KernelSqOutIdeal.nD Cert.KernelSqOutIdeal.τ).loc Cert.KernelSqOutIdeal.main_arg3))
      ∧ θ_run (Cert.ReferenceSqOutIdeal.defs (F := Ideal)) (onTc (τ := Cert.ReferenceSqOutIdeal.τ) (Cert.ReferenceSqOutIdeal.main (F := Ideal))) ⟨m', fun _ => 0, g'⟩ (fun r => ∀ c : Dev Cert.ReferenceSqOutIdeal.nD,
          r.2.mem ((c.tc : Thread Cert.ReferenceSqOutIdeal.nD Cert.ReferenceSqOutIdeal.τ).loc Cert.ReferenceSqOutIdeal.main_v0) = v0 c
          ∧ r.2.mem ((c.tc : Thread Cert.ReferenceSqOutIdeal.nD Cert.ReferenceSqOutIdeal.τ).loc Cert.ReferenceSqOutIdeal.main_v3) = v1 c
          ∧ r.2.mem ((c.tc : Thread Cert.ReferenceSqOutIdeal.nD Cert.ReferenceSqOutIdeal.τ).loc Cert.ReferenceSqOutIdeal.main_arg0) = m' ((c.tc : Thread Cert.ReferenceSqOutIdeal.nD Cert.ReferenceSqOutIdeal.τ).loc Cert.ReferenceSqOutIdeal.main_arg0)
          ∧ r.2.mem ((c.tc : Thread Cert.ReferenceSqOutIdeal.nD Cert.ReferenceSqOutIdeal.τ).loc Cert.ReferenceSqOutIdeal.main_arg1) = m' ((c.tc : Thread Cert.ReferenceSqOutIdeal.nD Cert.ReferenceSqOutIdeal.τ).loc Cert.ReferenceSqOutIdeal.main_arg1)
          ∧ r.2.mem ((c.tc : Thread Cert.ReferenceSqOutIdeal.nD Cert.ReferenceSqOutIdeal.τ).loc Cert.ReferenceSqOutIdeal.main_arg2) = m' ((c.tc : Thread Cert.ReferenceSqOutIdeal.nD Cert.ReferenceSqOutIdeal.τ).loc Cert.ReferenceSqOutIdeal.main_arg2)
          ∧ r.2.mem ((c.tc : Thread Cert.ReferenceSqOutIdeal.nD Cert.ReferenceSqOutIdeal.τ).loc Cert.ReferenceSqOutIdeal.main_arg3) = m' ((c.tc : Thread Cert.ReferenceSqOutIdeal.nD Cert.ReferenceSqOutIdeal.τ).loc Cert.ReferenceSqOutIdeal.main_arg3))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)) →
    ∃ (v0 : (c : Dev Cert.KernelQIdeal.nD) → Buf (Elt Ideal) ((c.tc : Thread Cert.KernelQIdeal.nD Cert.KernelQIdeal.τ).loc Cert.KernelQIdeal.main_v4)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v4) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v2) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v4)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v4) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v2) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelKvDw_KernelKvDwIdeal : Prop :=
  True

def algebraic_KernelKvDwIdeal_ReferenceKvDwIdeal [hKernelKvDwIdeal : Cert.KernelKvDwIdeal.Facts] [hReferenceKvDwIdeal : Cert.ReferenceKvDwIdeal.Facts] : Prop :=
  ∀ (m : (ℓ : Loc Cert.KernelKvDwIdeal.nD Cert.KernelKvDwIdeal.τ Cert.KernelKvDwIdeal.sig) → Buf (Elt Ideal) ℓ) (g : Dev Cert.KernelKvDwIdeal.nD → PrngReg)
    (m' : (ℓ : Loc Cert.ReferenceKvDwIdeal.nD Cert.ReferenceKvDwIdeal.τ Cert.ReferenceKvDwIdeal.sig) → Buf (Elt Ideal) ℓ) (g' : Dev Cert.ReferenceKvDwIdeal.nD → PrngReg), Pre_KernelKvDwIdeal m →
    (∀ c : Dev Cert.KernelKvDwIdeal.nD,
      m' ((c.tc : Thread Cert.ReferenceKvDwIdeal.nD Cert.ReferenceKvDwIdeal.τ).loc Cert.ReferenceKvDwIdeal.main_arg0) = m ((c.tc : Thread Cert.KernelKvDwIdeal.nD Cert.KernelKvDwIdeal.τ).loc Cert.KernelKvDwIdeal.main_arg0)
      ∧ m' ((c.tc : Thread Cert.ReferenceKvDwIdeal.nD Cert.ReferenceKvDwIdeal.τ).loc Cert.ReferenceKvDwIdeal.main_arg1) = m ((c.tc : Thread Cert.KernelKvDwIdeal.nD Cert.KernelKvDwIdeal.τ).loc Cert.KernelKvDwIdeal.main_arg1)) →
    ∃ (v0 : (c : Dev Cert.KernelKvDwIdeal.nD) → Buf (Elt Ideal) ((c.tc : Thread Cert.KernelKvDwIdeal.nD Cert.KernelKvDwIdeal.τ).loc Cert.KernelKvDwIdeal.main_v4)),
      θ_run (Cert.KernelKvDwIdeal.defs (F := Ideal)) (onTc (τ := Cert.KernelKvDwIdeal.τ) (Cert.KernelKvDwIdeal.main (F := Ideal))) ⟨m, fun _ => 0, g⟩ (fun r => ∀ c : Dev Cert.KernelKvDwIdeal.nD,
          r.2.mem ((c.tc : Thread Cert.KernelKvDwIdeal.nD Cert.KernelKvDwIdeal.τ).loc Cert.KernelKvDwIdeal.main_v4) = v0 c
          ∧ r.2.mem ((c.tc : Thread Cert.KernelKvDwIdeal.nD Cert.KernelKvDwIdeal.τ).loc Cert.KernelKvDwIdeal.main_arg0) = m ((c.tc : Thread Cert.KernelKvDwIdeal.nD Cert.KernelKvDwIdeal.τ).loc Cert.KernelKvDwIdeal.main_arg0)
          ∧ r.2.mem ((c.tc : Thread Cert.KernelKvDwIdeal.nD Cert.KernelKvDwIdeal.τ).loc Cert.KernelKvDwIdeal.main_arg1) = m ((c.tc : Thread Cert.KernelKvDwIdeal.nD Cert.KernelKvDwIdeal.τ).loc Cert.KernelKvDwIdeal.main_arg1))
      ∧ θ_run (Cert.ReferenceKvDwIdeal.defs (F := Ideal)) (onTc (τ := Cert.ReferenceKvDwIdeal.τ) (Cert.ReferenceKvDwIdeal.main (F := Ideal))) ⟨m', fun _ => 0, g'⟩ (fun r => ∀ c : Dev Cert.ReferenceKvDwIdeal.nD,
          r.2.mem ((c.tc : Thread Cert.ReferenceKvDwIdeal.nD Cert.ReferenceKvDwIdeal.τ).loc Cert.ReferenceKvDwIdeal.main_v4) = v0 c
          ∧ r.2.mem ((c.tc : Thread Cert.ReferenceKvDwIdeal.nD Cert.ReferenceKvDwIdeal.τ).loc Cert.ReferenceKvDwIdeal.main_arg0) = m' ((c.tc : Thread Cert.ReferenceKvDwIdeal.nD Cert.ReferenceKvDwIdeal.τ).loc Cert.ReferenceKvDwIdeal.main_arg0)
          ∧ r.2.mem ((c.tc : Thread Cert.ReferenceKvDwIdeal.nD Cert.ReferenceKvDwIdeal.τ).loc Cert.ReferenceKvDwIdeal.main_arg1) = m' ((c.tc : Thread Cert.ReferenceKvDwIdeal.nD Cert.ReferenceKvDwIdeal.τ).loc Cert.ReferenceKvDwIdeal.main_arg1))

def preserves_KernelKvDu_KernelKvDuIdeal : Prop :=
  True

def algebraic_KernelKvDuIdeal_ReferenceKvDuIdeal [hKernelKvDuIdeal : Cert.KernelKvDuIdeal.Facts] [hReferenceKvDuIdeal : Cert.ReferenceKvDuIdeal.Facts] : Prop :=
  ∀ (m : (ℓ : Loc Cert.KernelKvDuIdeal.nD Cert.KernelKvDuIdeal.τ Cert.KernelKvDuIdeal.sig) → Buf (Elt Ideal) ℓ) (g : Dev Cert.KernelKvDuIdeal.nD → PrngReg)
    (m' : (ℓ : Loc Cert.ReferenceKvDuIdeal.nD Cert.ReferenceKvDuIdeal.τ Cert.ReferenceKvDuIdeal.sig) → Buf (Elt Ideal) ℓ) (g' : Dev Cert.ReferenceKvDuIdeal.nD → PrngReg), Pre_KernelKvDuIdeal m →
    (∀ c : Dev Cert.KernelKvDuIdeal.nD,
      m' ((c.tc : Thread Cert.ReferenceKvDuIdeal.nD Cert.ReferenceKvDuIdeal.τ).loc Cert.ReferenceKvDuIdeal.main_arg0) = m ((c.tc : Thread Cert.KernelKvDuIdeal.nD Cert.KernelKvDuIdeal.τ).loc Cert.KernelKvDuIdeal.main_arg0)
      ∧ m' ((c.tc : Thread Cert.ReferenceKvDuIdeal.nD Cert.ReferenceKvDuIdeal.τ).loc Cert.ReferenceKvDuIdeal.main_arg1) = m ((c.tc : Thread Cert.KernelKvDuIdeal.nD Cert.KernelKvDuIdeal.τ).loc Cert.KernelKvDuIdeal.main_arg1)) →
    ∃ (v0 : (c : Dev Cert.KernelKvDuIdeal.nD) → Buf (Elt Ideal) ((c.tc : Thread Cert.KernelKvDuIdeal.nD Cert.KernelKvDuIdeal.τ).loc Cert.KernelKvDuIdeal.main_v3)),
      θ_run (Cert.KernelKvDuIdeal.defs (F := Ideal)) (onTc (τ := Cert.KernelKvDuIdeal.τ) (Cert.KernelKvDuIdeal.main (F := Ideal))) ⟨m, fun _ => 0, g⟩ (fun r => ∀ c : Dev Cert.KernelKvDuIdeal.nD,
          r.2.mem ((c.tc : Thread Cert.KernelKvDuIdeal.nD Cert.KernelKvDuIdeal.τ).loc Cert.KernelKvDuIdeal.main_v3) = v0 c
          ∧ r.2.mem ((c.tc : Thread Cert.KernelKvDuIdeal.nD Cert.KernelKvDuIdeal.τ).loc Cert.KernelKvDuIdeal.main_arg0) = m ((c.tc : Thread Cert.KernelKvDuIdeal.nD Cert.KernelKvDuIdeal.τ).loc Cert.KernelKvDuIdeal.main_arg0)
          ∧ r.2.mem ((c.tc : Thread Cert.KernelKvDuIdeal.nD Cert.KernelKvDuIdeal.τ).loc Cert.KernelKvDuIdeal.main_arg1) = m ((c.tc : Thread Cert.KernelKvDuIdeal.nD Cert.KernelKvDuIdeal.τ).loc Cert.KernelKvDuIdeal.main_arg1))
      ∧ θ_run (Cert.ReferenceKvDuIdeal.defs (F := Ideal)) (onTc (τ := Cert.ReferenceKvDuIdeal.τ) (Cert.ReferenceKvDuIdeal.main (F := Ideal))) ⟨m', fun _ => 0, g'⟩ (fun r => ∀ c : Dev Cert.ReferenceKvDuIdeal.nD,
          r.2.mem ((c.tc : Thread Cert.ReferenceKvDuIdeal.nD Cert.ReferenceKvDuIdeal.τ).loc Cert.ReferenceKvDuIdeal.main_v2) = v0 c
          ∧ r.2.mem ((c.tc : Thread Cert.ReferenceKvDuIdeal.nD Cert.ReferenceKvDuIdeal.τ).loc Cert.ReferenceKvDuIdeal.main_arg0) = m' ((c.tc : Thread Cert.ReferenceKvDuIdeal.nD Cert.ReferenceKvDuIdeal.τ).loc Cert.ReferenceKvDuIdeal.main_arg0)
          ∧ r.2.mem ((c.tc : Thread Cert.ReferenceKvDuIdeal.nD Cert.ReferenceKvDuIdeal.τ).loc Cert.ReferenceKvDuIdeal.main_arg1) = m' ((c.tc : Thread Cert.ReferenceKvDuIdeal.nD Cert.ReferenceKvDuIdeal.τ).loc Cert.ReferenceKvDuIdeal.main_arg1))

def preserves_KernelAttOut_KernelAttOutIdeal : Prop :=
  True

def algebraic_KernelAttOutIdeal_ReferenceAttOutIdeal [hKernelAttOutIdeal : Cert.KernelAttOutIdeal.Facts] [hReferenceAttOutIdeal : Cert.ReferenceAttOutIdeal.Facts] : Prop :=
  ∀ (m : (ℓ : Loc Cert.KernelAttOutIdeal.nD Cert.KernelAttOutIdeal.τ Cert.KernelAttOutIdeal.sig) → Buf (Elt Ideal) ℓ) (g : Dev Cert.KernelAttOutIdeal.nD → PrngReg)
    (m' : (ℓ : Loc Cert.ReferenceAttOutIdeal.nD Cert.ReferenceAttOutIdeal.τ Cert.ReferenceAttOutIdeal.sig) → Buf (Elt Ideal) ℓ) (g' : Dev Cert.ReferenceAttOutIdeal.nD → PrngReg), Pre_KernelAttOutIdeal m →
    (∀ c : Dev Cert.KernelAttOutIdeal.nD,
      m' ((c.tc : Thread Cert.ReferenceAttOutIdeal.nD Cert.ReferenceAttOutIdeal.τ).loc Cert.ReferenceAttOutIdeal.main_arg0) = m ((c.tc : Thread Cert.KernelAttOutIdeal.nD Cert.KernelAttOutIdeal.τ).loc Cert.KernelAttOutIdeal.main_arg0)
      ∧ m' ((c.tc : Thread Cert.ReferenceAttOutIdeal.nD Cert.ReferenceAttOutIdeal.τ).loc Cert.ReferenceAttOutIdeal.main_arg1) = m ((c.tc : Thread Cert.KernelAttOutIdeal.nD Cert.KernelAttOutIdeal.τ).loc Cert.KernelAttOutIdeal.main_arg1)
      ∧ m' ((c.tc : Thread Cert.ReferenceAttOutIdeal.nD Cert.ReferenceAttOutIdeal.τ).loc Cert.ReferenceAttOutIdeal.main_arg2) = m ((c.tc : Thread Cert.KernelAttOutIdeal.nD Cert.KernelAttOutIdeal.τ).loc Cert.KernelAttOutIdeal.main_arg2)
      ∧ m' ((c.tc : Thread Cert.ReferenceAttOutIdeal.nD Cert.ReferenceAttOutIdeal.τ).loc Cert.ReferenceAttOutIdeal.main_arg3) = m ((c.tc : Thread Cert.KernelAttOutIdeal.nD Cert.KernelAttOutIdeal.τ).loc Cert.KernelAttOutIdeal.main_arg3)) →
    ∃ (v0 : (c : Dev Cert.KernelAttOutIdeal.nD) → Buf (Elt Ideal) ((c.tc : Thread Cert.KernelAttOutIdeal.nD Cert.KernelAttOutIdeal.τ).loc Cert.KernelAttOutIdeal.main_v3_0)) (v1 : (c : Dev Cert.KernelAttOutIdeal.nD) → Buf (Elt Ideal) ((c.tc : Thread Cert.KernelAttOutIdeal.nD Cert.KernelAttOutIdeal.τ).loc Cert.KernelAttOutIdeal.main_v3_1)),
      θ_run (Cert.KernelAttOutIdeal.defs (F := Ideal)) (onTc (τ := Cert.KernelAttOutIdeal.τ) (Cert.KernelAttOutIdeal.main (F := Ideal))) ⟨m, fun _ => 0, g⟩ (fun r => ∀ c : Dev Cert.KernelAttOutIdeal.nD,
          r.2.mem ((c.tc : Thread Cert.KernelAttOutIdeal.nD Cert.KernelAttOutIdeal.τ).loc Cert.KernelAttOutIdeal.main_v3_0) = v0 c
          ∧ r.2.mem ((c.tc : Thread Cert.KernelAttOutIdeal.nD Cert.KernelAttOutIdeal.τ).loc Cert.KernelAttOutIdeal.main_v3_1) = v1 c
          ∧ r.2.mem ((c.tc : Thread Cert.KernelAttOutIdeal.nD Cert.KernelAttOutIdeal.τ).loc Cert.KernelAttOutIdeal.main_arg0) = m ((c.tc : Thread Cert.KernelAttOutIdeal.nD Cert.KernelAttOutIdeal.τ).loc Cert.KernelAttOutIdeal.main_arg0)
          ∧ r.2.mem ((c.tc : Thread Cert.KernelAttOutIdeal.nD Cert.KernelAttOutIdeal.τ).loc Cert.KernelAttOutIdeal.main_arg1) = m ((c.tc : Thread Cert.KernelAttOutIdeal.nD Cert.KernelAttOutIdeal.τ).loc Cert.KernelAttOutIdeal.main_arg1)
          ∧ r.2.mem ((c.tc : Thread Cert.KernelAttOutIdeal.nD Cert.KernelAttOutIdeal.τ).loc Cert.KernelAttOutIdeal.main_arg2) = m ((c.tc : Thread Cert.KernelAttOutIdeal.nD Cert.KernelAttOutIdeal.τ).loc Cert.KernelAttOutIdeal.main_arg2)
          ∧ r.2.mem ((c.tc : Thread Cert.KernelAttOutIdeal.nD Cert.KernelAttOutIdeal.τ).loc Cert.KernelAttOutIdeal.main_arg3) = m ((c.tc : Thread Cert.KernelAttOutIdeal.nD Cert.KernelAttOutIdeal.τ).loc Cert.KernelAttOutIdeal.main_arg3))
      ∧ θ_run (Cert.ReferenceAttOutIdeal.defs (F := Ideal)) (onTc (τ := Cert.ReferenceAttOutIdeal.τ) (Cert.ReferenceAttOutIdeal.main (F := Ideal))) ⟨m', fun _ => 0, g'⟩ (fun r => ∀ c : Dev Cert.ReferenceAttOutIdeal.nD,
          r.2.mem ((c.tc : Thread Cert.ReferenceAttOutIdeal.nD Cert.ReferenceAttOutIdeal.τ).loc Cert.ReferenceAttOutIdeal.main_v0) = v0 c
          ∧ r.2.mem ((c.tc : Thread Cert.ReferenceAttOutIdeal.nD Cert.ReferenceAttOutIdeal.τ).loc Cert.ReferenceAttOutIdeal.main_v3) = v1 c
          ∧ r.2.mem ((c.tc : Thread Cert.ReferenceAttOutIdeal.nD Cert.ReferenceAttOutIdeal.τ).loc Cert.ReferenceAttOutIdeal.main_arg0) = m' ((c.tc : Thread Cert.ReferenceAttOutIdeal.nD Cert.ReferenceAttOutIdeal.τ).loc Cert.ReferenceAttOutIdeal.main_arg0)
          ∧ r.2.mem ((c.tc : Thread Cert.ReferenceAttOutIdeal.nD Cert.ReferenceAttOutIdeal.τ).loc Cert.ReferenceAttOutIdeal.main_arg1) = m' ((c.tc : Thread Cert.ReferenceAttOutIdeal.nD Cert.ReferenceAttOutIdeal.τ).loc Cert.ReferenceAttOutIdeal.main_arg1)
          ∧ r.2.mem ((c.tc : Thread Cert.ReferenceAttOutIdeal.nD Cert.ReferenceAttOutIdeal.τ).loc Cert.ReferenceAttOutIdeal.main_arg2) = m' ((c.tc : Thread Cert.ReferenceAttOutIdeal.nD Cert.ReferenceAttOutIdeal.τ).loc Cert.ReferenceAttOutIdeal.main_arg2)
          ∧ r.2.mem ((c.tc : Thread Cert.ReferenceAttOutIdeal.nD Cert.ReferenceAttOutIdeal.τ).loc Cert.ReferenceAttOutIdeal.main_arg3) = m' ((c.tc : Thread Cert.ReferenceAttOutIdeal.nD Cert.ReferenceAttOutIdeal.τ).loc Cert.ReferenceAttOutIdeal.main_arg3))

def preserves_KernelAttDw_KernelAttDwIdeal : Prop :=
  True

def algebraic_KernelAttDwIdeal_ReferenceAttDwIdeal [hKernelAttDwIdeal : Cert.KernelAttDwIdeal.Facts] [hReferenceAttDwIdeal : Cert.ReferenceAttDwIdeal.Facts] : Prop :=
  ∀ (m : (ℓ : Loc Cert.KernelAttDwIdeal.nD Cert.KernelAttDwIdeal.τ Cert.KernelAttDwIdeal.sig) → Buf (Elt Ideal) ℓ) (g : Dev Cert.KernelAttDwIdeal.nD → PrngReg)
    (m' : (ℓ : Loc Cert.ReferenceAttDwIdeal.nD Cert.ReferenceAttDwIdeal.τ Cert.ReferenceAttDwIdeal.sig) → Buf (Elt Ideal) ℓ) (g' : Dev Cert.ReferenceAttDwIdeal.nD → PrngReg), Pre_KernelAttDwIdeal m →
    (∀ c : Dev Cert.KernelAttDwIdeal.nD,
      m' ((c.tc : Thread Cert.ReferenceAttDwIdeal.nD Cert.ReferenceAttDwIdeal.τ).loc Cert.ReferenceAttDwIdeal.main_arg0) = m ((c.tc : Thread Cert.KernelAttDwIdeal.nD Cert.KernelAttDwIdeal.τ).loc Cert.KernelAttDwIdeal.main_arg0)
      ∧ m' ((c.tc : Thread Cert.ReferenceAttDwIdeal.nD Cert.ReferenceAttDwIdeal.τ).loc Cert.ReferenceAttDwIdeal.main_arg1) = m ((c.tc : Thread Cert.KernelAttDwIdeal.nD Cert.KernelAttDwIdeal.τ).loc Cert.KernelAttDwIdeal.main_arg1)) →
    ∃ (v0 : (c : Dev Cert.KernelAttDwIdeal.nD) → Buf (Elt Ideal) ((c.tc : Thread Cert.KernelAttDwIdeal.nD Cert.KernelAttDwIdeal.τ).loc Cert.KernelAttDwIdeal.main_v4)),
      θ_run (Cert.KernelAttDwIdeal.defs (F := Ideal)) (onTc (τ := Cert.KernelAttDwIdeal.τ) (Cert.KernelAttDwIdeal.main (F := Ideal))) ⟨m, fun _ => 0, g⟩ (fun r => ∀ c : Dev Cert.KernelAttDwIdeal.nD,
          r.2.mem ((c.tc : Thread Cert.KernelAttDwIdeal.nD Cert.KernelAttDwIdeal.τ).loc Cert.KernelAttDwIdeal.main_v4) = v0 c
          ∧ r.2.mem ((c.tc : Thread Cert.KernelAttDwIdeal.nD Cert.KernelAttDwIdeal.τ).loc Cert.KernelAttDwIdeal.main_arg0) = m ((c.tc : Thread Cert.KernelAttDwIdeal.nD Cert.KernelAttDwIdeal.τ).loc Cert.KernelAttDwIdeal.main_arg0)
          ∧ r.2.mem ((c.tc : Thread Cert.KernelAttDwIdeal.nD Cert.KernelAttDwIdeal.τ).loc Cert.KernelAttDwIdeal.main_arg1) = m ((c.tc : Thread Cert.KernelAttDwIdeal.nD Cert.KernelAttDwIdeal.τ).loc Cert.KernelAttDwIdeal.main_arg1))
      ∧ θ_run (Cert.ReferenceAttDwIdeal.defs (F := Ideal)) (onTc (τ := Cert.ReferenceAttDwIdeal.τ) (Cert.ReferenceAttDwIdeal.main (F := Ideal))) ⟨m', fun _ => 0, g'⟩ (fun r => ∀ c : Dev Cert.ReferenceAttDwIdeal.nD,
          r.2.mem ((c.tc : Thread Cert.ReferenceAttDwIdeal.nD Cert.ReferenceAttDwIdeal.τ).loc Cert.ReferenceAttDwIdeal.main_v4) = v0 c
          ∧ r.2.mem ((c.tc : Thread Cert.ReferenceAttDwIdeal.nD Cert.ReferenceAttDwIdeal.τ).loc Cert.ReferenceAttDwIdeal.main_arg0) = m' ((c.tc : Thread Cert.ReferenceAttDwIdeal.nD Cert.ReferenceAttDwIdeal.τ).loc Cert.ReferenceAttDwIdeal.main_arg0)
          ∧ r.2.mem ((c.tc : Thread Cert.ReferenceAttDwIdeal.nD Cert.ReferenceAttDwIdeal.τ).loc Cert.ReferenceAttDwIdeal.main_arg1) = m' ((c.tc : Thread Cert.ReferenceAttDwIdeal.nD Cert.ReferenceAttDwIdeal.τ).loc Cert.ReferenceAttDwIdeal.main_arg1))

def preserves_KernelQDw_KernelQDwIdeal : Prop :=
  True

def algebraic_KernelQDwIdeal_ReferenceQDwIdeal [hKernelQDwIdeal : Cert.KernelQDwIdeal.Facts] [hReferenceQDwIdeal : Cert.ReferenceQDwIdeal.Facts] : Prop :=
  ∀ (m : (ℓ : Loc Cert.KernelQDwIdeal.nD Cert.KernelQDwIdeal.τ Cert.KernelQDwIdeal.sig) → Buf (Elt Ideal) ℓ) (g : Dev Cert.KernelQDwIdeal.nD → PrngReg)
    (m' : (ℓ : Loc Cert.ReferenceQDwIdeal.nD Cert.ReferenceQDwIdeal.τ Cert.ReferenceQDwIdeal.sig) → Buf (Elt Ideal) ℓ) (g' : Dev Cert.ReferenceQDwIdeal.nD → PrngReg), Pre_KernelQDwIdeal m →
    (∀ c : Dev Cert.KernelQDwIdeal.nD,
      m' ((c.tc : Thread Cert.ReferenceQDwIdeal.nD Cert.ReferenceQDwIdeal.τ).loc Cert.ReferenceQDwIdeal.main_arg0) = m ((c.tc : Thread Cert.KernelQDwIdeal.nD Cert.KernelQDwIdeal.τ).loc Cert.KernelQDwIdeal.main_arg0)
      ∧ m' ((c.tc : Thread Cert.ReferenceQDwIdeal.nD Cert.ReferenceQDwIdeal.τ).loc Cert.ReferenceQDwIdeal.main_arg1) = m ((c.tc : Thread Cert.KernelQDwIdeal.nD Cert.KernelQDwIdeal.τ).loc Cert.KernelQDwIdeal.main_arg1)) →
    ∃ (v0 : (c : Dev Cert.KernelQDwIdeal.nD) → Buf (Elt Ideal) ((c.tc : Thread Cert.KernelQDwIdeal.nD Cert.KernelQDwIdeal.τ).loc Cert.KernelQDwIdeal.main_v4)),
      θ_run (Cert.KernelQDwIdeal.defs (F := Ideal)) (onTc (τ := Cert.KernelQDwIdeal.τ) (Cert.KernelQDwIdeal.main (F := Ideal))) ⟨m, fun _ => 0, g⟩ (fun r => ∀ c : Dev Cert.KernelQDwIdeal.nD,
          r.2.mem ((c.tc : Thread Cert.KernelQDwIdeal.nD Cert.KernelQDwIdeal.τ).loc Cert.KernelQDwIdeal.main_v4) = v0 c
          ∧ r.2.mem ((c.tc : Thread Cert.KernelQDwIdeal.nD Cert.KernelQDwIdeal.τ).loc Cert.KernelQDwIdeal.main_arg0) = m ((c.tc : Thread Cert.KernelQDwIdeal.nD Cert.KernelQDwIdeal.τ).loc Cert.KernelQDwIdeal.main_arg0)
          ∧ r.2.mem ((c.tc : Thread Cert.KernelQDwIdeal.nD Cert.KernelQDwIdeal.τ).loc Cert.KernelQDwIdeal.main_arg1) = m ((c.tc : Thread Cert.KernelQDwIdeal.nD Cert.KernelQDwIdeal.τ).loc Cert.KernelQDwIdeal.main_arg1))
      ∧ θ_run (Cert.ReferenceQDwIdeal.defs (F := Ideal)) (onTc (τ := Cert.ReferenceQDwIdeal.τ) (Cert.ReferenceQDwIdeal.main (F := Ideal))) ⟨m', fun _ => 0, g'⟩ (fun r => ∀ c : Dev Cert.ReferenceQDwIdeal.nD,
          r.2.mem ((c.tc : Thread Cert.ReferenceQDwIdeal.nD Cert.ReferenceQDwIdeal.τ).loc Cert.ReferenceQDwIdeal.main_v4) = v0 c
          ∧ r.2.mem ((c.tc : Thread Cert.ReferenceQDwIdeal.nD Cert.ReferenceQDwIdeal.τ).loc Cert.ReferenceQDwIdeal.main_arg0) = m' ((c.tc : Thread Cert.ReferenceQDwIdeal.nD Cert.ReferenceQDwIdeal.τ).loc Cert.ReferenceQDwIdeal.main_arg0)
          ∧ r.2.mem ((c.tc : Thread Cert.ReferenceQDwIdeal.nD Cert.ReferenceQDwIdeal.τ).loc Cert.ReferenceQDwIdeal.main_arg1) = m' ((c.tc : Thread Cert.ReferenceQDwIdeal.nD Cert.ReferenceQDwIdeal.τ).loc Cert.ReferenceQDwIdeal.main_arg1))

def preserves_KernelQDu_KernelQDuIdeal : Prop :=
  True

def algebraic_KernelQDuIdeal_ReferenceQDuIdeal [hKernelQDuIdeal : Cert.KernelQDuIdeal.Facts] [hReferenceQDuIdeal : Cert.ReferenceQDuIdeal.Facts] : Prop :=
  ∀ (m : (ℓ : Loc Cert.KernelQDuIdeal.nD Cert.KernelQDuIdeal.τ Cert.KernelQDuIdeal.sig) → Buf (Elt Ideal) ℓ) (g : Dev Cert.KernelQDuIdeal.nD → PrngReg)
    (m' : (ℓ : Loc Cert.ReferenceQDuIdeal.nD Cert.ReferenceQDuIdeal.τ Cert.ReferenceQDuIdeal.sig) → Buf (Elt Ideal) ℓ) (g' : Dev Cert.ReferenceQDuIdeal.nD → PrngReg), Pre_KernelQDuIdeal m →
    (∀ c : Dev Cert.KernelQDuIdeal.nD,
      m' ((c.tc : Thread Cert.ReferenceQDuIdeal.nD Cert.ReferenceQDuIdeal.τ).loc Cert.ReferenceQDuIdeal.main_arg0) = m ((c.tc : Thread Cert.KernelQDuIdeal.nD Cert.KernelQDuIdeal.τ).loc Cert.KernelQDuIdeal.main_arg0)
      ∧ m' ((c.tc : Thread Cert.ReferenceQDuIdeal.nD Cert.ReferenceQDuIdeal.τ).loc Cert.ReferenceQDuIdeal.main_arg1) = m ((c.tc : Thread Cert.KernelQDuIdeal.nD Cert.KernelQDuIdeal.τ).loc Cert.KernelQDuIdeal.main_arg1)) →
    ∃ (v0 : (c : Dev Cert.KernelQDuIdeal.nD) → Buf (Elt Ideal) ((c.tc : Thread Cert.KernelQDuIdeal.nD Cert.KernelQDuIdeal.τ).loc Cert.KernelQDuIdeal.main_v3)),
      θ_run (Cert.KernelQDuIdeal.defs (F := Ideal)) (onTc (τ := Cert.KernelQDuIdeal.τ) (Cert.KernelQDuIdeal.main (F := Ideal))) ⟨m, fun _ => 0, g⟩ (fun r => ∀ c : Dev Cert.KernelQDuIdeal.nD,
          r.2.mem ((c.tc : Thread Cert.KernelQDuIdeal.nD Cert.KernelQDuIdeal.τ).loc Cert.KernelQDuIdeal.main_v3) = v0 c
          ∧ r.2.mem ((c.tc : Thread Cert.KernelQDuIdeal.nD Cert.KernelQDuIdeal.τ).loc Cert.KernelQDuIdeal.main_arg0) = m ((c.tc : Thread Cert.KernelQDuIdeal.nD Cert.KernelQDuIdeal.τ).loc Cert.KernelQDuIdeal.main_arg0)
          ∧ r.2.mem ((c.tc : Thread Cert.KernelQDuIdeal.nD Cert.KernelQDuIdeal.τ).loc Cert.KernelQDuIdeal.main_arg1) = m ((c.tc : Thread Cert.KernelQDuIdeal.nD Cert.KernelQDuIdeal.τ).loc Cert.KernelQDuIdeal.main_arg1))
      ∧ θ_run (Cert.ReferenceQDuIdeal.defs (F := Ideal)) (onTc (τ := Cert.ReferenceQDuIdeal.τ) (Cert.ReferenceQDuIdeal.main (F := Ideal))) ⟨m', fun _ => 0, g'⟩ (fun r => ∀ c : Dev Cert.ReferenceQDuIdeal.nD,
          r.2.mem ((c.tc : Thread Cert.ReferenceQDuIdeal.nD Cert.ReferenceQDuIdeal.τ).loc Cert.ReferenceQDuIdeal.main_v2) = v0 c
          ∧ r.2.mem ((c.tc : Thread Cert.ReferenceQDuIdeal.nD Cert.ReferenceQDuIdeal.τ).loc Cert.ReferenceQDuIdeal.main_arg0) = m' ((c.tc : Thread Cert.ReferenceQDuIdeal.nD Cert.ReferenceQDuIdeal.τ).loc Cert.ReferenceQDuIdeal.main_arg0)
          ∧ r.2.mem ((c.tc : Thread Cert.ReferenceQDuIdeal.nD Cert.ReferenceQDuIdeal.τ).loc Cert.ReferenceQDuIdeal.main_arg1) = m' ((c.tc : Thread Cert.ReferenceQDuIdeal.nD Cert.ReferenceQDuIdeal.τ).loc Cert.ReferenceQDuIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v0_0)) (v1 : (c : Dev Cert.KernelNormIdeal.nD) → Buf (Elt Ideal) ((c.tc : Thread Cert.KernelNormIdeal.nD Cert.KernelNormIdeal.τ).loc Cert.KernelNormIdeal.main_v0_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0_0) = v0 c
          ∧ r.2.mem ((c.tc : Thread Cert.KernelNormIdeal.nD Cert.KernelNormIdeal.τ).loc Cert.KernelNormIdeal.main_v0_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v18) = v0 c
          ∧ r.2.mem ((c.tc : Thread Cert.ReferenceNormIdeal.nD Cert.ReferenceNormIdeal.τ).loc Cert.ReferenceNormIdeal.main_v20) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelNormBwd_KernelNormBwdIdeal : Prop :=
  True

def algebraic_KernelNormBwdIdeal_ReferenceNormBwdIdeal [hKernelNormBwdIdeal : Cert.KernelNormBwdIdeal.Facts] [hReferenceNormBwdIdeal : Cert.ReferenceNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg)
    (m' : (ℓ : Loc Cert.ReferenceNormBwdIdeal.nD Cert.ReferenceNormBwdIdeal.τ Cert.ReferenceNormBwdIdeal.sig) → Buf (Elt Ideal) ℓ) (g' : Dev Cert.ReferenceNormBwdIdeal.nD → PrngReg), Pre_KernelNormBwdIdeal m →
    (∀ c : Dev Cert.KernelNormBwdIdeal.nD,
      m' ((c.tc : Thread Cert.ReferenceNormBwdIdeal.nD Cert.ReferenceNormBwdIdeal.τ).loc Cert.ReferenceNormBwdIdeal.main_arg0) = m ((c.tc : Thread Cert.KernelNormBwdIdeal.nD Cert.KernelNormBwdIdeal.τ).loc Cert.KernelNormBwdIdeal.main_arg0)
      ∧ m' ((c.tc : Thread Cert.ReferenceNormBwdIdeal.nD Cert.ReferenceNormBwdIdeal.τ).loc Cert.ReferenceNormBwdIdeal.main_arg1) = m ((c.tc : Thread Cert.KernelNormBwdIdeal.nD Cert.KernelNormBwdIdeal.τ).loc Cert.KernelNormBwdIdeal.main_arg1)
      ∧ m' ((c.tc : Thread Cert.ReferenceNormBwdIdeal.nD Cert.ReferenceNormBwdIdeal.τ).loc Cert.ReferenceNormBwdIdeal.main_arg2) = m ((c.tc : Thread Cert.KernelNormBwdIdeal.nD Cert.KernelNormBwdIdeal.τ).loc Cert.KernelNormBwdIdeal.main_arg2)
      ∧ m' ((c.tc : Thread Cert.ReferenceNormBwdIdeal.nD Cert.ReferenceNormBwdIdeal.τ).loc Cert.ReferenceNormBwdIdeal.main_arg3) = m ((c.tc : Thread Cert.KernelNormBwdIdeal.nD Cert.KernelNormBwdIdeal.τ).loc Cert.KernelNormBwdIdeal.main_arg3)
      ∧ m' ((c.tc : Thread Cert.ReferenceNormBwdIdeal.nD Cert.ReferenceNormBwdIdeal.τ).loc Cert.ReferenceNormBwdIdeal.main_arg4) = m ((c.tc : Thread Cert.KernelNormBwdIdeal.nD Cert.KernelNormBwdIdeal.τ).loc Cert.KernelNormBwdIdeal.main_arg4)
      ∧ m' ((c.tc : Thread Cert.ReferenceNormBwdIdeal.nD Cert.ReferenceNormBwdIdeal.τ).loc Cert.ReferenceNormBwdIdeal.main_arg5) = m ((c.tc : Thread Cert.KernelNormBwdIdeal.nD Cert.KernelNormBwdIdeal.τ).loc Cert.KernelNormBwdIdeal.main_arg5)) →
    ∃ (v0 : (c : Dev Cert.KernelNormBwdIdeal.nD) → Buf (Elt Ideal) ((c.tc : Thread Cert.KernelNormBwdIdeal.nD Cert.KernelNormBwdIdeal.τ).loc Cert.KernelNormBwdIdeal.main_v0_0)) (v1 : (c : Dev Cert.KernelNormBwdIdeal.nD) → Buf (Elt Ideal) ((c.tc : Thread Cert.KernelNormBwdIdeal.nD Cert.KernelNormBwdIdeal.τ).loc Cert.KernelNormBwdIdeal.main_v0_1)) (v2 : (c : Dev Cert.KernelNormBwdIdeal.nD) → Buf (Elt Ideal) ((c.tc : Thread Cert.KernelNormBwdIdeal.nD Cert.KernelNormBwdIdeal.τ).loc Cert.KernelNormBwdIdeal.main_v0_2)) (v3 : (c : Dev Cert.KernelNormBwdIdeal.nD) → Buf (Elt Ideal) ((c.tc : Thread Cert.KernelNormBwdIdeal.nD Cert.KernelNormBwdIdeal.τ).loc Cert.KernelNormBwdIdeal.main_v0_3)),
      θ_run (Cert.KernelNormBwdIdeal.defs (F := Ideal)) (onTc (τ := Cert.KernelNormBwdIdeal.τ) (Cert.KernelNormBwdIdeal.main (F := Ideal))) ⟨m, fun _ => 0, g⟩ (fun r => ∀ c : Dev Cert.KernelNormBwdIdeal.nD,
          r.2.mem ((c.tc : Thread Cert.KernelNormBwdIdeal.nD Cert.KernelNormBwdIdeal.τ).loc Cert.KernelNormBwdIdeal.main_v0_0) = v0 c
          ∧ r.2.mem ((c.tc : Thread Cert.KernelNormBwdIdeal.nD Cert.KernelNormBwdIdeal.τ).loc Cert.KernelNormBwdIdeal.main_v0_1) = v1 c
          ∧ r.2.mem ((c.tc : Thread Cert.KernelNormBwdIdeal.nD Cert.KernelNormBwdIdeal.τ).loc Cert.KernelNormBwdIdeal.main_v0_2) = v2 c
          ∧ r.2.mem ((c.tc : Thread Cert.KernelNormBwdIdeal.nD Cert.KernelNormBwdIdeal.τ).loc Cert.KernelNormBwdIdeal.main_v0_3) = v3 c
          ∧ r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
          ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
          ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
          ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3)
          ∧ r.2.mem ((c.tc : Thread Cert.KernelNormBwdIdeal.nD Cert.KernelNormBwdIdeal.τ).loc Cert.KernelNormBwdIdeal.main_arg4) = m ((c.tc : Thread Cert.KernelNormBwdIdeal.nD Cert.KernelNormBwdIdeal.τ).loc Cert.KernelNormBwdIdeal.main_arg4)
          ∧ r.2.mem ((c.tc : Thread Cert.KernelNormBwdIdeal.nD Cert.KernelNormBwdIdeal.τ).loc Cert.KernelNormBwdIdeal.main_arg5) = m ((c.tc : Thread Cert.KernelNormBwdIdeal.nD Cert.KernelNormBwdIdeal.τ).loc Cert.KernelNormBwdIdeal.main_arg5))
      ∧ θ_run (Cert.ReferenceNormBwdIdeal.defs (F := Ideal)) (onTc (τ := Cert.ReferenceNormBwdIdeal.τ) (Cert.ReferenceNormBwdIdeal.main (F := Ideal))) ⟨m', fun _ => 0, g'⟩ (fun r => ∀ c : Dev Cert.ReferenceNormBwdIdeal.nD,
          r.2.mem ((c.tc : Thread Cert.ReferenceNormBwdIdeal.nD Cert.ReferenceNormBwdIdeal.τ).loc Cert.ReferenceNormBwdIdeal.main_v48) = v0 c
          ∧ r.2.mem ((c.tc : Thread Cert.ReferenceNormBwdIdeal.nD Cert.ReferenceNormBwdIdeal.τ).loc Cert.ReferenceNormBwdIdeal.main_v31) = v1 c
          ∧ r.2.mem ((c.tc : Thread Cert.ReferenceNormBwdIdeal.nD Cert.ReferenceNormBwdIdeal.τ).loc Cert.ReferenceNormBwdIdeal.main_v23) = v2 c
          ∧ r.2.mem ((c.tc : Thread Cert.ReferenceNormBwdIdeal.nD Cert.ReferenceNormBwdIdeal.τ).loc Cert.ReferenceNormBwdIdeal.main_v26) = v3 c
          ∧ r.2.mem ((c.tc : Thread Cert.ReferenceNormBwdIdeal.nD Cert.ReferenceNormBwdIdeal.τ).loc Cert.ReferenceNormBwdIdeal.main_arg0) = m' ((c.tc : Thread Cert.ReferenceNormBwdIdeal.nD Cert.ReferenceNormBwdIdeal.τ).loc Cert.ReferenceNormBwdIdeal.main_arg0)
          ∧ r.2.mem ((c.tc : Thread Cert.ReferenceNormBwdIdeal.nD Cert.ReferenceNormBwdIdeal.τ).loc Cert.ReferenceNormBwdIdeal.main_arg1) = m' ((c.tc : Thread Cert.ReferenceNormBwdIdeal.nD Cert.ReferenceNormBwdIdeal.τ).loc Cert.ReferenceNormBwdIdeal.main_arg1)
          ∧ r.2.mem ((c.tc : Thread Cert.ReferenceNormBwdIdeal.nD Cert.ReferenceNormBwdIdeal.τ).loc Cert.ReferenceNormBwdIdeal.main_arg2) = m' ((c.tc : Thread Cert.ReferenceNormBwdIdeal.nD Cert.ReferenceNormBwdIdeal.τ).loc Cert.ReferenceNormBwdIdeal.main_arg2)
          ∧ r.2.mem ((c.tc : Thread Cert.ReferenceNormBwdIdeal.nD Cert.ReferenceNormBwdIdeal.τ).loc Cert.ReferenceNormBwdIdeal.main_arg3) = m' ((c.tc : Thread Cert.ReferenceNormBwdIdeal.nD Cert.ReferenceNormBwdIdeal.τ).loc Cert.ReferenceNormBwdIdeal.main_arg3)
          ∧ r.2.mem ((c.tc : Thread Cert.ReferenceNormBwdIdeal.nD Cert.ReferenceNormBwdIdeal.τ).loc Cert.ReferenceNormBwdIdeal.main_arg4) = m' ((c.tc : Thread Cert.ReferenceNormBwdIdeal.nD Cert.ReferenceNormBwdIdeal.τ).loc Cert.ReferenceNormBwdIdeal.main_arg4)
          ∧ r.2.mem ((c.tc : Thread Cert.ReferenceNormBwdIdeal.nD Cert.ReferenceNormBwdIdeal.τ).loc Cert.ReferenceNormBwdIdeal.main_arg5) = m' ((c.tc : Thread Cert.ReferenceNormBwdIdeal.nD Cert.ReferenceNormBwdIdeal.τ).loc Cert.ReferenceNormBwdIdeal.main_arg5))

def Claim : Prop :=
  ∃ (hKernel : Cert.Kernel.Facts) (hKernelIdeal : Cert.KernelIdeal.Facts) (hReferenceIdeal : Cert.ReferenceIdeal.Facts) (hKernelDact : Cert.KernelDact.Facts) (hKernelDactIdeal : Cert.KernelDactIdeal.Facts) (hReferenceDactIdeal : Cert.ReferenceDactIdeal.Facts) (hKernelIn : Cert.KernelIn.Facts) (hKernelInIdeal : Cert.KernelInIdeal.Facts) (hReferenceInIdeal : Cert.ReferenceInIdeal.Facts) (hKernelDwout : Cert.KernelDwout.Facts) (hKernelDwoutIdeal : Cert.KernelDwoutIdeal.Facts) (hReferenceDwoutIdeal : Cert.ReferenceDwoutIdeal.Facts) (hKernelDwinLo : Cert.KernelDwinLo.Facts) (hKernelDwinLoIdeal : Cert.KernelDwinLoIdeal.Facts) (hReferenceDwinLoIdeal : Cert.ReferenceDwinLoIdeal.Facts) (hKernelDwinHi : Cert.KernelDwinHi.Facts) (hKernelDwinHiIdeal : Cert.KernelDwinHiIdeal.Facts) (hReferenceDwinHiIdeal : Cert.ReferenceDwinHiIdeal.Facts) (hKernelDu : Cert.KernelDu.Facts) (hKernelDuIdeal : Cert.KernelDuIdeal.Facts) (hReferenceDuIdeal : Cert.ReferenceDuIdeal.Facts) (hKernelOut : Cert.KernelOut.Facts) (hKernelOutIdeal : Cert.KernelOutIdeal.Facts) (hReferenceOutIdeal : Cert.ReferenceOutIdeal.Facts) (hKernelSqDw : Cert.KernelSqDw.Facts) (hKernelSqDwIdeal : Cert.KernelSqDwIdeal.Facts) (hReferenceSqDwIdeal : Cert.ReferenceSqDwIdeal.Facts) (hKernelSqDz : Cert.KernelSqDz.Facts) (hKernelSqDzIdeal : Cert.KernelSqDzIdeal.Facts) (hReferenceSqDzIdeal : Cert.ReferenceSqDzIdeal.Facts) (hKernelHgrnDwinLo : Cert.KernelHgrnDwinLo.Facts) (hKernelHgrnDwinLoIdeal : Cert.KernelHgrnDwinLoIdeal.Facts) (hReferenceHgrnDwinLoIdeal : Cert.ReferenceHgrnDwinLoIdeal.Facts) (hKernelHgrnDwinHi : Cert.KernelHgrnDwinHi.Facts) (hKernelHgrnDwinHiIdeal : Cert.KernelHgrnDwinHiIdeal.Facts) (hReferenceHgrnDwinHiIdeal : Cert.ReferenceHgrnDwinHiIdeal.Facts) (hKernelHgrnDu : Cert.KernelHgrnDu.Facts) (hKernelHgrnDuIdeal : Cert.KernelHgrnDuIdeal.Facts) (hReferenceHgrnDuIdeal : Cert.ReferenceHgrnDuIdeal.Facts) (hKernelHgrnProj : Cert.KernelHgrnProj.Facts) (hKernelHgrnProjIdeal : Cert.KernelHgrnProjIdeal.Facts) (hReferenceHgrnProjIdeal : Cert.ReferenceHgrnProjIdeal.Facts) (hKernelSqOut : Cert.KernelSqOut.Facts) (hKernelSqOutIdeal : Cert.KernelSqOutIdeal.Facts) (hReferenceSqOutIdeal : Cert.ReferenceSqOutIdeal.Facts) (hKernelQ : Cert.KernelQ.Facts) (hKernelQIdeal : Cert.KernelQIdeal.Facts) (hReferenceQIdeal : Cert.ReferenceQIdeal.Facts) (hKernelKv : Cert.KernelKv.Facts) (hKernelKvIdeal : Cert.KernelKvIdeal.Facts) (hReferenceKvIdeal : Cert.ReferenceKvIdeal.Facts) (hKernelKvDw : Cert.KernelKvDw.Facts) (hKernelKvDwIdeal : Cert.KernelKvDwIdeal.Facts) (hReferenceKvDwIdeal : Cert.ReferenceKvDwIdeal.Facts) (hKernelKvDu : Cert.KernelKvDu.Facts) (hKernelKvDuIdeal : Cert.KernelKvDuIdeal.Facts) (hReferenceKvDuIdeal : Cert.ReferenceKvDuIdeal.Facts) (hKernelAttOut : Cert.KernelAttOut.Facts) (hKernelAttOutIdeal : Cert.KernelAttOutIdeal.Facts) (hReferenceAttOutIdeal : Cert.ReferenceAttOutIdeal.Facts) (hKernelAttDw : Cert.KernelAttDw.Facts) (hKernelAttDwIdeal : Cert.KernelAttDwIdeal.Facts) (hReferenceAttDwIdeal : Cert.ReferenceAttDwIdeal.Facts) (hKernelQDw : Cert.KernelQDw.Facts) (hKernelQDwIdeal : Cert.KernelQDwIdeal.Facts) (hReferenceQDwIdeal : Cert.ReferenceQDwIdeal.Facts) (hKernelQDu : Cert.KernelQDu.Facts) (hKernelQDuIdeal : Cert.KernelQDuIdeal.Facts) (hReferenceQDuIdeal : Cert.ReferenceQDuIdeal.Facts) (hKernelNorm : Cert.KernelNorm.Facts) (hKernelNormIdeal : Cert.KernelNormIdeal.Facts) (hReferenceNormIdeal : Cert.ReferenceNormIdeal.Facts) (hKernelNormBwd : Cert.KernelNormBwd.Facts) (hKernelNormBwdIdeal : Cert.KernelNormBwdIdeal.Facts) (hReferenceNormBwdIdeal : Cert.ReferenceNormBwdIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDact (hKernelDact := hKernelDact)
    ∧ quiescent_KernelDactIdeal (hKernelDactIdeal := hKernelDactIdeal)
    ∧ quiescent_ReferenceDactIdeal (hReferenceDactIdeal := hReferenceDactIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelDwout (hKernelDwout := hKernelDwout)
    ∧ quiescent_KernelDwoutIdeal (hKernelDwoutIdeal := hKernelDwoutIdeal)
    ∧ quiescent_ReferenceDwoutIdeal (hReferenceDwoutIdeal := hReferenceDwoutIdeal)
    ∧ quiescent_KernelDwinLo (hKernelDwinLo := hKernelDwinLo)
    ∧ quiescent_KernelDwinLoIdeal (hKernelDwinLoIdeal := hKernelDwinLoIdeal)
    ∧ quiescent_ReferenceDwinLoIdeal (hReferenceDwinLoIdeal := hReferenceDwinLoIdeal)
    ∧ quiescent_KernelDwinHi (hKernelDwinHi := hKernelDwinHi)
    ∧ quiescent_KernelDwinHiIdeal (hKernelDwinHiIdeal := hKernelDwinHiIdeal)
    ∧ quiescent_ReferenceDwinHiIdeal (hReferenceDwinHiIdeal := hReferenceDwinHiIdeal)
    ∧ quiescent_KernelDu (hKernelDu := hKernelDu)
    ∧ quiescent_KernelDuIdeal (hKernelDuIdeal := hKernelDuIdeal)
    ∧ quiescent_ReferenceDuIdeal (hReferenceDuIdeal := hReferenceDuIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelSqDw (hKernelSqDw := hKernelSqDw)
    ∧ quiescent_KernelSqDwIdeal (hKernelSqDwIdeal := hKernelSqDwIdeal)
    ∧ quiescent_ReferenceSqDwIdeal (hReferenceSqDwIdeal := hReferenceSqDwIdeal)
    ∧ quiescent_KernelSqDz (hKernelSqDz := hKernelSqDz)
    ∧ quiescent_KernelSqDzIdeal (hKernelSqDzIdeal := hKernelSqDzIdeal)
    ∧ quiescent_ReferenceSqDzIdeal (hReferenceSqDzIdeal := hReferenceSqDzIdeal)
    ∧ quiescent_KernelHgrnDwinLo (hKernelHgrnDwinLo := hKernelHgrnDwinLo)
    ∧ quiescent_KernelHgrnDwinLoIdeal (hKernelHgrnDwinLoIdeal := hKernelHgrnDwinLoIdeal)
    ∧ quiescent_ReferenceHgrnDwinLoIdeal (hReferenceHgrnDwinLoIdeal := hReferenceHgrnDwinLoIdeal)
    ∧ quiescent_KernelHgrnDwinHi (hKernelHgrnDwinHi := hKernelHgrnDwinHi)
    ∧ quiescent_KernelHgrnDwinHiIdeal (hKernelHgrnDwinHiIdeal := hKernelHgrnDwinHiIdeal)
    ∧ quiescent_ReferenceHgrnDwinHiIdeal (hReferenceHgrnDwinHiIdeal := hReferenceHgrnDwinHiIdeal)
    ∧ quiescent_KernelHgrnDu (hKernelHgrnDu := hKernelHgrnDu)
    ∧ quiescent_KernelHgrnDuIdeal (hKernelHgrnDuIdeal := hKernelHgrnDuIdeal)
    ∧ quiescent_ReferenceHgrnDuIdeal (hReferenceHgrnDuIdeal := hReferenceHgrnDuIdeal)
    ∧ quiescent_KernelHgrnProj (hKernelHgrnProj := hKernelHgrnProj)
    ∧ quiescent_KernelHgrnProjIdeal (hKernelHgrnProjIdeal := hKernelHgrnProjIdeal)
    ∧ quiescent_ReferenceHgrnProjIdeal (hReferenceHgrnProjIdeal := hReferenceHgrnProjIdeal)
    ∧ quiescent_KernelSqOut (hKernelSqOut := hKernelSqOut)
    ∧ quiescent_KernelSqOutIdeal (hKernelSqOutIdeal := hKernelSqOutIdeal)
    ∧ quiescent_ReferenceSqOutIdeal (hReferenceSqOutIdeal := hReferenceSqOutIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelKvDw (hKernelKvDw := hKernelKvDw)
    ∧ quiescent_KernelKvDwIdeal (hKernelKvDwIdeal := hKernelKvDwIdeal)
    ∧ quiescent_ReferenceKvDwIdeal (hReferenceKvDwIdeal := hReferenceKvDwIdeal)
    ∧ quiescent_KernelKvDu (hKernelKvDu := hKernelKvDu)
    ∧ quiescent_KernelKvDuIdeal (hKernelKvDuIdeal := hKernelKvDuIdeal)
    ∧ quiescent_ReferenceKvDuIdeal (hReferenceKvDuIdeal := hReferenceKvDuIdeal)
    ∧ quiescent_KernelAttOut (hKernelAttOut := hKernelAttOut)
    ∧ quiescent_KernelAttOutIdeal (hKernelAttOutIdeal := hKernelAttOutIdeal)
    ∧ quiescent_ReferenceAttOutIdeal (hReferenceAttOutIdeal := hReferenceAttOutIdeal)
    ∧ quiescent_KernelAttDw (hKernelAttDw := hKernelAttDw)
    ∧ quiescent_KernelAttDwIdeal (hKernelAttDwIdeal := hKernelAttDwIdeal)
    ∧ quiescent_ReferenceAttDwIdeal (hReferenceAttDwIdeal := hReferenceAttDwIdeal)
    ∧ quiescent_KernelQDw (hKernelQDw := hKernelQDw)
    ∧ quiescent_KernelQDwIdeal (hKernelQDwIdeal := hKernelQDwIdeal)
    ∧ quiescent_ReferenceQDwIdeal (hReferenceQDwIdeal := hReferenceQDwIdeal)
    ∧ quiescent_KernelQDu (hKernelQDu := hKernelQDu)
    ∧ quiescent_KernelQDuIdeal (hKernelQDuIdeal := hKernelQDuIdeal)
    ∧ quiescent_ReferenceQDuIdeal (hReferenceQDuIdeal := hReferenceQDuIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNormBwd (hKernelNormBwd := hKernelNormBwd)
    ∧ quiescent_KernelNormBwdIdeal (hKernelNormBwdIdeal := hKernelNormBwdIdeal)
    ∧ quiescent_ReferenceNormBwdIdeal (hReferenceNormBwdIdeal := hReferenceNormBwdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDact_KernelDactIdeal
    ∧ algebraic_KernelDactIdeal_ReferenceDactIdeal (hKernelDactIdeal := hKernelDactIdeal) (hReferenceDactIdeal := hReferenceDactIdeal)
    ∧ preserves_KernelIn_KernelInIdeal
    ∧ algebraic_KernelInIdeal_ReferenceInIdeal (hKernelInIdeal := hKernelInIdeal) (hReferenceInIdeal := hReferenceInIdeal)
    ∧ preserves_KernelDwout_KernelDwoutIdeal
    ∧ algebraic_KernelDwoutIdeal_ReferenceDwoutIdeal (hKernelDwoutIdeal := hKernelDwoutIdeal) (hReferenceDwoutIdeal := hReferenceDwoutIdeal)
    ∧ preserves_KernelDwinLo_KernelDwinLoIdeal
    ∧ algebraic_KernelDwinLoIdeal_ReferenceDwinLoIdeal (hKernelDwinLoIdeal := hKernelDwinLoIdeal) (hReferenceDwinLoIdeal := hReferenceDwinLoIdeal)
    ∧ preserves_KernelDwinHi_KernelDwinHiIdeal
    ∧ algebraic_KernelDwinHiIdeal_ReferenceDwinHiIdeal (hKernelDwinHiIdeal := hKernelDwinHiIdeal) (hReferenceDwinHiIdeal := hReferenceDwinHiIdeal)
    ∧ preserves_KernelDu_KernelDuIdeal
    ∧ algebraic_KernelDuIdeal_ReferenceDuIdeal (hKernelDuIdeal := hKernelDuIdeal) (hReferenceDuIdeal := hReferenceDuIdeal)
    ∧ preserves_KernelOut_KernelOutIdeal
    ∧ algebraic_KernelOutIdeal_ReferenceOutIdeal (hKernelOutIdeal := hKernelOutIdeal) (hReferenceOutIdeal := hReferenceOutIdeal)
    ∧ preserves_KernelSqDw_KernelSqDwIdeal
    ∧ algebraic_KernelSqDwIdeal_ReferenceSqDwIdeal (hKernelSqDwIdeal := hKernelSqDwIdeal) (hReferenceSqDwIdeal := hReferenceSqDwIdeal)
    ∧ preserves_KernelSqDz_KernelSqDzIdeal
    ∧ algebraic_KernelSqDzIdeal_ReferenceSqDzIdeal (hKernelSqDzIdeal := hKernelSqDzIdeal) (hReferenceSqDzIdeal := hReferenceSqDzIdeal)
    ∧ preserves_KernelHgrnDwinLo_KernelHgrnDwinLoIdeal
    ∧ algebraic_KernelHgrnDwinLoIdeal_ReferenceHgrnDwinLoIdeal (hKernelHgrnDwinLoIdeal := hKernelHgrnDwinLoIdeal) (hReferenceHgrnDwinLoIdeal := hReferenceHgrnDwinLoIdeal)
    ∧ preserves_KernelHgrnDwinHi_KernelHgrnDwinHiIdeal
    ∧ algebraic_KernelHgrnDwinHiIdeal_ReferenceHgrnDwinHiIdeal (hKernelHgrnDwinHiIdeal := hKernelHgrnDwinHiIdeal) (hReferenceHgrnDwinHiIdeal := hReferenceHgrnDwinHiIdeal)
    ∧ preserves_KernelHgrnDu_KernelHgrnDuIdeal
    ∧ algebraic_KernelHgrnDuIdeal_ReferenceHgrnDuIdeal (hKernelHgrnDuIdeal := hKernelHgrnDuIdeal) (hReferenceHgrnDuIdeal := hReferenceHgrnDuIdeal)
    ∧ preserves_KernelHgrnProj_KernelHgrnProjIdeal
    ∧ algebraic_KernelHgrnProjIdeal_ReferenceHgrnProjIdeal (hKernelHgrnProjIdeal := hKernelHgrnProjIdeal) (hReferenceHgrnProjIdeal := hReferenceHgrnProjIdeal)
    ∧ preserves_KernelSqOut_KernelSqOutIdeal
    ∧ algebraic_KernelSqOutIdeal_ReferenceSqOutIdeal (hKernelSqOutIdeal := hKernelSqOutIdeal) (hReferenceSqOutIdeal := hReferenceSqOutIdeal)
    ∧ preserves_KernelQ_KernelQIdeal
    ∧ algebraic_KernelQIdeal_ReferenceQIdeal (hKernelQIdeal := hKernelQIdeal) (hReferenceQIdeal := hReferenceQIdeal)
    ∧ preserves_KernelKv_KernelKvIdeal
    ∧ algebraic_KernelKvIdeal_ReferenceKvIdeal (hKernelKvIdeal := hKernelKvIdeal) (hReferenceKvIdeal := hReferenceKvIdeal)
    ∧ preserves_KernelKvDw_KernelKvDwIdeal
    ∧ algebraic_KernelKvDwIdeal_ReferenceKvDwIdeal (hKernelKvDwIdeal := hKernelKvDwIdeal) (hReferenceKvDwIdeal := hReferenceKvDwIdeal)
    ∧ preserves_KernelKvDu_KernelKvDuIdeal
    ∧ algebraic_KernelKvDuIdeal_ReferenceKvDuIdeal (hKernelKvDuIdeal := hKernelKvDuIdeal) (hReferenceKvDuIdeal := hReferenceKvDuIdeal)
    ∧ preserves_KernelAttOut_KernelAttOutIdeal
    ∧ algebraic_KernelAttOutIdeal_ReferenceAttOutIdeal (hKernelAttOutIdeal := hKernelAttOutIdeal) (hReferenceAttOutIdeal := hReferenceAttOutIdeal)
    ∧ preserves_KernelAttDw_KernelAttDwIdeal
    ∧ algebraic_KernelAttDwIdeal_ReferenceAttDwIdeal (hKernelAttDwIdeal := hKernelAttDwIdeal) (hReferenceAttDwIdeal := hReferenceAttDwIdeal)
    ∧ preserves_KernelQDw_KernelQDwIdeal
    ∧ algebraic_KernelQDwIdeal_ReferenceQDwIdeal (hKernelQDwIdeal := hKernelQDwIdeal) (hReferenceQDwIdeal := hReferenceQDwIdeal)
    ∧ preserves_KernelQDu_KernelQDuIdeal
    ∧ algebraic_KernelQDuIdeal_ReferenceQDuIdeal (hKernelQDuIdeal := hKernelQDuIdeal) (hReferenceQDuIdeal := hReferenceQDuIdeal)
    ∧ preserves_KernelNorm_KernelNormIdeal
    ∧ algebraic_KernelNormIdeal_ReferenceNormIdeal (hKernelNormIdeal := hKernelNormIdeal) (hReferenceNormIdeal := hReferenceNormIdeal)
    ∧ preserves_KernelNormBwd_KernelNormBwdIdeal
    ∧ algebraic_KernelNormBwdIdeal_ReferenceNormBwdIdeal (hKernelNormBwdIdeal := hKernelNormBwdIdeal) (hReferenceNormBwdIdeal := hReferenceNormBwdIdeal)
-- ==== Pre_finite.lean ====
abbrev S4096x2048 : Shape := ⟨2, ![4096, 2048]⟩
abbrev S4096x256 : Shape := ⟨2, ![4096, 256]⟩
abbrev S1x32 : Shape := ⟨2, ![1, 32]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1x32 : S_.BroadcastsInDim S1x32 (![] : Fin 0 → Fin S1x32.rank)
  reducesTo_S1x32_S_d0_1 : S1x32.ReducesTo [0, 1] S_

variable [Facts]

def fn_part1 {F : FTy → Type} [FloatOps F] (main_arg4 : FVec F S4096x2048 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x2048 .f32) (main_arg1 : FVec F S4096x256 .f32) (main_arg2 : FVec F S4096x256 .f32) (main_arg3 : FVec F S1x32 .f32) (main_arg4 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S1x32 .f32 := Host.absf main_arg3
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg4 main_v13 main_v16
-- ==== Kernel.lean ====
abbrev S4096x2048 : Shape := ⟨2, ![4096, 2048]⟩
abbrev S4096x256 : Shape := ⟨2, ![4096, 256]⟩
abbrev S1x32 : Shape := ⟨2, ![1, 32]⟩
abbrev S4x8x1x1 : Shape := ⟨4, ![4, 8, 1, 1]⟩
abbrev S4x8x128x1 : Shape := ⟨4, ![4, 8, 128, 1]⟩
abbrev S4x1x1024 : Shape := ⟨3, ![4, 1, 1024]⟩
abbrev S4096x32x64 : Shape := ⟨3, ![4096, 32, 64]⟩
abbrev S32x4096x64 : Shape := ⟨3, ![32, 4096, 64]⟩
abbrev S4x8x4096x64 : Shape := ⟨4, ![4, 8, 4096, 64]⟩
abbrev S4096x4x64 : Shape := ⟨3, ![4096, 4, 64]⟩
abbrev S4x4096x64 : Shape := ⟨3, ![4, 4096, 64]⟩
abbrev S4x32x128x64 : Shape := ⟨4, ![4, 32, 128, 64]⟩
abbrev S4x1x8 : Shape := ⟨3, ![4, 1, 8]⟩
abbrev S1x8x128x64 : Shape := ⟨4, ![1, 8, 128, 64]⟩
abbrev S1x128x64 : Shape := ⟨3, ![1, 128, 64]⟩
abbrev S1x1x1024 : Shape := ⟨3, ![1, 1, 1024]⟩
abbrev S1x1x128x64 : Shape := ⟨4, ![1, 1, 128, 64]⟩
abbrev S1x1x8 : Shape := ⟨3, ![1, 1, 8]⟩
abbrev S8x128x64 : Shape := ⟨3, ![8, 128, 64]⟩
abbrev S1024x64 : Shape := ⟨2, ![1024, 64]⟩
abbrev S128x64 : Shape := ⟨2, ![128, 64]⟩
abbrev S1x1024 : Shape := ⟨2, ![1, 1024]⟩
abbrev S128x1024 : Shape := ⟨2, ![128, 1024]⟩
abbrev S1024 : Shape := ⟨1, ![1024]⟩
abbrev S64x1024 : Shape := ⟨2, ![64, 1024]⟩
abbrev S1024x128 : Shape := ⟨2, ![1024, 128]⟩
abbrev S64x128 : Shape := ⟨2, ![64, 128]⟩
abbrev S1x8 : Shape := ⟨2, ![1, 8]⟩
abbrev S1024x8 : Shape := ⟨2, ![1024, 8]⟩

abbrev nBuf : Space → Nat
  | .hbm => 24
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S4096x256, .f32⟩
  | .hbm, ⟨3, _⟩ => ⟨S1x32, .f32⟩
  | .hbm, ⟨4, _⟩ => ⟨S4096x2048, .f32⟩
  | .hbm, ⟨5, _⟩ => ⟨S4x8x1x1, .f32⟩
  | .hbm, ⟨6, _⟩ => ⟨S4x8x128x1, .f32⟩
  | .hbm, ⟨7, _⟩ => ⟨S4x1x1024, .f32⟩
  | .hbm, ⟨8, _⟩ => ⟨S4096x32x64, .f32⟩
  | .hbm, ⟨9, _⟩ => ⟨S32x4096x64, .f32⟩
  | .hbm, ⟨10, _⟩ => ⟨S4x8x4096x64, .f32⟩
  | .hbm, ⟨11, _⟩ => ⟨S4096x4x64, .f32⟩
  | .hbm, ⟨12, _⟩ => ⟨S4x4096x64, .f32⟩
  | .hbm, ⟨13, _⟩ => ⟨S4096x4x64, .f32⟩
  | .hbm, ⟨14, _⟩ => ⟨S4x4096x64, .f32⟩
  | .hbm, ⟨15, _⟩ => ⟨S4096x32x64, .f32⟩
  | .hbm, ⟨16, _⟩ => ⟨S32x4096x64, .f32⟩
  | .hbm, ⟨17, _⟩ => ⟨S4x8x4096x64, .f32⟩
  | .hbm, ⟨18, _⟩ => ⟨S4x8x4096x64, .f32⟩
  | .hbm, ⟨19, _⟩ => ⟨S4x32x128x64, .f32⟩
  | .hbm, ⟨20, _⟩ => ⟨S4x32x128x64, .f32⟩
  | .hbm, ⟨21, _⟩ => ⟨S4x32x128x64, .f32⟩
  | .hbm, ⟨22, _⟩ => ⟨S4x32x128x64, .f32⟩
  | .hbm, ⟨23, _⟩ => ⟨S4x1x8, .f32⟩
  | .local _ .vmem, ⟨0, _⟩ => ⟨S1x8x128x64, .f32⟩
  | .local _ .vmem, ⟨1, _⟩ => ⟨S1x8x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x1x1024, .f32⟩
  | .local _ .vmem, ⟨11, _⟩ => ⟨S1x1x1024, .f32⟩
  | .local _ .vmem, ⟨12, _⟩ => ⟨S1x8x128x64, .f32⟩
  | .local _ .vmem, ⟨13, _⟩ => ⟨S1x8x128x64, .f32⟩
  | .local _ .vmem, ⟨14, _⟩ => ⟨S1x8x128x64, .f32⟩
  | .local _ .vmem, ⟨15, _⟩ => ⟨S1x8x128x64, .f32⟩
  | .local _ .vmem, ⟨16, _⟩ => ⟨S1x1x128x64, .f32⟩
  | .local _ .vmem, ⟨17, _⟩ => ⟨S1x1x128x64, .f32⟩
  | .local _ .vmem, ⟨18, _⟩ => ⟨S1x1x128x64, .f32⟩
  | .local _ .vmem, ⟨19, _⟩ => ⟨S1x1x128x64, .f32⟩
  | .local _ .vmem, ⟨20, _⟩ => ⟨S1x1x128x64, .f32⟩
  | .local _ .vmem, ⟨21, _⟩ => ⟨S1x1x128x64, .f32⟩
  | .local _ .vmem, ⟨22, _⟩ => ⟨S1x1x128x64, .f32⟩
  | .local _ .vmem, ⟨23, _⟩ => ⟨S1x1x128x64, .f32⟩
  | .local _ .vmem, ⟨24, _⟩ => ⟨S1x1x8, .f32⟩
  | .local _ .vmem, ⟨25, _⟩ => ⟨S1x1x8, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S4096x256 : Shape := ⟨2, ![4096, 256]⟩
abbrev S1x32 : Shape := ⟨2, ![1, 32]⟩
abbrev S32x128x4x64 : Shape := ⟨4, ![32, 128, 4, 64]⟩
abbrev S_ : Shape := ⟨0, ![]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x128x4x8x64 : Shape := ⟨5, ![32, 128, 4, 8, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S4x8 : Shape := ⟨2, ![4, 8]⟩
abbrev S1x4x8x1x1 : Shape := ⟨5, ![1, 4, 8, 1, 1]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩
abbrev S32x4x64x256 : Shape := ⟨4, ![32, 4, 64, 256]⟩
abbrev S4x8x1 : Shape := ⟨3, ![4, 8, 1]⟩
abbrev S32x4x128x8x64 : Shape := ⟨5, ![32, 4, 128, 8, 64]⟩
abbrev S32x4x256x64 : Shape := ⟨4, ![32, 4, 256, 64]⟩
abbrev S4096x4x8x64 : Shape := ⟨4, ![4096, 4, 8, 64]⟩
abbrev S4x8x4096x64 : Shape := ⟨4, ![4, 8, 4096, 64]⟩
abbrev S4x32x256x64 : Shape := ⟨4, ![4, 32, 256, 64]⟩
abbrev S4x32x128x64 : Shape := ⟨4, ![4, 32, 128, 64]⟩
abbrev S4x1x8 : Shape := ⟨3, ![4, 1, 8]⟩

abbrev nBuf : Space → Nat
  | .hbm => 181
  | .vmem => 0
  | .smem => 0
  | _ => 0

abbrev hbmTy0_0 (i : Nat) : BufTy := match i % 128 with
  | 0 => ⟨S4096x2048, .f32⟩
  | 1 => ⟨S4096x256, .f32⟩
  | 2 => ⟨S4096x256, .f32⟩
  | 3 => ⟨S1x32, .f32⟩
  | 4 => ⟨S4096x2048, .f32⟩
  | 5 => ⟨S32x128x4x64, .f32⟩
  | 6 => ⟨S_, .f32⟩
  | 7 => ⟨S1x128x4x64, .f32⟩
  | 8 => ⟨S31x128x4x64, .f32⟩
  | 9 => ⟨S32x128x4x64, .f32⟩
  | 10 => ⟨S32x256x4x64, .f32⟩
  | 11 => ⟨S32x128x4x64, .f32⟩
  | 12 => ⟨S_, .f32⟩
  | 13 => ⟨S1x128x4x64, .f32⟩
  | 14 => ⟨S31x128x4x64, .f32⟩
  | 15 => ⟨S32x128x4x64, .f32⟩
  | 16 => ⟨S32x256x4x64, .f32⟩
  | 17 => ⟨S32x128x4x8x64, .f32⟩
  | 18 => ⟨S32x4x256x128x8, .f32⟩
  | 19 => ⟨S32x4x8x128x256, .f32⟩
  | 20 => ⟨S_, .f32⟩
  | 21 => ⟨S32x4x8x128x256, .f32⟩
  | 22 => ⟨S32x4x8x128x256, .f32⟩
  | 23 => ⟨S128, .i32⟩
  | 24 => ⟨S128x1, .i32⟩
  | 25 => ⟨S256, .i32⟩
  | 26 => ⟨S1x256, .i32⟩
  | 27 => ⟨S128x256, .i32⟩
  | 28 => ⟨S128x256, .i32⟩
  | 29 => ⟨S128x256, .i1⟩
  | 30 => ⟨S_, .i32⟩
  | 31 => ⟨S128x1, .i32⟩
  | 32 => ⟨S128x1, .i32⟩
  | 33 => ⟨S128x256, .i32⟩
  | 34 => ⟨S128x256, .i32⟩
  | 35 => ⟨S128x256, .i1⟩
  | 36 => ⟨S128x256, .i1⟩
  | 37 => ⟨S32, .i32⟩
  | 38 => ⟨S32x1x1, .i32⟩
  | 39 => ⟨S_, .i32⟩
  | 40 => ⟨S32x1x1, .i32⟩
  | 41 => ⟨S32x1x1, .i1⟩
  | 42 => ⟨S1x1x256, .i32⟩
  | 43 => ⟨S_, .i32⟩
  | 44 => ⟨S1x1x256, .i32⟩
  | 45 => ⟨S1x1x256, .i1⟩
  | 46 => ⟨S32x1x256, .i1⟩
  | 47 => ⟨S32x1x256, .i1⟩
  | 48 => ⟨S32x1x256, .i1⟩
  | 49 => ⟨S1x128x256, .i1⟩
  | 50 => ⟨S32x128x256, .i1⟩
  | 51 => ⟨S32x128x256, .i1⟩
  | 52 => ⟨S32x128x256, .i1⟩
  | 53 => ⟨S32x1x1x128x256, .i1⟩
  | 54 => ⟨S32x4x8x128x256, .i1⟩
  | 55 => ⟨S_, .f32⟩
  | 56 => ⟨S32x4x8x128x256, .f32⟩
  | 57 => ⟨S32x4x8x128x256, .f32⟩
  | 58 => ⟨S_, .f32⟩
  | 59 => ⟨S32x4x8x128x256, .f32⟩
  | 60 => ⟨S4x8, .f32⟩
  | 61 => ⟨S1x4x8x1x1, .f32⟩
  | 62 => ⟨S_, .f32⟩
  | 63 => ⟨S32x4x8x128, .f32⟩
  | 64 => ⟨S32x4x8x128x1, .f32⟩
  | 65 => ⟨S32x4x8x128x256, .f32⟩
  | 66 => ⟨S32x4x8x128x256, .i1⟩
  | 67 => ⟨S32x4x8x128x256, .f32⟩
  | 68 => ⟨S_, .f32⟩
  | 69 => ⟨S32x4x8x128, .f32⟩
  | 70 => ⟨S32x4x8x128x1, .f32⟩
  | 71 => ⟨S32x4x8x128x1, .f32⟩
  | 72 => ⟨S32x4x8x128x1, .f32⟩
  | 73 => ⟨S32x4x8x128x1, .f32⟩
  | 74 => ⟨S32x4x8x128x1, .i1⟩
  | 75 => ⟨S32x4x8x128x1, .f32⟩
  | 76 => ⟨S32x4x8x128x1, .i1⟩
  | 77 => ⟨S_, .f32⟩
  | 78 => ⟨S32x4x8x128x1, .f32⟩
  | 79 => ⟨S_, .f32⟩
  | 80 => ⟨S32x4x8x128x1, .f32⟩
  | 81 => ⟨S_, .f32⟩
  | 82 => ⟨S32x4x8x128x1, .f32⟩
  | 83 => ⟨S32x4x8x128x1, .f32⟩
  | 84 => ⟨S32x4x8x128x1, .f32⟩
  | 85 => ⟨S32x4x8x128x1, .f32⟩
  | 86 => ⟨S32x4x8x128x1, .i1⟩
  | 87 => ⟨S32x4x8x128x1, .f32⟩
  | 88 => ⟨S32x4x8x128x1, .i1⟩
  | 89 => ⟨S_, .f32⟩
  | 90 => ⟨S32x4x8x128x1, .f32⟩
  | 91 => ⟨S_, .f32⟩
  | 92 => ⟨S32x4x8x128x1, .f32⟩
  | 93 => ⟨S_, .f32⟩
  | 94 => ⟨S32x4x8x128x1, .f32⟩
  | 95 => ⟨S32x4x8x128x1, .f32⟩
  | 96 => ⟨S32x4x8x128x1, .f32⟩
  | 97 => ⟨S32x4x8x128x256, .f32⟩
  | 98 => ⟨S32x4x8x128x256, .f32⟩
  | 99 => ⟨S32x4x8x128x256, .f32⟩
  | 100 => ⟨S_, .f32⟩
  | 101 => ⟨S32x4x8x128, .f32⟩
  | 102 => ⟨S32x4x8x128x1, .f32⟩
  | 103 => ⟨S32x4x8x128x1, .f32⟩
  | 104 => ⟨S32x4x8x128x1, .f32⟩
  | 105 => ⟨S32x4x8x128x1, .f32⟩
  | 106 => ⟨S32x4x8x128x1, .f32⟩
  | 107 => ⟨S32x4x8x128x256, .f32⟩
  | 108 => ⟨S32x4x8x128x256, .f32⟩
  | 109 => ⟨S32x4x8x128x1, .f32⟩
  | 110 => ⟨S_, .f32⟩
  | 111 => ⟨S32x4x8x128x1, .f32⟩
  | 112 => ⟨S32x4x8x128x1, .f32⟩
  | 113 => ⟨S32x4x64x8x128, .f32⟩
  | 114 => ⟨S32x128x4x8x64, .f32⟩
  | 115 => ⟨S4096x2048, .f32⟩
  | 116 => ⟨S32x128x4x8x64, .f32⟩
  | 117 => ⟨S32x4x64x8x128, .f32⟩
  | 118 => ⟨S32x4x8x128x256, .f32⟩
  | 119 => ⟨S32x4x64x256, .f32⟩
  | 120 => ⟨S32x256x4x64, .f32⟩
  | 121 => ⟨S32x4x8x128x256, .f32⟩
  | 122 => ⟨S32x4x8x128x256, .f32⟩
  | 123 => ⟨S32x4x8x128x256, .f32⟩
  | 124 => ⟨S_, .f32⟩
  | 125 => ⟨S32x4x8x128, .f32⟩
  | 126 => ⟨S32x4x8x128x1, .f32⟩
  | 127 => ⟨S32x4x8x128x1, .f32⟩
  | _ => ⟨S4096x2048, .f32⟩

abbrev hbmTy0_1 (i : Nat) : BufTy := match i % 128 with
  | 0 => ⟨S32x4x8x128x256, .f32⟩
  | 1 => ⟨S32x4x8x128x256, .f32⟩
  | 2 => ⟨S32x4x8x128x1, .f32⟩
  | 3 => ⟨S_, .f32⟩
  | 4 => ⟨S4x8x1, .f32⟩
  | 5 => ⟨S1x4x8x1x1, .f32⟩
  | 6 => ⟨S32x4x8x128x1, .f32⟩
  | 7 => ⟨S_, .f32⟩
  | 8 => ⟨S32x4x8x128, .f32⟩
  | 9 => ⟨S32x4x8x128x256, .f32⟩
  | 10 => ⟨S32x4x8x128x256, .f32⟩
  | 11 => ⟨S32x4x8x128x256, .f32⟩
  | 12 => ⟨S32x4x8x128x256, .f32⟩
  | 13 => ⟨S_, .f32⟩
  | 14 => ⟨S32x4x8x128, .f32⟩
  | 15 => ⟨S32x4x8x128x1, .f32⟩
  | 16 => ⟨S32x4x8x128x1, .f32⟩
  | 17 => ⟨S32x4x8x128x1, .f32⟩
  | 18 => ⟨S_, .f32⟩
  | 19 => ⟨S4x8x1, .f32⟩
  | 20 => ⟨S1x4x8x1x1, .f32⟩
  | 21 => ⟨S1x4x8x1x1, .f32⟩
  | 22 => ⟨S32x4x8x128x1, .f32⟩
  | 23 => ⟨S_, .f32⟩
  | 24 => ⟨S32x4x8x128, .f32⟩
  | 25 => ⟨S32x4x8x128, .f32⟩
  | 26 => ⟨S32x4x8x128x256, .f32⟩
  | 27 => ⟨S32x4x8x128x256, .f32⟩
  | 28 => ⟨S32x4x8x128x256, .f32⟩
  | 29 => ⟨S_, .f32⟩
  | 30 => ⟨S4x8, .f32⟩
  | 31 => ⟨S1x32, .f32⟩
  | 32 => ⟨S_, .f32⟩
  | 33 => ⟨S32x4x8x128x256, .f32⟩
  | 34 => ⟨S32x4x8x128x256, .f32⟩
  | 35 => ⟨S_, .f32⟩
  | 36 => ⟨S32x4x8x128x256, .f32⟩
  | 37 => ⟨S32x4x8x128x256, .f32⟩
  | 38 => ⟨S32x4x256x128x8, .f32⟩
  | 39 => ⟨S32x4x128x8x64, .f32⟩
  | 40 => ⟨S32x128x4x8x64, .f32⟩
  | 41 => ⟨S32x4x256x64, .f32⟩
  | 42 => ⟨S32x256x4x64, .f32⟩
  | 43 => ⟨S4096x2048, .f32⟩
  | 44 => ⟨S4096x4x8x64, .f32⟩
  | 45 => ⟨S4x8x4096x64, .f32⟩
  | 46 => ⟨S4x32x256x64, .f32⟩
  | 47 => ⟨S4x32x256x64, .f32⟩
  | 48 => ⟨S4x32x128x64, .f32⟩
  | 49 => ⟨S4x32x128x64, .f32⟩
  | 50 => ⟨S4x32x128x64, .f32⟩
  | 51 => ⟨S4x32x128x64, .f32⟩
  | 52 => ⟨S4x1x8, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_cst_12 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_14 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_15 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_16 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_17 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_18 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_19 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_20 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_cst_21 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_22 : Ref sig .tc := ⟨.hbm, 157, rfl⟩
abbrev main_v128 : Ref sig .tc := ⟨.hbm, 158, rfl⟩
abbrev main_v129 : Ref sig .tc := ⟨.hbm, 159, rfl⟩
abbrev main_cst_23 : Ref sig .tc := ⟨.hbm, 160, rfl⟩
abbrev main_v130 : Ref sig .tc := ⟨.hbm, 161, rfl⟩
abbrev main_v131 : Ref sig .tc := ⟨.hbm, 162, rfl⟩
abbrev main_cst_24 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩

abbrev nD : Nat := 1
abbrev τ : Topo := Topo.v7x

variable {F : FTy → Type} [FloatOps F]
-- ==== KernelDact.lean ====
abbrev S4096x5504 : Shape := ⟨2, ![4096, 5504]⟩
abbrev S5504x2048 : Shape := ⟨2, ![5504, 2048]⟩
abbrev S4096x2048 : Shape := ⟨2, ![4096, 2048]⟩
abbrev S4096x8x688 : Shape := ⟨3, ![4096, 8, 688]⟩
abbrev S8x4096x688 : Shape := ⟨3, ![8, 4096, 688]⟩
abbrev S1x8x4096x688 : Shape := ⟨4, ![1, 8, 4096, 688]⟩
abbrev S2x8x4096x688 : Shape := ⟨4, ![2, 8, 4096, 688]⟩
abbrev S8x688x2048 : Shape := ⟨3, ![8, 688, 2048]⟩
abbrev S512x2048 : Shape := ⟨2, ![512, 2048]⟩
abbrev S1x688x2048 : Shape := ⟨3, ![1, 688, 2048]⟩
abbrev S2x1x512x688 : Shape := ⟨4, ![2, 1, 512, 688]⟩
abbrev S688x2048 : Shape := ⟨2, ![688, 2048]⟩
abbrev S512x688 : Shape := ⟨2, ![512, 688]⟩
abbrev S1x1x512x688 : Shape := ⟨4, ![1, 1, 512, 688]⟩

abbrev nBuf : Space → Nat
  | .hbm => 15
  | .vmem => 8
  | .smem => 0
  | _ => 0

abbrev bufTy : (tb : Table) → Fin (tcTables nBuf tb) → BufTy
  | .hbm, ⟨0, _⟩ => ⟨S4096x5504, .f32⟩
  | .hbm, ⟨1, _⟩ => ⟨S4096x5504, .f32⟩
  | .hbm, ⟨2, _⟩ => ⟨S5504x2048, .f32⟩
  | .hbm, ⟨3, _⟩ => ⟨S4096x2048, .f32⟩
  | .hbm, ⟨4, _⟩ => ⟨S4096x8x688, .f32⟩
  | .hbm, ⟨5, _⟩ => ⟨S8x4096x688, .f32⟩
  | .hbm, ⟨6, _⟩ => ⟨S4096x8x688, .f32⟩
  | .hbm, ⟨7, _⟩ => ⟨S8x4096x688, .f32⟩
  | .hbm, ⟨8, _⟩ => ⟨S1x8x4096x688, .f32⟩
  | .hbm, ⟨9, _⟩ => ⟨S1x8x4096x688, .f32⟩
  | .hbm, ⟨10, _⟩ => ⟨S2x8x4096x688, .f32⟩
  | .hbm, ⟨11, _⟩ => ⟨S4096x2048, .bf16⟩
  | .hbm, ⟨12, _⟩ => ⟨S5504x2048, .bf16⟩
  | .hbm, ⟨13, _⟩ => ⟨S8x688x2048, .bf16⟩
  | .hbm, ⟨14, _⟩ => ⟨S2x8x4096x688, .bf16⟩
  | .local _ .vmem, ⟨0, _⟩ => ⟨S512x2048, .bf16⟩
  | .local _ .vmem, ⟨1, _⟩ => ⟨S512x2048, .bf16⟩
  | .local _ .vmem, ⟨2, _⟩ => ⟨S1x688x2048, .bf16⟩
  | .local _ .vmem, ⟨3, _⟩ => ⟨S1x688x2048, .bf16⟩
  | .local _ .vmem, ⟨4, _⟩ => ⟨S2x1x512x688, .f32⟩
  | .local _ .vmem, ⟨5, _⟩ => ⟨S2x1x512x688, .f32⟩
  | .local _ .vmem, ⟨6, _⟩ => ⟨S2x1x512x688, .bf16⟩
  | .local _ .vmem, ⟨7, _⟩ => ⟨S2x1x512x688, .bf16⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x688x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x512x688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDactIdeal.lean ====
abbrev S4096x5504 : Shape := ⟨2, ![4096, 5504]⟩
abbrev S5504x2048 : Shape := ⟨2, ![5504, 2048]⟩
abbrev S4096x2048 : Shape := ⟨2, ![4096, 2048]⟩
abbrev S_ : Shape := ⟨0, ![]⟩
abbrev S4096x8x688 : Shape := ⟨3, ![4096, 8, 688]⟩
abbrev S8x4096x688 : Shape := ⟨3, ![8, 4096, 688]⟩
abbrev S1x8x4096x688 : Shape := ⟨4, ![1, 8, 4096, 688]⟩
abbrev S2x8x4096x688 : Shape := ⟨4, ![2, 8, 4096, 688]⟩

abbrev nBuf : Space → Nat
  | .hbm => 34
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S4096x5504, .f32⟩
  | .hbm, ⟨2, _⟩ => ⟨S5504x2048, .f32⟩
  | .hbm, ⟨3, _⟩ => ⟨S4096x2048, .f32⟩
  | .hbm, ⟨4, _⟩ => ⟨S4096x5504, .f32⟩
  | .hbm, ⟨5, _⟩ => ⟨S4096x5504, .f32⟩
  | .hbm, ⟨6, _⟩ => ⟨S_, .f32⟩
  | .hbm, ⟨7, _⟩ => ⟨S4096x5504, .f32⟩
  | .hbm, ⟨8, _⟩ => ⟨S4096x5504, .f32⟩
  | .hbm, ⟨9, _⟩ => ⟨S_, .f32⟩
  | .hbm, ⟨10, _⟩ => ⟨S4096x5504, .f32⟩
  | .hbm, ⟨11, _⟩ => ⟨S4096x5504, .f32⟩
  | .hbm, ⟨12, _⟩ => ⟨S_, .f32⟩
  | .hbm, ⟨13, _⟩ => ⟨S4096x5504, .f32⟩
  | .hbm, ⟨14, _⟩ => ⟨S4096x5504, .f32⟩
  | .hbm, ⟨15, _⟩ => ⟨S4096x5504, .f32⟩
  | .hbm, ⟨16, _⟩ => ⟨S4096x5504, .f32⟩
  | .hbm, ⟨17, _⟩ => ⟨S4096x5504, .f32⟩
  | .hbm, ⟨18, _⟩ => ⟨S4096x2048, .f32⟩
  | .hbm, ⟨19, _⟩ => ⟨S4096x5504, .f32⟩
  | .hbm, ⟨20, _⟩ => ⟨S4096x5504, .f32⟩
  | .hbm, ⟨21, _⟩ => ⟨S4096x5504, .f32⟩
  | .hbm, ⟨22, _⟩ => ⟨S4096x5504, .f32⟩
  | .hbm, ⟨23, _⟩ => ⟨S4096x5504, .f32⟩
  | .hbm, ⟨24, _⟩ => ⟨S4096x5504, .f32⟩
  | .hbm, ⟨25, _⟩ => ⟨S4096x5504, .f32⟩
  | .hbm, ⟨26, _⟩ => ⟨S4096x8x688, .f32⟩
  | .hbm, ⟨27, _⟩ => ⟨S8x4096x688, .f32⟩
  | .hbm, ⟨28, _⟩ => ⟨S4096x8x688, .f32⟩
  | .hbm, ⟨29, _⟩ => ⟨S8x4096x688, .f32⟩
  | .hbm, ⟨30, _⟩ => ⟨S1x8x4096x688, .f32⟩
  | .hbm, ⟨31, _⟩ => ⟨S1x8x4096x688, .f32⟩
  | .hbm, ⟨32, _⟩ => ⟨S2x8x4096x688, .f32⟩
  | .hbm, ⟨33, _⟩ => ⟨S2x8x4096x688, .bf16⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== KernelIn.lean ====
abbrev S4096x2048 : Shape := ⟨2, ![4096, 2048]⟩
abbrev S2048x11008 : Shape := ⟨2, ![2048, 11008]⟩
abbrev S2048x16x688 : Shape := ⟨3, ![2048, 16, 688]⟩
abbrev S16x2048x688 : Shape := ⟨3, ![16, 2048, 688]⟩
abbrev S2x8x4096x688 : Shape := ⟨4, ![2, 8, 4096, 688]⟩
abbrev S8x4096x688 : Shape := ⟨3, ![8, 4096, 688]⟩
abbrev S8x688x4096 : Shape := ⟨3, ![8, 688, 4096]⟩
abbrev S512x2048 : Shape := ⟨2, ![512, 2048]⟩
abbrev S1x2048x688 : Shape := ⟨3, ![1, 2048, 688]⟩
abbrev S2x1x512x688 : Shape := ⟨4, ![2, 1, 512, 688]⟩
abbrev S1x512x688 : Shape := ⟨3, ![1, 512, 688]⟩
abbrev S1x688x512 : Shape := ⟨3, ![1, 688, 512]⟩
abbrev S2048x688 : Shape := ⟨2, ![2048, 688]⟩
abbrev S512x688 : Shape := ⟨2, ![512, 688]⟩
abbrev S1x1x512x688 : Shape := ⟨4, ![1, 1, 512, 688]⟩
abbrev S688x512 : Shape := ⟨2, ![688, 512]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S2048x11008, .bf16⟩
  | .hbm, ⟨3, _⟩ => ⟨S2048x16x688, .bf16⟩
  | .hbm, ⟨4, _⟩ => ⟨S16x2048x688, .bf16⟩
  | .hbm, ⟨5, _⟩ => ⟨S4096x2048, .bf16⟩
  | .hbm, ⟨6, _⟩ => ⟨S2x8x4096x688, .f32⟩
  | .hbm, ⟨7, _⟩ => ⟨S8x4096x688, .bf16⟩
  | .hbm, ⟨8, _⟩ => ⟨S8x688x4096, .bf16⟩
  | .local _ .vmem, ⟨0, _⟩ => ⟨S512x2048, .bf16⟩
  | .local _ .vmem, ⟨1, _⟩ => ⟨S512x2048, .bf16⟩
  | .local _ .vmem, ⟨2, _⟩ => ⟨S1x2048x688, .bf16⟩
  | .local _ .vmem, ⟨3, _⟩ => ⟨S1x2048x688, .bf16⟩
  | .local _ .vmem, ⟨4, _⟩ => ⟨S1x2048x688, .bf16⟩
  | .local _ .vmem, ⟨5, _⟩ => ⟨S1x2048x688, .bf16⟩
  | .local _ .vmem, ⟨6, _⟩ => ⟨S2x1x512x688, .f32⟩
  | .local _ .vmem, ⟨7, _⟩ => ⟨S2x1x512x688, .f32⟩
  | .local _ .vmem, ⟨8, _⟩ => ⟨S1x512x688, .bf16⟩
  | .local _ .vmem, ⟨9, _⟩ => ⟨S1x512x688, .bf16⟩
  | .local _ .vmem, ⟨10, _⟩ => ⟨S1x688x512, .bf16⟩
  | .local _ .vmem, ⟨11, _⟩ => ⟨S1x688x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x512x688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x688x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceInIdeal.lean ====
abbrev S4096x2048 : Shape := ⟨2, ![4096, 2048]⟩
abbrev S2048x11008 : Shape := ⟨2, ![2048, 11008]⟩
abbrev S4096x11008 : Shape := ⟨2, ![4096, 11008]⟩
abbrev S4096x5504 : Shape := ⟨2, ![4096, 5504]⟩
abbrev S_ : Shape := ⟨0, ![]⟩
abbrev S4096x8x688 : Shape := ⟨3, ![4096, 8, 688]⟩
abbrev S8x4096x688 : Shape := ⟨3, ![8, 4096, 688]⟩
abbrev S1x8x4096x688 : Shape := ⟨4, ![1, 8, 4096, 688]⟩
abbrev S2x8x4096x688 : Shape := ⟨4, ![2, 8, 4096, 688]⟩
abbrev S8x688x4096 : Shape := ⟨3, ![8, 688, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S4096x11008, .f32⟩
  | .hbm, ⟨3, _⟩ => ⟨S4096x5504, .f32⟩
  | .hbm, ⟨4, _⟩ => ⟨S4096x5504, .f32⟩
  | .hbm, ⟨5, _⟩ => ⟨S4096x5504, .f32⟩
  | .hbm, ⟨6, _⟩ => ⟨S4096x5504, .f32⟩
  | .hbm, ⟨7, _⟩ => ⟨S_, .f32⟩
  | .hbm, ⟨8, _⟩ => ⟨S4096x5504, .f32⟩
  | .hbm, ⟨9, _⟩ => ⟨S4096x5504, .f32⟩
  | .hbm, ⟨10, _⟩ => ⟨S_, .f32⟩
  | .hbm, ⟨11, _⟩ => ⟨S4096x5504, .f32⟩
  | .hbm, ⟨12, _⟩ => ⟨S4096x5504, .f32⟩
  | .hbm, ⟨13, _⟩ => ⟨S4096x5504, .f32⟩
  | .hbm, ⟨14, _⟩ => ⟨S4096x5504, .f32⟩
  | .hbm, ⟨15, _⟩ => ⟨S4096x8x688, .f32⟩
  | .hbm, ⟨16, _⟩ => ⟨S8x4096x688, .f32⟩
  | .hbm, ⟨17, _⟩ => ⟨S8x4096x688, .bf16⟩
  | .hbm, ⟨18, _⟩ => ⟨S4096x8x688, .f32⟩
  | .hbm, ⟨19, _⟩ => ⟨S8x4096x688, .f32⟩
  | .hbm, ⟨20, _⟩ => ⟨S4096x8x688, .f32⟩
  | .hbm, ⟨21, _⟩ => ⟨S8x4096x688, .f32⟩
  | .hbm, ⟨22, _⟩ => ⟨S1x8x4096x688, .f32⟩
  | .hbm, ⟨23, _⟩ => ⟨S1x8x4096x688, .f32⟩
  | .hbm, ⟨24, _⟩ => ⟨S2x8x4096x688, .f32⟩
  | .hbm, ⟨25, _⟩ => ⟨S8x688x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== KernelDwout.lean ====
abbrev S4096x5504 : Shape := ⟨2, ![4096, 5504]⟩
abbrev S4096x2048 : Shape := ⟨2, ![4096, 2048]⟩
abbrev S5504x4096 : Shape := ⟨2, ![5504, 4096]⟩
abbrev S1x5504x4096 : Shape := ⟨3, ![1, 5504, 4096]⟩
abbrev S1x1x4096x2048 : Shape := ⟨4, ![1, 1, 4096, 2048]⟩
abbrev S5504x2048 : Shape := ⟨2, ![5504, 2048]⟩
abbrev S1x688x4096 : Shape := ⟨3, ![1, 688, 4096]⟩
abbrev S1x1x4096x1024 : Shape := ⟨4, ![1, 1, 4096, 1024]⟩
abbrev S688x1024 : Shape := ⟨2, ![688, 1024]⟩
abbrev S688x4096 : Shape := ⟨2, ![688, 4096]⟩
abbrev S4096x1024 : Shape := ⟨2, ![4096, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x5504, .f32⟩
  | .hbm, ⟨1, _⟩ => ⟨S4096x2048, .f32⟩
  | .hbm, ⟨2, _⟩ => ⟨S4096x5504, .bf16⟩
  | .hbm, ⟨3, _⟩ => ⟨S5504x4096, .bf16⟩
  | .hbm, ⟨4, _⟩ => ⟨S1x5504x4096, .bf16⟩
  | .hbm, ⟨5, _⟩ => ⟨S4096x2048, .bf16⟩
  | .hbm, ⟨6, _⟩ => ⟨S1x1x4096x2048, .bf16⟩
  | .hbm, ⟨7, _⟩ => ⟨S5504x2048, .bf16⟩
  | .local _ .vmem, ⟨0, _⟩ => ⟨S1x688x4096, .bf16⟩
  | .local _ .vmem, ⟨1, _⟩ => ⟨S1x688x4096, .bf16⟩
  | .local _ .vmem, ⟨2, _⟩ => ⟨S1x1x4096x1024, .bf16⟩
  | .local _ .vmem, ⟨3, _⟩ => ⟨S1x1x4096x1024, .bf16⟩
  | .local _ .vmem, ⟨4, _⟩ => ⟨S688x1024, .bf16⟩
  | .local _ .vmem, ⟨5, _⟩ => ⟨S688x1024, .bf16⟩
  | .local _ .vmem, ⟨6, _⟩ => ⟨S688x1024, .f32⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg0 c2_i32
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg0 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg2 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwoutIdeal.lean ====
abbrev S4096x5504 : Shape := ⟨2, ![4096, 5504]⟩
abbrev S4096x2048 : Shape := ⟨2, ![4096, 2048]⟩
abbrev S_ : Shape := ⟨0, ![]⟩
abbrev S5504x2048 : Shape := ⟨2, ![5504, 2048]⟩
abbrev S2048x5504 : Shape := ⟨2, ![2048, 5504]⟩

abbrev nBuf : Space → Nat
  | .hbm => 8
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S4096x2048, .f32⟩
  | .hbm, ⟨2, _⟩ => ⟨S_, .f32⟩
  | .hbm, ⟨3, _⟩ => ⟨S5504x2048, .f32⟩
  | .hbm, ⟨4, _⟩ => ⟨S4096x2048, .f32⟩
  | .hbm, ⟨5, _⟩ => ⟨S2048x5504, .f32⟩
  | .hbm, ⟨6, _⟩ => ⟨S5504x2048, .f32⟩
  | .hbm, ⟨7, _⟩ => ⟨S5504x2048, .bf16⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwinLo.lean ====
abbrev S4096x2048 : Shape := ⟨2, ![4096, 2048]⟩
abbrev S4096x11008 : Shape := ⟨2, ![4096, 11008]⟩
abbrev S2048x4096 : Shape := ⟨2, ![2048, 4096]⟩
abbrev S2x1024x4096 : Shape := ⟨3, ![2, 1024, 4096]⟩
abbrev S4096x16x688 : Shape := ⟨3, ![4096, 16, 688]⟩
abbrev S16x4096x688 : Shape := ⟨3, ![16, 4096, 688]⟩
abbrev S1x16x4096x688 : Shape := ⟨4, ![1, 16, 4096, 688]⟩
abbrev S16x1024x688 : Shape := ⟨3, ![16, 1024, 688]⟩
abbrev S1x512x4096 : Shape := ⟨3, ![1, 512, 4096]⟩
abbrev S1x1x4096x688 : Shape := ⟨4, ![1, 1, 4096, 688]⟩
abbrev S1x512x688 : Shape := ⟨3, ![1, 512, 688]⟩
abbrev S512x688 : Shape := ⟨2, ![512, 688]⟩
abbrev S512x4096 : Shape := ⟨2, ![512, 4096]⟩
abbrev S4096x688 : Shape := ⟨2, ![4096, 688]⟩

abbrev nBuf : Space → Nat
  | .hbm => 10
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x11008, .f32⟩
  | .hbm, ⟨2, _⟩ => ⟨S4096x2048, .bf16⟩
  | .hbm, ⟨3, _⟩ => ⟨S2048x4096, .bf16⟩
  | .hbm, ⟨4, _⟩ => ⟨S2x1024x4096, .bf16⟩
  | .hbm, ⟨5, _⟩ => ⟨S4096x11008, .bf16⟩
  | .hbm, ⟨6, _⟩ => ⟨S4096x16x688, .bf16⟩
  | .hbm, ⟨7, _⟩ => ⟨S16x4096x688, .bf16⟩
  | .hbm, ⟨8, _⟩ => ⟨S1x16x4096x688, .bf16⟩
  | .hbm, ⟨9, _⟩ => ⟨S16x1024x688, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x1x4096x688, .bf16⟩
  | .local _ .vmem, ⟨3, _⟩ => ⟨S1x1x4096x688, .bf16⟩
  | .local _ .vmem, ⟨4, _⟩ => ⟨S1x512x688, .bf16⟩
  | .local _ .vmem, ⟨5, _⟩ => ⟨S1x512x688, .bf16⟩
  | .local _ .vmem, ⟨6, _⟩ => ⟨S512x688, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg2 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x4096x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwinLoIdeal.lean ====
abbrev S4096x2048 : Shape := ⟨2, ![4096, 2048]⟩
abbrev S4096x11008 : Shape := ⟨2, ![4096, 11008]⟩
abbrev S_ : Shape := ⟨0, ![]⟩
abbrev S2048x11008 : Shape := ⟨2, ![2048, 11008]⟩
abbrev S11008x2048 : Shape := ⟨2, ![11008, 2048]⟩
abbrev S2048x16x688 : Shape := ⟨3, ![2048, 16, 688]⟩
abbrev S16x2048x688 : Shape := ⟨3, ![16, 2048, 688]⟩
abbrev S16x1024x688 : Shape := ⟨3, ![16, 1024, 688]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11008, .f32⟩
  | .hbm, ⟨2, _⟩ => ⟨S_, .f32⟩
  | .hbm, ⟨3, _⟩ => ⟨S2048x11008, .f32⟩
  | .hbm, ⟨4, _⟩ => ⟨S4096x11008, .f32⟩
  | .hbm, ⟨5, _⟩ => ⟨S11008x2048, .f32⟩
  | .hbm, ⟨6, _⟩ => ⟨S2048x11008, .f32⟩
  | .hbm, ⟨7, _⟩ => ⟨S2048x16x688, .f32⟩
  | .hbm, ⟨8, _⟩ => ⟨S16x2048x688, .f32⟩
  | .hbm, ⟨9, _⟩ => ⟨S16x2048x688, .bf16⟩
  | .hbm, ⟨10, _⟩ => ⟨S16x1024x688, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDwinHi.lean ====
abbrev S4096x2048 : Shape := ⟨2, ![4096, 2048]⟩
abbrev S4096x11008 : Shape := ⟨2, ![4096, 11008]⟩
abbrev S2048x4096 : Shape := ⟨2, ![2048, 4096]⟩
abbrev S2x1024x4096 : Shape := ⟨3, ![2, 1024, 4096]⟩
abbrev S4096x16x688 : Shape := ⟨3, ![4096, 16, 688]⟩
abbrev S16x4096x688 : Shape := ⟨3, ![16, 4096, 688]⟩
abbrev S1x16x4096x688 : Shape := ⟨4, ![1, 16, 4096, 688]⟩
abbrev S16x1024x688 : Shape := ⟨3, ![16, 1024, 688]⟩
abbrev S1x512x4096 : Shape := ⟨3, ![1, 512, 4096]⟩
abbrev S1x1x4096x688 : Shape := ⟨4, ![1, 1, 4096, 688]⟩
abbrev S1x512x688 : Shape := ⟨3, ![1, 512, 688]⟩
abbrev S512x688 : Shape := ⟨2, ![512, 688]⟩
abbrev S512x4096 : Shape := ⟨2, ![512, 4096]⟩
abbrev S4096x688 : Shape := ⟨2, ![4096, 688]⟩

abbrev nBuf : Space → Nat
  | .hbm => 10
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x11008, .f32⟩
  | .hbm, ⟨2, _⟩ => ⟨S4096x2048, .bf16⟩
  | .hbm, ⟨3, _⟩ => ⟨S2048x4096, .bf16⟩
  | .hbm, ⟨4, _⟩ => ⟨S2x1024x4096, .bf16⟩
  | .hbm, ⟨5, _⟩ => ⟨S4096x11008, .bf16⟩
  | .hbm, ⟨6, _⟩ => ⟨S4096x16x688, .bf16⟩
  | .hbm, ⟨7, _⟩ => ⟨S16x4096x688, .bf16⟩
  | .hbm, ⟨8, _⟩ => ⟨S1x16x4096x688, .bf16⟩
  | .hbm, ⟨9, _⟩ => ⟨S16x1024x688, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x1x4096x688, .bf16⟩
  | .local _ .vmem, ⟨3, _⟩ => ⟨S1x1x4096x688, .bf16⟩
  | .local _ .vmem, ⟨4, _⟩ => ⟨S1x512x688, .bf16⟩
  | .local _ .vmem, ⟨5, _⟩ => ⟨S1x512x688, .bf16⟩
  | .local _ .vmem, ⟨6, _⟩ => ⟨S512x688, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg2 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x4096x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwinHiIdeal.lean ====
abbrev S4096x2048 : Shape := ⟨2, ![4096, 2048]⟩
abbrev S4096x11008 : Shape := ⟨2, ![4096, 11008]⟩
abbrev S_ : Shape := ⟨0, ![]⟩
abbrev S2048x11008 : Shape := ⟨2, ![2048, 11008]⟩
abbrev S11008x2048 : Shape := ⟨2, ![11008, 2048]⟩
abbrev S2048x16x688 : Shape := ⟨3, ![2048, 16, 688]⟩
abbrev S16x2048x688 : Shape := ⟨3, ![16, 2048, 688]⟩
abbrev S16x1024x688 : Shape := ⟨3, ![16, 1024, 688]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11008, .f32⟩
  | .hbm, ⟨2, _⟩ => ⟨S_, .f32⟩
  | .hbm, ⟨3, _⟩ => ⟨S2048x11008, .f32⟩
  | .hbm, ⟨4, _⟩ => ⟨S4096x11008, .f32⟩
  | .hbm, ⟨5, _⟩ => ⟨S11008x2048, .f32⟩
  | .hbm, ⟨6, _⟩ => ⟨S2048x11008, .f32⟩
  | .hbm, ⟨7, _⟩ => ⟨S2048x16x688, .f32⟩
  | .hbm, ⟨8, _⟩ => ⟨S16x2048x688, .f32⟩
  | .hbm, ⟨9, _⟩ => ⟨S16x2048x688, .bf16⟩
  | .hbm, ⟨10, _⟩ => ⟨S16x1024x688, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDu.lean ====
abbrev S4096x11008 : Shape := ⟨2, ![4096, 11008]⟩
abbrev S2048x11008 : Shape := ⟨2, ![2048, 11008]⟩
abbrev S2048x16x688 : Shape := ⟨3, ![2048, 16, 688]⟩
abbrev S16x2048x688 : Shape := ⟨3, ![16, 2048, 688]⟩
abbrev S4096x16x688 : Shape := ⟨3, ![4096, 16, 688]⟩
abbrev S16x4096x688 : Shape := ⟨3, ![16, 4096, 688]⟩
abbrev S16x1x2048x688 : Shape := ⟨4, ![16, 1, 2048, 688]⟩
abbrev S4x4x4096x688 : Shape := ⟨4, ![4, 4, 4096, 688]⟩
abbrev S4x4x2048x688 : Shape := ⟨4, ![4, 4, 2048, 688]⟩
abbrev S4096x2048 : Shape := ⟨2, ![4096, 2048]⟩
abbrev S1x4x512x688 : Shape := ⟨4, ![1, 4, 512, 688]⟩
abbrev S1x4x1024x688 : Shape := ⟨4, ![1, 4, 1024, 688]⟩
abbrev S512x1024 : Shape := ⟨2, ![512, 1024]⟩
abbrev S1x1x512x688 : Shape := ⟨4, ![1, 1, 512, 688]⟩
abbrev S512x688 : Shape := ⟨2, ![512, 688]⟩
abbrev S1x1x1024x688 : Shape := ⟨4, ![1, 1, 1024, 688]⟩
abbrev S1024x688 : Shape := ⟨2, ![1024, 688]⟩

abbrev nBuf : Space → Nat
  | .hbm => 12
  | .vmem => 7
  | .smem => 0
  | _ => 0

abbrev bufTy : (tb : Table) → Fin (tcTables nBuf tb) → BufTy
  | .hbm, ⟨0, _⟩ => ⟨S4096x11008, .f32⟩
  | .hbm, ⟨1, _⟩ => ⟨S2048x11008, .f32⟩
  | .hbm, ⟨2, _⟩ => ⟨S2048x11008, .bf16⟩
  | .hbm, ⟨3, _⟩ => ⟨S2048x16x688, .bf16⟩
  | .hbm, ⟨4, _⟩ => ⟨S16x2048x688, .bf16⟩
  | .hbm, ⟨5, _⟩ => ⟨S4096x11008, .bf16⟩
  | .hbm, ⟨6, _⟩ => ⟨S4096x16x688, .bf16⟩
  | .hbm, ⟨7, _⟩ => ⟨S16x4096x688, .bf16⟩
  | .hbm, ⟨8, _⟩ => ⟨S16x1x2048x688, .bf16⟩
  | .hbm, ⟨9, _⟩ => ⟨S4x4x4096x688, .bf16⟩
  | .hbm, ⟨10, _⟩ => ⟨S4x4x2048x688, .bf16⟩
  | .hbm, ⟨11, _⟩ => ⟨S4096x2048, .f32⟩
  | .local _ .vmem, ⟨0, _⟩ => ⟨S1x4x512x688, .bf16⟩
  | .local _ .vmem, ⟨1, _⟩ => ⟨S1x4x512x688, .bf16⟩
  | .local _ .vmem, ⟨2, _⟩ => ⟨S1x4x1024x688, .bf16⟩
  | .local _ .vmem, ⟨3, _⟩ => ⟨S1x4x1024x688, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_34 : BitVec 32 := 0#32
  let v31 : BitVec 1 := Scalar.cmpi .ne v30 c0_i32_34
  v31

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x4x512x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4x1024x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDuIdeal.lean ====
abbrev S4096x11008 : Shape := ⟨2, ![4096, 11008]⟩
abbrev S2048x11008 : Shape := ⟨2, ![2048, 11008]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S2048x11008, .f32⟩
  | .hbm, ⟨2, _⟩ => ⟨S_, .f32⟩
  | .hbm, ⟨3, _⟩ => ⟨S4096x2048, .f32⟩
  | .hbm, ⟨4, _⟩ => ⟨S4096x11008, .f32⟩
  | .hbm, ⟨5, _⟩ => ⟨S4096x2048, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOut.lean ====
abbrev S4096x5504 : Shape := ⟨2, ![4096, 5504]⟩
abbrev S5504x2048 : Shape := ⟨2, ![5504, 2048]⟩
abbrev S4096x2048 : Shape := ⟨2, ![4096, 2048]⟩
abbrev S1x2048 : Shape := ⟨2, ![1, 2048]⟩
abbrev S8x1x688x2048 : Shape := ⟨4, ![8, 1, 688, 2048]⟩
abbrev S4096x8x688 : Shape := ⟨3, ![4096, 8, 688]⟩
abbrev S8x4096x688 : Shape := ⟨3, ![8, 4096, 688]⟩
abbrev S1x8x4096x688 : Shape := ⟨4, ![1, 8, 4096, 688]⟩
abbrev S1x8x688x2048 : Shape := ⟨4, ![1, 8, 688, 2048]⟩
abbrev S1x8x512x688 : Shape := ⟨4, ![1, 8, 512, 688]⟩
abbrev S1x8x688x1024 : Shape := ⟨4, ![1, 8, 688, 1024]⟩
abbrev S512x1024 : Shape := ⟨2, ![512, 1024]⟩
abbrev S1x1024 : Shape := ⟨2, ![1, 1024]⟩
abbrev S1x1x512x688 : Shape := ⟨4, ![1, 1, 512, 688]⟩
abbrev S512x688 : Shape := ⟨2, ![512, 688]⟩
abbrev S1x1x688x1024 : Shape := ⟨4, ![1, 1, 688, 1024]⟩
abbrev S688x1024 : Shape := ⟨2, ![688, 1024]⟩

abbrev nBuf : Space → Nat
  | .hbm => 13
  | .vmem => 13
  | .smem => 0
  | _ => 0

abbrev bufTy : (tb : Table) → Fin (tcTables nBuf tb) → BufTy
  | .hbm, ⟨0, _⟩ => ⟨S4096x5504, .f32⟩
  | .hbm, ⟨1, _⟩ => ⟨S5504x2048, .f32⟩
  | .hbm, ⟨2, _⟩ => ⟨S4096x2048, .f32⟩
  | .hbm, ⟨3, _⟩ => ⟨S1x2048, .f32⟩
  | .hbm, ⟨4, _⟩ => ⟨S5504x2048, .bf16⟩
  | .hbm, ⟨5, _⟩ => ⟨S8x1x688x2048, .bf16⟩
  | .hbm, ⟨6, _⟩ => ⟨S4096x5504, .bf16⟩
  | .hbm, ⟨7, _⟩ => ⟨S4096x8x688, .bf16⟩
  | .hbm, ⟨8, _⟩ => ⟨S8x4096x688, .bf16⟩
  | .hbm, ⟨9, _⟩ => ⟨S1x8x4096x688, .bf16⟩
  | .hbm, ⟨10, _⟩ => ⟨S1x8x688x2048, .bf16⟩
  | .hbm, ⟨11, _⟩ => ⟨S4096x2048, .f32⟩
  | .hbm, ⟨12, _⟩ => ⟨S4096x2048, .f32⟩
  | .local _ .vmem, ⟨0, _⟩ => ⟨S1x8x512x688, .bf16⟩
  | .local _ .vmem, ⟨1, _⟩ => ⟨S1x8x512x688, .bf16⟩
  | .local _ .vmem, ⟨2, _⟩ => ⟨S1x8x688x1024, .bf16⟩
  | .local _ .vmem, ⟨3, _⟩ => ⟨S1x8x688x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def k0_cond3 (i : grid0.Coords) : BitVec 1 :=
  let arg2 : BitVec 32 := BitVec.ofNat 32 (i 2).val
  let c0_i32_66 : BitVec 32 := 0#32
  let v53 : BitVec 1 := Scalar.cmpi .eq arg2 c0_i32_66
  let v54 : BitVec 32 := Scalar.extui v53
  let c0_i32_67 : BitVec 32 := 0#32
  let v55 : BitVec 1 := Scalar.cmpi .ne v54 c0_i32_67
  v55

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x8x512x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x8x688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceOutIdeal.lean ====
abbrev S4096x5504 : Shape := ⟨2, ![4096, 5504]⟩
abbrev S5504x2048 : Shape := ⟨2, ![5504, 2048]⟩
abbrev S4096x2048 : Shape := ⟨2, ![4096, 2048]⟩
abbrev S1x2048 : Shape := ⟨2, ![1, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S5504x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== KernelSqDw.lean ====
abbrev S4096x2048 : Shape := ⟨2, ![4096, 2048]⟩
abbrev S2048x4096 : Shape := ⟨2, ![2048, 4096]⟩
abbrev S1x2048x4096 : Shape := ⟨3, ![1, 2048, 4096]⟩
abbrev S1x1x4096x2048 : Shape := ⟨4, ![1, 1, 4096, 2048]⟩
abbrev S2048x2048 : Shape := ⟨2, ![2048, 2048]⟩
abbrev S1x512x4096 : Shape := ⟨3, ![1, 512, 4096]⟩
abbrev S1x1x4096x1024 : Shape := ⟨4, ![1, 1, 4096, 1024]⟩
abbrev S512x1024 : Shape := ⟨2, ![512, 1024]⟩
abbrev S512x4096 : Shape := ⟨2, ![512, 4096]⟩
abbrev S4096x1024 : Shape := ⟨2, ![4096, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S2048x4096, .bf16⟩
  | .hbm, ⟨4, _⟩ => ⟨S4096x2048, .bf16⟩
  | .hbm, ⟨5, _⟩ => ⟨S1x2048x4096, .bf16⟩
  | .hbm, ⟨6, _⟩ => ⟨S1x1x4096x2048, .bf16⟩
  | .hbm, ⟨7, _⟩ => ⟨S2048x2048, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x1x4096x1024, .bf16⟩
  | .local _ .vmem, ⟨3, _⟩ => ⟨S1x1x4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg0 c2_i32
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg0 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg2 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSqDwIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelSqDz.lean ====
abbrev S4096x2048 : Shape := ⟨2, ![4096, 2048]⟩
abbrev S2048x2048 : Shape := ⟨2, ![2048, 2048]⟩
abbrev S1x4096x2048 : Shape := ⟨3, ![1, 4096, 2048]⟩
abbrev S1x1x2048x2048 : Shape := ⟨4, ![1, 1, 2048, 2048]⟩
abbrev S1x512x2048 : Shape := ⟨3, ![1, 512, 2048]⟩
abbrev S1x1x1024x2048 : Shape := ⟨4, ![1, 1, 1024, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S1x4096x2048, .bf16⟩
  | .hbm, ⟨4, _⟩ => ⟨S2048x2048, .bf16⟩
  | .hbm, ⟨5, _⟩ => ⟨S1x1x2048x2048, .bf16⟩
  | .hbm, ⟨6, _⟩ => ⟨S4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg2.toNat, v16.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSqDzIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelHgrnDwinLo.lean ====
abbrev S4096x2048 : Shape := ⟨2, ![4096, 2048]⟩
abbrev S4096x8192 : Shape := ⟨2, ![4096, 8192]⟩
abbrev S2048x4096 : Shape := ⟨2, ![2048, 4096]⟩
abbrev S2x1024x4096 : Shape := ⟨3, ![2, 1024, 4096]⟩
abbrev S8x1024x1024 : Shape := ⟨3, ![8, 1024, 1024]⟩
abbrev S1x512x4096 : Shape := ⟨3, ![1, 512, 4096]⟩
abbrev S4096x1024 : Shape := ⟨2, ![4096, 1024]⟩
abbrev S1x512x1024 : Shape := ⟨3, ![1, 512, 1024]⟩
abbrev S512x1024 : Shape := ⟨2, ![512, 1024]⟩
abbrev S512x4096 : Shape := ⟨2, ![512, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .bf16⟩
  | .hbm, ⟨3, _⟩ => ⟨S2048x4096, .bf16⟩
  | .hbm, ⟨4, _⟩ => ⟨S2x1024x4096, .bf16⟩
  | .hbm, ⟨5, _⟩ => ⟨S4096x8192, .bf16⟩
  | .hbm, ⟨6, _⟩ => ⟨S8x1024x1024, .bf16⟩
  | .local _ .vmem, ⟨0, _⟩ => ⟨S1x512x4096, .bf16⟩
  | .local _ .vmem, ⟨1, _⟩ => ⟨S1x512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHgrnDwinLoIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩
abbrev S8x1024x1024 : Shape := ⟨3, ![8, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | .hbm, ⟨10, _⟩ => ⟨S8x1024x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelHgrnDwinHi.lean ====
abbrev S4096x2048 : Shape := ⟨2, ![4096, 2048]⟩
abbrev S4096x8192 : Shape := ⟨2, ![4096, 8192]⟩
abbrev S2048x4096 : Shape := ⟨2, ![2048, 4096]⟩
abbrev S2x1024x4096 : Shape := ⟨3, ![2, 1024, 4096]⟩
abbrev S8x1024x1024 : Shape := ⟨3, ![8, 1024, 1024]⟩
abbrev S1x512x4096 : Shape := ⟨3, ![1, 512, 4096]⟩
abbrev S4096x1024 : Shape := ⟨2, ![4096, 1024]⟩
abbrev S1x512x1024 : Shape := ⟨3, ![1, 512, 1024]⟩
abbrev S512x1024 : Shape := ⟨2, ![512, 1024]⟩
abbrev S512x4096 : Shape := ⟨2, ![512, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .bf16⟩
  | .hbm, ⟨3, _⟩ => ⟨S2048x4096, .bf16⟩
  | .hbm, ⟨4, _⟩ => ⟨S2x1024x4096, .bf16⟩
  | .hbm, ⟨5, _⟩ => ⟨S4096x8192, .bf16⟩
  | .hbm, ⟨6, _⟩ => ⟨S8x1024x1024, .bf16⟩
  | .local _ .vmem, ⟨0, _⟩ => ⟨S1x512x4096, .bf16⟩
  | .local _ .vmem, ⟨1, _⟩ => ⟨S1x512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHgrnDwinHiIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩
abbrev S8x1024x1024 : Shape := ⟨3, ![8, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | .hbm, ⟨10, _⟩ => ⟨S8x1024x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelHgrnDu.lean ====
abbrev S4096x8192 : Shape := ⟨2, ![4096, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8x1x2048x1024 : Shape := ⟨4, ![8, 1, 2048, 1024]⟩
abbrev S4096x2048 : Shape := ⟨2, ![4096, 2048]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S4096x8192, .bf16⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S8x1x2048x1024, .bf16⟩
  | .hbm, ⟨7, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg2.toNat, v16.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHgrnDuIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelHgrnProj.lean ====
abbrev S4096x2048 : Shape := ⟨2, ![4096, 2048]⟩
abbrev S2048x8192 : Shape := ⟨2, ![2048, 8192]⟩
abbrev S1x4096x2048 : Shape := ⟨3, ![1, 4096, 2048]⟩
abbrev S2048x8x1024 : Shape := ⟨3, ![2048, 8, 1024]⟩
abbrev S8x2048x1024 : Shape := ⟨3, ![8, 2048, 1024]⟩
abbrev S1x8x2048x1024 : Shape := ⟨4, ![1, 8, 2048, 1024]⟩
abbrev S4096x8192 : Shape := ⟨2, ![4096, 8192]⟩
abbrev S1x512x2048 : Shape := ⟨3, ![1, 512, 2048]⟩
abbrev S1x1x2048x1024 : Shape := ⟨4, ![1, 1, 2048, 1024]⟩
abbrev S512x1024 : Shape := ⟨2, ![512, 1024]⟩
abbrev S512x2048 : Shape := ⟨2, ![512, 2048]⟩
abbrev S2048x1024 : Shape := ⟨2, ![2048, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S1x4096x2048, .bf16⟩
  | .hbm, ⟨4, _⟩ => ⟨S2048x8192, .bf16⟩
  | .hbm, ⟨5, _⟩ => ⟨S2048x8x1024, .bf16⟩
  | .hbm, ⟨6, _⟩ => ⟨S8x2048x1024, .bf16⟩
  | .hbm, ⟨7, _⟩ => ⟨S1x8x2048x1024, .bf16⟩
  | .hbm, ⟨8, _⟩ => ⟨S4096x8192, .f32⟩
  | .local _ .vmem, ⟨0, _⟩ => ⟨S1x512x2048, .bf16⟩
  | .local _ .vmem, ⟨1, _⟩ => ⟨S1x512x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg2 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHgrnProjIdeal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelSqOut.lean ====
abbrev S4096x2048 : Shape := ⟨2, ![4096, 2048]⟩
abbrev S2048x2048 : Shape := ⟨2, ![2048, 2048]⟩
abbrev S1x2048 : Shape := ⟨2, ![1, 2048]⟩
abbrev S1x4096x2048 : Shape := ⟨3, ![1, 4096, 2048]⟩
abbrev S1x1x2048x2048 : Shape := ⟨4, ![1, 1, 2048, 2048]⟩
abbrev S1x512x2048 : Shape := ⟨3, ![1, 512, 2048]⟩
abbrev S1x1x2048x1024 : Shape := ⟨4, ![1, 1, 2048, 1024]⟩
abbrev S512x1024 : Shape := ⟨2, ![512, 1024]⟩
abbrev S1x1024 : Shape := ⟨2, ![1, 1024]⟩
abbrev S512x2048 : Shape := ⟨2, ![512, 2048]⟩
abbrev S2048x1024 : Shape := ⟨2, ![2048, 1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S1x4096x2048, .bf16⟩
  | .hbm, ⟨6, _⟩ => ⟨S2048x2048, .bf16⟩
  | .hbm, ⟨7, _⟩ => ⟨S1x1x2048x2048, .bf16⟩
  | .hbm, ⟨8, _⟩ => ⟨S4096x2048, .f32⟩
  | .hbm, ⟨9, _⟩ => ⟨S4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def k0_cond3 (i : grid0.Coords) : BitVec 1 :=
  let arg2 : BitVec 32 := BitVec.ofNat 32 (i 2).val
  let c0_i32_9 : BitVec 32 := 0#32
  let v11 : BitVec 1 := Scalar.cmpi .eq arg2 c0_i32_9
  let v12 : BitVec 32 := Scalar.extui v11
  let c0_i32_10 : BitVec 32 := 0#32
  let v13 : BitVec 1 := Scalar.cmpi .ne v12 c0_i32_10
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg0 c2_i32
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg0 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg2 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceSqOutIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelQ.lean ====
abbrev S4096x2048 : Shape := ⟨2, ![4096, 2048]⟩
abbrev S2048x2048 : Shape := ⟨2, ![2048, 2048]⟩
abbrev S1x2048 : Shape := ⟨2, ![1, 2048]⟩
abbrev S1x4096x2048 : Shape := ⟨3, ![1, 4096, 2048]⟩
abbrev S1x1x2048x2048 : Shape := ⟨4, ![1, 1, 2048, 2048]⟩
abbrev S1x512x2048 : Shape := ⟨3, ![1, 512, 2048]⟩
abbrev S1x1x2048x1024 : Shape := ⟨4, ![1, 1, 2048, 1024]⟩
abbrev S1x1024 : Shape := ⟨2, ![1, 1024]⟩
abbrev S512x1024 : Shape := ⟨2, ![512, 1024]⟩
abbrev S512x2048 : Shape := ⟨2, ![512, 2048]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048, .f32⟩
  | .hbm, ⟨3, _⟩ => ⟨S4096x2048, .bf16⟩
  | .hbm, ⟨4, _⟩ => ⟨S1x4096x2048, .bf16⟩
  | .hbm, ⟨5, _⟩ => ⟨S2048x2048, .bf16⟩
  | .hbm, ⟨6, _⟩ => ⟨S1x1x2048x2048, .bf16⟩
  | .hbm, ⟨7, _⟩ => ⟨S4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg0 c2_i32
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg0 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg2 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceQIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelKv.lean ====
abbrev S4096x2048 : Shape := ⟨2, ![4096, 2048]⟩
abbrev S2048x512 : Shape := ⟨2, ![2048, 512]⟩
abbrev S1x512 : Shape := ⟨2, ![1, 512]⟩
abbrev S1x4096x2048 : Shape := ⟨3, ![1, 4096, 2048]⟩
abbrev S1x1x2048x512 : Shape := ⟨4, ![1, 1, 2048, 512]⟩
abbrev S4096x512 : Shape := ⟨2, ![4096, 512]⟩
abbrev S1x512x2048 : Shape := ⟨3, ![1, 512, 2048]⟩
abbrev S512x512 : Shape := ⟨2, ![512, 512]⟩
abbrev S512x2048 : Shape := ⟨2, ![512, 2048]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x512, .f32⟩
  | .hbm, ⟨2, _⟩ => ⟨S1x512, .f32⟩
  | .hbm, ⟨3, _⟩ => ⟨S4096x2048, .bf16⟩
  | .hbm, ⟨4, _⟩ => ⟨S1x4096x2048, .bf16⟩
  | .hbm, ⟨5, _⟩ => ⟨S2048x512, .bf16⟩
  | .hbm, ⟨6, _⟩ => ⟨S1x1x2048x512, .bf16⟩
  | .hbm, ⟨7, _⟩ => ⟨S4096x512, .f32⟩
  | .local _ .vmem, ⟨0, _⟩ => ⟨S1x512x2048, .bf16⟩
  | .local _ .vmem, ⟨1, _⟩ => ⟨S1x512x2048, .bf16⟩
  | .local _ .vmem, ⟨2, _⟩ => ⟨S1x1x2048x512, .bf16⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg2 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceKvIdeal.lean ====
abbrev S4096x2048 : Shape := ⟨2, ![4096, 2048]⟩
abbrev S2048x512 : Shape := ⟨2, ![2048, 512]⟩
abbrev S1x512 : Shape := ⟨2, ![1, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x512, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelKvDw.lean ====
abbrev S4096x2048 : Shape := ⟨2, ![4096, 2048]⟩
abbrev S4096x512 : Shape := ⟨2, ![4096, 512]⟩
abbrev S2048x4096 : Shape := ⟨2, ![2048, 4096]⟩
abbrev S1x2048x4096 : Shape := ⟨3, ![1, 2048, 4096]⟩
abbrev S1x1x4096x512 : Shape := ⟨4, ![1, 1, 4096, 512]⟩
abbrev S2048x512 : Shape := ⟨2, ![2048, 512]⟩
abbrev S1x512x4096 : Shape := ⟨3, ![1, 512, 4096]⟩
abbrev S512x512 : Shape := ⟨2, ![512, 512]⟩
abbrev S512x4096 : Shape := ⟨2, ![512, 4096]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S2048x4096, .f32⟩
  | .hbm, ⟨3, _⟩ => ⟨S2048x4096, .bf16⟩
  | .hbm, ⟨4, _⟩ => ⟨S1x2048x4096, .bf16⟩
  | .hbm, ⟨5, _⟩ => ⟨S1x1x4096x512, .f32⟩
  | .hbm, ⟨6, _⟩ => ⟨S2048x512, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x1x4096x512, .f32⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg2 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1x4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceKvDwIdeal.lean ====
abbrev S4096x2048 : Shape := ⟨2, ![4096, 2048]⟩
abbrev S4096x512 : Shape := ⟨2, ![4096, 512]⟩
abbrev S_ : Shape := ⟨0, ![]⟩
abbrev S2048x512 : Shape := ⟨2, ![2048, 512]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S_, .f32⟩
  | .hbm, ⟨3, _⟩ => ⟨S2048x512, .f32⟩
  | .hbm, ⟨4, _⟩ => ⟨S4096x512, .f32⟩
  | .hbm, ⟨5, _⟩ => ⟨S512x2048, .f32⟩
  | .hbm, ⟨6, _⟩ => ⟨S2048x512, .f32⟩
  | .hbm, ⟨7, _⟩ => ⟨S2048x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelKvDu.lean ====
abbrev S4096x512 : Shape := ⟨2, ![4096, 512]⟩
abbrev S2048x512 : Shape := ⟨2, ![2048, 512]⟩
abbrev S1x4096x512 : Shape := ⟨3, ![1, 4096, 512]⟩
abbrev S1x1x2048x512 : Shape := ⟨4, ![1, 1, 2048, 512]⟩
abbrev S4096x2048 : Shape := ⟨2, ![4096, 2048]⟩
abbrev S1x512x512 : Shape := ⟨3, ![1, 512, 512]⟩
abbrev S1x1x1024x512 : Shape := ⟨4, ![1, 1, 1024, 512]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S2048x512, .f32⟩
  | .hbm, ⟨2, _⟩ => ⟨S1x4096x512, .f32⟩
  | .hbm, ⟨3, _⟩ => ⟨S2048x512, .bf16⟩
  | .hbm, ⟨4, _⟩ => ⟨S1x1x2048x512, .bf16⟩
  | .hbm, ⟨5, _⟩ => ⟨S4096x2048, .f32⟩
  | .local _ .vmem, ⟨0, _⟩ => ⟨S1x512x512, .f32⟩
  | .local _ .vmem, ⟨1, _⟩ => ⟨S1x512x512, .f32⟩
  | .local _ .vmem, ⟨2, _⟩ => ⟨S1x1x1024x512, .bf16⟩
  | .local _ .vmem, ⟨3, _⟩ => ⟨S1x1x1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg2.toNat, v16.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceKvDuIdeal.lean ====
abbrev S4096x512 : Shape := ⟨2, ![4096, 512]⟩
abbrev S2048x512 : Shape := ⟨2, ![2048, 512]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2048x512, .f32⟩
  | .hbm, ⟨2, _⟩ => ⟨S_, .f32⟩
  | .hbm, ⟨3, _⟩ => ⟨S4096x2048, .f32⟩
  | .hbm, ⟨4, _⟩ => ⟨S4096x512, .f32⟩
  | .hbm, ⟨5, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelAttOut.lean ====
abbrev S4096x2048 : Shape := ⟨2, ![4096, 2048]⟩
abbrev S2048x2048 : Shape := ⟨2, ![2048, 2048]⟩
abbrev S1x2048 : Shape := ⟨2, ![1, 2048]⟩
abbrev S1x4096x2048 : Shape := ⟨3, ![1, 4096, 2048]⟩
abbrev S1x1x2048x2048 : Shape := ⟨4, ![1, 1, 2048, 2048]⟩
abbrev S1x512x2048 : Shape := ⟨3, ![1, 512, 2048]⟩
abbrev S1x1x2048x1024 : Shape := ⟨4, ![1, 1, 2048, 1024]⟩
abbrev S512x1024 : Shape := ⟨2, ![512, 1024]⟩
abbrev S1x1024 : Shape := ⟨2, ![1, 1024]⟩
abbrev S512x2048 : Shape := ⟨2, ![512, 2048]⟩
abbrev S2048x1024 : Shape := ⟨2, ![2048, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x4096x2048, .f32⟩
  | .hbm, ⟨5, _⟩ => ⟨S2048x2048, .bf16⟩
  | .hbm, ⟨6, _⟩ => ⟨S1x1x2048x2048, .bf16⟩
  | .hbm, ⟨7, _⟩ => ⟨S4096x2048, .f32⟩
  | .hbm, ⟨8, _⟩ => ⟨S4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048x1024, .bf16⟩
  | .local _ .vmem, ⟨3, _⟩ => ⟨S1x1x2048x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def k0_cond3 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg0 c2_i32
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg0 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg2 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceAttOutIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelAttDw.lean ====
abbrev S4096x2048 : Shape := ⟨2, ![4096, 2048]⟩
abbrev S2048x4096 : Shape := ⟨2, ![2048, 4096]⟩
abbrev S1x2048x4096 : Shape := ⟨3, ![1, 2048, 4096]⟩
abbrev S1x1x4096x2048 : Shape := ⟨4, ![1, 1, 4096, 2048]⟩
abbrev S2048x2048 : Shape := ⟨2, ![2048, 2048]⟩
abbrev S1x512x4096 : Shape := ⟨3, ![1, 512, 4096]⟩
abbrev S1x1x4096x1024 : Shape := ⟨4, ![1, 1, 4096, 1024]⟩
abbrev S512x1024 : Shape := ⟨2, ![512, 1024]⟩
abbrev S512x4096 : Shape := ⟨2, ![512, 4096]⟩
abbrev S4096x1024 : Shape := ⟨2, ![4096, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S4096x2048, .bf16⟩
  | .hbm, ⟨4, _⟩ => ⟨S1x2048x4096, .f32⟩
  | .hbm, ⟨5, _⟩ => ⟨S1x1x4096x2048, .bf16⟩
  | .hbm, ⟨6, _⟩ => ⟨S2048x2048, .bf16⟩
  | .local _ .vmem, ⟨0, _⟩ => ⟨S1x512x4096, .f32⟩
  | .local _ .vmem, ⟨1, _⟩ => ⟨S1x512x4096, .f32⟩
  | .local _ .vmem, ⟨2, _⟩ => ⟨S1x1x4096x1024, .bf16⟩
  | .local _ .vmem, ⟨3, _⟩ => ⟨S1x1x4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg0 c2_i32
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg0 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg2 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAttDwIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelQDw.lean ====
abbrev S4096x2048 : Shape := ⟨2, ![4096, 2048]⟩
abbrev S2048x4096 : Shape := ⟨2, ![2048, 4096]⟩
abbrev S1x2048x4096 : Shape := ⟨3, ![1, 2048, 4096]⟩
abbrev S1x1x4096x2048 : Shape := ⟨4, ![1, 1, 4096, 2048]⟩
abbrev S2048x2048 : Shape := ⟨2, ![2048, 2048]⟩
abbrev S1x512x4096 : Shape := ⟨3, ![1, 512, 4096]⟩
abbrev S1x1x4096x1024 : Shape := ⟨4, ![1, 1, 4096, 1024]⟩
abbrev S512x1024 : Shape := ⟨2, ![512, 1024]⟩
abbrev S512x4096 : Shape := ⟨2, ![512, 4096]⟩
abbrev S4096x1024 : Shape := ⟨2, ![4096, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S2048x4096, .bf16⟩
  | .hbm, ⟨4, _⟩ => ⟨S1x2048x4096, .bf16⟩
  | .hbm, ⟨5, _⟩ => ⟨S1x1x4096x2048, .f32⟩
  | .hbm, ⟨6, _⟩ => ⟨S2048x2048, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x1x4096x1024, .f32⟩
  | .local _ .vmem, ⟨3, _⟩ => ⟨S1x1x4096x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg0 c2_i32
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg0 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg2 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQDwIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelQDu.lean ====
abbrev S4096x2048 : Shape := ⟨2, ![4096, 2048]⟩
abbrev S2048x2048 : Shape := ⟨2, ![2048, 2048]⟩
abbrev S1x4096x2048 : Shape := ⟨3, ![1, 4096, 2048]⟩
abbrev S1x1x2048x2048 : Shape := ⟨4, ![1, 1, 2048, 2048]⟩
abbrev S1x512x2048 : Shape := ⟨3, ![1, 512, 2048]⟩
abbrev S1x1x1024x2048 : Shape := ⟨4, ![1, 1, 1024, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x4096x2048, .f32⟩
  | .hbm, ⟨3, _⟩ => ⟨S2048x2048, .bf16⟩
  | .hbm, ⟨4, _⟩ => ⟨S1x1x2048x2048, .bf16⟩
  | .hbm, ⟨5, _⟩ => ⟨S4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1x1024x2048, .bf16⟩
  | .local _ .vmem, ⟨3, _⟩ => ⟨S1x1x1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg2.toNat, v16.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQDuIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelNorm.lean ====
abbrev S4096x2048 : Shape := ⟨2, ![4096, 2048]⟩
abbrev S1x2048 : Shape := ⟨2, ![1, 2048]⟩
abbrev S2048x4096 : Shape := ⟨2, ![2048, 4096]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .hbm, ⟨5, _⟩ => ⟨S2048x4096, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S2048x256, .bf16⟩
  | .local _ .vmem, ⟨8, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceNormIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048x4096 : Shape := ⟨2, ![2048, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | .hbm, ⟨27, _⟩ => ⟨S2048x4096, .f32⟩
  | .hbm, ⟨28, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KernelNormBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceNormBwdIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Finite.lean ====
/- The precondition: every element of every argument is finite, so each argument is an array of reals. -/
module

public import proofs.«01_k».proof.Pre_finite
public import Idealize.ShloMosaic.Lib.ReduceAll
public import Idealize.ShloMosaic.Lib.Pointwise
public import Idealize.ShloMosaic.Lib.WordCmp

@[expose] public section

set_option maxRecDepth 16384

noncomputable section

namespace Cert.Finite

open Cert.Pre_finite Idealize.ShloMosaic

instance facts : Cert.Pre_finite.Facts := by
  constructor <;> decide

theorem top_bits : Ideal.ofBits .f32 0x7F800000#32 = ⊤ := by
  simp [Ideal.ofBits, Ideal.ieee]

/-- An element whose absolute value is below infinity is real. -/
theorem real_of_lt {x : EReal} (h : BitVec.ofBool (decide (max x (-x) < Ideal.ofBits .f32 0x7F800000#32)) = 1#1) : ∃ r : ℝ, x = (r : EReal) := by
  rw [top_bits] at h
  induction x with
  | bot => simp at h
  | top => simp at h
  | coe r => exact ⟨r, rfl⟩

variable {x0 x4 : FVec Ideal S4096x2048 .f32} {x1 x2 : FVec Ideal S4096x256 .f32} {x3 : FVec Ideal S1x32 .f32}

theorem reals (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) ∧
      (∀ i, ∃ r : ℝ, x3 i = (r : EReal)) ∧ ∀ i, ∃ r : ℝ, x4 i = (r : EReal) := by
  have h' := congrFun h ix0
  unfold fn fn_part1 at h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  haveI : Subsingleton S_.Idx := ⟨fun a b => funext fun i => i.elim0⟩
  exact ⟨fun i => real_of_lt (Host.reduce_andi_all _ _ _ _ _ e0 i), fun i => real_of_lt (Host.reduce_andi_all _ _ _ _ _ e1 i),
    fun i => real_of_lt (Host.reduce_andi_all _ _ _ _ _ e2 i), fun i => real_of_lt (Host.reduce_andi_all _ _ _ _ _ e3 i),
    fun i => real_of_lt (Host.reduce_andi_all _ _ _ _ _ e4 i)⟩

end Cert.Finite
-- ==== Proof.Softmax.lean ====
/- One row of attention with a sink, over the real numbers: the weights, the probabilities, and the gradient of the
   row's scores and of its sink. Every quantity is stated without the row's maximum, which cancels. The lemmas say that the
   shifted forms that a program computes, with exponentials of differences from any real `m`, are these quantities. -/
module

public import Mathlib.Analysis.SpecialFunctions.Exp
public import Mathlib.Data.EReal.Operations
public import Idealize.ShloMosaic.PureOps.Ideal

@[expose] public section

noncomputable section

namespace Cert.Sink

open Idealize.ShloMosaic

/-! ## The row over the reals -/

section Row

variable {ι : Type} [Fintype ι] (M : ι → Bool) (s : ι → ℝ) (σ : ℝ) (dp : ι → ℝ)

/-- The weight of a key: the exponential of its score, zero where the mask hides it. -/
def wt (j : ι) : ℝ := if M j then Real.exp (s j) else 0

/-- The row's normaliser: all weights and the sink's. -/
def tot : ℝ := (∑ j, wt M s j) + Real.exp σ

/-- The probability of a key. -/
def prob (j : ι) : ℝ := wt M s j / tot M s σ

/-- The mean of the probabilities' cotangents under the row's probabilities. -/
def mean : ℝ := ∑ j, prob M s σ j * dp j

/-- The gradient of a score. -/
def dscore (j : ι) : ℝ := prob M s σ j * (dp j - mean M s σ dp)

/-- The gradient of the sink that this row contributes. -/
def dsink : ℝ := -(Real.exp σ / tot M s σ * mean M s σ dp)

theorem wt_nonneg (j : ι) : 0 ≤ wt M s j := by
  unfold wt; split
  · exact (Real.exp_pos _).le
  · exact le_rfl

theorem tot_pos : 0 < tot M s σ :=
  add_pos_of_nonneg_of_pos (Finset.sum_nonneg fun j _ => wt_nonneg M s j) (Real.exp_pos _)

/-- The weight that a program computes, shifted by `m`. -/
def swt (m : ℝ) (j : ι) : ℝ := if M j then Real.exp (s j - m) else 0

/-- The normaliser that a program computes, shifted by `m`. -/
def stot (m : ℝ) : ℝ := (∑ j, swt M s m j) + Real.exp (σ - m)

theorem swt_eq (m : ℝ) (j : ι) : swt M s m j = wt M s j * Real.exp (-m) := by
  unfold swt wt; split
  · rw [sub_eq_add_neg, Real.exp_add]
  · simp

theorem stot_eq (m : ℝ) : stot M s σ m = tot M s σ * Real.exp (-m) := by
  unfold stot tot
  simp only [swt_eq, ← Finset.sum_mul, sub_eq_add_neg, Real.exp_add, add_mul]

theorem stot_pos (m : ℝ) : 0 < stot M s σ m := by
  rw [stot_eq]; exact mul_pos (tot_pos M s σ) (Real.exp_pos _)

theorem swt_div (m : ℝ) (j : ι) : swt M s m j / stot M s σ m = prob M s σ j := by
  rw [swt_eq, stot_eq, prob, mul_div_mul_right _ _ (Real.exp_pos _).ne']

/-- The gradient of the normaliser, as a program sums it. -/
def dtot (m : ℝ) : ℝ := -∑ j, dp j * (1 / (stot M s σ m * stot M s σ m)) * swt M s m j

theorem dtot_eq (m : ℝ) : dtot M s σ dp m = -(mean M s σ dp / stot M s σ m) := by
  unfold dtot mean
  rw [Finset.sum_div]
  congr 1
  refine Finset.sum_congr rfl fun j _ => ?_
  rw [← swt_div M s σ m j]
  have h := (stot_pos M s σ m).ne'
  field_simp

theorem dtot_mul_sink (m : ℝ) : dtot M s σ dp m * Real.exp (σ - m) = dsink M s σ dp := by
  rw [dtot_eq, dsink, stot_eq, sub_eq_add_neg, Real.exp_add]
  have h := (tot_pos M s σ).ne'
  have h' := (Real.exp_pos (-m)).ne'
  field_simp

theorem dscore_shift (m : ℝ) (j : ι) :
    (dp j / stot M s σ m + dtot M s σ dp m) * swt M s m j = dscore M s σ dp j := by
  rw [dtot_eq, dscore, ← swt_div M s σ m j]
  have h := (stot_pos M s σ m).ne'
  field_simp
  ring

/-- The probabilities and the sink's share sum to one, so the scores' and the sink's gradients sum to zero. -/
theorem sum_grad : dsink M s σ dp + ∑ j, dscore M s σ dp j = 0 := by
  have h := (tot_pos M s σ).ne'
  have h1 : (∑ j, prob M s σ j) + Real.exp σ / tot M s σ = 1 := by
    unfold prob; rw [← Finset.sum_div, ← add_div]; exact div_self h
  have h2 : ∑ j, dscore M s σ dp j = mean M s σ dp - (∑ j, prob M s σ j) * mean M s σ dp := by
    unfold dscore
    simp only [mul_sub, Finset.sum_sub_distrib, ← Finset.sum_mul]; rfl
  rw [h2, dsink]
  linear_combination mean M s σ dp * (-h1)

theorem prob_hidden (j : ι) (h : M j = false) : prob M s σ j = 0 := by simp [prob, wt, h]

theorem dscore_hidden (j : ι) (h : M j = false) : dscore M s σ dp j = 0 := by simp [dscore, prob_hidden M s σ j h]

end Row

/-! ## A row read through a renaming of its keys, and a row changed where the mask hides it -/

section Change

variable {ι κ : Type} [Fintype ι] [Fintype κ]

theorem tot_equiv (e : ι ≃ κ) (M : κ → Bool) (s : κ → ℝ) (σ : ℝ) : tot (M ∘ e) (s ∘ e) σ = tot M s σ := by
  unfold tot; congr 1; exact e.sum_comp (wt M s)

theorem prob_equiv (e : ι ≃ κ) (M : κ → Bool) (s : κ → ℝ) (σ : ℝ) (j : ι) :
    prob (M ∘ e) (s ∘ e) σ j = prob M s σ (e j) := by
  unfold prob; rw [tot_equiv e M s σ]; rfl

theorem mean_equiv (e : ι ≃ κ) (M : κ → Bool) (s : κ → ℝ) (σ : ℝ) (dp : κ → ℝ) :
    mean (M ∘ e) (s ∘ e) σ (dp ∘ e) = mean M s σ dp := by
  unfold mean; simp only [prob_equiv e M s σ]
  exact e.sum_comp fun j => prob M s σ j * dp j

theorem dscore_equiv (e : ι ≃ κ) (M : κ → Bool) (s : κ → ℝ) (σ : ℝ) (dp : κ → ℝ) (j : ι) :
    dscore (M ∘ e) (s ∘ e) σ (dp ∘ e) j = dscore M s σ dp (e j) := by
  unfold dscore; rw [prob_equiv e M s σ, mean_equiv e M s σ dp]; rfl

theorem dsink_equiv (e : ι ≃ κ) (M : κ → Bool) (s : κ → ℝ) (σ : ℝ) (dp : κ → ℝ) :
    dsink (M ∘ e) (s ∘ e) σ (dp ∘ e) = dsink M s σ dp := by
  unfold dsink; rw [tot_equiv e M s σ, mean_equiv e M s σ dp]

variable (M : ι → Bool) {s s' : ι → ℝ} (σ : ℝ) {dp dp' : ι → ℝ}

theorem wt_congr (h : ∀ j, M j = true → s j = s' j) : wt M s = wt M s' := by
  funext j; unfold wt; split
  · rw [h j ‹_›]
  · rfl

theorem prob_congr (h : ∀ j, M j = true → s j = s' j) : prob M s σ = prob M s' σ := by
  funext j; unfold prob tot; rw [wt_congr M h]

theorem mean_congr (h : ∀ j, M j = true → s j = s' j) (hd : ∀ j, M j = true → dp j = dp' j) :
    mean M s σ dp = mean M s' σ dp' := by
  unfold mean; rw [prob_congr M σ h]
  refine Finset.sum_congr rfl fun j _ => ?_
  cases hm : M j
  · simp [prob_hidden M s' σ j hm]
  · rw [hd j hm]

theorem dscore_congr (h : ∀ j, M j = true → s j = s' j) (hd : ∀ j, M j = true → dp j = dp' j) :
    dscore M s σ dp = dscore M s' σ dp' := by
  funext j
  cases hm : M j
  · rw [dscore_hidden M s σ dp j hm, dscore_hidden M s' σ dp' j hm]
  · unfold dscore; rw [prob_congr M σ h, mean_congr M σ h hd, hd j hm]

theorem dsink_congr (h : ∀ j, M j = true → s j = s' j) (hd : ∀ j, M j = true → dp j = dp' j) :
    dsink M s σ dp = dsink M s' σ dp' := by
  unfold dsink tot; rw [wt_congr M h, mean_congr M σ h hd]

end Change

/-! ## Extended reals that are real -/

/-- A sum of reals is real. -/
theorem coe_sum {ι : Type} (t : Finset ι) (f : ι → ℝ) : (∑ j ∈ t, ((f j : ℝ) : EReal)) = ((∑ j ∈ t, f j : ℝ) : EReal) := by
  classical
  induction t using Finset.induction_on with
  | empty => simp
  | insert a t h ih => rw [Finset.sum_insert h, Finset.sum_insert h, ih, EReal.coe_add]

/-- A quotient of reals is real, the divisor not zero. -/
theorem div_real (x : ℝ) {y : ℝ} (h : y ≠ 0) : Ideal.div (x : EReal) (y : EReal) = ((x / y : ℝ) : EReal) := by
  rw [Ideal.div_coe h, ← EReal.coe_mul, mul_one_div]

/-- A maximum of two extended reals below `⊤`, the second real, is real. -/
theorem max_real {x : EReal} (hx : x ≠ ⊤) (σ : ℝ) : ∃ r : ℝ, max x (σ : EReal) = (r : EReal) := by
  induction x with
  | bot => exact ⟨σ, max_eq_right bot_le⟩
  | top => exact absurd rfl hx
  | coe r =>
    rcases le_total r σ with h | h
    · exact ⟨σ, max_eq_right (EReal.coe_le_coe_iff.mpr h)⟩
    · exact ⟨r, max_eq_left (EReal.coe_le_coe_iff.mpr h)⟩

/-- The maximum of finitely many extended reals below `⊤` is below `⊤`. -/
theorem fold_max_ne_top {n : ℕ} (f : Fin n → EReal) (h : ∀ k, f k ≠ ⊤) : Finset.univ.fold max ⊥ f ≠ ⊤ := by
  rw [← lt_top_iff_ne_top, Finset.fold_max_lt]
  exact ⟨bot_lt_top, fun k _ => lt_top_iff_ne_top.mpr (h k)⟩

/-- The maximum of a nonempty family is one of its members. -/
theorem fold_max_mem {n : ℕ} [NeZero n] (f : Fin n → EReal) : ∃ k, f k = Finset.univ.fold max ⊥ f := by
  obtain ⟨k, -, hk⟩ := Finset.exists_max_image Finset.univ f ⟨0, Finset.mem_univ _⟩
  refine ⟨k, le_antisymm ?_ ?_⟩
  · exact (Finset.le_fold_max _).mpr (Or.inr ⟨k, Finset.mem_univ _, le_rfl⟩)
  · exact (Finset.fold_max_le _).mpr ⟨bot_le, fun j hj => hk j hj⟩

/-- The score a program compares: the real score where the mask shows it, `⊥` where it hides it. -/
def seen (b : Bool) (r : ℝ) : EReal := if b then (r : EReal) else ⊥

theorem seen_ne_top (b : Bool) (r : ℝ) : seen b r ≠ ⊤ := by
  unfold seen; split
  · exact EReal.coe_ne_top r
  · exact bot_ne_top

/-- The shifted exponential of a masked score is the shifted weight. -/
theorem exp_seen (b : Bool) (r m : ℝ) : Ideal.exp (seen b r - (m : EReal)) = ((if b then Real.exp (r - m) else 0 : ℝ) : EReal) := by
  unfold seen; split
  · rw [← EReal.coe_sub]; rfl
  · rw [EReal.bot_sub]; rfl

end Cert.Sink
-- ==== Proof.Tile.lean ====
/- What one block of the attention gradient computes, when everything it reads is real. A block holds one pair of key windows
   (the previous one and its own) of one kv head, and the 8 × 128 query rows of the head's group, laid out as 1024 columns.
   A column's keys are `Key`: the previous window's on the left, the own window's on the right. -/
module

public import proofs.«01_k».proof.Proof.Gen.KernelIdeal.Skeleton
public import proofs.«01_k».proof.Proof.Softmax
public import Idealize.ShloMosaic.Lib.Pointwise
public import Idealize.ShloMosaic.Lib.WordCmp

@[expose] public section

set_option maxRecDepth 16384

noncomputable section

namespace Cert.Tile

open Cert.KernelIdeal Cert.KernelIdeal.Gen Idealize.ShloMosaic Cert.Sink

/-! ## The constants -/

theorem eighth : Ideal.ofBits .f32 1040187392#32 = ((1 / 8 : ℝ) : EReal) := by
  simp [Ideal.ofBits, Ideal.ieee, -EReal.coe_mul]; norm_num

theorem bot_bits : Ideal.ofBits .f32 4286578688#32 = ⊥ := by
  simp [Ideal.ofBits, Ideal.ieee]

theorem mask_bot : (Named.named κ "mask" 0xF149F2CA#32 : Ideal .f32) = ⊥ := rfl

/-! ## Which keys a column sees -/

abbrev Key := Fin 128 ⊕ Fin 128

/-- The head within the group, of a column. -/
def hd (c : Fin 1024) : Fin 8 := ⟨c.val / 128, by omega⟩

/-- The query position within the window, of a column. -/
def ln (c : Fin 1024) : Fin 128 := ⟨c.val % 128, by omega⟩

/-- A key of the previous window is seen from earlier positions, and never from the first window. -/
def past (first : Bool) (q k : Fin 128) : Bool := decide (q.val < k.val) && !first

/-- A key of the own window is seen from its position on. -/
def here (q k : Fin 128) : Bool := decide (k.val ≤ q.val)

def vis (first : Bool) (q : Fin 128) : Key → Bool := Sum.elim (past first q) (here q)

theorem and127 : ∀ c : Fin 1024, IntOp.andi (BitVec.ofNat 32 c.val) 127#32 = BitVec.ofNat 32 (c.val % 128) := by
  decide +kernel

theorem pay11_val (i : grid0.Coords) (k : Fin 128) (c : Fin 1024) :
    k0_pay11 i (ix2 k c) = BitVec.ofBool (past (decide ((i 1).val = 0)) (ln c) k) := by
  pointwise [k0_pay11, k0_pay10]
  have h1 : (i 1).val < 32 := (i 1).isLt
  rw [and127, WordCmp.cmpi_sgt_ofNat (by omega) (by omega)]
  have h2 : Scalar.cmpi .eq (BitVec.ofNat 32 (i 1).val) 0#32 = BitVec.ofBool (decide ((i 1).val = 0)) := by
    have := WordCmp.cmpi_eq_ofNat (w := 32) (a := (i 1).val) (b := 0) (by omega) (by omega)
    exact this
  rw [h2]
  unfold past ln
  rcases Decidable.em ((i 1).val = 0) with h | h <;> rcases Decidable.em (c.val % 128 < k.val) with h' | h' <;>
    simp [h, h', Scalar.xori, IntOp.andi, IntOp.xori]

theorem pay13_val (k : Fin 128) (c : Fin 1024) :
    k0_pay13 k0_pay10 (iota .tc S128x1024 32 [0] iota_S128x1024_d0_w32) (ix2 k c) = BitVec.ofBool (here (ln c) k) := by
  pointwise [k0_pay13, k0_pay10]
  rw [and127, WordCmp.cmpi_sle_ofNat (by omega) (by omega)]
  rfl

/-! ## The products of a column -/

/-- A real array, as an array of extended reals. -/
def up {s : Shape} (x : s.Idx → ℝ) : Vec Ideal s .f32 := fun j => ((x j : ℝ) : EReal)

def score (Q : S1x8x128x64.Idx → ℝ) (K : S1x128x64.Idx → ℝ) (h : Fin 8) (n k : Fin 128) : ℝ :=
  (∑ x : Fin 64, K (ix3 0 k x) * Q (ix4 0 h n x)) * (1 / 8)

def dprob (DO : S1x8x128x64.Idx → ℝ) (V : S1x128x64.Idx → ℝ) (h : Fin 8) (n k : Fin 128) : ℝ :=
  ∑ x : Fin 64, DO (ix4 0 h n x) * V (ix3 0 k x)

section Products

variable (Q : S1x8x128x64.Idx → ℝ) (K : S1x128x64.Idx → ℝ)

theorem pay7_val (k : Fin 128) (c : Fin 1024) :
    k0_pay7 (F := Ideal) (up Q) (up K) (ix2 k c) = (score Q K (hd c) (ln c) k : EReal) := by
  pointwise [k0_pay7, k0_pay6, k0_pay5, up]
  rw [eighth]
  simp only [← EReal.coe_mul, coe_sum]
  rfl

theorem pay9_val (k : Fin 128) (c : Fin 1024) :
    k0_pay9 (F := Ideal) (up Q) (up K) (ix2 k c) = (score Q K (hd c) (ln c) k : EReal) := by
  pointwise [k0_pay9, k0_pay8, k0_pay5, up]
  rw [eighth]
  simp only [← EReal.coe_mul, coe_sum]
  rfl

theorem pay38_val (x : Fin 64) (c : Fin 1024) :
    k0_pay38 (F := Ideal) (up Q) (ix2 x c) = (Q (ix4 0 (hd c) (ln c) x) : EReal) := by
  pointwise [k0_pay38, up]
  rfl

theorem pay5_val (x : Fin 64) (c : Fin 1024) :
    k0_pay5 (F := Ideal) (up Q) (ix2 c x) = (Q (ix4 0 (hd c) (ln c) x) : EReal) := by
  pointwise [k0_pay5, up]
  rfl

theorem pay6_val (k : Fin 128) (x : Fin 64) :
    k0_pay6 (F := Ideal) (up K) (ix2 k x) = (K (ix3 0 k x) : EReal) := by
  pointwise [k0_pay6, up]

theorem pay8_val (k : Fin 128) (x : Fin 64) :
    k0_pay8 (F := Ideal) (up K) (ix2 k x) = (K (ix3 0 k x) : EReal) := by
  pointwise [k0_pay8, up]

theorem pay40_val (k : Fin 128) (c : Fin 1024) :
    k0_pay40 (F := Ideal) (k0_pay3 (up K)) (up Q) (ix2 k c) = (dprob Q K (hd c) (ln c) k : EReal) := by
  pointwise [k0_pay40, k0_pay38, k0_pay3, up]
  simp only [← EReal.coe_mul, coe_sum]
  rfl

theorem pay43_val (k : Fin 128) (c : Fin 1024) :
    k0_pay43 (F := Ideal) (k0_pay35 (k0_pay2 (up K))) (k0_pay38 (up Q)) (ix2 k c) =
      (dprob Q K (hd c) (ln c) k : EReal) := by
  pointwise [k0_pay43, k0_pay38, k0_pay35, k0_pay2, up]
  simp only [← EReal.coe_mul, coe_sum]
  rfl

end Products

/-! ## The maximum: real, and attained -/

section Maximum

variable {v18 v22 : FVec Ideal S128x1024 .f32} {v25 v26 : IVec S128x1024 32} {v30 : IVec S128x1024 1} {cst : Ideal .f32}
  {v13 : FVec Ideal S1x1024 .f32}
  {b b' : Fin 1024 → Fin 128 → Bool} {s s' : Fin 1024 → Fin 128 → ℝ} {σ : Fin 1024 → ℝ}
  (h18 : ∀ k c, v18 (ix2 k c) = (s c k : EReal)) (h30 : ∀ k c, v30 (ix2 k c) = BitVec.ofBool (b c k)) (hc : cst = ⊥)
  (h22 : ∀ k c, v22 (ix2 k c) = (s' c k : EReal)) (h13' : ∀ k c, k0_pay13 v25 v26 (ix2 k c) = BitVec.ofBool (b' c k))
  (h13 : ∀ c, v13 (ix2 0 c) = (σ c : EReal))

include h18 h30 hc in
theorem pay12_val (k : Fin 128) (c : Fin 1024) : k0_pay12 v18 v30 cst (ix2 k c) = seen (b c k) (s c k) := by
  pointwise [k0_pay12]
  rw [h18, h30, hc, WordCmp.select_ofBool]
  rfl

include h22 h13' in
theorem pay14_val (k : Fin 128) (c : Fin 1024) : k0_pay14 (F := Ideal) v22 v25 v26 (ix2 k c) = seen (b' c k) (s' c k) := by
  pointwise [k0_pay14]
  rw [h22, h13', WordCmp.select_ofBool]
  rfl

include h18 h30 hc in
theorem pay15_val (c : Fin 1024) : k0_pay15 v18 v30 cst (ix1 c) = Finset.univ.fold max ⊥ fun k => seen (b c k) (s c k) := by
  pointwise [k0_pay15]
  rw [bot_bits]
  simp only [pay12_val h18 h30 hc]

include h22 h13' in
theorem pay19_val (c : Fin 1024) :
    k0_pay19 (F := Ideal) v22 v25 v26 (ix1 c) = Finset.univ.fold max ⊥ fun k => seen (b' c k) (s' c k) := by
  pointwise [k0_pay19]
  rw [bot_bits]
  simp only [pay14_val h22 h13']

/-- A sum of indicators, one of which is one, is not zero. -/
theorem count_ne_zero {n : ℕ} [NeZero n] (f : Fin n → EReal) :
    (∑ x : Fin n, (FloatOps.sitofp FTy.f32 (BitVec.setWidth 32 (BitVec.ofBool (decide (f x = Finset.univ.fold max ⊥ f)))) : Ideal .f32)) ≠
      (0 : EReal) := by
  obtain ⟨k, hk⟩ := fold_max_mem f
  have h0 : ∀ x : Fin n, (0 : EReal) ≤ (FloatOps.sitofp FTy.f32
      (BitVec.setWidth 32 (BitVec.ofBool (decide (f x = Finset.univ.fold max ⊥ f)))) : Ideal .f32) := by
    intro x
    show (0 : EReal) ≤ (((BitVec.setWidth 32 (BitVec.ofBool (decide (f x = Finset.univ.fold max ⊥ f)))).toInt : ℝ) : EReal)
    rcases Decidable.em (f x = Finset.univ.fold max ⊥ f) with h | h <;> simp [h]
  have h1 : (1 : EReal) = (FloatOps.sitofp FTy.f32
      (BitVec.setWidth 32 (BitVec.ofBool (decide (f k = Finset.univ.fold max ⊥ f)))) : Ideal .f32) := by
    show (1 : EReal) = (((BitVec.setWidth 32 (BitVec.ofBool (decide (f k = Finset.univ.fold max ⊥ f)))).toInt : ℝ) : EReal)
    simp [hk]
  have h2 := Finset.single_le_sum (fun x _ => h0 x) (Finset.mem_univ k)
  rw [← h1] at h2
  exact (lt_of_lt_of_le zero_lt_one h2).ne'

include h18 h30 hc in
theorem pay17_ne (c : Fin 1024) : k0_pay17 v18 v30 cst (ix1 c) ≠ (0 : EReal) := by
  have h : k0_pay17 v18 v30 cst (ix1 c) = ∑ k, k0_pay16 v18 v30 cst (ix2 k c) := by pointwise [k0_pay17]
  have h' : ∀ k, k0_pay16 v18 v30 cst (ix2 k c) = FloatOps.sitofp FTy.f32 (BitVec.setWidth 32 (BitVec.ofBool
      (decide (k0_pay12 v18 v30 cst (ix2 k c) = k0_pay15 v18 v30 cst (ix1 c))))) := fun k => by pointwise [k0_pay16]
  rw [h]
  simp only [h', pay12_val h18 h30 hc, pay15_val h18 h30 hc]
  exact count_ne_zero _

include h22 h13' in
theorem pay21_ne (c : Fin 1024) : k0_pay21 (F := Ideal) v22 v25 v26 (ix1 c) ≠ (0 : EReal) := by
  have h : k0_pay21 (F := Ideal) v22 v25 v26 (ix1 c) = ∑ k, k0_pay20 (F := Ideal) v22 v25 v26 (ix2 k c) := by pointwise [k0_pay21]
  have h' : ∀ k, k0_pay20 (F := Ideal) v22 v25 v26 (ix2 k c) = FloatOps.sitofp FTy.f32 (BitVec.setWidth 32 (BitVec.ofBool
      (decide (k0_pay14 (F := Ideal) v22 v25 v26 (ix2 k c) = k0_pay19 (F := Ideal) v22 v25 v26 (ix1 c))))) := fun k => by
    pointwise [k0_pay20]
  rw [h]
  simp only [h', pay14_val h22 h13', pay19_val h22 h13']
  exact count_ne_zero _

include h18 h30 hc h22 h13' h13 in
theorem pay26_val (c : Fin 1024) : k0_pay26 v13 v18 v22 v25 v26 v30 cst (ix2 0 c) =
    ((EReal.toReal (k0_pay26 v13 v18 v22 v25 v26 v30 cst (ix2 0 c)) : ℝ) : EReal) := by
  have h : k0_pay26 v13 v18 v22 v25 v26 v30 cst (ix2 0 c) =
      max (max (k0_pay15 v18 v30 cst (ix1 c)) (k0_pay19 (F := Ideal) v22 v25 v26 (ix1 c))) (v13 (ix2 0 c)) := by
    pointwise [k0_pay26, k0_pay23, k0_pay22, k0_pay18]
  have h' : max (k0_pay15 v18 v30 cst (ix1 c)) (k0_pay19 (F := Ideal) v22 v25 v26 (ix1 c)) ≠ (⊤ : EReal) := by
    rw [pay15_val h18 h30 hc, pay19_val h22 h13']
    rcases max_choice (Finset.univ.fold max ⊥ fun k => seen (b c k) (s c k)) (Finset.univ.fold max ⊥ fun k => seen (b' c k) (s' c k))
      with e | e <;> rw [e] <;> exact fold_max_ne_top _ fun k => seen_ne_top _ _
  obtain ⟨r, hr⟩ := max_real h' (σ c)
  rw [h, h13, hr]
  rfl

end Maximum

/-! ## The gradient of a column, from its weights -/

section Grad

variable {M : Fin 1024 → Key → Bool} {s dp : Fin 1024 → Key → ℝ} {σ m : Fin 1024 → ℝ}
  {v13 v67 v95 v101 v94 v165 v170 v81 v149 v66 v74 : FVec Ideal S1x1024 .f32}
  {v32 v35 v84 v87 v120 v123 v160 v166 v49 : FVec Ideal S128x1024 .f32}
  {v96 : FVec Ideal S128x64 .bf16} {v113 : FVec Ideal S64x1024 .f32} {v11 : FVec Ideal S128x64 .f32}
  {v110 : Vec Ideal S1x8x128x64 .f32} {v50 : FVec Ideal S1024 .f32} {v33 : IVec S128x1024 1}
  (h13 : ∀ c, v13 (ix2 0 c) = (σ c : EReal)) (h67 : ∀ c, v67 (ix2 0 c) = (m c : EReal))
  (h32 : ∀ k c, v32 (ix2 k c) = seen (M c (.inl k)) (s c (.inl k)))
  (h35 : ∀ k c, v35 (ix2 k c) = seen (M c (.inr k)) (s c (.inr k)))

include h32 h67 in
theorem pay31_val (k : Fin 128) (c : Fin 1024) : k0_pay31 v32 v67 (ix2 k c) = (swt (M c) (s c) (m c) (.inl k) : EReal) := by
  pointwise [k0_pay31]
  rw [h32, h67, exp_seen]
  rfl

include h35 h67 in
theorem pay32_val (k : Fin 128) (c : Fin 1024) : k0_pay32 v35 v67 (ix2 k c) = (swt (M c) (s c) (m c) (.inr k) : EReal) := by
  pointwise [k0_pay32]
  rw [h35, h67, exp_seen]
  rfl

include h13 h67 in
theorem pay33_val (c : Fin 1024) : k0_pay33 v13 v67 (ix2 0 c) = (Real.exp (σ c - m c) : EReal) := by
  pointwise [k0_pay33]
  rw [h13, h67, ← EReal.coe_sub]
  rfl

include h13 h67 h32 h35 in
theorem pay34_val (c : Fin 1024) : k0_pay34 v13 v32 v35 v67 (ix2 0 c) = (stot (M c) (s c) (σ c) (m c) : EReal) := by
  have h : k0_pay34 v13 v32 v35 v67 (ix2 0 c) =
      (∑ k, k0_pay31 v32 v67 (ix2 k c)) + (∑ k, k0_pay32 v35 v67 (ix2 k c)) + k0_pay33 v13 v67 (ix2 0 c) := by
    pointwise [k0_pay34]
  rw [h]
  simp only [pay31_val h67 h32, pay32_val h67 h35, pay33_val h13 h67, coe_sum, ← EReal.coe_add]
  unfold stot
  rw [Fintype.sum_sum_type]

include h13 h67 h32 h35 in
theorem pay36_val (c : Fin 1024) : k0_pay36 v13 v32 v35 v67 (ix2 0 c) =
    ((1 / (stot (M c) (s c) (σ c) (m c) * stot (M c) (s c) (σ c) (m c)) : ℝ) : EReal) := by
  pointwise [k0_pay36]
  rw [pay34_val h13 h67 h32 h35, ← EReal.coe_mul, ← EReal.coe_one, div_real]
  exact (mul_pos (stot_pos _ _ _ _) (stot_pos _ _ _ _)).ne'

include h13 h67 h32 h35 in
theorem pay37_val (k : Fin 128) (c : Fin 1024) : k0_pay37 v13 v32 v35 v67 (ix2 k c) = (prob (M c) (s c) (σ c) (.inl k) : EReal) := by
  have h : k0_pay37 v13 v32 v35 v67 (ix2 k c) = Ideal.div (k0_pay31 v32 v67 (ix2 k c)) (k0_pay34 v13 v32 v35 v67 (ix2 0 c)) := by
    pointwise [k0_pay37]
  rw [h, pay34_val h13 h67 h32 h35, pay31_val h67 h32, div_real _ (stot_pos _ _ _ _).ne', swt_div]

include h13 h67 h32 h35 in
theorem pay41_val (h40 : ∀ k c, k0_pay40 v11 v110 (ix2 k c) = (dp c (.inr k) : EReal)) (k : Fin 128) (c : Fin 1024) :
    k0_pay41 v11 v13 v32 v35 v67 v110 (ix2 k c) =
    ((dp c (.inr k) * (1 / (stot (M c) (s c) (σ c) (m c) * stot (M c) (s c) (σ c) (m c))) * swt (M c) (s c) (m c) (.inr k) : ℝ) : EReal) := by
  have h : k0_pay41 v11 v13 v32 v35 v67 v110 (ix2 k c) =
      k0_pay40 v11 v110 (ix2 k c) * k0_pay36 v13 v32 v35 v67 (ix2 0 c) * k0_pay32 v35 v67 (ix2 k c) := by
    pointwise [k0_pay41, k0_pay36]
  rw [h, h40, pay36_val h13 h67 h32 h35, pay32_val h67 h35, ← EReal.coe_mul, ← EReal.coe_mul]

variable
  (h84 : ∀ k c, v84 (ix2 k c) = (swt (M c) (s c) (m c) (.inl k) : EReal))
  (h87 : ∀ k c, v87 (ix2 k c) = (swt (M c) (s c) (m c) (.inr k) : EReal))
  (h95 : ∀ c, v95 (ix2 0 c) = (stot (M c) (s c) (σ c) (m c) : EReal))
  (h94 : ∀ c, v94 (ix2 0 c) = (Real.exp (σ c - m c) : EReal))
  (h101 : ∀ c, v101 (ix2 0 c) = ((1 / (stot (M c) (s c) (σ c) (m c) * stot (M c) (s c) (σ c) (m c)) : ℝ) : EReal))
  (h43 : ∀ k c, k0_pay43 v96 v113 (ix2 k c) = (dp c (.inl k) : EReal))
  (h120 : ∀ k c, v120 (ix2 k c) = (dp c (.inr k) : EReal))
  (h123 : ∀ k c, v123 (ix2 k c) =
    ((dp c (.inr k) * (1 / (stot (M c) (s c) (σ c) (m c) * stot (M c) (s c) (σ c) (m c))) * swt (M c) (s c) (m c) (.inr k) : ℝ) : EReal))

include h84 h101 h43 h123 in
theorem pay44_val (c : Fin 1024) : k0_pay44 v84 v96 v101 v113 v123 (ix2 0 c) = (dtot (M c) (s c) (σ c) (dp c) (m c) : EReal) := by
  have h : k0_pay44 v84 v96 v101 v113 v123 (ix2 0 c) =
      0 - (∑ k, v123 (ix2 k c)) + (0 - ∑ k, k0_pay43 v96 v113 (ix2 k c) * v101 (ix2 0 c) * v84 (ix2 k c)) := by
    pointwise [k0_pay44]
  rw [h]
  simp only [h123, h43, h101, h84, ← EReal.coe_mul, coe_sum, ← EReal.coe_zero, ← EReal.coe_sub, ← EReal.coe_add]
  congr 1
  unfold dtot
  rw [Fintype.sum_sum_type]
  ring

include h84 h101 h43 h123 h94 in
theorem pay46_val (c : Fin 1024) : k0_pay46 v84 v94 v96 v101 v113 v123 (ix2 0 c) = (dsink (M c) (s c) (σ c) (dp c) : EReal) := by
  have h : k0_pay46 v84 v94 v96 v101 v113 v123 (ix2 0 c) = k0_pay44 v84 v96 v101 v113 v123 (ix2 0 c) * v94 (ix2 0 c) := by
    pointwise [k0_pay46]
  rw [h, pay44_val h84 h101 h43 h123, h94, ← EReal.coe_mul, dtot_mul_sink]

include h84 h101 h43 h123 h95 h120 h87 in
theorem pay47_val (k : Fin 128) (c : Fin 1024) : k0_pay47 v84 v87 v95 v96 v101 v113 v120 v123 (ix2 k c) =
    (dscore (M c) (s c) (σ c) (dp c) (.inr k) : EReal) := by
  have h : k0_pay47 v84 v87 v95 v96 v101 v113 v120 v123 (ix2 k c) =
      (Ideal.div (v120 (ix2 k c)) (v95 (ix2 0 c)) + ∑ x : Fin 1, k0_pay44 v84 v96 v101 v113 v123 (ix2 x c)) * v87 (ix2 k c) := by
    pointwise [k0_pay47]
  rw [h, Fin.sum_univ_one, pay44_val h84 h101 h43 h123, h95, h120, h87, div_real _ (stot_pos _ _ _ _).ne', ← EReal.coe_add,
    ← EReal.coe_mul, dscore_shift]

include h84 h101 h43 h123 h95 in
theorem pay49_val (k : Fin 128) (c : Fin 1024) : k0_pay49 v84 v95 v96 v101 v113 v123 (ix2 k c) =
    (dscore (M c) (s c) (σ c) (dp c) (.inl k) : EReal) := by
  have h : k0_pay49 v84 v95 v96 v101 v113 v123 (ix2 k c) =
      (Ideal.div (k0_pay43 v96 v113 (ix2 k c)) (v95 (ix2 0 c)) + ∑ x : Fin 1, k0_pay44 v84 v96 v101 v113 v123 (ix2 x c)) *
        v84 (ix2 k c) := by
    pointwise [k0_pay49]
  rw [h, Fin.sum_univ_one, pay44_val h84 h101 h43 h123, h95, h43, h84, div_real _ (stot_pos _ _ _ _).ne', ← EReal.coe_add,
    ← EReal.coe_mul, dscore_shift]

include h84 h101 h43 h123 h95 h120 h87 h94 in
/-- The gradient of the row's maximum is zero. -/
theorem max_grad_zero (c : Fin 1024) : k0_pay48 v84 v87 v94 v95 v96 v101 v113 v120 v123 (ix2 0 c) +
    k0_pay50 v84 v95 v96 v101 v113 v123 (ix2 0 c) = (0 : EReal) := by
  have h : k0_pay48 v84 v87 v94 v95 v96 v101 v113 v120 v123 (ix2 0 c) =
      0 - k0_pay46 v84 v94 v96 v101 v113 v123 (ix2 0 c) +
        ∑ k, (0 - k0_pay47 v84 v87 v95 v96 v101 v113 v120 v123 (ix2 k c)) := by
    pointwise [k0_pay48]
  have h' : k0_pay50 v84 v95 v96 v101 v113 v123 (ix2 0 c) = ∑ k, (0 - k0_pay49 v84 v95 v96 v101 v113 v123 (ix2 k c)) := by
    pointwise [k0_pay50]
  rw [h, h']
  simp only [pay46_val h84 h94 h101 h43 h123, pay47_val h84 h87 h95 h101 h43 h120 h123, pay49_val h84 h95 h101 h43 h123,
    ← EReal.coe_zero, ← EReal.coe_sub, coe_sum, ← EReal.coe_add]
  congr 1
  have := sum_grad (M c) (s c) (σ c) (dp c)
  rw [Fintype.sum_sum_type] at this
  simp only [zero_sub, Finset.sum_neg_distrib]
  linarith

variable (hz : ∀ c, v165 (ix2 0 c) + v170 (ix2 0 c) = (0 : EReal))

include hz in
theorem pay52_val (c : Fin 1024) : k0_pay52 v81 v149 v165 v170 (ix2 0 c) = v149 (ix2 0 c) := by
  have h : k0_pay52 v81 v149 v165 v170 (ix2 0 c) = v149 (ix2 0 c) + (v165 (ix2 0 c) + v170 (ix2 0 c)) * v81 (ix2 0 c) := by
    pointwise [k0_pay52, k0_pay51]
  rw [h, hz, zero_mul, add_zero]

/-- A zero gradient shared among the maximal keys adds nothing. -/
theorem div_zero_left {n : EReal} (h : n ≠ 0) : Ideal.div 0 n = 0 := by
  unfold Ideal.div; rw [if_neg h, zero_mul]

include hz in
theorem pay54_val {b : Fin 1024 → Fin 128 → Bool} {g : Fin 1024 → Fin 128 → ℝ} (h33 : ∀ k c, v33 (ix2 k c) = BitVec.ofBool (b c k))
    (h160 : ∀ k c, v160 (ix2 k c) = (g c k : EReal)) (h0 : ∀ k c, b c k = false → g c k = 0)
    (hn : ∀ c, v50 (ix1 c) ≠ (0 : EReal)) (k : Fin 128) (c : Fin 1024) :
    k0_pay54 v33 v49 v50 v66 v74 v160 v165 v170 (ix2 k c) = ((g c k * (1 / 8) : ℝ) : EReal) := by
  have h : k0_pay54 v33 v49 v50 v66 v74 v160 v165 v170 (ix2 k c) =
      Scalar.select (v33 (ix2 k c)) (v160 (ix2 k c) + Ideal.div (∑ x : Fin 1, (v165 (ix2 x c) + v170 (ix2 x c)) * v74 (ix2 x c) *
        v66 (ix2 x c)) (v50 (ix1 c)) * v49 (ix2 k c)) 0 * Ideal.ofBits .f32 1040187392#32 := by
    pointwise [k0_pay54, k0_pay53, k0_pay51]
  rw [h, Fin.sum_univ_one, hz, zero_mul, zero_mul, div_zero_left (hn c), zero_mul, add_zero, h33, h160, WordCmp.select_ofBool, eighth]
  cases hb : b c k
  · rw [h0 k c hb]; simp
  · rw [if_pos rfl, ← EReal.coe_mul]

include hz in
theorem pay56_val {b : Fin 1024 → Fin 128 → Bool} {g : Fin 1024 → Fin 128 → ℝ} (h33 : ∀ k c, v33 (ix2 k c) = BitVec.ofBool (b c k))
    (h160 : ∀ k c, v160 (ix2 k c) = (g c k : EReal)) (h0 : ∀ k c, b c k = false → g c k = 0)
    (hn : ∀ c, v50 (ix1 c) ≠ (0 : EReal)) (k : Fin 128) (c : Fin 1024) :
    k0_pay56 v33 v49 v50 v66 v74 v165 v160 v170 (ix2 k c) = ((g c k * (1 / 8) : ℝ) : EReal) := by
  have h : k0_pay56 v33 v49 v50 v66 v74 v165 v160 v170 (ix2 k c) =
      Scalar.select (v33 (ix2 k c)) (v160 (ix2 k c) + Ideal.div (∑ x : Fin 1, (v165 (ix2 x c) + v170 (ix2 x c)) * v74 (ix2 x c) *
        v66 (ix2 x c)) (v50 (ix1 c)) * v49 (ix2 k c)) 0 * Ideal.ofBits .f32 1040187392#32 := by
    pointwise [k0_pay56, k0_pay53, k0_pay51]
  rw [h, Fin.sum_univ_one, hz, zero_mul, zero_mul, div_zero_left (hn c), zero_mul, add_zero, h33, h160, WordCmp.select_ofBool, eighth]
  cases hb : b c k
  · rw [h0 k c hb]; simp
  · rw [if_pos rfl, ← EReal.coe_mul]

end Grad

end Cert.Tile
-- ==== Proof.Block.lean ====
/- The six results of one block, over real inputs, as gradients of its rows: `Tile`'s payloads put together. -/
module

public import proofs.«01_k».proof.Proof.Tile

@[expose] public section

set_option maxRecDepth 16384

noncomputable section

namespace Cert.Tile

open Cert.KernelIdeal Cert.KernelIdeal.Gen Idealize.ShloMosaic Cert.Sink

/-! ## The block's values, named -/

section Names

variable (i : grid0.Coords) (q d : Vec Ideal S1x8x128x64 .f32) (kp kc vp vc : Vec Ideal S1x128x64 .f32) (sk : Vec Ideal S1x1x1024 .f32)

def msk : Ideal .f32 := Named.named κ "mask" 0xF149F2CA#32
def rowIota : IVec S128x1024 32 := iota .tc S128x1024 32 [0] iota_S128x1024_d0_w32
def top : FVec Ideal S1x1024 .f32 := k0_pay26 (k0_pay4 sk) (k0_pay7 q kp) (k0_pay9 q kc) k0_pay10 rowIota (k0_pay11 i) msk
def sP : FVec Ideal S128x1024 .f32 := k0_pay12 (k0_pay7 q kp) (k0_pay11 i) msk
def sC : FVec Ideal S128x1024 .f32 := k0_pay14 (k0_pay9 q kc) k0_pay10 rowIota
def eP : FVec Ideal S128x1024 .f32 := k0_pay31 (sP i q kp) (top i q kp kc sk)
def eC : FVec Ideal S128x1024 .f32 := k0_pay32 (sC q kc) (top i q kp kc sk)
def eS : FVec Ideal S1x1024 .f32 := k0_pay33 (k0_pay4 sk) (top i q kp kc sk)
def nrm : FVec Ideal S1x1024 .f32 := k0_pay34 (k0_pay4 sk) (sP i q kp) (sC q kc) (top i q kp kc sk)
def rsq : FVec Ideal S1x1024 .f32 := k0_pay36 (k0_pay4 sk) (sP i q kp) (sC q kc) (top i q kp kc sk)
def gC : FVec Ideal S128x1024 .f32 := k0_pay41 (k0_pay3 vc) (k0_pay4 sk) (sP i q kp) (sC q kc) (top i q kp kc sk) d
def vPb : FVec Ideal S128x64 .bf16 := k0_pay35 (k0_pay2 vp)
def dT : FVec Ideal S64x1024 .f32 := k0_pay38 d
def dC : FVec Ideal S128x1024 .f32 := k0_pay40 (k0_pay3 vc) d
def sinkPart : FVec Ideal S1x1024 .f32 :=
  k0_pay46 (eP i q kp kc sk) (eS i q kp kc sk) (vPb vp) (rsq i q kp kc sk) (dT d) (gC i q d kp kc vc sk)
def dsC : FVec Ideal S128x1024 .f32 :=
  k0_pay47 (eP i q kp kc sk) (eC i q kp kc sk) (nrm i q kp kc sk) (vPb vp) (rsq i q kp kc sk) (dT d) (dC d vc) (gC i q d kp kc vc sk)
def mA : FVec Ideal S1x1024 .f32 :=
  k0_pay48 (eP i q kp kc sk) (eC i q kp kc sk) (eS i q kp kc sk) (nrm i q kp kc sk) (vPb vp) (rsq i q kp kc sk) (dT d) (dC d vc)
    (gC i q d kp kc vc sk)
def dsP : FVec Ideal S128x1024 .f32 :=
  k0_pay49 (eP i q kp kc sk) (nrm i q kp kc sk) (vPb vp) (rsq i q kp kc sk) (dT d) (gC i q d kp kc vc sk)
def mB : FVec Ideal S1x1024 .f32 :=
  k0_pay50 (eP i q kp kc sk) (nrm i q kp kc sk) (vPb vp) (rsq i q kp kc sk) (dT d) (gC i q d kp kc vc sk)
def tieS : FVec Ideal S1x1024 .f32 :=
  k0_pay30 (k0_pay28 (k0_pay4 sk) (k0_pay7 q kp) (k0_pay9 q kc) k0_pay10 rowIota (k0_pay11 i) msk)
    (k0_pay29 (k0_pay4 sk) (k0_pay7 q kp) (k0_pay9 q kc) k0_pay10 rowIota (k0_pay11 i) msk)
def tieK : FVec Ideal S1x1024 .f32 := k0_pay27 (k0_pay4 sk) (k0_pay7 q kp) (k0_pay9 q kc) k0_pay10 rowIota (k0_pay11 i) msk
def tieP : FVec Ideal S1x1024 .f32 := k0_pay24 (k0_pay7 q kp) (k0_pay9 q kc) k0_pay10 rowIota (k0_pay11 i) msk
def tieC : FVec Ideal S1x1024 .f32 := k0_pay25 (k0_pay7 q kp) (k0_pay9 q kc) k0_pay10 rowIota (k0_pay11 i) msk
def indP : FVec Ideal S128x1024 .f32 := k0_pay16 (k0_pay7 q kp) (k0_pay11 i) msk
def cntP : FVec Ideal S1024 .f32 := k0_pay17 (k0_pay7 q kp) (k0_pay11 i) msk
def indC : FVec Ideal S128x1024 .f32 := k0_pay20 (k0_pay9 q kc) k0_pay10 rowIota
def cntC : FVec Ideal S1024 .f32 := k0_pay21 (k0_pay9 q kc) k0_pay10 rowIota

/-- The block of the queries' gradient. -/
def outQ : FVec Ideal S1x8x128x64 .f32 :=
  k0_pay58 (k0_pay6 kp) (k0_pay8 kc) (k0_pay11 i) (k0_pay13 k0_pay10 rowIota) (indP i q kp) (cntP i q kp) (indC q kc) (cntC q kc)
    (tieP i q kp kc) (tieC i q kp kc) (tieK i q kp kc sk) (dsC i q d kp kc vp vc sk) (mA i q d kp kc vp vc sk)
    (dsP i q d kp kc vp vc sk) (mB i q d kp kc vp vc sk)

/-- The block's part of the previous window's keys' gradient. -/
def outKP : FVec Ideal S1x1x128x64 .f32 :=
  k0_pay59 (k0_pay57 (k0_pay5 q) (k0_pay11 i) (indP i q kp) (cntP i q kp) (tieP i q kp kc) (tieK i q kp kc sk)
    (mA i q d kp kc vp vc sk) (dsP i q d kp kc vp vc sk) (mB i q d kp kc vp vc sk))

/-- The block's part of its own window's keys' gradient. -/
def outKC : FVec Ideal S1x1x128x64 .f32 :=
  k0_pay60 (k0_pay55 (k0_pay5 q) (k0_pay13 k0_pay10 rowIota) (indC q kc) (cntC q kc) (tieC i q kp kc) (tieK i q kp kc sk)
    (dsC i q d kp kc vp vc sk) (mA i q d kp kc vp vc sk) (mB i q d kp kc vp vc sk))

/-- The block's part of the previous window's values' gradient. -/
def outVP : FVec Ideal S1x1x128x64 .f32 :=
  k0_pay61 (k0_pay45 (k0_pay37 (k0_pay4 sk) (sP i q kp) (sC q kc) (top i q kp kc sk)) (dT d))

/-- The block's part of its own window's values' gradient. -/
def outVC : FVec Ideal S1x1x128x64 .f32 :=
  k0_pay62 (k0_pay42 (k0_pay39 (k0_pay4 sk) (sP i q kp) (sC q kc) (top i q kp kc sk) d))

/-- The columns' parts of the sinks' gradient. -/
def sinkCols : FVec Ideal S1x1024 .f32 :=
  k0_pay52 (tieS i q kp kc sk) (sinkPart i q d kp kc vp vc sk) (mA i q d kp kc vp vc sk) (mB i q d kp kc vp vc sk)

end Names

/-! ## Their values -/

/-- The column of a head of the group and a query position. -/
def col (h : Fin 8) (n : Fin 128) : Fin 1024 := ⟨h.val * 128 + n.val, by omega⟩

theorem hd_col (h : Fin 8) (n : Fin 128) : hd (col h n) = h := by
  apply Fin.ext; show (h.val * 128 + n.val) / 128 = h.val; omega

theorem ln_col (h : Fin 8) (n : Fin 128) : ln (col h n) = n := by
  apply Fin.ext; show (h.val * 128 + n.val) % 128 = n.val; omega

/-- A sum over the columns is a sum over the heads and the positions. -/
theorem sum_col (f : Fin 8 → Fin 128 → ℝ) : (∑ c : Fin 1024, f (hd c) (ln c)) = ∑ h : Fin 8, ∑ n : Fin 128, f h n := by
  rw [← Finset.sum_product', Finset.univ_product_univ]
  refine Fintype.sum_equiv ⟨fun c => (hd c, ln c), fun p => col p.1 p.2, fun c => ?_, fun p => ?_⟩ _ _ fun c => rfl
  · apply Fin.ext; show c.val / 128 * 128 + c.val % 128 = c.val; omega
  · exact Prod.ext (hd_col _ _) (ln_col _ _)

section Values

variable (i : grid0.Coords) (q d : S1x8x128x64.Idx → ℝ) (kp kc vp vc : S1x128x64.Idx → ℝ) (sk : S1x1x1024.Idx → ℝ)

/-- Which keys a row of the block sees. -/
def rM (n : Fin 128) : Key → Bool := vis (decide ((i 1).val = 0)) n

/-- A row's scores. -/
def rS (h : Fin 8) (n : Fin 128) : Key → ℝ := Sum.elim (score q kp h n) (score q kc h n)

/-- The cotangents of a row's probabilities. -/
def rD (h : Fin 8) (n : Fin 128) : Key → ℝ := Sum.elim (dprob d vp h n) (dprob d vc h n)

/-- The gradient of a row's scores. -/
def gS (h : Fin 8) (n : Fin 128) : Key → ℝ :=
  dscore (rM i n) (rS q kp kc h n) (sk (ix3 0 0 (col h n))) (rD d vp vc h n)

/-- A row's probabilities. -/
def pS (h : Fin 8) (n : Fin 128) : Key → ℝ := prob (rM i n) (rS q kp kc h n) (sk (ix3 0 0 (col h n)))

/-- The gradient of a row's sink. -/
def gZ (h : Fin 8) (n : Fin 128) : ℝ :=
  dsink (rM i n) (rS q kp kc h n) (sk (ix3 0 0 (col h n))) (rD d vp vc h n)

theorem col_hd (c : Fin 1024) : col (hd c) (ln c) = c := by
  apply Fin.ext; show c.val / 128 * 128 + c.val % 128 = c.val; omega

theorem sink_val (c : Fin 1024) : k0_pay4 (F := Ideal) (up sk) (ix2 0 c) = ((sk (ix3 0 0 (col (hd c) (ln c))) : ℝ) : EReal) := by
  rw [col_hd]
  pointwise [k0_pay4, up]

/-- The shift of a column. -/
def sh (c : Fin 1024) : ℝ := EReal.toReal (top i (up q) (up kp) (up kc) (up sk) (ix2 0 c))

theorem top_val (c : Fin 1024) : top i (up q) (up kp) (up kc) (up sk) (ix2 0 c) = ((sh i q kp kc sk c : ℝ) : EReal) :=
  pay26_val (pay7_val q kp) (pay11_val i) mask_bot (pay9_val q kc) pay13_val (sink_val sk) c

theorem sP_val (k : Fin 128) (c : Fin 1024) :
    sP i (up q) (up kp) (ix2 k c) = seen (rM i (ln c) (.inl k)) (rS q kp kc (hd c) (ln c) (.inl k)) :=
  pay12_val (pay7_val q kp) (pay11_val i) mask_bot k c

theorem sC_val (k : Fin 128) (c : Fin 1024) :
    sC (up q) (up kc) (ix2 k c) = seen (rM i (ln c) (.inr k)) (rS q kp kc (hd c) (ln c) (.inr k)) :=
  pay14_val (pay9_val q kc) pay13_val k c

theorem eP_val (k : Fin 128) (c : Fin 1024) : eP i (up q) (up kp) (up kc) (up sk) (ix2 k c) =
    (swt (rM i (ln c)) (rS q kp kc (hd c) (ln c)) (sh i q kp kc sk c) (.inl k) : EReal) :=
  pay31_val (M := fun c => rM i (ln c)) (s := fun c => rS q kp kc (hd c) (ln c)) (m := sh i q kp kc sk)
    (top_val i q kp kc sk) (sP_val i q kp kc) k c

theorem eC_val (k : Fin 128) (c : Fin 1024) : eC i (up q) (up kp) (up kc) (up sk) (ix2 k c) =
    (swt (rM i (ln c)) (rS q kp kc (hd c) (ln c)) (sh i q kp kc sk c) (.inr k) : EReal) :=
  pay32_val (M := fun c => rM i (ln c)) (s := fun c => rS q kp kc (hd c) (ln c)) (m := sh i q kp kc sk)
    (top_val i q kp kc sk) (sC_val i q kp kc) k c

theorem eS_val (c : Fin 1024) : eS i (up q) (up kp) (up kc) (up sk) (ix2 0 c) =
    (Real.exp (sk (ix3 0 0 (col (hd c) (ln c))) - sh i q kp kc sk c) : EReal) :=
  pay33_val (sink_val sk) (top_val i q kp kc sk) c

theorem nrm_val (c : Fin 1024) : nrm i (up q) (up kp) (up kc) (up sk) (ix2 0 c) =
    (stot (rM i (ln c)) (rS q kp kc (hd c) (ln c)) (sk (ix3 0 0 (col (hd c) (ln c)))) (sh i q kp kc sk c) : EReal) :=
  pay34_val (M := fun c => rM i (ln c)) (s := fun c => rS q kp kc (hd c) (ln c)) (m := sh i q kp kc sk)
    (sink_val sk) (top_val i q kp kc sk) (sP_val i q kp kc) (sC_val i q kp kc) c

theorem rsq_val (c : Fin 1024) : rsq i (up q) (up kp) (up kc) (up sk) (ix2 0 c) =
    ((1 / (stot (rM i (ln c)) (rS q kp kc (hd c) (ln c)) (sk (ix3 0 0 (col (hd c) (ln c)))) (sh i q kp kc sk c) *
      stot (rM i (ln c)) (rS q kp kc (hd c) (ln c)) (sk (ix3 0 0 (col (hd c) (ln c)))) (sh i q kp kc sk c)) : ℝ) : EReal) :=
  pay36_val (M := fun c => rM i (ln c)) (s := fun c => rS q kp kc (hd c) (ln c)) (m := sh i q kp kc sk)
    (sink_val sk) (top_val i q kp kc sk) (sP_val i q kp kc) (sC_val i q kp kc) c

theorem dC_val (k : Fin 128) (c : Fin 1024) : dC (up d) (up vc) (ix2 k c) = (rD d vp vc (hd c) (ln c) (.inr k) : EReal) :=
  pay40_val d vc k c

theorem dP_val (k : Fin 128) (c : Fin 1024) : k0_pay43 (vPb (up vp)) (dT (up d)) (ix2 k c) = (rD d vp vc (hd c) (ln c) (.inl k) : EReal) :=
  pay43_val d vp k c

theorem gC_val (k : Fin 128) (c : Fin 1024) : gC i (up q) (up d) (up kp) (up kc) (up vc) (up sk) (ix2 k c) =
    ((rD d vp vc (hd c) (ln c) (.inr k) *
      (1 / (stot (rM i (ln c)) (rS q kp kc (hd c) (ln c)) (sk (ix3 0 0 (col (hd c) (ln c)))) (sh i q kp kc sk c) *
        stot (rM i (ln c)) (rS q kp kc (hd c) (ln c)) (sk (ix3 0 0 (col (hd c) (ln c)))) (sh i q kp kc sk c))) *
      swt (rM i (ln c)) (rS q kp kc (hd c) (ln c)) (sh i q kp kc sk c) (.inr k) : ℝ) : EReal) :=
  pay41_val (M := fun c => rM i (ln c)) (s := fun c => rS q kp kc (hd c) (ln c)) (m := sh i q kp kc sk)
    (dp := fun c => rD d vp vc (hd c) (ln c))
    (sink_val sk) (top_val i q kp kc sk) (sP_val i q kp kc) (sC_val i q kp kc) (dC_val d vp vc) k c

theorem gS_eq (c : Fin 1024) : gS i q d kp kc vp vc sk (hd c) (ln c) =
    dscore (rM i (ln c)) (rS q kp kc (hd c) (ln c)) (sk (ix3 0 0 (col (hd c) (ln c)))) (rD d vp vc (hd c) (ln c)) := rfl

theorem sinkPart_val (c : Fin 1024) : sinkPart i (up q) (up d) (up kp) (up kc) (up vp) (up vc) (up sk) (ix2 0 c) =
    (gZ i q d kp kc vp vc sk (hd c) (ln c) : EReal) :=
  pay46_val (M := fun c => rM i (ln c)) (s := fun c => rS q kp kc (hd c) (ln c)) (m := sh i q kp kc sk)
    (dp := fun c => rD d vp vc (hd c) (ln c)) (eP_val i q kp kc sk) (eS_val i q kp kc sk) (rsq_val i q kp kc sk)
    (dP_val d vp vc) (gC_val i q d kp kc vp vc sk) c

theorem dsC_val (k : Fin 128) (c : Fin 1024) : dsC i (up q) (up d) (up kp) (up kc) (up vp) (up vc) (up sk) (ix2 k c) =
    (gS i q d kp kc vp vc sk (hd c) (ln c) (.inr k) : EReal) :=
  pay47_val (M := fun c => rM i (ln c)) (s := fun c => rS q kp kc (hd c) (ln c)) (m := sh i q kp kc sk)
    (dp := fun c => rD d vp vc (hd c) (ln c)) (eP_val i q kp kc sk) (eC_val i q kp kc sk) (nrm_val i q kp kc sk) (rsq_val i q kp kc sk)
    (dP_val d vp vc) (dC_val d vp vc) (gC_val i q d kp kc vp vc sk) k c

theorem dsP_val (k : Fin 128) (c : Fin 1024) : dsP i (up q) (up d) (up kp) (up kc) (up vp) (up vc) (up sk) (ix2 k c) =
    (gS i q d kp kc vp vc sk (hd c) (ln c) (.inl k) : EReal) :=
  pay49_val (M := fun c => rM i (ln c)) (s := fun c => rS q kp kc (hd c) (ln c)) (m := sh i q kp kc sk)
    (dp := fun c => rD d vp vc (hd c) (ln c)) (eP_val i q kp kc sk) (nrm_val i q kp kc sk) (rsq_val i q kp kc sk)
    (dP_val d vp vc) (gC_val i q d kp kc vp vc sk) k c

theorem m_zero (c : Fin 1024) : mA i (up q) (up d) (up kp) (up kc) (up vp) (up vc) (up sk) (ix2 0 c) +
    mB i (up q) (up d) (up kp) (up kc) (up vp) (up vc) (up sk) (ix2 0 c) = (0 : EReal) :=
  max_grad_zero (M := fun c => rM i (ln c)) (s := fun c => rS q kp kc (hd c) (ln c)) (m := sh i q kp kc sk)
    (dp := fun c => rD d vp vc (hd c) (ln c)) (eP_val i q kp kc sk) (eC_val i q kp kc sk) (nrm_val i q kp kc sk) (eS_val i q kp kc sk)
    (rsq_val i q kp kc sk) (dP_val d vp vc) (dC_val d vp vc) (gC_val i q d kp kc vp vc sk) c

theorem cntP_ne (c : Fin 1024) : cntP i (up q) (up kp) (ix1 c) ≠ (0 : EReal) :=
  pay17_ne (pay7_val q kp) (pay11_val i) mask_bot c

theorem cntC_ne (c : Fin 1024) : cntC (up q) (up kc) (ix1 c) ≠ (0 : EReal) :=
  pay21_ne (pay9_val q kc) pay13_val c

theorem sinkCols_val (c : Fin 1024) : sinkCols i (up q) (up d) (up kp) (up kc) (up vp) (up vc) (up sk) (ix2 0 c) =
    (gZ i q d kp kc vp vc sk (hd c) (ln c) : EReal) :=
  (pay52_val (m_zero i q d kp kc vp vc sk) c).trans (sinkPart_val i q d kp kc vp vc sk c)

theorem wC_val (k : Fin 128) (c : Fin 1024) :
    k0_pay54 (k0_pay13 k0_pay10 rowIota) (indC (up q) (up kc)) (cntC (up q) (up kc)) (tieC i (up q) (up kp) (up kc))
      (tieK i (up q) (up kp) (up kc) (up sk)) (dsC i (up q) (up d) (up kp) (up kc) (up vp) (up vc) (up sk))
      (mA i (up q) (up d) (up kp) (up kc) (up vp) (up vc) (up sk)) (mB i (up q) (up d) (up kp) (up kc) (up vp) (up vc) (up sk)) (ix2 k c) =
    ((gS i q d kp kc vp vc sk (hd c) (ln c) (.inr k) * (1 / 8) : ℝ) : EReal) :=
  pay54_val (m_zero i q d kp kc vp vc sk) pay13_val (dsC_val i q d kp kc vp vc sk)
    (fun k c h => dscore_hidden (rM i (ln c)) _ _ _ (Sum.inr k) h) (cntC_ne q kc) k c

theorem wP_val (k : Fin 128) (c : Fin 1024) :
    k0_pay56 (k0_pay11 i) (indP i (up q) (up kp)) (cntP i (up q) (up kp)) (tieP i (up q) (up kp) (up kc))
      (tieK i (up q) (up kp) (up kc) (up sk)) (mA i (up q) (up d) (up kp) (up kc) (up vp) (up vc) (up sk))
      (dsP i (up q) (up d) (up kp) (up kc) (up vp) (up vc) (up sk)) (mB i (up q) (up d) (up kp) (up kc) (up vp) (up vc) (up sk)) (ix2 k c) =
    ((gS i q d kp kc vp vc sk (hd c) (ln c) (.inl k) * (1 / 8) : ℝ) : EReal) :=
  pay56_val (m_zero i q d kp kc vp vc sk) (pay11_val i) (dsP_val i q d kp kc vp vc sk)
    (fun k c h => dscore_hidden (rM i (ln c)) _ _ _ (Sum.inl k) h) (cntP_ne i q kp) k c

theorem outQ_val (h : Fin 8) (n : Fin 128) (x : Fin 64) :
    outQ i (up q) (up d) (up kp) (up kc) (up vp) (up vc) (up sk) (ix4 0 h n x) =
    (((∑ k, gS i q d kp kc vp vc sk h n (.inr k) * (1 / 8) * kc (ix3 0 k x)) +
      ∑ k, gS i q d kp kc vp vc sk h n (.inl k) * (1 / 8) * kp (ix3 0 k x) : ℝ) : EReal) := by
  unfold outQ
  pointwise [k0_pay58]
  have hw := fun k => wC_val i q d kp kc vp vc sk k (col h n)
  have hw' := fun k => wP_val i q d kp kc vp vc sk k (col h n)
  rw [hd_col, ln_col] at hw hw'
  unfold col at hw hw'
  simp only [hw, hw', pay6_val, pay8_val, ← EReal.coe_mul, coe_sum, ← EReal.coe_add]

theorem outKC_val (k : Fin 128) (x : Fin 64) :
    outKC i (up q) (up d) (up kp) (up kc) (up vp) (up vc) (up sk) (ix4 0 0 k x) =
    ((∑ h, ∑ n, gS i q d kp kc vp vc sk h n (.inr k) * (1 / 8) * q (ix4 0 h n x) : ℝ) : EReal) := by
  unfold outKC
  pointwise [k0_pay60, k0_pay55]
  simp only [wC_val, pay5_val, ← EReal.coe_mul, coe_sum]
  exact congrArg _ (sum_col fun h n => gS i q d kp kc vp vc sk h n (.inr k) * (1 / 8) * q (ix4 0 h n x))

theorem outKP_val (k : Fin 128) (x : Fin 64) :
    outKP i (up q) (up d) (up kp) (up kc) (up vp) (up vc) (up sk) (ix4 0 0 k x) =
    ((∑ h, ∑ n, gS i q d kp kc vp vc sk h n (.inl k) * (1 / 8) * q (ix4 0 h n x) : ℝ) : EReal) := by
  unfold outKP
  pointwise [k0_pay59, k0_pay57]
  simp only [wP_val, pay5_val, ← EReal.coe_mul, coe_sum]
  exact congrArg _ (sum_col fun h n => gS i q d kp kc vp vc sk h n (.inl k) * (1 / 8) * q (ix4 0 h n x))

theorem pP_val (k : Fin 128) (c : Fin 1024) :
    k0_pay37 (k0_pay4 (up sk)) (sP i (up q) (up kp)) (sC (up q) (up kc)) (top i (up q) (up kp) (up kc) (up sk)) (ix2 k c) =
    (pS i q kp kc sk (hd c) (ln c) (.inl k) : EReal) :=
  pay37_val (M := fun c => rM i (ln c)) (s := fun c => rS q kp kc (hd c) (ln c)) (m := sh i q kp kc sk)
    (sink_val sk) (top_val i q kp kc sk) (sP_val i q kp kc) (sC_val i q kp kc) k c

theorem outVP_val (k : Fin 128) (x : Fin 64) :
    outVP i (up q) (up d) (up kp) (up kc) (up sk) (ix4 0 0 k x) =
    ((∑ h, ∑ n, d (ix4 0 h n x) * pS i q kp kc sk h n (.inl k) : ℝ) : EReal) := by
  unfold outVP dT
  pointwise [k0_pay61, k0_pay45]
  simp only [pP_val, pay38_val, ← EReal.coe_mul, coe_sum]
  exact congrArg _ (sum_col fun h n => d (ix4 0 h n x) * pS i q kp kc sk h n (.inl k))

theorem outVC_val (k : Fin 128) (x : Fin 64) :
    outVC i (up q) (up d) (up kp) (up kc) (up sk) (ix4 0 0 k x) =
    ((∑ h, ∑ n, d (ix4 0 h n x) * pS i q kp kc sk h n (.inr k) : ℝ) : EReal) := by
  have hp : ∀ c, Ideal.div (k0_pay32 (sC (up q) (up kc)) (top i (up q) (up kp) (up kc) (up sk)) (ix2 k c))
      (k0_pay34 (k0_pay4 (up sk)) (sP i (up q) (up kp)) (sC (up q) (up kc)) (top i (up q) (up kp) (up kc) (up sk)) (ix2 0 c)) =
      ((pS i q kp kc sk (hd c) (ln c) (.inr k) : ℝ) : EReal) := fun c => by
    rw [pS, ← swt_div _ _ _ (sh i q kp kc sk c)]
    have e1 := eC_val i q kp kc sk k c
    have e2 := nrm_val i q kp kc sk c
    unfold eC at e1
    unfold nrm at e2
    rw [e1, e2, div_real _ (stot_pos _ _ _ _).ne']
  unfold outVC
  pointwise [k0_pay62, k0_pay42, k0_pay39]
  simp only [hp, pay38_val, ← EReal.coe_mul, coe_sum]
  exact congrArg _ (sum_col fun h n => d (ix4 0 h n x) * pS i q kp kc sk h n (.inr k))

end Values

end Cert.Tile
-- ==== Proof.Sel.lean ====
/- A block adds the columns' parts of the sinks' gradient to their heads through a product with a 0-1 matrix. -/
module

public import proofs.«01_k».proof.Proof.Block

@[expose] public section

set_option maxRecDepth 16384

noncomputable section

namespace Cert.Tile

open Cert.KernelIdeal Cert.KernelIdeal.Gen Idealize.ShloMosaic Cert.Sink

theorem word64 (x : Fin 1024) (l : Fin 8) : k0_pay64 (ix2 x l) = BitVec.ofNat 32 (x.val / 128) := by
  pointwise [k0_pay64]
  revert x
  decide +kernel

theorem word66 (x : Fin 1024) (l : Fin 8) : k0_pay66 (ix2 x l) = BitVec.ofBool (decide (x.val % 128 ≠ 0)) := by
  pointwise [k0_pay66]
  revert x
  decide +kernel

theorem word65 (x : Fin 1024) (l : Fin 8) : k0_pay65 (ix2 x l) = BitVec.ofBool (decide (x.val = 0)) := by
  pointwise [k0_pay65]
  revert x
  decide +kernel

/-- The head that a column's word names. -/
theorem head_word (x : Fin 1024) (l : Fin 8) :
    Scalar.select (IntOp.andi (k0_pay65 (ix2 x l)) (k0_pay66 (ix2 x l))) (IntOp.subi (k0_pay64 (ix2 x l)) 1#32) (k0_pay64 (ix2 x l)) =
      BitVec.ofNat 32 (x.val / 128) := by
  rw [word64, word65, word66]
  rcases Decidable.em (x.val = 0) with h | h <;> simp [h, Scalar.select, IntOp.andi]

/-- The 0-1 matrix's entry. -/
theorem sel_val (x : Fin 1024) (l : Fin 8) :
    (FloatOps.sitofp FTy.f32 (BitVec.setWidth 32 (IntOp.cmpi .eq (BitVec.ofNat 32 (x.val / 128)) (BitVec.ofNat 32 l.val))) : Ideal .f32) =
      (((if hd x = l then 1 else 0 : ℝ) : ℝ) : EReal) := by
  rw [WordCmp.cmpi_eq_ofNat (by omega) (by omega)]
  show (((BitVec.setWidth 32 (BitVec.ofBool (decide (x.val / 128 = l.val)))).toInt : ℝ) : EReal) = _
  have : (hd x = l) = (x.val / 128 = l.val) := propext ⟨fun h => congrArg Fin.val h, fun h => Fin.ext h⟩
  simp only [this]
  rcases Decidable.em (x.val / 128 = l.val) with h | h <;> simp [h]

theorem pay1_val (v : FVec Ideal S1x1024 .f32) (z : Fin 8 → Fin 128 → ℝ) (hv : ∀ c, v (ix2 0 c) = (z (hd c) (ln c) : EReal))
    (w : Vec Ideal S1x1x8 .f32) (l : Fin 8) :
    k0_pay1 v k0_pay64 k0_pay65 k0_pay66 w (ix3 0 0 l) = w (ix3 0 0 l) + ((∑ n, z l n : ℝ) : EReal) := by
  pointwise [k0_pay1]
  have h : ∀ x : Fin 1024, Scalar.select (IntOp.andi (k0_pay65 (ix2 x l)) (k0_pay66 (ix2 x l)))
      (IntOp.subi (k0_pay64 (ix2 x l)) 1#32) (k0_pay64 (ix2 x l)) = BitVec.ofNat 32 (x.val / 128) := fun x => head_word x l
  simp only [h, sel_val, hv, ← EReal.coe_mul, coe_sum]
  congr 2
  rw [sum_col fun a n => z a n * if a = l then 1 else 0]
  simp only [mul_ite, mul_one, mul_zero]
  rw [Finset.sum_comm]
  refine Finset.sum_congr rfl fun n _ => ?_
  simp

theorem pay63_val (l : Fin 8) : k0_pay63 (F := Ideal) (ix3 0 0 l) = (0 : EReal) := by
  pointwise [k0_pay63]

end Cert.Tile
-- ==== Proof.Spec.lean ====
/- The gradient of sliding-window attention with sinks over real inputs, written once for both programs: 4 kv heads, 8 query heads
   each, 32 windows of 128 positions. A position's keys are those of its own window and the window before it. -/
module

public import proofs.«01_k».proof.Proof.Softmax

@[expose] public section

noncomputable section

namespace Cert.Spec

open Cert.Sink

/-- A key of the previous window (left) or of the own window (right). -/
abbrev Key := Fin 128 ⊕ Fin 128

/-- The place of a head's feature among the 2048. -/
def qcol (g : Fin 4) (h : Fin 8) (x : Fin 64) : Fin 2048 := ⟨(g.val * 8 + h.val) * 64 + x.val, by omega⟩

/-- The place of a kv head's feature among the 256. -/
def kcol (g : Fin 4) (x : Fin 64) : Fin 256 := ⟨g.val * 64 + x.val, by omega⟩

/-- A window's position. -/
def pos (n : Fin 32) (r : Fin 128) : Fin 4096 := ⟨n.val * 128 + r.val, by omega⟩

/-- The window of a position. -/
def win (s : Fin 4096) : Fin 32 := ⟨s.val / 128, by omega⟩

/-- A position's place in its window. -/
def rem (s : Fin 4096) : Fin 128 := ⟨s.val % 128, by omega⟩

theorem win_pos (n : Fin 32) (r : Fin 128) : win (pos n r) = n := by
  apply Fin.ext; show (n.val * 128 + r.val) / 128 = n.val; omega

theorem rem_pos (n : Fin 32) (r : Fin 128) : rem (pos n r) = r := by
  apply Fin.ext; show (n.val * 128 + r.val) % 128 = r.val; omega

theorem pos_win (s : Fin 4096) : pos (win s) (rem s) = s := by
  apply Fin.ext; show s.val / 128 * 128 + s.val % 128 = s.val; omega

/-- The position of a key; before the first window, where no key is seen, any position. -/
def kpos (n : Fin 32) : Key → Fin 4096 := Sum.elim (fun k => ⟨(n.val - 1) * 128 + k.val, by omega⟩) (fun k => pos n k)

def qhead (g : Fin 4) (h : Fin 8) : Fin 32 := ⟨g.val * 8 + h.val, by omega⟩

/-- Which keys position `r` of window `n` sees: those less than 128 positions back. -/
def vis (n : Fin 32) (r : Fin 128) : Key → Bool :=
  Sum.elim (fun k => decide (r.val < k.val) && !decide (n.val = 0)) (fun k => decide (k.val ≤ r.val))

section

variable (q d : Fin 4096 → Fin 2048 → ℝ) (kk vv : Fin 4096 → Fin 256 → ℝ) (sk : Fin 32 → ℝ)

def score (g : Fin 4) (n : Fin 32) (h : Fin 8) (r : Fin 128) (j : Key) : ℝ :=
  (∑ x : Fin 64, kk (kpos n j) (kcol g x) * q (pos n r) (qcol g h x)) * (1 / 8)

def dprob (g : Fin 4) (n : Fin 32) (h : Fin 8) (r : Fin 128) (j : Key) : ℝ :=
  ∑ x : Fin 64, d (pos n r) (qcol g h x) * vv (kpos n j) (kcol g x)

/-- A row's probabilities. -/
def rowP (g : Fin 4) (n : Fin 32) (h : Fin 8) (r : Fin 128) : Key → ℝ := prob (vis n r) (score q kk g n h r) (sk (qhead g h))

/-- The gradient of a row's scores. -/
def rowG (g : Fin 4) (n : Fin 32) (h : Fin 8) (r : Fin 128) : Key → ℝ :=
  dscore (vis n r) (score q kk g n h r) (sk (qhead g h)) (dprob d vv g n h r)

/-- The gradient of a row's sink. -/
def rowZ (g : Fin 4) (n : Fin 32) (h : Fin 8) (r : Fin 128) : ℝ :=
  dsink (vis n r) (score q kk g n h r) (sk (qhead g h)) (dprob d vv g n h r)

/-- The gradient of the queries, at a window's position. -/
def dQ (g : Fin 4) (h : Fin 8) (n : Fin 32) (r : Fin 128) (x : Fin 64) : ℝ :=
  (∑ k, rowG q d kk vv sk g n h r (.inr k) * (1 / 8) * kk (kpos n (.inr k)) (kcol g x)) +
    ∑ k, rowG q d kk vv sk g n h r (.inl k) * (1 / 8) * kk (kpos n (.inl k)) (kcol g x)

/-- What window `n`'s queries add to the gradient of the keys. -/
def dK (g : Fin 4) (n : Fin 32) (j : Key) (x : Fin 64) : ℝ :=
  ∑ h, ∑ r, rowG q d kk vv sk g n h r j * (1 / 8) * q (pos n r) (qcol g h x)

/-- What window `n`'s queries add to the gradient of the values. -/
def dV (g : Fin 4) (n : Fin 32) (j : Key) (x : Fin 64) : ℝ :=
  ∑ h, ∑ r, d (pos n r) (qcol g h x) * rowP q kk sk g n h r j

/-- The gradient of a head's sink. -/
def dS (g : Fin 4) (h : Fin 8) : ℝ := ∑ n, ∑ r, rowZ q d kk vv sk g n h r

end

end Cert.Spec
-- ==== Proof.Arrays.lean ====
/- What the kernel's six arrays hold after its run, for real arguments: the gradients of `Spec`. -/
module

public import proofs.«01_k».proof.Proof.Gen.KernelIdeal.Value
public import proofs.«01_k».proof.Proof.Sel
public import proofs.«01_k».proof.Proof.Spec
public import Idealize.ShloMosaic.Lib.Pipeline.ValueKit
public import Idealize.ShloMosaic.Lib.StableHlo.ReadAt

@[expose] public section

set_option maxRecDepth 16384

noncomputable section

namespace Cert.Arrays

open Cert.KernelIdeal Cert.KernelIdeal.Gen Idealize.ShloMosaic Idealize.ShloMosaic.TcCoe Idealize.SL.Sem Cert.Tile Cert.Spec Cert.Sink

/-! ## Where the blocks lie -/

theorem idx0 : ∀ t : Fin grid0.N, win0_0.index t = ![t.val / 32, 0, t.val % 32, 0] := by decide +kernel
theorem idx1 : ∀ t : Fin grid0.N, win0_1.index t = ![t.val / 32, t.val % 32 - 1, 0] := by decide +kernel
theorem idx2 : ∀ t : Fin grid0.N, win0_2.index t = ![t.val / 32, t.val % 32, 0] := by decide +kernel
theorem idx3 : ∀ t : Fin grid0.N, win0_3.index t = ![t.val / 32, t.val % 32 - 1, 0] := by decide +kernel
theorem idx4 : ∀ t : Fin grid0.N, win0_4.index t = ![t.val / 32, t.val % 32, 0] := by decide +kernel
theorem idx5 : ∀ t : Fin grid0.N, win0_5.index t = ![t.val / 32, 0, 0] := by decide +kernel
theorem idx6 : ∀ t : Fin grid0.N, win0_6.index t = ![t.val / 32, 0, t.val % 32, 0] := by decide +kernel
theorem idx7 : ∀ t : Fin grid0.N, win0_7.index t = ![t.val / 32, 0, t.val % 32, 0] := by decide +kernel
theorem idx8 : ∀ t : Fin grid0.N, win0_8.index t = ![t.val / 32, t.val % 32, 0, 0] := by decide +kernel
theorem idx9 : ∀ t : Fin grid0.N, win0_9.index t = ![t.val / 32, t.val % 32, 0, 0] := by decide +kernel
theorem idx10 : ∀ t : Fin grid0.N, win0_10.index t = ![t.val / 32, t.val % 32, 0, 0] := by decide +kernel
theorem idx11 : ∀ t : Fin grid0.N, win0_11.index t = ![t.val / 32, t.val % 32, 0, 0] := by decide +kernel
theorem idx12 : ∀ t : Fin grid0.N, win0_12.index t = ![t.val / 32, 0, 0] := by decide +kernel
theorem coord1 : ∀ t : Fin grid0.N, (grid0.coords t 1).val = t.val % 32 := by decide +kernel

/-- The kv head of a grid point. -/
def gp (t : Fin cfg0.N) : Fin 4 := ⟨t.val / 32, by have : t.val < 128 := t.isLt; omega⟩

/-- The window of a grid point. -/
def np (t : Fin cfg0.N) : Fin 32 := ⟨t.val % 32, by omega⟩

/-! ## The blocks of real arguments -/

variable (m : (ℓ : Loc nD τ sig) → Buf (Elt Ideal) ℓ) (c : Dev nD)
variable {q d : Fin 4096 → Fin 2048 → ℝ} {kk vv : Fin 4096 → Fin 256 → ℝ} {sk : Fin 32 → ℝ}

/-- The kernel's arguments are these reals. -/
structure Args (q d : Fin 4096 → Fin 2048 → ℝ) (kk vv : Fin 4096 → Fin 256 → ℝ) (sk : Fin 32 → ℝ) : Prop where
  h0 : ∀ s j, m ((c : Thread nD τ).loc main_arg0) (ix2 s j) = ((q s j : ℝ) : EReal)
  h1 : ∀ s j, m ((c : Thread nD τ).loc main_arg1) (ix2 s j) = ((kk s j : ℝ) : EReal)
  h2 : ∀ s j, m ((c : Thread nD τ).loc main_arg2) (ix2 s j) = ((vv s j : ℝ) : EReal)
  h3 : ∀ j, m ((c : Thread nD τ).loc main_arg3) (ix2 0 j) = ((sk j : ℝ) : EReal)
  h4 : ∀ s j, m ((c : Thread nD τ).loc main_arg4) (ix2 s j) = ((d s j : ℝ) : EReal)

theorem host_q (g : Fin 4) (h : Fin 8) (s : Fin 4096) (x : Fin 64) :
    V m c main_v5 (ix4 g h s x) = m ((c : Thread nD τ).loc main_arg0) (ix2 s (qcol g h x)) := by
  unfold V
  after_reads_at
  rfl

theorem host_d (g : Fin 4) (h : Fin 8) (s : Fin 4096) (x : Fin 64) :
    V m c main_v12 (ix4 g h s x) = m ((c : Thread nD τ).loc main_arg4) (ix2 s (qcol g h x)) := by
  unfold V
  after_reads_at
  rfl

theorem host_k (g : Fin 4) (s : Fin 4096) (x : Fin 64) :
    V m c main_v7 (ix3 g s x) = m ((c : Thread nD τ).loc main_arg1) (ix2 s (kcol g x)) := by
  unfold V
  after_reads_at
  rfl

theorem host_v (g : Fin 4) (s : Fin 4096) (x : Fin 64) :
    V m c main_v9 (ix3 g s x) = m ((c : Thread nD τ).loc main_arg2) (ix2 s (kcol g x)) := by
  unfold V
  after_reads_at
  rfl

theorem host_s (g : Fin 4) (j : Fin 1024) :
    V m c main_v2 (ix3 g 0 j) = m ((c : Thread nD τ).loc main_arg3) (ix2 0 (qhead g (hd j))) := by
  unfold V
  after_reads_at
  rfl

/-- A grid point's rows of an array of queries. -/
def qblk (a : Fin 4096 → Fin 2048 → ℝ) (t : Fin cfg0.N) : S1x8x128x64.Idx → ℝ := fun j => a (pos (np t) (j 2)) (qcol (gp t) (j 1) (j 3))

/-- A grid point's previous window of an array of keys. -/
def pblk (a : Fin 4096 → Fin 256 → ℝ) (t : Fin cfg0.N) : S1x128x64.Idx → ℝ := fun j => a (kpos (np t) (.inl (j 1))) (kcol (gp t) (j 2))

/-- A grid point's own window of an array of keys. -/
def cblk (a : Fin 4096 → Fin 256 → ℝ) (t : Fin cfg0.N) : S1x128x64.Idx → ℝ := fun j => a (kpos (np t) (.inr (j 1))) (kcol (gp t) (j 2))

/-- A grid point's sinks. -/
def sblk (a : Fin 32 → ℝ) (t : Fin cfg0.N) : S1x1x1024.Idx → ℝ := fun j => a (qhead (gp t) (hd (j 2)))

theorem ext4 {f g : S1x8x128x64.Idx → EReal} (e : ∀ h r x, f (ix4 0 h r x) = g (ix4 0 h r x)) : f = g := by
  funext y; idx_vars y; obtain rfl : y0 = 0 := Subsingleton.elim _ _; exact e _ _ _

theorem ext3 {f g : S1x128x64.Idx → EReal} (e : ∀ k x, f (ix3 0 k x) = g (ix3 0 k x)) : f = g := by
  funext y; idx_vars y; obtain rfl : y0 = 0 := Subsingleton.elim _ _; exact e _ _

theorem ext3s {f g : S1x1x1024.Idx → EReal} (e : ∀ j, f (ix3 0 0 j) = g (ix3 0 0 j)) : f = g := by
  funext y; idx_vars y; obtain rfl : y0 = 0 := Subsingleton.elim _ _; obtain rfl : y1 = 0 := Subsingleton.elim _ _; exact e _

section Blocks

variable {m c} (H : Args m c q d kk vv sk)
include H

theorem blk0 (t : Fin cfg0.N) : iblk m c 0 t = up (qblk q t) := ext4 fun h r x => by
  show iblk m c 0 t (ix4 0 h r x) = ((q (pos (np t) r) (qcol (gp t) h x) : ℝ) : EReal)
  rw [← H.h0, ← host_q m c]
  show iblk m c 0 t (ix4 0 h r x) = V m c main_v5 (ix4 (gp t) h (pos (np t) r) x)
  blk_ext [iblk, idx0 t, gp, np, pos, kpos, Sum.elim_inl, Sum.elim_inr]

theorem blk1 (t : Fin cfg0.N) : iblk m c 1 t = up (pblk kk t) := ext3 fun k x => by
  show iblk m c 1 t (ix3 0 k x) = ((kk (kpos (np t) (.inl k)) (kcol (gp t) x) : ℝ) : EReal)
  rw [← H.h1, ← host_k m c]
  show iblk m c 1 t (ix3 0 k x) = V m c main_v7 (ix3 (gp t) (kpos (np t) (.inl k)) x)
  blk_ext [iblk, idx1 t, gp, np, pos, kpos, Sum.elim_inl, Sum.elim_inr]

theorem blk2 (t : Fin cfg0.N) : iblk m c 2 t = up (cblk kk t) := ext3 fun k x => by
  show iblk m c 2 t (ix3 0 k x) = ((kk (kpos (np t) (.inr k)) (kcol (gp t) x) : ℝ) : EReal)
  rw [← H.h1, ← host_k m c]
  show iblk m c 2 t (ix3 0 k x) = V m c main_v7 (ix3 (gp t) (kpos (np t) (.inr k)) x)
  blk_ext [iblk, idx2 t, gp, np, pos, kpos, Sum.elim_inl, Sum.elim_inr]

theorem blk3 (t : Fin cfg0.N) : iblk m c 3 t = up (pblk vv t) := ext3 fun k x => by
  show iblk m c 3 t (ix3 0 k x) = ((vv (kpos (np t) (.inl k)) (kcol (gp t) x) : ℝ) : EReal)
  rw [← H.h2, ← host_v m c]
  show iblk m c 3 t (ix3 0 k x) = V m c main_v9 (ix3 (gp t) (kpos (np t) (.inl k)) x)
  blk_ext [iblk, idx3 t, gp, np, pos, kpos, Sum.elim_inl, Sum.elim_inr]

theorem blk4 (t : Fin cfg0.N) : iblk m c 4 t = up (cblk vv t) := ext3 fun k x => by
  show iblk m c 4 t (ix3 0 k x) = ((vv (kpos (np t) (.inr k)) (kcol (gp t) x) : ℝ) : EReal)
  rw [← H.h2, ← host_v m c]
  show iblk m c 4 t (ix3 0 k x) = V m c main_v9 (ix3 (gp t) (kpos (np t) (.inr k)) x)
  blk_ext [iblk, idx4 t, gp, np, pos, kpos, Sum.elim_inl, Sum.elim_inr]

theorem blk5 (t : Fin cfg0.N) : iblk m c 5 t = up (sblk sk t) := ext3s fun j => by
  show iblk m c 5 t (ix3 0 0 j) = ((sk (qhead (gp t) (hd j)) : ℝ) : EReal)
  rw [← H.h3, ← host_s m c]
  show iblk m c 5 t (ix3 0 0 j) = V m c main_v2 (ix3 (gp t) 0 j)
  blk_ext [iblk, idx5 t, gp, np, pos, kpos, Sum.elim_inl, Sum.elim_inr]

theorem blk6 (t : Fin cfg0.N) : iblk m c 6 t = up (qblk d t) := ext4 fun h r x => by
  show iblk m c 6 t (ix4 0 h r x) = ((d (pos (np t) r) (qcol (gp t) h x) : ℝ) : EReal)
  rw [← H.h4, ← host_d m c]
  show iblk m c 6 t (ix4 0 h r x) = V m c main_v12 (ix4 (gp t) h (pos (np t) r) x)
  blk_ext [iblk, idx6 t, gp, np, pos, kpos, Sum.elim_inl, Sum.elim_inr]

end Blocks

/-! ## A block's rows are the specification's -/

section Rows

variable (q d kk vv sk) (t : Fin cfg0.N) (h : Fin 8) (r : Fin 128)

theorem rM_eq : rM (grid0.coords t) r = Spec.vis (np t) r := by
  unfold rM Spec.vis Tile.vis
  rw [coord1 t]
  rfl

theorem rS_eq : rS (qblk q t) (pblk kk t) (cblk kk t) h r = Spec.score q kk (gp t) (np t) h r := by
  funext j; cases j <;> rfl

theorem rD_eq : rD (qblk d t) (pblk vv t) (cblk vv t) h r = Spec.dprob d vv (gp t) (np t) h r := by
  funext j; cases j <;> rfl

theorem sk_eq : sblk sk t (ix3 0 0 (col h r)) = sk (qhead (gp t) h) := by
  show sk (qhead (gp t) (hd (col h r))) = _
  rw [hd_col]

theorem gS_row : gS (grid0.coords t) (qblk q t) (qblk d t) (pblk kk t) (cblk kk t) (pblk vv t) (cblk vv t) (sblk sk t) h r =
    rowG q d kk vv sk (gp t) (np t) h r := by
  unfold gS rowG
  rw [rM_eq, rS_eq, rD_eq, sk_eq]

theorem gZ_row : gZ (grid0.coords t) (qblk q t) (qblk d t) (pblk kk t) (cblk kk t) (pblk vv t) (cblk vv t) (sblk sk t) h r =
    rowZ q d kk vv sk (gp t) (np t) h r := by
  unfold gZ rowZ
  rw [rM_eq, rS_eq, rD_eq, sk_eq]

theorem pS_row : pS (grid0.coords t) (qblk q t) (pblk kk t) (cblk kk t) (sblk sk t) h r =
    rowP q kk sk (gp t) (np t) h r := by
  unfold pS rowP
  rw [rM_eq, rS_eq, sk_eq]

end Rows

/-! ## What a grid point leaves -/

section After

theorem point_q (t : Fin cfg0.N) : (outsAt0 m c t.val t.isLt).1 =
    outQ (grid0.coords t) (iblk m c 0 t) (iblk m c 6 t) (iblk m c 1 t) (iblk m c 2 t) (iblk m c 3 t) (iblk m c 4 t) (iblk m c 5 t) := by
  by_cases h : t.val % 32 = 0
  · rw [outsAt0_A m c t h]; frame_out; rfl
  · rw [outsAt0_B m c t h]; frame_out; rfl

theorem point_kp (t : Fin cfg0.N) : (outsAt0 m c t.val t.isLt).2.1 =
    outKP (grid0.coords t) (iblk m c 0 t) (iblk m c 6 t) (iblk m c 1 t) (iblk m c 2 t) (iblk m c 3 t) (iblk m c 4 t) (iblk m c 5 t) := by
  by_cases h : t.val % 32 = 0
  · rw [outsAt0_A m c t h]; frame_out; rfl
  · rw [outsAt0_B m c t h]; frame_out; rfl

theorem point_kc (t : Fin cfg0.N) : (outsAt0 m c t.val t.isLt).2.2.1 =
    outKC (grid0.coords t) (iblk m c 0 t) (iblk m c 6 t) (iblk m c 1 t) (iblk m c 2 t) (iblk m c 3 t) (iblk m c 4 t) (iblk m c 5 t) := by
  by_cases h : t.val % 32 = 0
  · rw [outsAt0_A m c t h]; frame_out; rfl
  · rw [outsAt0_B m c t h]; frame_out; rfl

theorem point_vp (t : Fin cfg0.N) : (outsAt0 m c t.val t.isLt).2.2.2.1 =
    outVP (grid0.coords t) (iblk m c 0 t) (iblk m c 6 t) (iblk m c 1 t) (iblk m c 2 t) (iblk m c 5 t) := by
  by_cases h : t.val % 32 = 0
  · rw [outsAt0_A m c t h]; frame_out; rfl
  · rw [outsAt0_B m c t h]; frame_out; rfl

theorem point_vc (t : Fin cfg0.N) : (outsAt0 m c t.val t.isLt).2.2.2.2.1 =
    outVC (grid0.coords t) (iblk m c 0 t) (iblk m c 6 t) (iblk m c 1 t) (iblk m c 2 t) (iblk m c 5 t) := by
  by_cases h : t.val % 32 = 0
  · rw [outsAt0_A m c t h]; frame_out; rfl
  · rw [outsAt0_B m c t h]; frame_out; rfl

theorem point_sA (t : Fin cfg0.N) (h : t.val % 32 = 0) : (outsAt0 m c t.val t.isLt).2.2.2.2.2 =
    k0_pay1 (sinkCols (grid0.coords t) (iblk m c 0 t) (iblk m c 6 t) (iblk m c 1 t) (iblk m c 2 t) (iblk m c 3 t) (iblk m c 4 t)
      (iblk m c 5 t)) k0_pay64 k0_pay65 k0_pay66 (k0_pay63 (F := Ideal)) := by
  rw [outsAt0_A m c t h]; frame_out; rfl

theorem point_sB (t : Fin cfg0.N) (h : ¬t.val % 32 = 0) : (outsAt0 m c t.val t.isLt).2.2.2.2.2 =
    k0_pay1 (sinkCols (grid0.coords t) (iblk m c 0 t) (iblk m c 6 t) (iblk m c 1 t) (iblk m c 2 t) (iblk m c 3 t) (iblk m c 4 t)
      (iblk m c 5 t)) k0_pay64 k0_pay65 k0_pay66 (outsAt0 m c (t.val - 1) (by have := t.isLt; omega)).2.2.2.2.2 := by
  rw [outsAt0_B m c t h]; frame_out; rfl

end After

/-! ## The arrays -/

section Whole

variable (q d kk vv sk)

/-- The queries' gradient. -/
def GQ : S4x8x4096x64.Idx → EReal := fun j => ((dQ q d kk vv sk (j 0) (j 1) (win (j 2)) (rem (j 2)) (j 3) : ℝ) : EReal)

def GKP : S4x32x128x64.Idx → EReal := fun j => ((dK q d kk vv sk (j 0) (j 1) (.inl (j 2)) (j 3) : ℝ) : EReal)

def GKC : S4x32x128x64.Idx → EReal := fun j => ((dK q d kk vv sk (j 0) (j 1) (.inr (j 2)) (j 3) : ℝ) : EReal)

def GVP : S4x32x128x64.Idx → EReal := fun j => ((dV q d kk sk (j 0) (j 1) (.inl (j 2)) (j 3) : ℝ) : EReal)

def GVC : S4x32x128x64.Idx → EReal := fun j => ((dV q d kk sk (j 0) (j 1) (.inr (j 2)) (j 3) : ℝ) : EReal)

/-- The sinks' gradient. -/
def GS : S4x1x8.Idx → EReal := fun j => ((dS q d kk vv sk (j 0) (j 2) : ℝ) : EReal)

variable {q d kk vv sk}
variable {m c} (H : Args m c q d kk vv sk)
include H

theorem arr_q : (dats m 0 c).arrAt 7 (cfgs 0).N = GQ q d kk vv sk := by
  refine (dats m 0 c).arrAt_eq_of_covers 7 _ (by decide +kernel) fun t hf y => ?_
  have e : ∀ h r x, ((cfg0.win 7).blk t).view.emb (ix4 (0 : Fin 1) (h : Fin 8) (r : Fin 128) (x : Fin 64)) =
      ix4 (gp t) h (pos (np t) r) x := fun h r x => by blk_ext [idx7 t, gp, np, pos]
  blk_simp
  rw [after0_7, point_q, blk0 H, blk1 H, blk2 H, blk3 H, blk4 H, blk5 H, blk6 H]
  idx_vars y
  obtain rfl : y0 = 0 := Subsingleton.elim _ _
  refine Eq.trans ?_ (congrArg (GQ q d kk vv sk) (e y1 y2 y3).symm)
  refine (outQ_val _ _ _ _ _ _ _ _ y1 y2 y3).trans ?_
  show _ = ((dQ q d kk vv sk (gp t) y1 (win (pos (np t) y2)) (rem (pos (np t) y2)) y3 : ℝ) : EReal)
  rw [win_pos, rem_pos, gS_row]
  rfl

theorem arr_kp : (dats m 0 c).arrAt 8 (cfgs 0).N = GKP q d kk vv sk := by
  refine (dats m 0 c).arrAt_eq_of_covers 8 _ (by decide +kernel) fun t hf y => ?_
  have e : ∀ k x, ((cfg0.win 8).blk t).view.emb (ix4 (0 : Fin 1) (0 : Fin 1) (k : Fin 128) (x : Fin 64)) =
      ix4 (gp t) (np t) k x := fun k x => by blk_ext [idx8 t, gp, np]
  blk_simp
  rw [after0_8, point_kp, blk0 H, blk1 H, blk2 H, blk3 H, blk4 H, blk5 H, blk6 H]
  idx_vars y
  obtain rfl : y0 = 0 := Subsingleton.elim _ _
  obtain rfl : y1 = 0 := Subsingleton.elim _ _
  refine Eq.trans ?_ (congrArg (GKP q d kk vv sk) (e y2 y3).symm)
  refine (outKP_val _ _ _ _ _ _ _ _ y2 y3).trans ?_
  simp only [gS_row]
  rfl

theorem arr_kc : (dats m 0 c).arrAt 9 (cfgs 0).N = GKC q d kk vv sk := by
  refine (dats m 0 c).arrAt_eq_of_covers 9 _ (by decide +kernel) fun t hf y => ?_
  have e : ∀ k x, ((cfg0.win 9).blk t).view.emb (ix4 (0 : Fin 1) (0 : Fin 1) (k : Fin 128) (x : Fin 64)) =
      ix4 (gp t) (np t) k x := fun k x => by blk_ext [idx9 t, gp, np]
  blk_simp
  rw [after0_9, point_kc, blk0 H, blk1 H, blk2 H, blk3 H, blk4 H, blk5 H, blk6 H]
  idx_vars y
  obtain rfl : y0 = 0 := Subsingleton.elim _ _
  obtain rfl : y1 = 0 := Subsingleton.elim _ _
  refine Eq.trans ?_ (congrArg (GKC q d kk vv sk) (e y2 y3).symm)
  refine (outKC_val _ _ _ _ _ _ _ _ y2 y3).trans ?_
  simp only [gS_row]
  rfl

theorem arr_vp : (dats m 0 c).arrAt 10 (cfgs 0).N = GVP q d kk sk := by
  refine (dats m 0 c).arrAt_eq_of_covers 10 _ (by decide +kernel) fun t hf y => ?_
  have e : ∀ k x, ((cfg0.win 10).blk t).view.emb (ix4 (0 : Fin 1) (0 : Fin 1) (k : Fin 128) (x : Fin 64)) =
      ix4 (gp t) (np t) k x := fun k x => by blk_ext [idx10 t, gp, np]
  blk_simp
  rw [after0_10, point_vp, blk0 H, blk1 H, blk2 H, blk5 H, blk6 H]
  idx_vars y
  obtain rfl : y0 = 0 := Subsingleton.elim _ _
  obtain rfl : y1 = 0 := Subsingleton.elim _ _
  refine Eq.trans ?_ (congrArg (GVP q d kk sk) (e y2 y3).symm)
  refine (outVP_val _ _ _ _ _ _ y2 y3).trans ?_
  simp only [pS_row]
  rfl

theorem arr_vc : (dats m 0 c).arrAt 11 (cfgs 0).N = GVC q d kk sk := by
  refine (dats m 0 c).arrAt_eq_of_covers 11 _ (by decide +kernel) fun t hf y => ?_
  have e : ∀ k x, ((cfg0.win 11).blk t).view.emb (ix4 (0 : Fin 1) (0 : Fin 1) (k : Fin 128) (x : Fin 64)) =
      ix4 (gp t) (np t) k x := fun k x => by blk_ext [idx11 t, gp, np]
  blk_simp
  rw [after0_11, point_vc, blk0 H, blk1 H, blk2 H, blk5 H, blk6 H]
  idx_vars y
  obtain rfl : y0 = 0 := Subsingleton.elim _ _
  obtain rfl : y1 = 0 := Subsingleton.elim _ _
  refine Eq.trans ?_ (congrArg (GVC q d kk sk) (e y2 y3).symm)
  refine (outVC_val _ _ _ _ _ _ y2 y3).trans ?_
  simp only [pS_row]
  rfl

/-- What a grid point adds to the sinks' gradient. -/
theorem sink_point (t : Fin cfg0.N) (w : Vec Ideal S1x1x8 .f32) (l : Fin 8) :
    k0_pay1 (sinkCols (grid0.coords t) (iblk m c 0 t) (iblk m c 6 t) (iblk m c 1 t) (iblk m c 2 t) (iblk m c 3 t) (iblk m c 4 t)
      (iblk m c 5 t)) k0_pay64 k0_pay65 k0_pay66 w (ix3 0 0 l) =
    w (ix3 0 0 l) + ((∑ r, rowZ q d kk vv sk (gp t) (np t) l r : ℝ) : EReal) := by
  rw [blk0 H, blk1 H, blk2 H, blk3 H, blk4 H, blk5 H, blk6 H]
  exact pay1_val _ (rowZ q d kk vv sk (gp t) (np t)) (fun c => by rw [sinkCols_val, gZ_row]) w l

theorem arr_s : (dats m 0 c).arrAt 12 (cfgs 0).N = GS q d kk vv sk := by
  refine (dats m 0 c).arrAt_eq_of_covers 12 _ (by decide +kernel) fun t hf y => ?_
  have e : ∀ l, ((cfg0.win 12).blk t).view.emb (ix3 (0 : Fin 1) (0 : Fin 1) (l : Fin 8)) =
      ix3 (gp t) 0 l := fun l => by blk_ext [idx12 t, gp]
  blk_simp
  rw [after0_12]
  idx_vars y
  obtain rfl : y0 = 0 := Subsingleton.elim _ _
  obtain rfl : y1 = 0 := Subsingleton.elim _ _
  refine Eq.trans ?_ (congrArg (GS q d kk vv sk) (e y2).symm)
  have hs := Pipeline.eq_sum_fin_of_reset_step_apply_of_flush (M := EReal) (ι := S1x1x8.Idx) (N := cfg0.N)
    (fun n h => (outsAt0 m c n h).2.2.2.2.2) 32 (fun _ => (0 : EReal))
    (fun t j => ((∑ r, rowZ q d kk vv sk (gp t) (np t) (j 2) r : ℝ) : EReal))
    (fun t h j => by
      rw [point_sA m c t h]
      idx_vars j
      obtain rfl : j0 = 0 := Subsingleton.elim _ _
      obtain rfl : j1 = 0 := Subsingleton.elim _ _
      rw [sink_point H, pay63_val])
    (fun t h j => by
      rw [point_sB m c t h]
      idx_vars j
      obtain rfl : j0 = 0 := Subsingleton.elim _ _
      obtain rfl : j1 = 0 := Subsingleton.elim _ _
      rw [sink_point H])
    t ((flush0_12 t).mp hf) (ix3 0 0 y2)
  refine hs.trans ?_
  show (0 : EReal) + _ = ((∑ n, ∑ r, rowZ q d kk vv sk (gp t) n y2 r : ℝ) : EReal)
  rw [zero_add, coe_sum]
  refine congrArg _ (Finset.sum_congr rfl fun n _ => ?_)
  have h1 : t.val < 128 := t.isLt
  have hg : ∀ h : 32 * (t.val / 32) + n.val < cfg0.N, gp ⟨32 * (t.val / 32) + n.val, h⟩ = gp t := fun h => by
    apply Fin.ext; show (32 * (t.val / 32) + n.val) / 32 = t.val / 32; omega
  have hn : ∀ h : 32 * (t.val / 32) + n.val < cfg0.N, np ⟨32 * (t.val / 32) + n.val, h⟩ = n := fun h => by
    apply Fin.ext; show (32 * (t.val / 32) + n.val) % 32 = n.val; omega
  rw [hg, hn]
  rfl

end Whole

end Cert.Arrays
-- ==== Proof.RefBase.lean ====
/- The reference's attention before the softmax, at real inputs: the banded keys and values, the mask, the scores and the gradient
   that reaches the probabilities, over a window's 256 keys. -/
module

public import proofs.«01_k».proof.Proof.Gen.ReferenceIdeal.Read
public import proofs.«01_k».proof.Proof.Spec
public import proofs.«01_k».proof.Proof.Tile
public import Idealize.ShloMosaic.Lib.WordCmp
public import Idealize.ShloMosaic.Lib.Pointwise

@[expose] public section

set_option maxRecDepth 16384

noncomputable section

namespace Cert.Ref

open Cert.ReferenceIdeal Cert.ReferenceIdeal.Gen Cert.ReferenceIdeal.Read
open Idealize.ShloMosaic Idealize.ShloMosaic.TcCoe Idealize.SL.Sem Idealize.ShloMosaic.StableHlo
open Cert.Sink Cert.Spec

/-- The 256 keys of a window: those of the window before it, then its own. -/
def key : Fin 256 ≃ Key where
  toFun k := if h : k.val < 128 then .inl ⟨k.val, h⟩ else .inr ⟨k.val - 128, by omega⟩
  invFun := Sum.elim (fun k => ⟨k.val, by omega⟩) (fun k => ⟨128 + k.val, by omega⟩)
  left_inv k := by
    by_cases h : k.val < 128
    · simp [h]
    · simp only [h, dite_false, Sum.elim_inr]; apply Fin.ext; show 128 + (k.val - 128) = k.val; omega
  right_inv j := by
    rcases j with j | j
    · have := j.isLt; simp
    · simp

/-- The banded keys or values: zeros stand before the first window. -/
def band (a : Fin 4096 → Fin 256 → ℝ) (n : Fin 32) (k : Fin 256) (g : Fin 4) (x : Fin 64) : ℝ :=
  if k.val < 128 ∧ n.val = 0 then 0 else a (kpos n (key k)) (kcol g x)

/-- What position `r` of window `n` sees of the 256 keys. -/
def mask (n : Fin 32) (r : Fin 128) (k : Fin 256) : Bool := vis n r (key k)

theorem mask_eq (n : Fin 32) (r : Fin 128) (k : Fin 256) :
    mask n r k = if k.val < 128 then decide (r.val < k.val) && !decide (n.val = 0) else decide (k.val - 128 ≤ r.val) := by
  unfold mask
  by_cases hk : k.val < 128
  · rw [show key k = .inl ⟨k.val, hk⟩ from dif_pos hk, if_pos hk]; rfl
  · rw [show key k = .inr ⟨k.val - 128, by omega⟩ from dif_neg hk, if_neg hk]; rfl

theorem mask_first {n : Fin 32} {k : Fin 256} (h : k.val < 128 ∧ n.val = 0) (r : Fin 128) : mask n r k = false := by
  obtain ⟨h1, h2⟩ := h
  simp [mask_eq, h1, h2]

theorem band_seen (a : Fin 4096 → Fin 256 → ℝ) {n : Fin 32} {r : Fin 128} {k : Fin 256} (h : mask n r k = true) (g : Fin 4) (x : Fin 64) :
    band a n k g x = a (kpos n (key k)) (kcol g x) := by
  unfold band
  rw [if_neg]
  intro h'
  rw [mask_first h' r] at h
  cases h

section

variable (q d : Fin 4096 → Fin 2048 → ℝ) (kk vv : Fin 4096 → Fin 256 → ℝ)

def bscore (g : Fin 4) (n : Fin 32) (h : Fin 8) (r : Fin 128) (k : Fin 256) : ℝ :=
  (∑ x : Fin 64, band kk n k g x * q (pos n r) (qcol g h x)) * (1 / 8)

def bdprob (g : Fin 4) (n : Fin 32) (h : Fin 8) (r : Fin 128) (k : Fin 256) : ℝ :=
  ∑ x : Fin 64, d (pos n r) (qcol g h x) * band vv n k g x

theorem bscore_seen (g : Fin 4) (n : Fin 32) (h : Fin 8) (r : Fin 128) (k : Fin 256) (hk : mask n r k = true) :
    bscore q kk g n h r k = score q kk g n h r (key k) := by
  unfold bscore score
  simp only [band_seen kk hk]

theorem bdprob_seen (g : Fin 4) (n : Fin 32) (h : Fin 8) (r : Fin 128) (k : Fin 256) (hk : mask n r k = true) :
    bdprob d vv g n h r k = dprob d vv g n h r (key k) := by
  unfold bdprob dprob
  simp only [band_seen vv hk]

end

/-! ## The reference's arrays -/

variable {x0 x4 : (⟨S4096x2048, .f32⟩ : BufTy).Contents (Elt Ideal)} {x1 x2 : (⟨S4096x256, .f32⟩ : BufTy).Contents (Elt Ideal)}
  {q d : Fin 4096 → Fin 2048 → ℝ} {kk vv : Fin 4096 → Fin 256 → ℝ}

theorem v4_val (h1 : ∀ s j, x1 (ix2 s j) = ((kk s j : ℝ) : EReal)) (n : Fin 32) (k : Fin 256) (g : Fin 4) (x : Fin 64) :
    val_main_v4 (F := Ideal) x1 (ix4 n k g x) = ((band kk n k g x : ℝ) : EReal) := by
  pointwise [val_main_v4, val_main_v3, val_main_v2, val_main_v1, val_main_v0, val_main_cst]
  by_cases hk : k.val < 128
  · refine (dif_pos hk).trans ?_
    by_cases hn : n.val = 0
    · refine (dif_pos (show n.val < 1 by omega)).trans ?_
      rw [show band kk n k g x = 0 from if_pos ⟨hk, hn⟩, EReal.coe_zero]
    · refine (dif_neg (show ¬n.val < 1 by omega)).trans ((h1 _ _).trans ?_)
      rw [show band kk n k g x = kk (kpos n (key k)) (kcol g x) from if_neg fun h => hn h.2,
        show key k = .inl ⟨k.val, hk⟩ from dif_pos hk]
      rfl
  · refine (dif_neg hk).trans ((h1 _ _).trans ?_)
    rw [show band kk n k g x = kk (kpos n (key k)) (kcol g x) from if_neg fun h => hk h.1,
      show key k = .inr ⟨k.val - 128, by omega⟩ from dif_neg hk]
    rfl

theorem v10_val (h0 : ∀ s j, x0 (ix2 s j) = ((q s j : ℝ) : EReal)) (n : Fin 32) (r : Fin 128) (g : Fin 4) (h : Fin 8) (x : Fin 64) :
    val_main_v10 (F := Ideal) x0 (ix5 n r g h x) = ((q (pos n r) (qcol g h x) : ℝ) : EReal) := by
  pointwise [val_main_v10]
  rw [h0]
  congr 2
  apply Fin.ext
  show g.val * 512 + h.val * 64 + x.val = (g.val * 8 + h.val) * 64 + x.val
  omega

theorem v14_val (h0 : ∀ s j, x0 (ix2 s j) = ((q s j : ℝ) : EReal)) (h1 : ∀ s j, x1 (ix2 s j) = ((kk s j : ℝ) : EReal))
    (n : Fin 32) (g : Fin 4) (h : Fin 8) (r : Fin 128) (k : Fin 256) :
    val_main_v14 (F := Ideal) x0 x1 (ix5 n g h r k) = ((bscore q kk g n h r k : ℝ) : EReal) := by
  pointwise [val_main_v14, val_main_v12, val_main_v11, val_main_v13, val_main_cst_1]
  simp only [v4_val h1, v10_val h0, Tile.eighth, ← EReal.coe_mul, coe_sum]
  rfl

theorem v43_val (n : Fin 32) (g : Fin 4) (h : Fin 8) (r : Fin 128) (k : Fin 256) :
    val_main_v43 (F := Ideal) (ix5 n g h r k) = BitVec.ofBool (mask n r k) := by
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_v16, val_main_v15, val_main_c, val_main_c_2, val_main_c_3]
  have e : IntOp.addi (BitVec.ofNat 32 r.val) 128#32 = BitVec.ofNat 32 (r.val + 128) := (BitVec.ofNat_add _ _).symm
  rw [e, WordCmp.cmpi_sgt_ofNat (by omega) (by omega), WordCmp.cmpi_sle_ofNat (by omega) (by omega),
    WordCmp.cmpi_sge_ofNat (by omega) (by omega), WordCmp.cmpi_sgt_ofNat (b := 0) (by omega) (by omega), mask_eq]
  by_cases hk : k.val < 128
  · have h1 : k.val ≤ r.val + 128 := by omega
    have h2 : ¬128 ≤ k.val := by omega
    by_cases h3 : r.val < k.val <;> by_cases h4 : n.val = 0 <;>
      simp [hk, h1, h2, h3, h4, IntOp.andi, IntOp.ori, Nat.pos_iff_ne_zero]
  · have h1 : r.val < k.val := by omega
    have h2 : 128 ≤ k.val := by omega
    by_cases h3 : k.val ≤ r.val + 128
    · have h5 : k.val - 128 ≤ r.val := by omega
      by_cases h4 : 0 < n.val <;> simp [hk, h1, h2, h3, h4, h5, IntOp.andi, IntOp.ori]
    · have h5 : ¬k.val - 128 ≤ r.val := by omega
      by_cases h4 : 0 < n.val <;> simp [hk, h1, h2, h3, h4, h5, IntOp.andi, IntOp.ori]

theorem v93_val (h4 : ∀ s j, x4 (ix2 s j) = ((d s j : ℝ) : EReal)) (n : Fin 32) (r : Fin 128) (g : Fin 4) (h : Fin 8) (x : Fin 64) :
    val_main_v93 (F := Ideal) x4 (ix5 n r g h x) = ((d (pos n r) (qcol g h x) : ℝ) : EReal) := v10_val h4 n r g h x

theorem v9_val (h2 : ∀ s j, x2 (ix2 s j) = ((vv s j : ℝ) : EReal)) (n : Fin 32) (k : Fin 256) (g : Fin 4) (x : Fin 64) :
    val_main_v9 (F := Ideal) x2 (ix4 n k g x) = ((band vv n k g x : ℝ) : EReal) := v4_val h2 n k g x

theorem v45_val (h0 : ∀ s j, x0 (ix2 s j) = ((q s j : ℝ) : EReal)) (h1 : ∀ s j, x1 (ix2 s j) = ((kk s j : ℝ) : EReal))
    (n : Fin 32) (g : Fin 4) (h : Fin 8) (r : Fin 128) (k : Fin 256) :
    val_main_v45 (F := Ideal) x0 x1 (ix5 n g h r k) = seen (mask n r k) (bscore q kk g n h r k) := by
  pointwise [val_main_v45, val_main_v44, val_main_cst_4]
  rw [v43_val, v14_val h0 h1, Tile.bot_bits, WordCmp.select_ofBool]
  rfl

theorem v95_val (h4 : ∀ s j, x4 (ix2 s j) = ((d s j : ℝ) : EReal)) (h2 : ∀ s j, x2 (ix2 s j) = ((vv s j : ℝ) : EReal))
    (n : Fin 32) (g : Fin 4) (h : Fin 8) (r : Fin 128) (k : Fin 256) :
    val_main_v95 (F := Ideal) x2 x4 (ix5 n g h r k) = ((bdprob d vv g n h r k : ℝ) : EReal) := by
  pointwise [val_main_v95, val_main_v94]
  simp only [v93_val h4, v9_val h2, ← EReal.coe_mul, coe_sum]
  rfl

end Cert.Ref
-- ==== Proof.RefRow.lean ====
/- The reference's softmax and its gradient, row by row, at real inputs: the maximum is real, the probabilities and the gradients are the
   softmax's over the keys the mask shows, and what the maximum passes back is zero. -/
module

public import proofs.«01_k».proof.Proof.RefBase

@[expose] public section

set_option maxRecDepth 16384

noncomputable section

namespace Cert.Ref

open Cert.ReferenceIdeal Cert.ReferenceIdeal.Gen Cert.ReferenceIdeal.Read
open Idealize.ShloMosaic Idealize.ShloMosaic.TcCoe Idealize.SL.Sem Idealize.ShloMosaic.StableHlo
open Cert.Sink Cert.Spec

/-- The arguments are real arrays. -/
structure Reals (x0 : (⟨S4096x2048, .f32⟩ : BufTy).Contents (Elt Ideal)) (x1 x2 : (⟨S4096x256, .f32⟩ : BufTy).Contents (Elt Ideal))
    (x3 : (⟨S1x32, .f32⟩ : BufTy).Contents (Elt Ideal)) (x4 : (⟨S4096x2048, .f32⟩ : BufTy).Contents (Elt Ideal))
    (q d : Fin 4096 → Fin 2048 → ℝ) (kk vv : Fin 4096 → Fin 256 → ℝ) (sk : Fin 32 → ℝ) : Prop where
  h0 : ∀ s j, x0 (ix2 s j) = ((q s j : ℝ) : EReal)
  h1 : ∀ s j, x1 (ix2 s j) = ((kk s j : ℝ) : EReal)
  h2 : ∀ s j, x2 (ix2 s j) = ((vv s j : ℝ) : EReal)
  h3 : ∀ j, x3 (ix2 0 j) = ((sk j : ℝ) : EReal)
  h4 : ∀ s j, x4 (ix2 s j) = ((d s j : ℝ) : EReal)

/-- How many members of a nonempty family equal its maximum is not zero. -/
theorem count_ne {n : ℕ} [NeZero n] (f : Fin n → EReal) :
    (∑ x : Fin n, (FloatOps.uitofp FTy.f32 (BitVec.ofBool (decide (f x = Finset.univ.fold max ⊥ f))) : Ideal .f32)) ≠ (0 : EReal) := by
  obtain ⟨k, hk⟩ := fold_max_mem f
  have h0 : ∀ x : Fin n, (0 : EReal) ≤ (FloatOps.uitofp FTy.f32
      (BitVec.ofBool (decide (f x = Finset.univ.fold max ⊥ f))) : Ideal .f32) := by
    intro x
    show (0 : EReal) ≤ (((BitVec.ofBool (decide (f x = Finset.univ.fold max ⊥ f))).toNat : ℝ) : EReal)
    rcases Decidable.em (f x = Finset.univ.fold max ⊥ f) with h | h <;> simp [h]
  have h1 : (1 : EReal) = (FloatOps.uitofp FTy.f32
      (BitVec.ofBool (decide (f k = Finset.univ.fold max ⊥ f))) : Ideal .f32) := by
    show (1 : EReal) = (((BitVec.ofBool (decide (f k = Finset.univ.fold max ⊥ f))).toNat : ℝ) : EReal)
    simp [hk]
  have h2 := Finset.single_le_sum (fun x _ => h0 x) (Finset.mem_univ k)
  rw [← h1] at h2
  intro h
  rw [h] at h2
  exact absurd h2 (by norm_num)

variable {x0 x4 : (⟨S4096x2048, .f32⟩ : BufTy).Contents (Elt Ideal)} {x1 x2 : (⟨S4096x256, .f32⟩ : BufTy).Contents (Elt Ideal)}
  {x3 : (⟨S1x32, .f32⟩ : BufTy).Contents (Elt Ideal)}
  {q d : Fin 4096 → Fin 2048 → ℝ} {kk vv : Fin 4096 → Fin 256 → ℝ} {sk : Fin 32 → ℝ}

/-- The larger of two arrays, the one over the rows and the other over the heads, at an index. -/
theorem maximum_apply {n : Fin 32} {g : Fin 4} {h : Fin 8} {r : Fin 128} {a b : EReal}
    (e : val_main_v49 (F := Ideal) x0 x1 (ix4 n g h r) = a) (e' : val_main_v48 (F := Ideal) x3 (ix5 0 g h 0 0) = b) :
    val_main_v57 (F := Ideal) x0 x1 x3 (ix5 n g h r 0) = max a b := by
  have e1 : val_main_v55 (F := Ideal) x0 x1 (ix5 n g h r 0) = a := by
    unfold val_main_v55
    generalize val_main_v49 (F := Ideal) x0 x1 = y at e
    pointwise
    exact e
  have e2 : val_main_v56 (F := Ideal) x3 (ix5 n g h r 0) = b := by
    unfold val_main_v56
    generalize val_main_v48 (F := Ideal) x3 = y at e'
    pointwise
    exact e'
  rw [val_main_v57_apply, e1, e2]
  rfl

section

variable (H : Reals x0 x1 x2 x3 x4 q d kk vv sk) (n : Fin 32) (g : Fin 4) (h : Fin 8) (r : Fin 128) (k : Fin 256)

include H

theorem v48_val : val_main_v48 (F := Ideal) x3 (ix5 0 g h 0 0) = ((sk (qhead g h) : ℝ) : EReal) := by
  pointwise [val_main_v48, val_main_v47]
  rw [H.h3]
  rfl

theorem v49_val : val_main_v49 (F := Ideal) x0 x1 (ix4 n g h r) =
    Finset.univ.fold max ⊥ fun k => seen (mask n r k) (bscore q kk g n h r k) := by
  pointwise [val_main_v49, val_main_cst_6]
  rw [Tile.bot_bits]
  simp only [v45_val H.h0 H.h1]

theorem v53_val : val_main_v53 (F := Ideal) x0 x1 (ix5 n g h r k) = (FloatOps.uitofp FTy.f32
    (BitVec.ofBool (decide (seen (mask n r k) (bscore q kk g n h r k) =
      Finset.univ.fold max ⊥ fun k => seen (mask n r k) (bscore q kk g n h r k)))) : Ideal .f32) := by
  have e := v45_val H.h0 H.h1 n g h r k
  have e' := v49_val H n g h r
  unfold val_main_v53 val_main_v52 val_main_v51 val_main_v50
  generalize val_main_v45 (F := Ideal) x0 x1 = y at e
  generalize val_main_v49 (F := Ideal) x0 x1 = z at e'
  pointwise
  rw [e, e']

theorem v54_ne : val_main_v54 (F := Ideal) x0 x1 (ix4 n g h r) ≠ (0 : EReal) := by
  have e : val_main_v54 (F := Ideal) x0 x1 (ix4 n g h r) = ∑ k, val_main_v53 (F := Ideal) x0 x1 (ix5 n g h r k) := by
    unfold val_main_v54
    generalize val_main_v53 (F := Ideal) x0 x1 = y
    pointwise [val_main_cst_7]
  rw [e, Finset.sum_congr rfl fun k _ => v53_val H n g h r k]
  exact count_ne _

theorem v57_max : val_main_v57 (F := Ideal) x0 x1 x3 (ix5 n g h r 0) =
    max (Finset.univ.fold max ⊥ fun k => seen (mask n r k) (bscore q kk g n h r k)) ((sk (qhead g h) : ℝ) : EReal) := by
  have e := v49_val H n g h r
  have e' := v48_val H g h
  generalize (Finset.univ.fold max ⊥ fun k => seen (mask n r k) (bscore q kk g n h r k)) = a at e ⊢
  generalize ((sk (qhead g h) : ℝ) : EReal) = b at e' ⊢
  exact maximum_apply e e'

/-- What the reference subtracts from a row's scores. -/
def shift (x0 : (⟨S4096x2048, .f32⟩ : BufTy).Contents (Elt Ideal)) (x1 : (⟨S4096x256, .f32⟩ : BufTy).Contents (Elt Ideal))
    (x3 : (⟨S1x32, .f32⟩ : BufTy).Contents (Elt Ideal)) (n : Fin 32) (g : Fin 4) (h : Fin 8) (r : Fin 128) : ℝ :=
  (val_main_v57 (F := Ideal) x0 x1 x3 (ix5 n g h r 0) : EReal).toReal

theorem v57_val : val_main_v57 (F := Ideal) x0 x1 x3 (ix5 n g h r 0) = ((shift x0 x1 x3 n g h r : ℝ) : EReal) := by
  obtain ⟨m, hm⟩ := max_real (fold_max_ne_top (fun k => seen (mask n r k) (bscore q kk g n h r k)) fun k => seen_ne_top _ _) (sk (qhead g h))
  have e := (v57_max H n g h r).trans hm
  unfold shift
  rw [e]
  rfl

theorem v78_val : val_main_v78 (F := Ideal) x0 x1 x3 (ix5 n g h r k) =
    ((swt (mask n r) (bscore q kk g n h r) (shift x0 x1 x3 n g h r) k : ℝ) : EReal) := by
  pointwise [val_main_v78, val_main_v77, val_main_v76]
  rw [v45_val H.h0 H.h1, v57_val H, exp_seen]
  rfl

theorem v83_val : val_main_v83 (F := Ideal) x0 x1 x3 (ix5 n g h r 0) =
    ((Real.exp (sk (qhead g h) - shift x0 x1 x3 n g h r) : ℝ) : EReal) := by
  pointwise [val_main_v83, val_main_v82, val_main_v81]
  rw [v48_val H, v57_val H, ← EReal.coe_sub]
  rfl

theorem v84_val : val_main_v84 (F := Ideal) x0 x1 x3 (ix5 n g h r 0) =
    ((stot (mask n r) (bscore q kk g n h r) (sk (qhead g h)) (shift x0 x1 x3 n g h r) : ℝ) : EReal) := by
  pointwise [val_main_v84, val_main_v80, val_main_v79, val_main_cst_14]
  simp only [v83_val H, v78_val H, coe_sum, ← EReal.coe_add]
  rfl

theorem v86_val : val_main_v86 (F := Ideal) x0 x1 x3 (ix5 n g h r k) =
    ((prob (mask n r) (bscore q kk g n h r) (sk (qhead g h)) k : ℝ) : EReal) := by
  pointwise [val_main_v86, val_main_v85]
  rw [v78_val H, v84_val H, div_real _ (stot_pos _ _ _ _).ne', swt_div]

theorem v89_val : val_main_v89 (F := Ideal) x0 x1 x3 (ix5 n g h r 0) =
    ((1 / (stot (mask n r) (bscore q kk g n h r) (sk (qhead g h)) (shift x0 x1 x3 n g h r) *
      stot (mask n r) (bscore q kk g n h r) (sk (qhead g h)) (shift x0 x1 x3 n g h r)) : ℝ) : EReal) := by
  pointwise [val_main_v89, val_main_v88, val_main_v87, val_main_cst_15]
  have hp := stot_pos (mask n r) (bscore q kk g n h r) (sk (qhead g h)) (shift x0 x1 x3 n g h r)
  rw [v84_val H, ← EReal.coe_mul, ← EReal.coe_one, div_real _ (mul_pos hp hp).ne']

theorem v103_val : val_main_v103 (F := Ideal) x0 x1 x2 x3 x4 (ix5 n g h r 0) =
    ((dtot (mask n r) (bscore q kk g n h r) (sk (qhead g h)) (bdprob d vv g n h r) (shift x0 x1 x3 n g h r) : ℝ) : EReal) := by
  pointwise [val_main_v103, val_main_v102, val_main_v101, val_main_v100, val_main_v99, val_main_v98, val_main_cst_16]
  simp only [v95_val H.h4 H.h2, v89_val H, v78_val H, ← EReal.coe_mul, coe_sum, ← EReal.coe_neg]
  rfl

theorem v106_val : val_main_v106 (F := Ideal) x0 x1 x2 x3 x4 (ix5 n g h r 0) =
    ((dsink (mask n r) (bscore q kk g n h r) (sk (qhead g h)) (bdprob d vv g n h r) : ℝ) : EReal) := by
  pointwise [val_main_v106]
  rw [v103_val H, v83_val H, ← EReal.coe_mul, dtot_mul_sink]

theorem v113_val : val_main_v113 (F := Ideal) x0 x1 x2 x3 x4 (ix5 n g h r k) =
    ((dscore (mask n r) (bscore q kk g n h r) (sk (qhead g h)) (bdprob d vv g n h r) k : ℝ) : EReal) := by
  pointwise [val_main_v113, val_main_v112, val_main_v111, val_main_v110, val_main_v105, val_main_v104, val_main_cst_18]
  rw [Fin.sum_univ_one, v95_val H.h4 H.h2, v84_val H, v103_val H, v78_val H, div_real _ (stot_pos _ _ _ _).ne', ← EReal.coe_add, ← EReal.coe_mul,
    dscore_shift]

theorem v117_val : val_main_v117 (F := Ideal) x0 x1 x2 x3 x4 (ix5 n g h r 0) = 0 := by
  pointwise [val_main_v117, val_main_v116, val_main_v115, val_main_v114, val_main_v109, val_main_cst_19]
  simp only [v106_val H, v113_val H, ← EReal.coe_neg, coe_sum, ← EReal.coe_add]
  rw [← EReal.coe_zero]
  congr 1
  have := sum_grad (mask n r) (bscore q kk g n h r) (sk (qhead g h)) (bdprob d vv g n h r)
  rw [Finset.sum_neg_distrib]
  linarith

theorem v126_val : val_main_v126 (F := Ideal) x0 x1 x2 x3 x4 (ix5 n g h r k) = 0 := by
  have e : val_main_v122 (F := Ideal) x0 x1 x2 x3 x4 (ix5 n g h r 0) = 0 := by
    pointwise [val_main_v122]
    rw [v117_val H, zero_mul]
  have e' : val_main_v123 (F := Ideal) x0 x1 x2 x3 x4 (ix4 n g h r) = 0 := by
    unfold val_main_v123
    generalize val_main_v122 (F := Ideal) x0 x1 x2 x3 x4 = y at e
    pointwise [val_main_cst_21]
    rw [Fin.sum_univ_one, e]
  pointwise [val_main_v126, val_main_v125, val_main_v124]
  rw [e', Tile.div_zero_left (v54_ne H n g h r), zero_mul]

theorem v118_val : val_main_v118 (F := Ideal) x0 x1 x2 x3 x4 (ix5 n g h r 0) = 0 := by
  pointwise [val_main_v118]
  rw [v117_val H, zero_mul]

/-- The gradient of a scaled score. -/
theorem v133_val : val_main_v133 (F := Ideal) x0 x1 x2 x3 x4 (ix5 n g h r k) =
    ((dscore (mask n r) (bscore q kk g n h r) (sk (qhead g h)) (bdprob d vv g n h r) k * (1 / 8) : ℝ) : EReal) := by
  have e : val_main_v127 (F := Ideal) x0 x1 x2 x3 x4 (ix5 n g h r k) =
      ((dscore (mask n r) (bscore q kk g n h r) (sk (qhead g h)) (bdprob d vv g n h r) k : ℝ) : EReal) := by
    pointwise [val_main_v127]
    rw [v113_val H, v126_val H, add_zero]
  pointwise [val_main_v133, val_main_v132, val_main_v131, val_main_v130, val_main_cst_23, val_main_cst_24]
  rw [v43_val, e, WordCmp.select_ofBool, Tile.eighth]
  cases hk : mask n r k
  · rw [dscore_hidden _ _ _ _ k hk]; simp
  · rw [if_pos rfl, ← EReal.coe_mul]

end

end Cert.Ref
-- ==== Proof.RefOut.lean ====
/- The reference's results at real inputs: each is the gradient written over a window's keys and heads. -/
module

public import proofs.«01_k».proof.Proof.RefRow

@[expose] public section

set_option maxRecDepth 16384

noncomputable section

namespace Cert.Ref

open Cert.ReferenceIdeal Cert.ReferenceIdeal.Gen Cert.ReferenceIdeal.Read
open Idealize.ShloMosaic Idealize.ShloMosaic.TcCoe Idealize.SL.Sem Idealize.ShloMosaic.StableHlo
open Cert.Sink Cert.Spec

/-! ## A row over the 256 keys is the row over the window's two halves -/

section

variable (q d : Fin 4096 → Fin 2048 → ℝ) (kk vv : Fin 4096 → Fin 256 → ℝ) (sk : Fin 32 → ℝ)
  (g : Fin 4) (n : Fin 32) (h : Fin 8) (r : Fin 128)

theorem row_prob (k : Fin 256) : prob (mask n r) (bscore q kk g n h r) (sk (qhead g h)) k = rowP q kk sk g n h r (key k) := by
  rw [prob_congr (mask n r) (sk (qhead g h)) (s' := score q kk g n h r ∘ key) fun k hk => bscore_seen q kk g n h r k hk]
  exact prob_equiv key (vis n r) (score q kk g n h r) (sk (qhead g h)) k

theorem row_dscore (k : Fin 256) : dscore (mask n r) (bscore q kk g n h r) (sk (qhead g h)) (bdprob d vv g n h r) k =
    rowG q d kk vv sk g n h r (key k) := by
  rw [dscore_congr (mask n r) (sk (qhead g h)) (s' := score q kk g n h r ∘ key) (dp' := dprob d vv g n h r ∘ key)
    (fun k hk => bscore_seen q kk g n h r k hk) fun k hk => bdprob_seen d vv g n h r k hk]
  exact dscore_equiv key (vis n r) (score q kk g n h r) (sk (qhead g h)) (dprob d vv g n h r) k

theorem row_dsink : dsink (mask n r) (bscore q kk g n h r) (sk (qhead g h)) (bdprob d vv g n h r) = rowZ q d kk vv sk g n h r := by
  rw [dsink_congr (mask n r) (sk (qhead g h)) (s' := score q kk g n h r ∘ key) (dp' := dprob d vv g n h r ∘ key)
    (fun k hk => bscore_seen q kk g n h r k hk) fun k hk => bdprob_seen d vv g n h r k hk]
  exact dsink_equiv key (vis n r) (score q kk g n h r) (sk (qhead g h)) (dprob d vv g n h r)

/-- A hidden key takes no part in a query's gradient, whatever stands in its place. -/
theorem row_band (k : Fin 256) (x : Fin 64) : rowG q d kk vv sk g n h r (key k) * (1 / 8) * band kk n k g x =
    rowG q d kk vv sk g n h r (key k) * (1 / 8) * kk (kpos n (key k)) (kcol g x) := by
  cases hk : mask n r k
  · rw [← row_dscore, dscore_hidden _ _ _ _ k hk]; simp
  · rw [band_seen kk hk]

theorem dQ_eq (x : Fin 64) : (∑ k, rowG q d kk vv sk g n h r (key k) * (1 / 8) * band kk n k g x) = dQ q d kk vv sk g h n r x := by
  simp only [row_band]
  rw [key.sum_comp fun j => rowG q d kk vv sk g n h r j * (1 / 8) * kk (kpos n j) (kcol g x), Fintype.sum_sum_type, add_comm]
  rfl

end

theorem key_left (j : Fin 128) (h : j.val < 256) : key ⟨j.val, h⟩ = .inl j := dif_pos j.isLt

theorem key_right (j : Fin 128) (h : 128 + j.val < 256) : key ⟨128 + j.val, h⟩ = .inr j := by
  refine (dif_neg (show ¬128 + j.val < 128 by omega)).trans (congrArg _ (Fin.ext ?_))
  show 128 + j.val - 128 = j.val
  omega

/-! ## The results -/

variable {x0 x4 : (⟨S4096x2048, .f32⟩ : BufTy).Contents (Elt Ideal)} {x1 x2 : (⟨S4096x256, .f32⟩ : BufTy).Contents (Elt Ideal)}
  {x3 : (⟨S1x32, .f32⟩ : BufTy).Contents (Elt Ideal)}
  {q d : Fin 4096 → Fin 2048 → ℝ} {kk vv : Fin 4096 → Fin 256 → ℝ} {sk : Fin 32 → ℝ}

section

variable (H : Reals x0 x1 x2 x3 x4 q d kk vv sk) (n : Fin 32) (g : Fin 4) (h : Fin 8) (r : Fin 128) (k : Fin 256) (x : Fin 64)
  (s : Fin 4096) (j : Fin 128)

include H

theorem v134_val : val_main_v134 (F := Ideal) x0 x1 x2 x3 x4 (ix5 n g k r h) =
    ((rowG q d kk vv sk g n h r (key k) * (1 / 8) : ℝ) : EReal) := by
  pointwise [val_main_v134]
  rw [v133_val H, row_dscore]

theorem v135_val : val_main_v135 (F := Ideal) x0 x1 x2 x3 x4 (ix5 n g r h x) = ((dQ q d kk vv sk g h n r x : ℝ) : EReal) := by
  have e : val_main_v135 (F := Ideal) x0 x1 x2 x3 x4 (ix5 n g r h x) =
      ∑ k, val_main_v134 (F := Ideal) x0 x1 x2 x3 x4 (ix5 n g k r h) * val_main_v4 (F := Ideal) x1 (ix4 n k g x) := by
    unfold val_main_v135
    generalize val_main_v134 (F := Ideal) x0 x1 x2 x3 x4 = y
    generalize val_main_v4 (F := Ideal) x1 = z
    pointwise []
  rw [e, ← dQ_eq]
  simp only [v134_val H, v4_val H.h1, ← EReal.coe_mul, coe_sum]

theorem v137_val : val_main_v137 (F := Ideal) x0 x1 x2 x3 x4 (ix4 n g k x) = ((dK q d kk vv sk g n (key k) x : ℝ) : EReal) := by
  have e : val_main_v137 (F := Ideal) x0 x1 x2 x3 x4 (ix4 n g k x) =
      ∑ r, ∑ h, val_main_v134 (F := Ideal) x0 x1 x2 x3 x4 (ix5 n g k r h) * val_main_v10 (F := Ideal) x0 (ix5 n r g h x) := by
    unfold val_main_v137
    generalize val_main_v134 (F := Ideal) x0 x1 x2 x3 x4 = y
    generalize val_main_v10 (F := Ideal) x0 = z
    pointwise []
  rw [e]
  simp only [v134_val H, v10_val H.h0, ← EReal.coe_mul, coe_sum]
  rw [Finset.sum_comm]
  rfl

theorem v96_val : val_main_v96 (F := Ideal) x0 x1 x3 x4 (ix4 n g x k) = ((dV q d kk sk g n (key k) x : ℝ) : EReal) := by
  have e : val_main_v96 (F := Ideal) x0 x1 x3 x4 (ix4 n g x k) =
      ∑ h, ∑ r, val_main_v94 (F := Ideal) x4 (ix5 n g x h r) * val_main_v86 (F := Ideal) x0 x1 x3 (ix5 n g h r k) := by
    unfold val_main_v96
    generalize val_main_v94 (F := Ideal) x4 = y
    generalize val_main_v86 (F := Ideal) x0 x1 x3 = z
    pointwise []
  have e' : ∀ (h : Fin 8) (r : Fin 128), val_main_v94 (F := Ideal) x4 (ix5 n g x h r) = ((d (pos n r) (qcol g h x) : ℝ) : EReal) := by
    intro h r
    pointwise [val_main_v94]
    rw [v93_val H.h4]
  rw [e]
  simp only [e', v86_val H, row_prob, ← EReal.coe_mul, coe_sum]
  rfl

theorem res_q : val_main_v141 (F := Ideal) x0 x1 x2 x3 x4 (ix4 g h s x) = ((dQ q d kk vv sk g h (win s) (rem s) x : ℝ) : EReal) := by
  pointwise [val_main_v141, val_main_v140, val_main_v139, val_main_v136]
  exact v135_val H _ _ _ _ _

theorem res_kp : val_main_v144 (F := Ideal) x0 x1 x2 x3 x4 (ix4 g n j x) = ((dK q d kk vv sk g n (.inl j) x : ℝ) : EReal) := by
  pointwise [val_main_v144, val_main_v142, val_main_v138]
  rw [v137_val H, key_left]

theorem res_kc : val_main_v145 (F := Ideal) x0 x1 x2 x3 x4 (ix4 g n j x) = ((dK q d kk vv sk g n (.inr j) x : ℝ) : EReal) := by
  pointwise [val_main_v145, val_main_v142, val_main_v138]
  rw [v137_val H, key_right]

theorem res_vp : val_main_v146 (F := Ideal) x0 x1 x3 x4 (ix4 g n j x) = ((dV q d kk sk g n (.inl j) x : ℝ) : EReal) := by
  pointwise [val_main_v146, val_main_v143, val_main_v97]
  rw [v96_val H, key_left]

theorem res_vc : val_main_v147 (F := Ideal) x0 x1 x3 x4 (ix4 g n j x) = ((dV q d kk sk g n (.inr j) x : ℝ) : EReal) := by
  pointwise [val_main_v147, val_main_v143, val_main_v97]
  rw [v96_val H, key_right]

end

/-! ## Sums over the windows and their positions -/

theorem sum_rows (y : S32x4x8x128x1.Idx → EReal) (i : EReal) (g : Fin 4) (h : Fin 8) :
    Ideal.hostReduceAdd reducesTo_S32x4x8x128x1_S4x8x1_d0_3 y i (ix3 g h 0) =
      i + ∑ n : Fin 32, ∑ r : Fin 128, y (ix5 n g h r 0) := by
  unfold Ideal.hostReduceAdd
  rw [← Fintype.sum_prod_type' (f := fun (n : Fin 32) (r : Fin 128) => y (ix5 n g h r 0))]
  congr 1
  refine Finset.sum_nbij' (fun i => ((i 0, i 3) : Fin 32 × Fin 128)) (fun p => ix5 p.1 g h p.2 0) ?_ ?_ ?_ ?_ ?_
  · intro i _; exact Finset.mem_univ _
  · intro p _
    rw [Finset.mem_filter]
    refine ⟨Finset.mem_univ _, ?_⟩
    funext a
    match a with
    | ⟨0, _⟩ => rfl
    | ⟨1, _⟩ => rfl
    | ⟨2, _⟩ => rfl
  · intro i hi
    have hd := (Finset.mem_filter.mp hi).2
    have h1 : i 1 = g := congrFun hd 0
    have h2 : i 2 = h := congrFun hd 1
    funext a
    match a with
    | ⟨0, _⟩ => rfl
    | ⟨1, _⟩ => exact h1.symm
    | ⟨2, _⟩ => exact h2.symm
    | ⟨3, _⟩ => rfl
    | ⟨4, _⟩ => exact Subsingleton.elim (α := Fin 1) _ _
  · intro p _; rfl
  · intro i hi
    have hd := (Finset.mem_filter.mp hi).2
    have h1 : i 1 = g := congrFun hd 0
    have h2 : i 2 = h := congrFun hd 1
    congr 1
    funext a
    match a with
    | ⟨0, _⟩ => rfl
    | ⟨1, _⟩ => exact h1
    | ⟨2, _⟩ => exact h2
    | ⟨3, _⟩ => rfl
    | ⟨4, _⟩ => exact Subsingleton.elim (α := Fin 1) _ _

theorem sum_one (y : S1x4x8x1x1.Idx → EReal) (i : EReal) (g : Fin 4) (h : Fin 8) :
    Ideal.hostReduceAdd reducesTo_S1x4x8x1x1_S4x8_d0_3_4 y i (ix2 g h) = i + y (ix5 0 g h 0 0) := by
  unfold Ideal.hostReduceAdd
  congr 1
  refine Finset.sum_eq_single_of_mem (ix5 0 g h 0 0) ?_ ?_
  · rw [Finset.mem_filter]
    refine ⟨Finset.mem_univ _, ?_⟩
    funext a
    match a with
    | ⟨0, _⟩ => rfl
    | ⟨1, _⟩ => rfl
  · intro i hi hne
    have hd := (Finset.mem_filter.mp hi).2
    have h1 : i 1 = g := congrFun hd 0
    have h2 : i 2 = h := congrFun hd 1
    refine absurd ?_ hne
    funext a
    match a with
    | ⟨0, _⟩ => exact Subsingleton.elim (α := Fin 1) _ _
    | ⟨1, _⟩ => exact h1
    | ⟨2, _⟩ => exact h2
    | ⟨3, _⟩ => exact Subsingleton.elim (α := Fin 1) _ _
    | ⟨4, _⟩ => exact Subsingleton.elim (α := Fin 1) _ _

section

variable (H : Reals x0 x1 x2 x3 x4 q d kk vv sk) (g : Fin 4) (h : Fin 8)

include H

theorem v107_val : val_main_v107 (F := Ideal) x0 x1 x2 x3 x4 (ix3 g h 0) = ((dS q d kk vv sk g h : ℝ) : EReal) := by
  unfold val_main_v107
  refine (sum_rows _ _ g h).trans ?_
  simp only [v106_val H, row_dsink, coe_sum]
  pointwise [val_main_cst_17]
  rfl

theorem v119_val : val_main_v119 (F := Ideal) x0 x1 x2 x3 x4 (ix3 g h 0) = (0 : EReal) := by
  unfold val_main_v119
  refine (sum_rows _ _ g h).trans ?_
  simp only [v118_val H, Finset.sum_const_zero]
  pointwise [val_main_cst_20]

theorem v121_val : val_main_v121 (F := Ideal) x0 x1 x2 x3 x4 (ix5 0 g h 0 0) = ((dS q d kk vv sk g h : ℝ) : EReal) := by
  pointwise [val_main_v121, val_main_v120, val_main_v108]
  rw [v107_val H, v119_val H, add_zero]

theorem v128_val : val_main_v128 (F := Ideal) x0 x1 x2 x3 x4 (ix2 g h) = ((dS q d kk vv sk g h : ℝ) : EReal) := by
  unfold val_main_v128
  refine (sum_one _ _ g h).trans ?_
  rw [v121_val H]
  pointwise [val_main_cst_22]

theorem res_s : val_main_v148 (F := Ideal) x0 x1 x2 x3 x4 (ix3 g 0 h) = ((dS q d kk vv sk g h : ℝ) : EReal) := by
  pointwise [val_main_v148, val_main_v129]
  exact v128_val H g h

end

end Cert.Ref
-- ==== Proof.Results.lean ====
/- The kernel's and the reference's results are one: each is the gradient of the attention over the same reals. -/
module

public import proofs.«01_k».proof.Defs
public import proofs.«01_k».proof.Proof.Finite
public import proofs.«01_k».proof.Proof.Arrays
public import proofs.«01_k».proof.Proof.RefOut

@[expose] public section

noncomputable section

namespace Cert.Results

open Idealize.ShloMosaic Idealize.SL.Sem

section Reference

open Cert.ReferenceIdeal Cert.ReferenceIdeal.Gen Cert.ReferenceIdeal.Read Cert.Ref Cert.Arrays

variable {x0 x4 : (⟨S4096x2048, .f32⟩ : BufTy).Contents (Elt Ideal)} {x1 x2 : (⟨S4096x256, .f32⟩ : BufTy).Contents (Elt Ideal)}
  {x3 : (⟨S1x32, .f32⟩ : BufTy).Contents (Elt Ideal)}
  {q d : Fin 4096 → Fin 2048 → ℝ} {kk vv : Fin 4096 → Fin 256 → ℝ} {sk : Fin 32 → ℝ}
  (H : Reals x0 x1 x2 x3 x4 q d kk vv sk)

include H

theorem ref_q : val_main_v141 (F := Ideal) x0 x1 x2 x3 x4 = GQ q d kk vv sk := by
  funext y
  obtain ⟨a, b, c, e, rfl⟩ : ∃ (a : Fin 4) (b : Fin 8) (c : Fin 4096) (e : Fin 64), y = ix4 a b c e := ⟨y 0, y 1, y 2, y 3, eq_ix4 y⟩
  exact res_q H a b e c

theorem ref_kp : val_main_v144 (F := Ideal) x0 x1 x2 x3 x4 = GKP q d kk vv sk := by
  funext y
  obtain ⟨a, b, c, e, rfl⟩ : ∃ (a : Fin 4) (b : Fin 32) (c : Fin 128) (e : Fin 64), y = ix4 a b c e := ⟨y 0, y 1, y 2, y 3, eq_ix4 y⟩
  exact res_kp H b a e c

theorem ref_kc : val_main_v145 (F := Ideal) x0 x1 x2 x3 x4 = GKC q d kk vv sk := by
  funext y
  obtain ⟨a, b, c, e, rfl⟩ : ∃ (a : Fin 4) (b : Fin 32) (c : Fin 128) (e : Fin 64), y = ix4 a b c e := ⟨y 0, y 1, y 2, y 3, eq_ix4 y⟩
  exact res_kc H b a e c

theorem ref_vp : val_main_v146 (F := Ideal) x0 x1 x3 x4 = GVP q d kk sk := by
  funext y
  obtain ⟨a, b, c, e, rfl⟩ : ∃ (a : Fin 4) (b : Fin 32) (c : Fin 128) (e : Fin 64), y = ix4 a b c e := ⟨y 0, y 1, y 2, y 3, eq_ix4 y⟩
  exact res_vp H b a e c

theorem ref_vc : val_main_v147 (F := Ideal) x0 x1 x3 x4 = GVC q d kk sk := by
  funext y
  obtain ⟨a, b, c, e, rfl⟩ : ∃ (a : Fin 4) (b : Fin 32) (c : Fin 128) (e : Fin 64), y = ix4 a b c e := ⟨y 0, y 1, y 2, y 3, eq_ix4 y⟩
  exact res_vc H b a e c

theorem ref_s : val_main_v148 (F := Ideal) x0 x1 x2 x3 x4 = GS q d kk vv sk := by
  funext y
  obtain ⟨a, b, c, rfl⟩ : ∃ (a : Fin 4) (b : Fin 1) (c : Fin 8), y = ix3 a b c := ⟨y 0, y 1, y 2, eq_ix3 y⟩
  obtain rfl : b = 0 := Subsingleton.elim _ _
  exact res_s H a c

end Reference

/-- Finite arguments are real arrays. -/
theorem args (m : (ℓ : Loc Cert.KernelIdeal.nD Cert.KernelIdeal.τ Cert.KernelIdeal.sig) → Buf (Elt Ideal) ℓ) (hpre : Cert.Pre_KernelIdeal_finite m)
    (c : Dev Cert.KernelIdeal.nD) : ∃ q d kk vv sk, Cert.Arrays.Args m c q d kk vv sk := by
  obtain ⟨e0, e1, e2, e3, e4⟩ := Cert.Finite.reals (hpre c)
  choose q hq using e0
  choose k hk using e1
  choose v hv using e2
  choose s hs using e3
  choose d hd using e4
  exact ⟨fun a b => q (ix2 a b), fun a b => d (ix2 a b), fun a b => k (ix2 a b), fun a b => v (ix2 a b), fun b => s (ix2 0 b),
    ⟨fun a b => hq _, fun a b => hk _, fun a b => hv _, fun b => hs _, fun a b => hd _⟩⟩

theorem equal : Cert.algebraic_KernelIdeal_ReferenceIdeal_pre_finite := by
  intro m g m' g' hpre hagree
  refine ⟨_, _, _, _, _, _, Cert.KernelIdeal.Value.run_blocks m g, ?_⟩
  refine θ_run_mono (Cert.ReferenceIdeal.Value.run m' g') fun r hr c => ?_
  obtain ⟨q, d, kk, vv, sk, H⟩ := args m hpre c
  obtain ⟨a0, a1, a2, a3, a4⟩ := hagree c
  have R : Cert.Ref.Reals _ _ _ _ _ q d kk vv sk := ⟨fun s j => (congrFun a0 _).trans (H.h0 s j), fun s j => (congrFun a1 _).trans (H.h1 s j),
    fun s j => (congrFun a2 _).trans (H.h2 s j), fun j => (congrFun a3 _).trans (H.h3 j), fun s j => (congrFun a4 _).trans (H.h4 s j)⟩
  obtain ⟨r0, r1, r2, r3, r4, r5, k0, k1, k2, k3, k4⟩ := hr c
  exact ⟨(r0.trans (Cert.ReferenceIdeal.Read.val_main_v141_eq _)).trans ((ref_q R).trans (Cert.Arrays.arr_q H).symm),
    (r1.trans (Cert.ReferenceIdeal.Read.val_main_v144_eq _)).trans ((ref_kp R).trans (Cert.Arrays.arr_kp H).symm),
    (r2.trans (Cert.ReferenceIdeal.Read.val_main_v145_eq _)).trans ((ref_kc R).trans (Cert.Arrays.arr_kc H).symm),
    (r3.trans (Cert.ReferenceIdeal.Read.val_main_v146_eq _)).trans ((ref_vp R).trans (Cert.Arrays.arr_vp H).symm),
    (r4.trans (Cert.ReferenceIdeal.Read.val_main_v147_eq _)).trans ((ref_vc R).trans (Cert.Arrays.arr_vc H).symm),
    (r5.trans (Cert.ReferenceIdeal.Read.val_main_v148_eq _)).trans ((ref_s R).trans (Cert.Arrays.arr_s H).symm),
    k0, k1, k2, k3, k4⟩

end Cert.Results
-- ==== Proof.Dact.lean ====
/- The gradients of the feed-forward layer's gate and value: the kernel's blocks put together are the reference's. -/
module

public import proofs.«01_k».proof.Defs
public import proofs.«01_k».proof.Proof.Gen.KernelDactIdeal.Value
public import proofs.«01_k».proof.Proof.Gen.ReferenceDactIdeal.Run
public import proofs.«01_k».proof.Proof.Gen.ReferenceDactIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Dact

open Idealize.ShloMosaic Idealize.ShloMosaic.TcCoe Idealize.SL.Sem

/-- The column of the layer that a column of a shard is. -/
def lcol (p : Fin 8) (f : Fin 688) : Fin 5504 := ⟨p.val * 688 + f.val, by omega⟩

/-- The gradient of the gated unit: the cotangent times the second matrix transposed. -/
def dh (w : Fin 5504 → Fin 2048 → EReal) (y : Fin 4096 → Fin 2048 → EReal) (s : Fin 4096) (f : Fin 5504) : EReal :=
  ∑ k, y s k * w f k

/-- The logistic function, and the gradients of a gate and of a value under a gradient of their unit. -/
def sgm (a : EReal) : EReal := FloatOps.logistic (F := Ideal) (φ := .f32) a
def da (a b d : EReal) : EReal := d * b * sgm a + a * (d * b) * (sgm a * (FloatOps.ofBits (F := Ideal) .f32 0x3F800000#32 - sgm a))
def db (a d : EReal) : EReal := a * sgm a * d

/-- The two gradients, one after the other. -/
def grad (a b : Fin 4096 → Fin 5504 → EReal) (w : Fin 5504 → Fin 2048 → EReal) (y : Fin 4096 → Fin 2048 → EReal)
    (o : Fin 2) (s : Fin 4096) (f : Fin 5504) : EReal :=
  if o.val < 1 then da (a s f) (b s f) (dh w y s f) else db (a s f) (dh w y s f)

section Kernel

open Cert.KernelDactIdeal Cert.KernelDactIdeal.Gen

variable (m : (ℓ : Loc nD τ sig) → Buf (Elt Ideal) ℓ) (c : Dev nD)

/-- The kernel's arguments, by row and column. -/
def gate (s : Fin 4096) (f : Fin 5504) : EReal := m ((c : Thread nD τ).loc main_arg0) (ix2 s f)
def value (s : Fin 4096) (f : Fin 5504) : EReal := m ((c : Thread nD τ).loc main_arg1) (ix2 s f)
def wts (f : Fin 5504) (d : Fin 2048) : EReal := m ((c : Thread nD τ).loc main_arg2) (ix2 f d)
def dy (s : Fin 4096) (d : Fin 2048) : EReal := m ((c : Thread nD τ).loc main_arg3) (ix2 s d)

theorem idx0 : ∀ t : Fin grid0.N, win0_0.index t = ![t.val % 8, 0] := by decide +kernel
theorem idx1 : ∀ t : Fin grid0.N, win0_1.index t = ![t.val / 8, 0, 0] := by decide +kernel
theorem idx2 : ∀ t : Fin grid0.N, win0_2.index t = ![0, t.val / 8, t.val % 8, 0] := by decide +kernel
theorem idx3 : ∀ t : Fin grid0.N, win0_3.index t = ![0, t.val / 8, t.val % 8, 0] := by decide +kernel

/-- The shard of a grid point, and the row of the arrays that a row of its block is. -/
def shard (t : Fin cfg0.N) : Fin 8 := ⟨t.val / 8, by have : t.val < 64 := t.isLt; omega⟩
def row (t : Fin cfg0.N) (i : Fin 512) : Fin 4096 := ⟨t.val % 8 * 512 + i.val, by omega⟩

theorem host_y (s : Fin 4096) (d : Fin 2048) : V m c main_v7 (ix2 s d) = dy m c s d := by
  unfold V
  after_reads_at
  rfl

theorem host_w (p : Fin 8) (f : Fin 688) (d : Fin 2048) : V m c main_v9 (ix3 p f d) = wts m c (lcol p f) d := by
  unfold V
  after_reads_at
  rfl

theorem host_g (p : Fin 8) (s : Fin 4096) (f : Fin 688) : V m c main_v6 (ix4 0 p s f) = gate m c s (lcol p f) := by
  unfold V
  after_reads_at
  rfl

theorem host_v (p : Fin 8) (s : Fin 4096) (f : Fin 688) : V m c main_v6 (ix4 1 p s f) = value m c s (lcol p f) := by
  unfold V
  after_reads_at
  rfl

theorem blk0 (t : Fin cfg0.N) (i : Fin 512) (k : Fin 2048) : iblk m c 0 t (ix2 i k) = dy m c (row t i) k := by
  rw [← host_y]
  show iblk m c 0 t (ix2 i k) = V m c main_v7 (ix2 (row t i) k)
  blk_ext [iblk, idx0 t, row]

theorem blk1 (t : Fin cfg0.N) (j : Fin 688) (k : Fin 2048) : iblk m c 1 t (ix3 0 j k) = wts m c (lcol (shard t) j) k := by
  rw [← host_w]
  show iblk m c 1 t (ix3 0 j k) = V m c main_v9 (ix3 (shard t) j k)
  blk_ext [iblk, idx1 t, shard]

theorem blk2a (t : Fin cfg0.N) (i : Fin 512) (j : Fin 688) : iblk m c 2 t (ix4 0 0 i j) = gate m c (row t i) (lcol (shard t) j) := by
  rw [← host_g]
  show iblk m c 2 t (ix4 0 0 i j) = V m c main_v6 (ix4 0 (shard t) (row t i) j)
  blk_ext [iblk, idx2 t, shard, row]

theorem blk2b (t : Fin cfg0.N) (i : Fin 512) (j : Fin 688) : iblk m c 2 t (ix4 1 0 i j) = value m c (row t i) (lcol (shard t) j) := by
  rw [← host_v]
  show iblk m c 2 t (ix4 1 0 i j) = V m c main_v6 (ix4 1 (shard t) (row t i) j)
  blk_ext [iblk, idx2 t, shard, row]

theorem pay1 (a : Vec Ideal S512x2048 .bf16) (b : Vec Ideal S1x688x2048 .bf16) (i : Fin 512) (j : Fin 688) :
    k0_pay1 (F := Ideal) a b (ix2 i j) = ∑ k : Fin 2048, a (ix2 i k) * b (ix3 0 j k) := by
  pointwise [k0_pay1]

theorem pay4 (a : Vec Ideal S512x2048 .bf16) (b : Vec Ideal S1x688x2048 .bf16) (u v : Vec Ideal S1x1x512x688 .f32) (i : Fin 512) (j : Fin 688) :
    k0_pay4 (F := Ideal) a b u v (ix4 0 0 i j) = da (u (ix4 0 0 i j)) (v (ix4 0 0 i j)) (k0_pay1 (F := Ideal) a b (ix2 i j)) := by
  unfold k0_pay4 k0_pay3 k0_pay2 da sgm
  generalize k0_pay1 (F := Ideal) a b = x
  pointwise []

theorem pay5 (a : Vec Ideal S512x2048 .bf16) (b : Vec Ideal S1x688x2048 .bf16) (u : Vec Ideal S1x1x512x688 .f32) (i : Fin 512) (j : Fin 688) :
    k0_pay5 (F := Ideal) a b u (ix4 0 0 i j) = db (u (ix4 0 0 i j)) (k0_pay1 (F := Ideal) a b (ix2 i j)) := by
  unfold k0_pay5 k0_pay3 k0_pay2 db sgm
  generalize k0_pay1 (F := Ideal) a b = x
  pointwise []

/-- The two loads of a block, and the gradients there. -/
theorem ld_a (X : Vec Ideal S2x1x512x688 .f32) (i : Fin 512) (j : Fin 688) : View.ld X r0_2 (ix4 0 0 i j) = X (ix4 0 0 i j) := by
  unfold r0_2
  pointwise []

theorem ld_b (X : Vec Ideal S2x1x512x688 .f32) (i : Fin 512) (j : Fin 688) : View.ld X r0_3 (ix4 0 0 i j) = X (ix4 1 0 i j) := by
  unfold r0_3
  pointwise []

theorem at_d (t : Fin cfg0.N) (i : Fin 512) (j : Fin 688) :
    k0_pay1 (F := Ideal) (iblk m c 0 t) (iblk m c 1 t) (ix2 i j) = dh (wts m c) (dy m c) (row t i) (lcol (shard t) j) :=
  (pay1 _ _ i j).trans (Finset.sum_congr rfl fun k _ => by rw [blk0, blk1])

theorem arr : (dats m 0 c).arrAt 3 (cfgs 0).N =
    fun y => grad (gate m c) (value m c) (wts m c) (dy m c) (y 0) (y 2) (lcol (y 1) (y 3)) := by
  refine (dats m 0 c).arrAt_eq_of_covers 3 _ (by decide +kernel) fun t hf y => ?_
  have e : ∀ o i j, ((cfg0.win 3).blk t).view.emb (ix4 (o : Fin 2) (0 : Fin 1) (i : Fin 512) (j : Fin 688)) = ix4 o (shard t) (row t i) j :=
    fun o i j => by blk_ext [idx3 t, shard, row]
  blk_simp
  rw [after0_3]
  idx_vars y
  obtain rfl : y1 = 0 := Subsingleton.elim _ _
  refine Eq.trans ?_ (congrArg (fun y : S2x8x4096x688.Idx =>
    grad (gate m c) (value m c) (wts m c) (dy m c) (y 0) (y 2) (lcol (y 1) (y 3))) (e y0 y2 y3).symm)
  show out0_3 (F := Ideal) _ _ _ _ = grad (gate m c) (value m c) (wts m c) (dy m c) y0 (row t y2) (lcol (shard t) y3)
  frame_out
  canon_tiles x h
  · idx_vars x
    obtain rfl : x0 = 0 := Subsingleton.elim _ _
    obtain rfl : x1 = 0 := Subsingleton.elim _ _
    obtain rfl : y0 = 1 := Fin.ext h0
    obtain rfl : y2 = x2 := Fin.ext h2
    obtain rfl : y3 = x3 := Fin.ext h3
    refine (pay5 _ _ _ y2 y3).trans ?_
    rw [at_d, ld_a, blk2a]
    rfl
  · idx_vars x
    obtain rfl : x0 = 0 := Subsingleton.elim _ _
    obtain rfl : x1 = 0 := Subsingleton.elim _ _
    obtain rfl : y0 = 0 := Fin.ext h0
    obtain rfl : y2 = x2 := Fin.ext h2
    obtain rfl : y3 = x3 := Fin.ext h3
    refine (pay4 _ _ _ _ y2 y3).trans ?_
    rw [at_d, ld_a, ld_b, blk2a, blk2b]
    rfl

end Kernel

section Reference

open Cert.ReferenceDactIdeal Cert.ReferenceDactIdeal.Read

variable (x0 x1 : (⟨S4096x5504, .f32⟩ : BufTy).Contents (Elt Ideal)) (x2 : (⟨S5504x2048, .f32⟩ : BufTy).Contents (Elt Ideal))
  (x3 : (⟨S4096x2048, .f32⟩ : BufTy).Contents (Elt Ideal))

theorem ref3 (s : Fin 4096) (f : Fin 5504) :
    val_main_v3 (F := Ideal) x2 x3 (ix2 s f) = dh (fun f d => x2 (ix2 f d)) (fun s d => x3 (ix2 s d)) s f := by
  refine (val_main_v3_apply x2 x3 _).trans (Finset.sum_congr rfl fun k _ => ?_)
  have e0 : lidx_main_v3 (ix2 s f) k = ix2 s k := eq_ix2 _
  have e1 : ridx_main_v3 (ix2 s f) k = ix2 f k := eq_ix2 _
  rw [e0, e1]

theorem ref4 (s : Fin 4096) (f : Fin 5504) :
    val_main_v4 (F := Ideal) x0 x2 x3 (ix2 s f) = db (x0 (ix2 s f)) (val_main_v3 (F := Ideal) x2 x3 (ix2 s f)) := by
  unfold val_main_v4 val_main_v0_0 val_main_v0_2 val_main_call0_v3 val_main_call0_v1 val_main_call0_v0 db sgm
  unfold val_main_call0_v2 val_main_call0_v4 val_main_call0_cst val_main_call0_cst_0
  generalize val_main_v3 (F := Ideal) x2 x3 = z
  pointwise []
  rfl

theorem ref6 (s : Fin 4096) (f : Fin 5504) :
    val_main_v6 (F := Ideal) x0 x1 x2 x3 (ix2 s f) = da (x0 (ix2 s f)) (x1 (ix2 s f)) (val_main_v3 (F := Ideal) x2 x3 (ix2 s f)) := by
  unfold val_main_v6 val_main_call1_v2 val_main_call1_v1 val_main_call1_v0 val_main_v5 val_main_v0_1 val_main_call0_v7 val_main_v0_2
  unfold val_main_call0_v3 val_main_call0_v1 val_main_call0_v0 da sgm
  unfold val_main_call0_v2 val_main_call0_v4 val_main_call0_v6 val_main_call0_cst val_main_call0_cst_0 val_main_call0_cst_1
  generalize val_main_v3 (F := Ideal) x2 x3 = z
  pointwise []
  rfl

theorem ref (o : Fin 2) (p : Fin 8) (s : Fin 4096) (f : Fin 688) :
    val_main_v14 (F := Ideal) x0 x1 x2 x3 (ix4 o p s f) =
      grad (fun s f => x0 (ix2 s f)) (fun s f => x1 (ix2 s f)) (fun f d => x2 (ix2 f d)) (fun s d => x3 (ix2 s d)) o s (lcol p f) := by
  have e : val_main_v14 (F := Ideal) x0 x1 x2 x3 (ix4 o p s f) =
      if o.val < 1 then val_main_v6 (F := Ideal) x0 x1 x2 x3 (ix2 s (lcol p f)) else val_main_v4 (F := Ideal) x0 x2 x3 (ix2 s (lcol p f)) := by
    unfold val_main_v14 val_main_v13 val_main_v11 val_main_v12 val_main_v8 val_main_v10 val_main_v7 val_main_v9
    generalize val_main_v6 (F := Ideal) x0 x1 x2 x3 = y
    generalize val_main_v4 (F := Ideal) x0 x2 x3 = z
    pointwise []
    split <;> rfl
  rw [e, ref4, ref6, ref3]
  rfl

end Reference

theorem equal : Cert.algebraic_KernelDactIdeal_ReferenceDactIdeal := by
  intro m g m' g' _ hagree
  refine ⟨_, Cert.KernelDactIdeal.Value.run_blocks m g, ?_⟩
  refine θ_run_mono (Cert.ReferenceDactIdeal.Value.run m' g') fun r hr c => ?_
  obtain ⟨a0, a1, a2, a3⟩ := hagree c
  obtain ⟨r0, k⟩ := hr c
  refine ⟨(r0.trans (Cert.ReferenceDactIdeal.Read.val_main_v14_eq _ _ _ _)).trans (Eq.trans ?_ (arr m c).symm), k⟩
  funext y
  rw [eq_ix4 y]
  refine (ref _ _ _ _ (y 0) (y 1) (y 2) (y 3)).trans ?_
  rw [a0, a1, a2, a3]
  rfl

end Cert.Dact
-- ==== Proof.In.lean ====
/- The feed-forward layer's first half: the kernel's blocks put together are the reference's two products and the gated unit
   of them. -/
module

public import proofs.«01_k».proof.Defs
public import proofs.«01_k».proof.Proof.Gen.KernelInIdeal.Value
public import proofs.«01_k».proof.Proof.Gen.ReferenceInIdeal.Run
public import proofs.«01_k».proof.Proof.Gen.ReferenceInIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.In

open Idealize.ShloMosaic Idealize.ShloMosaic.TcCoe Idealize.SL.Sem

/-- The column of the weights that a column of a shard is: the gate's shards come first, the value's after them. -/
def fcol (p : Fin 16) (f : Fin 688) : Fin 11008 := ⟨p.val * 688 + f.val, by omega⟩

/-- A shard of the gate, and the one of the value that goes with it. -/
def ga (p : Fin 8) : Fin 16 := ⟨p.val, by omega⟩
def gb (p : Fin 8) : Fin 16 := ⟨p.val + 8, by omega⟩
def gab (o : Fin 2) (p : Fin 8) : Fin 16 := ⟨o.val * 8 + p.val, by omega⟩

/-- The product of the input and the weights. -/
def prod (x : Fin 4096 → Fin 2048 → EReal) (w : Fin 2048 → Fin 11008 → EReal) (s : Fin 4096) (f : Fin 11008) : EReal :=
  ∑ k, x s k * w k f

/-- The gated unit of a gate and a value. -/
def unit (a b : EReal) : EReal := a * FloatOps.logistic (F := Ideal) (φ := .f32) a * b

def hid (x : Fin 4096 → Fin 2048 → EReal) (w : Fin 2048 → Fin 11008 → EReal) (p : Fin 8) (s : Fin 4096) (f : Fin 688) : EReal :=
  unit (prod x w s (fcol (ga p) f)) (prod x w s (fcol (gb p) f))

section Kernel

open Cert.KernelInIdeal Cert.KernelInIdeal.Gen

variable (m : (ℓ : Loc nD τ sig) → Buf (Elt Ideal) ℓ) (c : Dev nD)

/-- The kernel's arguments, by row and column. -/
def inp (s : Fin 4096) (d : Fin 2048) : EReal := m ((c : Thread nD τ).loc main_arg0) (ix2 s d)
def wts (d : Fin 2048) (f : Fin 11008) : EReal := m ((c : Thread nD τ).loc main_arg1) (ix2 d f)

theorem idx0 : ∀ t : Fin grid0.N, win0_0.index t = ![t.val % 8, 0] := by decide +kernel
theorem idx1 : ∀ t : Fin grid0.N, win0_1.index t = ![t.val / 8, 0, 0] := by decide +kernel
theorem idx2 : ∀ t : Fin grid0.N, win0_2.index t = ![t.val / 8 + 8, 0, 0] := by decide +kernel
theorem idx3 : ∀ t : Fin grid0.N, win0_3.index t = ![0, t.val / 8, t.val % 8, 0] := by decide +kernel
theorem idx4 : ∀ t : Fin grid0.N, win0_4.index t = ![t.val / 8, t.val % 8, 0] := by decide +kernel
theorem idx5 : ∀ t : Fin grid0.N, win0_5.index t = ![t.val / 8, 0, t.val % 8] := by decide +kernel

/-- The shard of a grid point, and the row of the input that a row of its block is. -/
def shard (t : Fin cfg0.N) : Fin 8 := ⟨t.val / 8, by have : t.val < 64 := t.isLt; omega⟩
def row (t : Fin cfg0.N) (i : Fin 512) : Fin 4096 := ⟨t.val % 8 * 512 + i.val, by omega⟩

theorem host_a (s : Fin 4096) (d : Fin 2048) : V m c main_v3 (ix2 s d) = inp m c s d := by
  unfold V
  after_reads_at
  rfl

theorem host_b (p : Fin 16) (d : Fin 2048) (f : Fin 688) : V m c main_v2 (ix3 p d f) = wts m c d (fcol p f) := by
  unfold V
  after_reads_at
  rfl

theorem blk0 (t : Fin cfg0.N) (i : Fin 512) (k : Fin 2048) : iblk m c 0 t (ix2 i k) = inp m c (row t i) k := by
  rw [← host_a]
  show iblk m c 0 t (ix2 i k) = V m c main_v3 (ix2 (row t i) k)
  blk_ext [iblk, idx0 t, row]

theorem blk1 (t : Fin cfg0.N) (k : Fin 2048) (j : Fin 688) : iblk m c 1 t (ix3 0 k j) = wts m c k (fcol (ga (shard t)) j) := by
  rw [← host_b]
  show iblk m c 1 t (ix3 0 k j) = V m c main_v2 (ix3 (ga (shard t)) k j)
  blk_ext [iblk, idx1 t, shard, ga]

theorem blk2 (t : Fin cfg0.N) (k : Fin 2048) (j : Fin 688) : iblk m c 2 t (ix3 0 k j) = wts m c k (fcol (gb (shard t)) j) := by
  rw [← host_b]
  show iblk m c 2 t (ix3 0 k j) = V m c main_v2 (ix3 (gb (shard t)) k j)
  blk_ext [iblk, idx2 t, shard, gb]

theorem pay2 (a : Vec Ideal S512x2048 .bf16) (b : Vec Ideal S1x2048x688 .bf16) (i : Fin 512) (j : Fin 688) :
    k0_pay2 (F := Ideal) a b (ix2 i j) = ∑ k : Fin 2048, a (ix2 i k) * b (ix3 0 k j) := by
  pointwise [k0_pay2, k0_pay1]

theorem pay3 (a : Vec Ideal S512x2048 .bf16) (b : Vec Ideal S1x2048x688 .bf16) (i : Fin 512) (j : Fin 688) :
    k0_pay3 (F := Ideal) a b (ix2 i j) = ∑ k : Fin 2048, a (ix2 i k) * b (ix3 0 k j) := by
  pointwise [k0_pay3, k0_pay1]

theorem pay4 (a : Vec Ideal S512x2048 .bf16) (b : Vec Ideal S1x2048x688 .bf16) (i : Fin 512) (j : Fin 688) :
    k0_pay4 (F := Ideal) a b (ix4 0 0 i j) = k0_pay2 (F := Ideal) a b (ix2 i j) := by
  unfold k0_pay4
  generalize k0_pay2 (F := Ideal) a b = x
  pointwise []

theorem pay5 (a : Vec Ideal S512x2048 .bf16) (b : Vec Ideal S1x2048x688 .bf16) (i : Fin 512) (j : Fin 688) :
    k0_pay5 (F := Ideal) a b (ix4 0 0 i j) = k0_pay3 (F := Ideal) a b (ix2 i j) := by
  unfold k0_pay5
  generalize k0_pay3 (F := Ideal) a b = x
  pointwise []

theorem pay6 (a : Vec Ideal S512x2048 .bf16) (b d : Vec Ideal S1x2048x688 .bf16) (i : Fin 512) (j : Fin 688) :
    k0_pay6 (F := Ideal) a b d (ix2 i j) = unit (k0_pay2 (F := Ideal) a b (ix2 i j)) (k0_pay3 (F := Ideal) a d (ix2 i j)) := by
  unfold k0_pay6 unit
  generalize k0_pay2 (F := Ideal) a b = x
  generalize k0_pay3 (F := Ideal) a d = y
  rfl

theorem pay7 (a : Vec Ideal S512x2048 .bf16) (b d : Vec Ideal S1x2048x688 .bf16) (i : Fin 512) (j : Fin 688) :
    k0_pay7 (F := Ideal) a b d (ix3 0 i j) = k0_pay6 (F := Ideal) a b d (ix2 i j) := by
  unfold k0_pay7
  generalize k0_pay6 (F := Ideal) a b d = x
  pointwise []

theorem pay8 (a : Vec Ideal S512x2048 .bf16) (b d : Vec Ideal S1x2048x688 .bf16) (i : Fin 512) (j : Fin 688) :
    k0_pay8 (F := Ideal) a b d (ix3 0 j i) = k0_pay6 (F := Ideal) a b d (ix2 i j) := by
  unfold k0_pay8
  generalize k0_pay6 (F := Ideal) a b d = x
  pointwise []

/-- The two products at a grid point. -/
theorem at_a (t : Fin cfg0.N) (i : Fin 512) (j : Fin 688) :
    k0_pay2 (F := Ideal) (iblk m c 0 t) (iblk m c 1 t) (ix2 i j) = prod (inp m c) (wts m c) (row t i) (fcol (ga (shard t)) j) :=
  (pay2 _ _ i j).trans (Finset.sum_congr rfl fun k _ => by rw [blk0, blk1])

theorem at_b (t : Fin cfg0.N) (i : Fin 512) (j : Fin 688) :
    k0_pay3 (F := Ideal) (iblk m c 0 t) (iblk m c 2 t) (ix2 i j) = prod (inp m c) (wts m c) (row t i) (fcol (gb (shard t)) j) :=
  (pay3 _ _ i j).trans (Finset.sum_congr rfl fun k _ => by rw [blk0, blk2])

theorem at_h (t : Fin cfg0.N) (i : Fin 512) (j : Fin 688) :
    k0_pay6 (F := Ideal) (iblk m c 0 t) (iblk m c 1 t) (iblk m c 2 t) (ix2 i j) = hid (inp m c) (wts m c) (shard t) (row t i) j := by
  rw [pay6, at_a, at_b]
  rfl

theorem arr3 : (dats m 0 c).arrAt 3 (cfgs 0).N = fun y => prod (inp m c) (wts m c) (y 2) (fcol (gab (y 0) (y 1)) (y 3)) := by
  refine (dats m 0 c).arrAt_eq_of_covers 3 _ (by decide +kernel) fun t hf y => ?_
  have e : ∀ o i j, ((cfg0.win 3).blk t).view.emb (ix4 (o : Fin 2) (0 : Fin 1) (i : Fin 512) (j : Fin 688)) = ix4 o (shard t) (row t i) j :=
    fun o i j => by blk_ext [idx3 t, shard, row]
  blk_simp
  rw [after0_3]
  idx_vars y
  obtain rfl : y1 = 0 := Subsingleton.elim _ _
  refine Eq.trans ?_ (congrArg (fun y : S2x8x4096x688.Idx => prod (inp m c) (wts m c) (y 2) (fcol (gab (y 0) (y 1)) (y 3))) (e y0 y2 y3).symm)
  show out0_3 (F := Ideal) _ _ _ _ = prod (inp m c) (wts m c) (row t y2) (fcol (gab y0 (shard t)) y3)
  frame_out
  canon_tiles x h
  · idx_vars x
    obtain rfl : x0 = 0 := Subsingleton.elim _ _
    obtain rfl : x1 = 0 := Subsingleton.elim _ _
    obtain rfl : y0 = 1 := Fin.ext h0
    obtain rfl : y2 = x2 := Fin.ext h2
    obtain rfl : y3 = x3 := Fin.ext h3
    refine (pay5 _ _ y2 y3).trans ((at_b m c t y2 y3).trans (congrArg (fun p => prod _ _ _ (fcol p y3)) (Fin.ext ?_)))
    show (shard t).val + 8 = 1 * 8 + (shard t).val
    omega
  · idx_vars x
    obtain rfl : x0 = 0 := Subsingleton.elim _ _
    obtain rfl : x1 = 0 := Subsingleton.elim _ _
    obtain rfl : y0 = 0 := Fin.ext h0
    obtain rfl : y2 = x2 := Fin.ext h2
    obtain rfl : y3 = x3 := Fin.ext h3
    refine (pay4 _ _ y2 y3).trans ((at_a m c t y2 y3).trans (congrArg (fun p => prod _ _ _ (fcol p y3)) (Fin.ext ?_)))
    show (shard t).val = 0 * 8 + (shard t).val
    omega

theorem arr4 : (dats m 0 c).arrAt 4 (cfgs 0).N = fun y => hid (inp m c) (wts m c) (y 0) (y 1) (y 2) := by
  refine (dats m 0 c).arrAt_eq_of_covers 4 _ (by decide +kernel) fun t hf y => ?_
  have e : ∀ i j, ((cfg0.win 4).blk t).view.emb (ix3 (0 : Fin 1) (i : Fin 512) (j : Fin 688)) = ix3 (shard t) (row t i) j :=
    fun i j => by blk_ext [idx4 t, shard, row]
  blk_simp
  rw [after0_4]
  frame_out
  idx_vars y
  obtain rfl : y0 = 0 := Subsingleton.elim _ _
  refine Eq.trans ?_ (congrArg (fun y : S8x4096x688.Idx => hid (inp m c) (wts m c) (y 0) (y 1) (y 2)) (e y1 y2).symm)
  exact (pay7 _ _ _ y1 y2).trans (at_h m c t y1 y2)

theorem arr5 : (dats m 0 c).arrAt 5 (cfgs 0).N = fun y => hid (inp m c) (wts m c) (y 0) (y 2) (y 1) := by
  refine (dats m 0 c).arrAt_eq_of_covers 5 _ (by decide +kernel) fun t hf y => ?_
  have e : ∀ i j, ((cfg0.win 5).blk t).view.emb (ix3 (0 : Fin 1) (j : Fin 688) (i : Fin 512)) = ix3 (shard t) j (row t i) :=
    fun i j => by blk_ext [idx5 t, shard, row]
  blk_simp
  rw [after0_5]
  frame_out
  idx_vars y
  obtain rfl : y0 = 0 := Subsingleton.elim _ _
  refine Eq.trans ?_ (congrArg (fun y : S8x688x4096.Idx => hid (inp m c) (wts m c) (y 0) (y 2) (y 1)) (e y2 y1).symm)
  exact (pay8 _ _ _ y2 y1).trans (at_h m c t y2 y1)

end Kernel

section Reference

open Cert.ReferenceInIdeal Cert.ReferenceInIdeal.Read

variable (x0 : (⟨S4096x2048, .f32⟩ : BufTy).Contents (Elt Ideal)) (x1 : (⟨S2048x11008, .f32⟩ : BufTy).Contents (Elt Ideal))

/-- The reference's two arguments by row and column. -/
def rx : Fin 4096 → Fin 2048 → EReal := fun s d => x0 (ix2 s d)
def rw' : Fin 2048 → Fin 11008 → EReal := fun d f => x1 (ix2 d f)

theorem ref0 (s : Fin 4096) (f : Fin 11008) : val_main_v0 (F := Ideal) x0 x1 (ix2 s f) = prod (rx x0) (rw' x1) s f := by
  refine (val_main_v0_apply x0 x1 _).trans (Finset.sum_congr rfl fun k _ => ?_)
  have e0 : lidx_main_v0 (ix2 s f) k = ix2 s k := eq_ix2 _
  have e1 : ridx_main_v0 (ix2 s f) k = ix2 k f := eq_ix2 _
  rw [e0, e1]
  rfl

/-- A column of the gate, or of the value, as one of the columns of the layer. -/
def lcol (p : Fin 8) (f : Fin 688) : Fin 5504 := ⟨p.val * 688 + f.val, by omega⟩

theorem ref1 (s : Fin 4096) (p : Fin 8) (f : Fin 688) :
    val_main_v1 (F := Ideal) x0 x1 (ix2 s (lcol p f)) = prod (rx x0) (rw' x1) s (fcol (ga p) f) := by
  rw [val_main_v1_apply, ← ref0]
  exact congrArg _ (eq_ix2 _)

theorem ref2 (s : Fin 4096) (p : Fin 8) (f : Fin 688) :
    val_main_v2 (F := Ideal) x0 x1 (ix2 s (lcol p f)) = prod (rx x0) (rw' x1) s (fcol (gb p) f) := by
  rw [val_main_v2_apply, ← ref0]
  refine congrArg _ ((eq_ix2 _).trans (congrArg (ix2 s) (Fin.ext ?_)))
  show 5504 + (p.val * 688 + f.val) = (p.val + 8) * 688 + f.val
  omega

theorem ref4 (s : Fin 4096) (p : Fin 8) (f : Fin 688) :
    val_main_v4 (F := Ideal) x0 x1 (ix2 s (lcol p f)) = hid (rx x0) (rw' x1) p s f := by
  have e : val_main_v4 (F := Ideal) x0 x1 (ix2 s (lcol p f)) =
      unit (val_main_v1 (F := Ideal) x0 x1 (ix2 s (lcol p f))) (val_main_v2 (F := Ideal) x0 x1 (ix2 s (lcol p f))) := by
    unfold val_main_v4 val_main_v3 val_main_call0_v5 val_main_call0_v3 val_main_call0_v1 val_main_call0_v0 unit
    unfold val_main_call0_v2 val_main_call0_v4 val_main_call0_cst val_main_call0_cst_0
    generalize val_main_v1 (F := Ideal) x0 x1 = y
    generalize val_main_v2 (F := Ideal) x0 x1 = z
    pointwise []
    rfl
  rw [e, ref1, ref2]
  rfl

theorem ref7 (p : Fin 8) (s : Fin 4096) (f : Fin 688) :
    val_main_v7 (F := Ideal) x0 x1 (ix3 p s f) = hid (rx x0) (rw' x1) p s f := by
  rw [← ref4]
  unfold val_main_v7 val_main_v6 val_main_v5
  generalize val_main_v4 (F := Ideal) x0 x1 = y
  pointwise []
  rfl

theorem ref15 (p : Fin 8) (f : Fin 688) (s : Fin 4096) :
    val_main_v15 (F := Ideal) x0 x1 (ix3 p f s) = hid (rx x0) (rw' x1) p s f := by
  rw [← ref7]
  unfold val_main_v15
  generalize val_main_v7 (F := Ideal) x0 x1 = y
  pointwise []

theorem ref14 (o : Fin 2) (p : Fin 8) (s : Fin 4096) (f : Fin 688) :
    val_main_v14 (F := Ideal) x0 x1 (ix4 o p s f) = prod (rx x0) (rw' x1) s (fcol (gab o p) f) := by
  have e : val_main_v14 (F := Ideal) x0 x1 (ix4 o p s f) =
      if o.val < 1 then val_main_v1 (F := Ideal) x0 x1 (ix2 s (lcol p f)) else val_main_v2 (F := Ideal) x0 x1 (ix2 s (lcol p f)) := by
    unfold val_main_v14 val_main_v12 val_main_v13 val_main_v9 val_main_v11 val_main_v8 val_main_v10
    generalize val_main_v1 (F := Ideal) x0 x1 = y
    generalize val_main_v2 (F := Ideal) x0 x1 = z
    pointwise []
    split <;> rfl
  rw [e, ref1, ref2]
  split
  · congr 2; ext; simp [ga, gab]; omega
  · congr 2; ext; simp [gb, gab]; omega

end Reference

theorem equal : Cert.algebraic_KernelInIdeal_ReferenceInIdeal := by
  intro m g m' g' _ hagree
  refine ⟨_, _, _, Cert.KernelInIdeal.Value.run_blocks m g, ?_⟩
  refine θ_run_mono (Cert.ReferenceInIdeal.Value.run m' g') fun r hr c => ?_
  obtain ⟨a0, a1⟩ := hagree c
  obtain ⟨r0, r1, r2, k⟩ := hr c
  refine ⟨(r0.trans (Cert.ReferenceInIdeal.Read.val_main_v14_eq _ _)).trans (Eq.trans ?_ (arr3 m c).symm),
    (r1.trans (Cert.ReferenceInIdeal.Read.val_main_v7_eq _ _)).trans (Eq.trans ?_ (arr4 m c).symm),
    (r2.trans (Cert.ReferenceInIdeal.Read.val_main_v15_eq _ _)).trans (Eq.trans ?_ (arr5 m c).symm), k⟩
  · funext y
    rw [eq_ix4 y]
    refine (ref14 _ _ (y 0) (y 1) (y 2) (y 3)).trans ?_
    rw [a0, a1]
    rfl
  · funext y
    rw [eq_ix3 y]
    refine (ref7 _ _ (y 0) (y 1) (y 2)).trans ?_
    rw [a0, a1]
    rfl
  · funext y
    rw [eq_ix3 y]
    refine (ref15 _ _ (y 0) (y 1) (y 2)).trans ?_
    rw [a0, a1]
    rfl

end Cert.In
-- ==== Proof.Dwout.lean ====
/- The gradient of the feed-forward output weights: the kernel's blocks put together are the reference's product. -/
module

public import proofs.«01_k».proof.Defs
public import proofs.«01_k».proof.Proof.Gen.KernelDwoutIdeal.Value
public import proofs.«01_k».proof.Proof.Gen.ReferenceDwoutIdeal.Run
public import proofs.«01_k».proof.Proof.Gen.ReferenceDwoutIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Dwout

open Idealize.ShloMosaic Idealize.ShloMosaic.TcCoe Idealize.SL.Sem

/-- A weight's gradient: the sum over the rows of the input's entry and the cotangent's. -/
def grad (x : Fin 4096 → Fin 5504 → EReal) (y : Fin 4096 → Fin 2048 → EReal) (f : Fin 5504) (d : Fin 2048) : EReal :=
  ∑ s, x s f * y s d

section Kernel

open Cert.KernelDwoutIdeal Cert.KernelDwoutIdeal.Gen

variable (m : (ℓ : Loc nD τ sig) → Buf (Elt Ideal) ℓ) (c : Dev nD)

/-- The kernel's arguments, by row and column. -/
def hid (s : Fin 4096) (f : Fin 5504) : EReal := m ((c : Thread nD τ).loc main_arg0) (ix2 s f)
def dy (s : Fin 4096) (d : Fin 2048) : EReal := m ((c : Thread nD τ).loc main_arg1) (ix2 s d)

theorem idx0 : ∀ t : Fin grid0.N, win0_0.index t = ![0, t.val % 8, 0] := by decide +kernel
theorem idx1 : ∀ t : Fin grid0.N, win0_1.index t = ![0, 0, 0, t.val / 8] := by decide +kernel
theorem idx2 : ∀ t : Fin grid0.N, win0_2.index t = ![t.val % 8, t.val / 8] := by decide +kernel

/-- The row and the column of the gradient that an entry of a point's block is. -/
def row (t : Fin cfg0.N) (i : Fin 688) : Fin 5504 := ⟨t.val % 8 * 688 + i.val, by omega⟩
def col (t : Fin cfg0.N) (j : Fin 1024) : Fin 2048 := ⟨t.val / 8 * 1024 + j.val, by have : t.val < 16 := t.isLt; omega⟩

theorem host_a (f : Fin 5504) (s : Fin 4096) : V m c main_v2 (ix3 0 f s) = hid m c s f := by
  unfold V
  after_reads_at
  rfl

theorem host_b (s : Fin 4096) (d : Fin 2048) : V m c main_v4 (ix4 0 0 s d) = dy m c s d := by
  unfold V
  after_reads_at
  rfl

theorem blk0 (t : Fin cfg0.N) (i : Fin 688) (s : Fin 4096) : iblk m c 0 t (ix3 0 i s) = hid m c s (row t i) := by
  rw [← host_a]
  show iblk m c 0 t (ix3 0 i s) = V m c main_v2 (ix3 0 (row t i) s)
  blk_ext [iblk, idx0 t, row]

theorem blk1 (t : Fin cfg0.N) (s : Fin 4096) (j : Fin 1024) : iblk m c 1 t (ix4 0 0 s j) = dy m c s (col t j) := by
  rw [← host_b]
  show iblk m c 1 t (ix4 0 0 s j) = V m c main_v4 (ix4 0 0 s (col t j))
  blk_ext [iblk, idx1 t, col]

theorem pay (a : Vec Ideal S1x688x4096 .bf16) (b : Vec Ideal S1x1x4096x1024 .bf16) (i : Fin 688) (j : Fin 1024) :
    k0_pay1 (F := Ideal) a b (ix2 i j) = ∑ s : Fin 4096, a (ix3 0 i s) * b (ix4 0 0 s j) := by
  pointwise [k0_pay1]

theorem point (t : Fin cfg0.N) : outsAt0 m c t = k0_pay1 (iblk m c 0 t) (iblk m c 1 t) := by
  unfold outsAt0; frame_out

theorem arr : (dats m 0 c).arrAt 2 (cfgs 0).N = fun y => grad (hid m c) (dy m c) (y 0) (y 1) := by
  refine (dats m 0 c).arrAt_eq_of_covers 2 _ (by decide +kernel) fun t hf y => ?_
  have e : ∀ i j, ((cfg0.win 2).blk t).view.emb (ix2 (i : Fin 688) (j : Fin 1024)) = ix2 (row t i) (col t j) := fun i j => by
    blk_ext [idx2 t, row, col]
  blk_simp
  rw [after0_2, point]
  idx_vars y
  refine Eq.trans ?_ (congrArg (fun y : S5504x2048.Idx => grad (hid m c) (dy m c) (y 0) (y 1)) (e y0 y1).symm)
  refine (pay _ _ y0 y1).trans (Finset.sum_congr rfl fun s _ => ?_)
  rw [blk0, blk1]
  rfl

end Kernel

section Reference

open Cert.ReferenceDwoutIdeal Cert.ReferenceDwoutIdeal.Read

theorem ref (x0 : (⟨S4096x5504, .f32⟩ : BufTy).Contents (Elt Ideal)) (x1 : (⟨S4096x2048, .f32⟩ : BufTy).Contents (Elt Ideal)) :
    val_main_v4 (F := Ideal) x0 x1 = fun y => grad (fun s f => x0 (ix2 s f)) (fun s d => x1 (ix2 s d)) (y 0) (y 1) := by
  funext y
  rw [val_main_v4_apply, val_main_v3_apply]
  refine (val_main_v2_apply x0 x1 _).trans (Finset.sum_congr rfl fun s _ => ?_)
  rw [mul_comm]
  have e0 : ridx_main_v2 (idx_main_v3 y) s = ix2 s (y 0) := eq_ix2 _
  have e1 : lidx_main_v2 (idx_main_v3 y) s = ix2 s (y 1) := eq_ix2 _
  rw [e0, e1]
  rfl

end Reference

theorem equal : Cert.algebraic_KernelDwoutIdeal_ReferenceDwoutIdeal := by
  intro m g m' g' _ hagree
  refine ⟨_, Cert.KernelDwoutIdeal.Value.run_blocks m g, ?_⟩
  refine θ_run_mono (Cert.ReferenceDwoutIdeal.Value.run m' g') fun r hr c => ?_
  obtain ⟨a0, a1⟩ := hagree c
  obtain ⟨r0, k⟩ := hr c
  refine ⟨(r0.trans (Cert.ReferenceDwoutIdeal.Read.val_main_v4_eq _ _)).trans ((ref _ _).trans (Eq.trans ?_ (arr m c).symm)), k⟩
  rw [a0, a1]
  rfl

end Cert.Dwout
-- ==== Proof.DwinLo.lean ====
/- The gradient of the feed-forward input weights, the first half of their rows: the kernel's blocks put together are the
   reference's product. -/
module

public import proofs.«01_k».proof.Defs
public import proofs.«01_k».proof.Proof.Gen.KernelDwinLoIdeal.Value
public import proofs.«01_k».proof.Proof.Gen.ReferenceDwinLoIdeal.Run
public import proofs.«01_k».proof.Proof.Gen.ReferenceDwinLoIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.DwinLo

open Idealize.ShloMosaic Idealize.ShloMosaic.TcCoe Idealize.SL.Sem

/-- The column of the weights that a column of a shard is. -/
def fcol (p : Fin 16) (f : Fin 688) : Fin 11008 := ⟨p.val * 688 + f.val, by omega⟩

/-- The row of the weights that a row of the half is. -/
def half (d : Fin 1024) : Fin 2048 := ⟨d.val, by omega⟩

/-- A weight's gradient: the sum over the rows of the input's entry and the cotangent's. -/
def grad (x : Fin 4096 → Fin 2048 → EReal) (y : Fin 4096 → Fin 11008 → EReal) (d : Fin 2048) (f : Fin 11008) : EReal :=
  ∑ s, x s d * y s f

section Kernel

open Cert.KernelDwinLoIdeal Cert.KernelDwinLoIdeal.Gen

variable (m : (ℓ : Loc nD τ sig) → Buf (Elt Ideal) ℓ) (c : Dev nD)

/-- The kernel's arguments, by row and column. -/
def inp (s : Fin 4096) (d : Fin 2048) : EReal := m ((c : Thread nD τ).loc main_arg0) (ix2 s d)
def dab (s : Fin 4096) (f : Fin 11008) : EReal := m ((c : Thread nD τ).loc main_arg1) (ix2 s f)

theorem idx0 : ∀ t : Fin grid0.N, win0_0.index t = ![0, t.val % 2, 0] := by decide +kernel
theorem idx1 : ∀ t : Fin grid0.N, win0_1.index t = ![0, t.val / 2, 0, 0] := by decide +kernel
theorem idx2 : ∀ t : Fin grid0.N, win0_2.index t = ![t.val / 2, t.val % 2, 0] := by decide +kernel

/-- The shard of a grid point, and the row of the half that a row of its block is. -/
def shard (t : Fin cfg0.N) : Fin 16 := ⟨t.val / 2, by have : t.val < 32 := t.isLt; omega⟩
def row (t : Fin cfg0.N) (i : Fin 512) : Fin 1024 := ⟨t.val % 2 * 512 + i.val, by omega⟩

theorem host_a (d : Fin 1024) (s : Fin 4096) : V m c main_v2 (ix3 0 d s) = inp m c s (half d) := by
  unfold V
  after_reads_at
  unfold half inp
  rfl

theorem host_b (p : Fin 16) (s : Fin 4096) (f : Fin 688) : V m c main_v6 (ix4 0 p s f) = dab m c s (fcol p f) := by
  unfold V
  after_reads_at
  rfl

theorem blk0 (t : Fin cfg0.N) (i : Fin 512) (s : Fin 4096) : iblk m c 0 t (ix3 0 i s) = inp m c s (half (row t i)) := by
  rw [← host_a]
  show iblk m c 0 t (ix3 0 i s) = V m c main_v2 (ix3 0 (row t i) s)
  blk_ext [iblk, idx0 t, row]

theorem blk1 (t : Fin cfg0.N) (s : Fin 4096) (j : Fin 688) : iblk m c 1 t (ix4 0 0 s j) = dab m c s (fcol (shard t) j) := by
  rw [← host_b]
  show iblk m c 1 t (ix4 0 0 s j) = V m c main_v6 (ix4 0 (shard t) s j)
  blk_ext [iblk, idx1 t, shard]

theorem pay (a : Vec Ideal S1x512x4096 .bf16) (b : Vec Ideal S1x1x4096x688 .bf16) (i : Fin 512) (j : Fin 688) :
    k0_pay1 (F := Ideal) a b (ix3 0 i j) = ∑ s : Fin 4096, a (ix3 0 i s) * b (ix4 0 0 s j) := by
  pointwise [k0_pay1]

theorem point (t : Fin cfg0.N) : outsAt0 m c t = k0_pay1 (iblk m c 0 t) (iblk m c 1 t) := by
  unfold outsAt0; frame_out

theorem arr : (dats m 0 c).arrAt 2 (cfgs 0).N = fun y => grad (inp m c) (dab m c) (half (y 1)) (fcol (y 0) (y 2)) := by
  refine (dats m 0 c).arrAt_eq_of_covers 2 _ (by decide +kernel) fun t hf y => ?_
  have e : ∀ i j, ((cfg0.win 2).blk t).view.emb (ix3 (0 : Fin 1) (i : Fin 512) (j : Fin 688)) = ix3 (shard t) (row t i) j :=
    fun i j => by blk_ext [idx2 t, shard, row]
  blk_simp
  rw [after0_2, point]
  idx_vars y
  obtain rfl : y0 = 0 := Subsingleton.elim _ _
  refine Eq.trans ?_ (congrArg (fun y : S16x1024x688.Idx => grad (inp m c) (dab m c) (half (y 1)) (fcol (y 0) (y 2))) (e y1 y2).symm)
  refine (pay _ _ y1 y2).trans (Finset.sum_congr rfl fun s _ => ?_)
  rw [blk0, blk1]
  rfl

end Kernel

section Reference

open Cert.ReferenceDwinLoIdeal Cert.ReferenceDwinLoIdeal.Read

theorem ref (x0 : (⟨S4096x2048, .f32⟩ : BufTy).Contents (Elt Ideal)) (x1 : (⟨S4096x11008, .f32⟩ : BufTy).Contents (Elt Ideal)) :
    val_main_v7 (F := Ideal) x0 x1 = fun y => grad (fun s d => x0 (ix2 s d)) (fun s f => x1 (ix2 s f)) (half (y 1)) (fcol (y 0) (y 2)) := by
  funext y
  obtain ⟨p, d, f, rfl⟩ : ∃ (p : Fin 16) (d : Fin 1024) (f : Fin 688), y = ix3 p d f := ⟨y 0, y 1, y 2, eq_ix3 y⟩
  have e4 : val_main_v5 (F := Ideal) x0 x1 (ix3 p (half d) f) = val_main_v2 (F := Ideal) x0 x1 (ix2 (fcol p f) (half d)) := by
    unfold val_main_v5 val_main_v4 val_main_v3
    generalize val_main_v2 (F := Ideal) x0 x1 = z
    pointwise []
    rfl
  have e7 : val_main_v7 (F := Ideal) x0 x1 (ix3 p d f) = val_main_v5 (F := Ideal) x0 x1 (ix3 p (half d) f) := by
    unfold val_main_v7 val_main_v6
    generalize val_main_v5 (F := Ideal) x0 x1 = z
    pointwise []
    rfl
  rw [e7, e4]
  refine (val_main_v2_apply x0 x1 _).trans (Finset.sum_congr rfl fun s _ => ?_)
  rw [mul_comm]
  have e0 : ridx_main_v2 (ix2 (fcol p f) (half d)) s = ix2 s (half d) := eq_ix2 _
  have e1 : lidx_main_v2 (ix2 (fcol p f) (half d)) s = ix2 s (fcol p f) := eq_ix2 _
  rw [e0, e1]
  rfl

end Reference

theorem equal : Cert.algebraic_KernelDwinLoIdeal_ReferenceDwinLoIdeal := by
  intro m g m' g' _ hagree
  refine ⟨_, Cert.KernelDwinLoIdeal.Value.run_blocks m g, ?_⟩
  refine θ_run_mono (Cert.ReferenceDwinLoIdeal.Value.run m' g') fun r hr c => ?_
  obtain ⟨a0, a1⟩ := hagree c
  obtain ⟨r0, k⟩ := hr c
  refine ⟨(r0.trans (Cert.ReferenceDwinLoIdeal.Read.val_main_v7_eq _ _)).trans ((ref _ _).trans (Eq.trans ?_ (arr m c).symm)), k⟩
  rw [a0, a1]
  rfl

end Cert.DwinLo
-- ==== Proof.DwinHi.lean ====
/- The gradient of the feed-forward input weights, the second half of their rows: the kernel's blocks put together are the
   reference's product. -/
module

public import proofs.«01_k».proof.Defs
public import proofs.«01_k».proof.Proof.Gen.KernelDwinHiIdeal.Value
public import proofs.«01_k».proof.Proof.Gen.ReferenceDwinHiIdeal.Run
public import proofs.«01_k».proof.Proof.Gen.ReferenceDwinHiIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.DwinHi

open Idealize.ShloMosaic Idealize.ShloMosaic.TcCoe Idealize.SL.Sem

/-- The column of the weights that a column of a shard is. -/
def fcol (p : Fin 16) (f : Fin 688) : Fin 11008 := ⟨p.val * 688 + f.val, by omega⟩

/-- The row of the weights that a row of the half is. -/
def half (d : Fin 1024) : Fin 2048 := ⟨1024 + d.val, by omega⟩

/-- A weight's gradient: the sum over the rows of the input's entry and the cotangent's. -/
def grad (x : Fin 4096 → Fin 2048 → EReal) (y : Fin 4096 → Fin 11008 → EReal) (d : Fin 2048) (f : Fin 11008) : EReal :=
  ∑ s, x s d * y s f

section Kernel

open Cert.KernelDwinHiIdeal Cert.KernelDwinHiIdeal.Gen

variable (m : (ℓ : Loc nD τ sig) → Buf (Elt Ideal) ℓ) (c : Dev nD)

/-- The kernel's arguments, by row and column. -/
def inp (s : Fin 4096) (d : Fin 2048) : EReal := m ((c : Thread nD τ).loc main_arg0) (ix2 s d)
def dab (s : Fin 4096) (f : Fin 11008) : EReal := m ((c : Thread nD τ).loc main_arg1) (ix2 s f)

theorem idx0 : ∀ t : Fin grid0.N, win0_0.index t = ![1, t.val % 2, 0] := by decide +kernel
theorem idx1 : ∀ t : Fin grid0.N, win0_1.index t = ![0, t.val / 2, 0, 0] := by decide +kernel
theorem idx2 : ∀ t : Fin grid0.N, win0_2.index t = ![t.val / 2, t.val % 2, 0] := by decide +kernel

/-- The shard of a grid point, and the row of the half that a row of its block is. -/
def shard (t : Fin cfg0.N) : Fin 16 := ⟨t.val / 2, by have : t.val < 32 := t.isLt; omega⟩
def row (t : Fin cfg0.N) (i : Fin 512) : Fin 1024 := ⟨t.val % 2 * 512 + i.val, by omega⟩

theorem host_a (d : Fin 1024) (s : Fin 4096) : V m c main_v2 (ix3 1 d s) = inp m c s (half d) := by
  unfold V
  after_reads_at
  unfold half inp
  congr 2

theorem host_b (p : Fin 16) (s : Fin 4096) (f : Fin 688) : V m c main_v6 (ix4 0 p s f) = dab m c s (fcol p f) := by
  unfold V
  after_reads_at
  rfl

theorem blk0 (t : Fin cfg0.N) (i : Fin 512) (s : Fin 4096) : iblk m c 0 t (ix3 0 i s) = inp m c s (half (row t i)) := by
  rw [← host_a]
  show iblk m c 0 t (ix3 0 i s) = V m c main_v2 (ix3 1 (row t i) s)
  blk_ext [iblk, idx0 t, row]

theorem blk1 (t : Fin cfg0.N) (s : Fin 4096) (j : Fin 688) : iblk m c 1 t (ix4 0 0 s j) = dab m c s (fcol (shard t) j) := by
  rw [← host_b]
  show iblk m c 1 t (ix4 0 0 s j) = V m c main_v6 (ix4 0 (shard t) s j)
  blk_ext [iblk, idx1 t, shard]

theorem pay (a : Vec Ideal S1x512x4096 .bf16) (b : Vec Ideal S1x1x4096x688 .bf16) (i : Fin 512) (j : Fin 688) :
    k0_pay1 (F := Ideal) a b (ix3 0 i j) = ∑ s : Fin 4096, a (ix3 0 i s) * b (ix4 0 0 s j) := by
  pointwise [k0_pay1]

theorem point (t : Fin cfg0.N) : outsAt0 m c t = k0_pay1 (iblk m c 0 t) (iblk m c 1 t) := by
  unfold outsAt0; frame_out

theorem arr : (dats m 0 c).arrAt 2 (cfgs 0).N = fun y => grad (inp m c) (dab m c) (half (y 1)) (fcol (y 0) (y 2)) := by
  refine (dats m 0 c).arrAt_eq_of_covers 2 _ (by decide +kernel) fun t hf y => ?_
  have e : ∀ i j, ((cfg0.win 2).blk t).view.emb (ix3 (0 : Fin 1) (i : Fin 512) (j : Fin 688)) = ix3 (shard t) (row t i) j :=
    fun i j => by blk_ext [idx2 t, shard, row]
  blk_simp
  rw [after0_2, point]
  idx_vars y
  obtain rfl : y0 = 0 := Subsingleton.elim _ _
  refine Eq.trans ?_ (congrArg (fun y : S16x1024x688.Idx => grad (inp m c) (dab m c) (half (y 1)) (fcol (y 0) (y 2))) (e y1 y2).symm)
  refine (pay _ _ y1 y2).trans (Finset.sum_congr rfl fun s _ => ?_)
  rw [blk0, blk1]
  rfl

end Kernel

section Reference

open Cert.ReferenceDwinHiIdeal Cert.ReferenceDwinHiIdeal.Read

theorem ref (x0 : (⟨S4096x2048, .f32⟩ : BufTy).Contents (Elt Ideal)) (x1 : (⟨S4096x11008, .f32⟩ : BufTy).Contents (Elt Ideal)) :
    val_main_v7 (F := Ideal) x0 x1 = fun y => grad (fun s d => x0 (ix2 s d)) (fun s f => x1 (ix2 s f)) (half (y 1)) (fcol (y 0) (y 2)) := by
  funext y
  obtain ⟨p, d, f, rfl⟩ : ∃ (p : Fin 16) (d : Fin 1024) (f : Fin 688), y = ix3 p d f := ⟨y 0, y 1, y 2, eq_ix3 y⟩
  have e4 : val_main_v5 (F := Ideal) x0 x1 (ix3 p (half d) f) = val_main_v2 (F := Ideal) x0 x1 (ix2 (fcol p f) (half d)) := by
    unfold val_main_v5 val_main_v4 val_main_v3
    generalize val_main_v2 (F := Ideal) x0 x1 = z
    pointwise []
    rfl
  have e7 : val_main_v7 (F := Ideal) x0 x1 (ix3 p d f) = val_main_v5 (F := Ideal) x0 x1 (ix3 p (half d) f) := by
    unfold val_main_v7 val_main_v6
    generalize val_main_v5 (F := Ideal) x0 x1 = z
    pointwise []
    rfl
  rw [e7, e4]
  refine (val_main_v2_apply x0 x1 _).trans (Finset.sum_congr rfl fun s _ => ?_)
  rw [mul_comm]
  have e0 : ridx_main_v2 (ix2 (fcol p f) (half d)) s = ix2 s (half d) := eq_ix2 _
  have e1 : lidx_main_v2 (ix2 (fcol p f) (half d)) s = ix2 s (fcol p f) := eq_ix2 _
  rw [e0, e1]
  rfl

end Reference

theorem equal : Cert.algebraic_KernelDwinHiIdeal_ReferenceDwinHiIdeal := by
  intro m g m' g' _ hagree
  refine ⟨_, Cert.KernelDwinHiIdeal.Value.run_blocks m g, ?_⟩
  refine θ_run_mono (Cert.ReferenceDwinHiIdeal.Value.run m' g') fun r hr c => ?_
  obtain ⟨a0, a1⟩ := hagree c
  obtain ⟨r0, k⟩ := hr c
  refine ⟨(r0.trans (Cert.ReferenceDwinHiIdeal.Read.val_main_v7_eq _ _)).trans ((ref _ _).trans (Eq.trans ?_ (arr m c).symm)), k⟩
  rw [a0, a1]
  rfl

end Cert.DwinHi
-- ==== Proof.Du.lean ====
/- The gradient of the feed-forward layer's input: the kernel's blocks, each a sum over four grid points of four shards, put
   together are the reference's product. -/
module

public import proofs.«01_k».proof.Defs
public import proofs.«01_k».proof.Proof.Gen.KernelDuIdeal.Value
public import proofs.«01_k».proof.Proof.Gen.ReferenceDuIdeal.Run
public import proofs.«01_k».proof.Proof.Gen.ReferenceDuIdeal.Read
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Du

open Idealize.ShloMosaic Idealize.ShloMosaic.TcCoe Idealize.SL.Sem

/-- The column of the weights that a column of a shard is. -/
def fcol (p : Fin 16) (f : Fin 688) : Fin 11008 := ⟨p.val * 688 + f.val, by omega⟩

/-- A shard, of four groups of four. -/
def shard (k p : Fin 4) : Fin 16 := ⟨k.val * 4 + p.val, by omega⟩

/-- A sum over the columns, shard by shard. -/
theorem sum_shards (g : Fin 11008 → EReal) : ∑ f, g f = ∑ p : Fin 16, ∑ k : Fin 688, g (fcol p k) := by
  rw [← Fintype.sum_prod_type']
  refine (Fintype.sum_equiv (finProdFinEquiv (m := 16) (n := 688)) _ _ fun x => congrArg g (Fin.ext ?_)).symm
  show x.1.val * 688 + x.2.val = x.2.val + 688 * x.1.val
  omega

/-- A sum over the shards, group by group. -/
theorem sum_groups (g : Fin 16 → EReal) : ∑ p, g p = ∑ k : Fin 4, ∑ p : Fin 4, g (shard k p) := by
  rw [← Fintype.sum_prod_type']
  refine (Fintype.sum_equiv (finProdFinEquiv (m := 4) (n := 4)) _ _ fun x => congrArg g (Fin.ext ?_)).symm
  show x.1.val * 4 + x.2.val = x.2.val + 4 * x.1.val
  omega

/-- The product of the cotangent and the weights transposed. -/
def prod (x : Fin 4096 → Fin 11008 → EReal) (w : Fin 2048 → Fin 11008 → EReal) (s : Fin 4096) (d : Fin 2048) : EReal :=
  ∑ f, x s f * w d f

section Kernel

open Cert.KernelDuIdeal Cert.KernelDuIdeal.Gen

variable (m : (ℓ : Loc nD τ sig) → Buf (Elt Ideal) ℓ) (c : Dev nD)

/-- The kernel's arguments, by row and column. -/
def dab (s : Fin 4096) (f : Fin 11008) : EReal := m ((c : Thread nD τ).loc main_arg0) (ix2 s f)
def wts (d : Fin 2048) (f : Fin 11008) : EReal := m ((c : Thread nD τ).loc main_arg1) (ix2 d f)

theorem idx0 : ∀ t : Fin grid0.N, win0_0.index t = ![t.val % 4, 0, t.val / 4 % 8, 0] := by decide +kernel
theorem idx1 : ∀ t : Fin grid0.N, win0_1.index t = ![t.val % 4, 0, t.val / 32, 0] := by decide +kernel
theorem idx2 : ∀ t : Fin grid0.N, win0_2.index t = ![t.val / 4 % 8, t.val / 32] := by decide +kernel

/-- The group of shards of a grid point, and the row and the column of the arrays that those of its block are. -/
def grp (t : Fin cfg0.N) : Fin 4 := ⟨t.val % 4, by omega⟩
def row (t : Fin cfg0.N) (i : Fin 512) : Fin 4096 := ⟨t.val / 4 % 8 * 512 + i.val, by omega⟩
def col (t : Fin cfg0.N) (j : Fin 1024) : Fin 2048 := ⟨t.val / 32 * 1024 + j.val, by have : t.val < 64 := t.isLt; omega⟩

theorem host_a (k p : Fin 4) (s : Fin 4096) (f : Fin 688) : V m c main_v7 (ix4 k p s f) = dab m c s (fcol (shard k p) f) := by
  unfold V
  after_reads_at
  rfl

theorem host_b (k p : Fin 4) (d : Fin 2048) (f : Fin 688) : V m c main_v8 (ix4 k p d f) = wts m c d (fcol (shard k p) f) := by
  unfold V
  after_reads_at
  rfl

theorem blk0 (t : Fin cfg0.N) (p : Fin 4) (i : Fin 512) (f : Fin 688) :
    iblk m c 0 t (ix4 0 p i f) = dab m c (row t i) (fcol (shard (grp t) p) f) := by
  rw [← host_a]
  show iblk m c 0 t (ix4 0 p i f) = V m c main_v7 (ix4 (grp t) p (row t i) f)
  blk_ext [iblk, idx0 t, row, grp]

theorem blk1 (t : Fin cfg0.N) (p : Fin 4) (j : Fin 1024) (f : Fin 688) :
    iblk m c 1 t (ix4 0 p j f) = wts m c (col t j) (fcol (shard (grp t) p) f) := by
  rw [← host_b]
  show iblk m c 1 t (ix4 0 p j f) = V m c main_v8 (ix4 (grp t) p (col t j) f)
  blk_ext [iblk, idx1 t, col, grp]

/-- The sum over a group's shards of the products of their slices. -/
def dots (X : Vec Ideal S1x4x512x688 .bf16) (Y : Vec Ideal S1x4x1024x688 .bf16) (i : Fin 512) (j : Fin 1024) : EReal :=
  ∑ p : Fin 4, ∑ f : Fin 688, X (ix4 0 p i f) * Y (ix4 0 p j f)

/-- What the scratch holds after a group's first point, -/
theorem pointA (t : Fin cfg0.N) (h : t.val % 4 = 0) (i : Fin 512) (j : Fin 1024) :
    (outsAt0 m c t.val t.isLt).2 (ix2 i j) = dots (iblk m c 0 t) (iblk m c 1 t) i j := by
  rw [outsAt0_A m c t h (by omega) (by omega)]; frame_out
  generalize iblk m c 0 t = X
  generalize iblk m c 1 t = Y
  unfold dots
  rw [Fin.sum_univ_four]
  pointwise [k0_pay2, k0_pay1, k0_pay4, k0_pay5, k0_pay6]

/-- and after another, over what the one before left; -/
theorem pointB (t : Fin cfg0.N) (h : ¬t.val % 4 = 0) (i : Fin 512) (j : Fin 1024) :
    (outsAt0 m c t.val t.isLt).2 (ix2 i j) =
      (outsAt0 m c (t.val - 1) (Nat.lt_of_le_of_lt (Nat.sub_le _ _) t.isLt)).2 (ix2 i j) + dots (iblk m c 0 t) (iblk m c 1 t) i j := by
  by_cases h3 : t.val % 4 = 3
  · rw [outsAt0_C m c t h (by omega) h3]; frame_out
    simp only [read_unread_whole]
    generalize iblk m c 0 t = X
    generalize iblk m c 1 t = Y
    generalize (outsAt0 m c (t.val - 1) _).2 = Z
    unfold dots
    rw [Fin.sum_univ_four]
    pointwise [k0_pay3, k0_pay1, k0_pay4, k0_pay5, k0_pay6]
  · rw [outsAt0_B m c t h (by omega) h3]; frame_out
    simp only [read_unread_whole]
    generalize iblk m c 0 t = X
    generalize iblk m c 1 t = Y
    generalize (outsAt0 m c (t.val - 1) _).2 = Z
    unfold dots
    rw [Fin.sum_univ_four]
    pointwise [k0_pay3, k0_pay1, k0_pay4, k0_pay5, k0_pay6]

/-- the last point stores the scratch. -/
theorem pointC (t : Fin cfg0.N) (h3 : t.val % 4 = 3) : (outsAt0 m c t.val t.isLt).1 = (outsAt0 m c t.val t.isLt).2 := by
  rw [outsAt0_C m c t (by omega) (by omega) h3]; frame_out

theorem at_d (t : Fin cfg0.N) (i : Fin 512) (j : Fin 1024) :
    dots (iblk m c 0 t) (iblk m c 1 t) i j =
      ∑ p : Fin 4, ∑ f : Fin 688, dab m c (row t i) (fcol (shard (grp t) p) f) * wts m c (col t j) (fcol (shard (grp t) p) f) :=
  Finset.sum_congr rfl fun p _ => Finset.sum_congr rfl fun f _ => by rw [blk0, blk1]

theorem at_y (t : Fin cfg0.N) (h3 : t.val % 4 = 3) (i : Fin 512) (j : Fin 1024) :
    (outsAt0 m c t.val t.isLt).2 (ix2 i j) = prod (dab m c) (wts m c) (row t i) (col t j) := by
  have hs := Pipeline.eq_sum_fin_of_reset_step_apply_of_flush (M := EReal) (ι := S512x1024.Idx) (N := cfg0.N)
    (fun n h => (outsAt0 m c n h).2) 4 (fun _ => (0 : EReal))
    (fun t y => dots (iblk m c 0 t) (iblk m c 1 t) (y 0) (y 1))
    (fun t h y => by
      idx_vars y
      exact (pointA m c t h y0 y1).trans (zero_add _).symm)
    (fun t h y => by
      idx_vars y
      exact pointB m c t h y0 y1)
    t h3 (ix2 i j)
  refine hs.trans ((zero_add _).trans (Eq.trans ?_ ((sum_shards _).trans (sum_groups _)).symm))
  refine Finset.sum_congr rfl fun k _ => ?_
  have hk := k.isLt
  have ek : ∀ h, grp ⟨4 * (t.val / 4) + k.val, h⟩ = k := fun h => Fin.ext (by show (4 * (t.val / 4) + k.val) % 4 = k.val; omega)
  have er : ∀ h, row ⟨4 * (t.val / 4) + k.val, h⟩ i = row t i := fun h => Fin.ext (by
    show (4 * (t.val / 4) + k.val) / 4 % 8 * 512 + i.val = t.val / 4 % 8 * 512 + i.val; omega)
  have ec : ∀ h, col ⟨4 * (t.val / 4) + k.val, h⟩ j = col t j := fun h => Fin.ext (by
    show (4 * (t.val / 4) + k.val) / 32 * 1024 + j.val = t.val / 32 * 1024 + j.val; omega)
  refine (at_d m c _ i j).trans ?_
  rw [ek, er, ec]

theorem arr : (dats m 0 c).arrAt 2 (cfgs 0).N = fun y => prod (dab m c) (wts m c) (y 0) (y 1) := by
  refine (dats m 0 c).arrAt_eq_of_covers 2 _ (by decide +kernel) fun t hf y => ?_
  have h3 : t.val % 4 = 3 := (flush0_2 t).mp hf
  have e : ∀ i j, ((cfg0.win 2).blk t).view.emb (ix2 (i : Fin 512) (j : Fin 1024)) = ix2 (row t i) (col t j) :=
    fun i j => by blk_ext [idx2 t, row, col]
  blk_simp
  rw [after0_2, pointC m c t h3]
  idx_vars y
  refine Eq.trans ?_ (congrArg (fun y : S4096x2048.Idx => prod (dab m c) (wts m c) (y 0) (y 1)) (e y0 y1).symm)
  exact at_y m c t h3 y0 y1

end Kernel

section Reference

open Cert.ReferenceDuIdeal Cert.ReferenceDuIdeal.Read

variable (x0 : (⟨S4096x11008, .f32⟩ : BufTy).Contents (Elt Ideal)) (x1 : (⟨S2048x11008, .f32⟩ : BufTy).Contents (Elt Ideal))

theorem ref (s : Fin 4096) (d : Fin 2048) :
    val_main_v2 (F := Ideal) x0 x1 (ix2 s d) = prod (fun s f => x0 (ix2 s f)) (fun d f => x1 (ix2 d f)) s d := by
  refine (val_main_v2_apply x0 x1 _).trans (Finset.sum_congr rfl fun k _ => ?_)
  have e0 : lidx_main_v2 (ix2 s d) k = ix2 s k := eq_ix2 _
  have e1 : ridx_main_v2 (ix2 s d) k = ix2 d k := eq_ix2 _
  rw [e0, e1]

end Reference

theorem equal : Cert.algebraic_KernelDuIdeal_ReferenceDuIdeal := by
  intro m g m' g' _ hagree
  refine ⟨_, Cert.KernelDuIdeal.Value.run_blocks m g, ?_⟩
  refine θ_run_mono (Cert.ReferenceDuIdeal.Value.run m' g') fun r hr c => ?_
  obtain ⟨a0, a1⟩ := hagree c
  obtain ⟨r0, k⟩ := hr c
  refine ⟨(r0.trans (Cert.ReferenceDuIdeal.Read.val_main_v2_eq _ _)).trans (Eq.trans ?_ (arr m c).symm), k⟩
  funext y
  rw [eq_ix2 y]
  refine (ref _ _ (y 0) (y 1)).trans ?_
  rw [a0, a1]
  rfl

end Cert.Du
-- ==== Proof.Out.lean ====
/- The feed-forward layer's second half: the kernel's blocks put together are the reference's product, and the residual stream
   with the gated product added. -/
module

public import proofs.«01_k».proof.Defs
public import proofs.«01_k».proof.Proof.Gen.KernelOutIdeal.Value
public import proofs.«01_k».proof.Proof.Gen.ReferenceOutIdeal.Run
public import proofs.«01_k».proof.Proof.Gen.ReferenceOutIdeal.Read
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Out

open Idealize.ShloMosaic Idealize.ShloMosaic.TcCoe Idealize.SL.Sem

/-- The column of the layer that a column of a shard is. -/
def fcol (p : Fin 8) (f : Fin 688) : Fin 5504 := ⟨p.val * 688 + f.val, by omega⟩

/-- A sum over the columns, shard by shard. -/
theorem sum_shards (g : Fin 5504 → EReal) : ∑ f, g f = ∑ p : Fin 8, ∑ k : Fin 688, g (fcol p k) := by
  rw [← Fintype.sum_prod_type']
  refine (Fintype.sum_equiv (finProdFinEquiv (m := 8) (n := 688)) _ _ fun x => congrArg g (Fin.ext ?_)).symm
  show x.1.val * 688 + x.2.val = x.2.val + 688 * x.1.val
  omega

/-- The product of the hidden values and the weights. -/
def prod (x : Fin 4096 → Fin 5504 → EReal) (w : Fin 5504 → Fin 2048 → EReal) (s : Fin 4096) (d : Fin 2048) : EReal :=
  ∑ f, x s f * w f d

/-- The residual stream after the layer. -/
def res (h g y : EReal) : EReal := h + FloatOps.ofBits (F := Ideal) .f32 0x3F000000#32 * g * y

section Kernel

open Cert.KernelOutIdeal Cert.KernelOutIdeal.Gen

variable (m : (ℓ : Loc nD τ sig) → Buf (Elt Ideal) ℓ) (c : Dev nD)

/-- The kernel's arguments, by row and column. -/
def hid (s : Fin 4096) (f : Fin 5504) : EReal := m ((c : Thread nD τ).loc main_arg0) (ix2 s f)
def wts (f : Fin 5504) (d : Fin 2048) : EReal := m ((c : Thread nD τ).loc main_arg1) (ix2 f d)
def strm (s : Fin 4096) (d : Fin 2048) : EReal := m ((c : Thread nD τ).loc main_arg2) (ix2 s d)
def gate (d : Fin 2048) : EReal := m ((c : Thread nD τ).loc main_arg3) (ix2 0 d)

theorem idx0 : ∀ t : Fin grid0.N, win0_0.index t = ![0, 0, t.val % 8, 0] := by decide +kernel
theorem idx1 : ∀ t : Fin grid0.N, win0_1.index t = ![0, 0, 0, t.val / 8] := by decide +kernel
theorem idx2 : ∀ t : Fin grid0.N, win0_2.index t = ![t.val % 8, t.val / 8] := by decide +kernel
theorem idx3 : ∀ t : Fin grid0.N, win0_3.index t = ![0, t.val / 8] := by decide +kernel
theorem idx4 : ∀ t : Fin grid0.N, win0_4.index t = ![t.val % 8, t.val / 8] := by decide +kernel
theorem idx5 : ∀ t : Fin grid0.N, win0_5.index t = ![t.val % 8, t.val / 8] := by decide +kernel

/-- The row and the column of the arrays that those of a grid point's block are. -/
def row (t : Fin cfg0.N) (i : Fin 512) : Fin 4096 := ⟨t.val % 8 * 512 + i.val, by omega⟩
def col (t : Fin cfg0.N) (j : Fin 1024) : Fin 2048 := ⟨t.val / 8 * 1024 + j.val, by have : t.val < 16 := t.isLt; omega⟩

theorem host_a (p : Fin 8) (s : Fin 4096) (f : Fin 688) : V m c main_v5 (ix4 0 p s f) = hid m c s (fcol p f) := by
  unfold V
  after_reads_at
  rfl

theorem host_b1 (p : Fin 8) (f : Fin 688) (d : Fin 2048) : V m c main_v1 (ix4 p 0 f d) = wts m c (fcol p f) d := by
  unfold V
  after_reads_at
  rfl

theorem cast_b (X : Vec Ideal S8x1x688x2048 .bf16) (p : Fin 8) (f : Fin 688) (d : Fin 2048) :
    shapeCast S1x8x688x2048 X shapeCasts_S8x1x688x2048_S1x8x688x2048 (ix4 0 p f d) = X (ix4 p 0 f d) := by
  pointwise []

theorem host_c : V m c main_v6 =
    shapeCast S1x8x688x2048 (V m c main_v1 : Vec Ideal S8x1x688x2048 .bf16) shapeCasts_S8x1x688x2048_S1x8x688x2048 := by
  unfold V
  after_reads_simp
  generalize truncf (F := Ideal) FTy.bf16 _ bitsLt_bf16_f32 = X
  rfl

theorem host_b (p : Fin 8) (f : Fin 688) (d : Fin 2048) : V m c main_v6 (ix4 0 p f d) = wts m c (fcol p f) d := by
  rw [host_c]
  exact (cast_b _ p f d).trans (host_b1 m c p f d)

theorem host_h (s : Fin 4096) (d : Fin 2048) : V m c main_arg2 (ix2 s d) = strm m c s d := by
  unfold V
  after_reads_at
  rfl

theorem host_g (d : Fin 2048) : V m c main_arg3 (ix2 0 d) = gate m c d := by
  unfold V
  after_reads_at
  rfl

theorem blk0 (t : Fin cfg0.N) (p : Fin 8) (i : Fin 512) (k : Fin 688) : iblk m c 0 t (ix4 0 p i k) = hid m c (row t i) (fcol p k) := by
  rw [← host_a]
  show iblk m c 0 t (ix4 0 p i k) = V m c main_v5 (ix4 0 p (row t i) k)
  blk_ext [iblk, idx0 t, row]

theorem blk1 (t : Fin cfg0.N) (p : Fin 8) (k : Fin 688) (j : Fin 1024) : iblk m c 1 t (ix4 0 p k j) = wts m c (fcol p k) (col t j) := by
  have e : ((cfg0.win 1).blk t).view.emb (ix4 (0 : Fin 1) p k j) = ix4 0 p k (col t j) := by blk_ext [idx1 t, col]
  rw [← host_b]
  show iblk m c 1 t (ix4 0 p k j) = V m c main_v6 (ix4 0 p k (col t j))
  unfold iblk View.read
  refine eq_of_heq ((cast_heq _ _).trans ?_)
  rw [e]

theorem blk2 (t : Fin cfg0.N) (i : Fin 512) (j : Fin 1024) : iblk m c 2 t (ix2 i j) = strm m c (row t i) (col t j) := by
  rw [← host_h]
  show iblk m c 2 t (ix2 i j) = V m c main_arg2 (ix2 (row t i) (col t j))
  blk_ext [iblk, idx2 t, row, col]

theorem blk3 (t : Fin cfg0.N) (j : Fin 1024) : iblk m c 3 t (ix2 0 j) = gate m c (col t j) := by
  rw [← host_g]
  show iblk m c 3 t (ix2 0 j) = V m c main_arg3 (ix2 0 (col t j))
  blk_ext [iblk, idx3 t, col]

/-- The sum over the shards of the products of their slices. -/
def dots (X : Vec Ideal S1x8x512x688 .bf16) (Y : Vec Ideal S1x8x688x1024 .bf16) (i : Fin 512) (j : Fin 1024) : EReal :=
  ∑ p : Fin 8, ∑ k : Fin 688, X (ix4 0 p i k) * Y (ix4 0 p k j)

theorem point4 (t : Fin cfg0.N) (i : Fin 512) (j : Fin 1024) :
    (outsAt0 m c t).1 (ix2 i j) = dots (iblk m c 0 t) (iblk m c 1 t) i j := by
  unfold outsAt0; frame_out
  generalize iblk m c 0 t = X
  generalize iblk m c 1 t = Y
  unfold dots
  rw [Fin.sum_univ_eight]
  pointwise [k0_pay2, k0_pay1, k0_pay8, k0_pay5, k0_pay6, k0_pay7, k0_pay9, k0_pay10]

theorem point5 (t : Fin cfg0.N) : (outsAt0 m c t).2 = k0_pay4 (outsAt0 m c t).1 (iblk m c 2 t) (iblk m c 3 t) := by
  unfold outsAt0; frame_out

theorem pay4 (y h : Vec Ideal S512x1024 .f32) (g : Vec Ideal S1x1024 .f32) (i : Fin 512) (j : Fin 1024) :
    k0_pay4 (F := Ideal) y h g (ix2 i j) = res (h (ix2 i j)) (g (ix2 0 j)) (y (ix2 i j)) := by
  unfold res
  pointwise [k0_pay4]

theorem at_y (t : Fin cfg0.N) (i : Fin 512) (j : Fin 1024) :
    (outsAt0 m c t).1 (ix2 i j) = prod (hid m c) (wts m c) (row t i) (col t j) := by
  refine (point4 m c t i j).trans (Eq.trans ?_ (sum_shards _).symm)
  exact Finset.sum_congr rfl fun p _ => Finset.sum_congr rfl fun k _ => by rw [blk0, blk1]

theorem arr4 : (dats m 0 c).arrAt 4 (cfgs 0).N = fun y => prod (hid m c) (wts m c) (y 0) (y 1) := by
  refine (dats m 0 c).arrAt_eq_of_covers 4 _ (by decide +kernel) fun t hf y => ?_
  have e : ∀ i j, ((cfg0.win 4).blk t).view.emb (ix2 (i : Fin 512) (j : Fin 1024)) = ix2 (row t i) (col t j) :=
    fun i j => by blk_ext [idx4 t, row, col]
  blk_simp
  rw [after0_4]
  idx_vars y
  refine Eq.trans ?_ (congrArg (fun y : S4096x2048.Idx => prod (hid m c) (wts m c) (y 0) (y 1)) (e y0 y1).symm)
  exact at_y m c t y0 y1

theorem arr5 : (dats m 0 c).arrAt 5 (cfgs 0).N =
    fun y => res (strm m c (y 0) (y 1)) (gate m c (y 1)) (prod (hid m c) (wts m c) (y 0) (y 1)) := by
  refine (dats m 0 c).arrAt_eq_of_covers 5 _ (by decide +kernel) fun t hf y => ?_
  have e : ∀ i j, ((cfg0.win 5).blk t).view.emb (ix2 (i : Fin 512) (j : Fin 1024)) = ix2 (row t i) (col t j) :=
    fun i j => by blk_ext [idx5 t, row, col]
  blk_simp
  rw [after0_5]
  idx_vars y
  refine Eq.trans ?_ (congrArg (fun y : S4096x2048.Idx =>
    res (strm m c (y 0) (y 1)) (gate m c (y 1)) (prod (hid m c) (wts m c) (y 0) (y 1))) (e y0 y1).symm)
  rw [point5]
  refine (pay4 _ _ _ y0 y1).trans ?_
  rw [at_y, blk2, blk3]
  rfl

end Kernel

section Reference

open Cert.ReferenceOutIdeal Cert.ReferenceOutIdeal.Read

variable (x0 : (⟨S4096x5504, .f32⟩ : BufTy).Contents (Elt Ideal)) (x1 : (⟨S5504x2048, .f32⟩ : BufTy).Contents (Elt Ideal))
  (x2 : (⟨S4096x2048, .f32⟩ : BufTy).Contents (Elt Ideal)) (x3 : (⟨S1x2048, .f32⟩ : BufTy).Contents (Elt Ideal))

theorem ref0 (s : Fin 4096) (d : Fin 2048) :
    val_main_v0 (F := Ideal) x0 x1 (ix2 s d) = prod (fun s f => x0 (ix2 s f)) (fun f d => x1 (ix2 f d)) s d := by
  refine (val_main_v0_apply x0 x1 _).trans (Finset.sum_congr rfl fun k _ => ?_)
  have e0 : lidx_main_v0 (ix2 s d) k = ix2 s k := eq_ix2 _
  have e1 : ridx_main_v0 (ix2 s d) k = ix2 k d := eq_ix2 _
  rw [e0, e1]

theorem ref5 (s : Fin 4096) (d : Fin 2048) :
    val_main_v5 (F := Ideal) x0 x1 x2 x3 (ix2 s d) =
      res (x2 (ix2 s d)) (x3 (ix2 0 d)) (prod (fun s f => x0 (ix2 s f)) (fun f d => x1 (ix2 f d)) s d) := by
  rw [← ref0]
  unfold val_main_v5 val_main_v4 val_main_v3 val_main_v2 val_main_v1 val_main_cst res
  generalize val_main_v0 (F := Ideal) x0 x1 = y
  pointwise []

end Reference

theorem equal : Cert.algebraic_KernelOutIdeal_ReferenceOutIdeal := by
  intro m g m' g' _ hagree
  refine ⟨_, _, Cert.KernelOutIdeal.Value.run_blocks m g, ?_⟩
  refine θ_run_mono (Cert.ReferenceOutIdeal.Value.run m' g') fun r hr c => ?_
  obtain ⟨a0, a1, a2, a3⟩ := hagree c
  obtain ⟨r0, r1, k⟩ := hr c
  refine ⟨(r0.trans (Cert.ReferenceOutIdeal.Read.val_main_v0_eq _ _)).trans (Eq.trans ?_ (arr4 m c).symm),
    (r1.trans (Cert.ReferenceOutIdeal.Read.val_main_v5_eq _ _ _ _)).trans (Eq.trans ?_ (arr5 m c).symm), k⟩
  · funext y
    rw [eq_ix2 y]
    refine (ref0 _ _ (y 0) (y 1)).trans ?_
    rw [a0, a1]
    rfl
  · funext y
    rw [eq_ix2 y]
    refine (ref5 _ _ _ _ (y 0) (y 1)).trans ?_
    rw [a0, a1, a2, a3]
    rfl

end Cert.Out
-- ==== Proof.SqDw.lean ====
/- The gradient of a square weight matrix: the kernel's blocks put together are the
   reference's product. -/
module

public import proofs.«01_k».proof.Defs
public import proofs.«01_k».proof.Proof.Gen.KernelSqDwIdeal.Value
public import proofs.«01_k».proof.Proof.Gen.ReferenceSqDwIdeal.Run
public import proofs.«01_k».proof.Proof.Gen.ReferenceSqDwIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.SqDw

open Idealize.ShloMosaic Idealize.ShloMosaic.TcCoe Idealize.SL.Sem

/-- A weight's gradient: the sum over the rows of the input's entry and the cotangent's. -/
def prod (x : Fin 4096 → Fin 2048 → EReal) (w : Fin 4096 → Fin 2048 → EReal) (r : Fin 2048) (d : Fin 2048) : EReal :=
  ∑ k, x k r * w k d

section Kernel

open Cert.KernelSqDwIdeal Cert.KernelSqDwIdeal.Gen

variable (m : (ℓ : Loc nD τ sig) → Buf (Elt Ideal) ℓ) (c : Dev nD)

/-- The kernel's arguments, by row and column. -/
def lhs (i : Fin 4096) (j : Fin 2048) : EReal := m ((c : Thread nD τ).loc main_arg0) (ix2 i j)
def rhs (i : Fin 4096) (j : Fin 2048) : EReal := m ((c : Thread nD τ).loc main_arg1) (ix2 i j)

theorem idx0 : ∀ t : Fin grid0.N, win0_0.index t = ![0, t.val % 4, 0] := by decide +kernel
theorem idx1 : ∀ t : Fin grid0.N, win0_1.index t = ![0, 0, 0, t.val / 4] := by decide +kernel
theorem idx2 : ∀ t : Fin grid0.N, win0_2.index t = ![t.val % 4, t.val / 4] := by decide +kernel

/-- The row and the column of the result that those of a grid point's block are. -/
def row (t : Fin cfg0.N) (i : Fin 512) : Fin 2048 := ⟨t.val % 4 * 512 + i.val, by omega⟩
def col (t : Fin cfg0.N) (j : Fin 1024) : Fin 2048 := ⟨t.val / 4 * 1024 + j.val, by have : t.val < 8 := t.isLt; omega⟩

theorem host_a (r : Fin 2048) (k : Fin 4096) : V m c main_v3 (ix3 0 r k) = lhs m c k r := by
  unfold V
  after_reads_at
  rfl

theorem host_b (k : Fin 4096) (d : Fin 2048) : V m c main_v4 (ix4 0 0 k d) = rhs m c k d := by
  unfold V
  after_reads_at
  rfl

theorem blk0 (t : Fin cfg0.N) (i : Fin 512) (k : Fin 4096) : iblk m c 0 t (ix3 0 i k) = lhs m c k (row t i) := by
  rw [← host_a]
  show iblk m c 0 t (ix3 0 i k) = V m c main_v3 (ix3 0 (row t i) k)
  blk_ext [iblk, idx0 t, row]

theorem blk1 (t : Fin cfg0.N) (k : Fin 4096) (j : Fin 1024) : iblk m c 1 t (ix4 0 0 k j) = rhs m c k (col t j) := by
  rw [← host_b]
  show iblk m c 1 t (ix4 0 0 k j) = V m c main_v4 (ix4 0 0 k (col t j))
  blk_ext [iblk, idx1 t, col]

theorem pay (a : Vec Ideal S1x512x4096 .bf16) (b : Vec Ideal S1x1x4096x1024 .bf16) (i : Fin 512) (j : Fin 1024) :
    k0_pay1 (F := Ideal) a b (ix2 i j) = ∑ k : Fin 4096, a (ix3 0 i k) * b (ix4 0 0 k j) := by
  pointwise [k0_pay1]

theorem point (t : Fin cfg0.N) : outsAt0 m c t = k0_pay1 (iblk m c 0 t) (iblk m c 1 t) := by
  unfold outsAt0; frame_out

theorem at_y (t : Fin cfg0.N) (i : Fin 512) (j : Fin 1024) :
    outsAt0 m c t (ix2 i j) = prod (lhs m c) (rhs m c) (row t i) (col t j) := by
  rw [point]
  exact (pay _ _ i j).trans (Finset.sum_congr rfl fun k _ => by rw [blk0, blk1])

theorem arr : (dats m 0 c).arrAt 2 (cfgs 0).N = fun y => prod (lhs m c) (rhs m c) (y 0) (y 1) := by
  refine (dats m 0 c).arrAt_eq_of_covers 2 _ (by decide +kernel) fun t hf y => ?_
  have e : ∀ i j, ((cfg0.win 2).blk t).view.emb (ix2 (i : Fin 512) (j : Fin 1024)) = ix2 (row t i) (col t j) :=
    fun i j => by blk_ext [idx2 t, row, col]
  blk_simp
  rw [after0_2]
  idx_vars y
  refine Eq.trans ?_ (congrArg (fun y : S2048x2048.Idx => prod (lhs m c) (rhs m c) (y 0) (y 1)) (e y0 y1).symm)
  exact at_y m c t y0 y1

end Kernel

section Reference

open Cert.ReferenceSqDwIdeal Cert.ReferenceSqDwIdeal.Read

variable (x0 : (⟨S4096x2048, .f32⟩ : BufTy).Contents (Elt Ideal)) (x1 : (⟨S4096x2048, .f32⟩ : BufTy).Contents (Elt Ideal))

theorem ref (r : Fin 2048) (d : Fin 2048) : val_main_v4 (F := Ideal) x0 x1 (ix2 r d) = prod (fun i j => x0 (ix2 i j)) (fun i j => x1 (ix2 i j)) r d := by
  rw [val_main_v4_apply, val_main_v3_apply]
  refine (val_main_v2_apply x0 x1 _).trans (Finset.sum_congr rfl fun k _ => ?_)
  rw [mul_comm]
  have e0 : ridx_main_v2 (idx_main_v3 (ix2 r d)) k = ix2 k r := eq_ix2 _
  have e1 : lidx_main_v2 (idx_main_v3 (ix2 r d)) k = ix2 k d := eq_ix2 _
  rw [e0, e1]

end Reference

theorem equal : Cert.algebraic_KernelSqDwIdeal_ReferenceSqDwIdeal := by
  intro m g m' g' _ hagree
  refine ⟨_, Cert.KernelSqDwIdeal.Value.run_blocks m g, ?_⟩
  refine θ_run_mono (Cert.ReferenceSqDwIdeal.Value.run m' g') fun r hr c => ?_
  obtain ⟨a0, a1⟩ := hagree c
  obtain ⟨r0, k⟩ := hr c
  refine ⟨(r0.trans (Cert.ReferenceSqDwIdeal.Read.val_main_v4_eq _ _)).trans (Eq.trans ?_ (arr m c).symm), k⟩
  funext y
  rw [eq_ix2 y]
  refine (ref _ _ (y 0) (y 1)).trans ?_
  rw [a0, a1]
  rfl

end Cert.SqDw
-- ==== Proof.SqDz.lean ====
/- The gradient of the input of a product with a square matrix: the kernel's blocks put together are the
   reference's product. -/
module

public import proofs.«01_k».proof.Defs
public import proofs.«01_k».proof.Proof.Gen.KernelSqDzIdeal.Value
public import proofs.«01_k».proof.Proof.Gen.ReferenceSqDzIdeal.Run
public import proofs.«01_k».proof.Proof.Gen.ReferenceSqDzIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.SqDz

open Idealize.ShloMosaic Idealize.ShloMosaic.TcCoe Idealize.SL.Sem

/-- The product of the cotangent and the weights transposed. -/
def prod (x : Fin 4096 → Fin 2048 → EReal) (w : Fin 2048 → Fin 2048 → EReal) (r : Fin 4096) (d : Fin 2048) : EReal :=
  ∑ k, x r k * w d k

section Kernel

open Cert.KernelSqDzIdeal Cert.KernelSqDzIdeal.Gen

variable (m : (ℓ : Loc nD τ sig) → Buf (Elt Ideal) ℓ) (c : Dev nD)

/-- The kernel's arguments, by row and column. -/
def lhs (i : Fin 4096) (j : Fin 2048) : EReal := m ((c : Thread nD τ).loc main_arg0) (ix2 i j)
def rhs (i : Fin 2048) (j : Fin 2048) : EReal := m ((c : Thread nD τ).loc main_arg1) (ix2 i j)

theorem idx0 : ∀ t : Fin grid0.N, win0_0.index t = ![0, t.val % 8, 0] := by decide +kernel
theorem idx1 : ∀ t : Fin grid0.N, win0_1.index t = ![0, 0, t.val / 8, 0] := by decide +kernel
theorem idx2 : ∀ t : Fin grid0.N, win0_2.index t = ![t.val % 8, t.val / 8] := by decide +kernel

/-- The row and the column of the result that those of a grid point's block are. -/
def row (t : Fin cfg0.N) (i : Fin 512) : Fin 4096 := ⟨t.val % 8 * 512 + i.val, by omega⟩
def col (t : Fin cfg0.N) (j : Fin 1024) : Fin 2048 := ⟨t.val / 8 * 1024 + j.val, by have : t.val < 16 := t.isLt; omega⟩

theorem host_a (r : Fin 4096) (k : Fin 2048) : V m c main_v1 (ix3 0 r k) = lhs m c r k := by
  unfold V
  after_reads_at
  rfl

theorem host_b (k : Fin 2048) (d : Fin 2048) : V m c main_v3 (ix4 0 0 d k) = rhs m c d k := by
  unfold V
  after_reads_at
  rfl

theorem blk0 (t : Fin cfg0.N) (i : Fin 512) (k : Fin 2048) : iblk m c 0 t (ix3 0 i k) = lhs m c (row t i) k := by
  rw [← host_a]
  show iblk m c 0 t (ix3 0 i k) = V m c main_v1 (ix3 0 (row t i) k)
  blk_ext [iblk, idx0 t, row]

theorem blk1 (t : Fin cfg0.N) (k : Fin 2048) (j : Fin 1024) : iblk m c 1 t (ix4 0 0 j k) = rhs m c (col t j) k := by
  rw [← host_b]
  show iblk m c 1 t (ix4 0 0 j k) = V m c main_v3 (ix4 0 0 (col t j) k)
  blk_ext [iblk, idx1 t, col]

theorem pay (a : Vec Ideal S1x512x2048 .bf16) (b : Vec Ideal S1x1x1024x2048 .bf16) (i : Fin 512) (j : Fin 1024) :
    k0_pay1 (F := Ideal) a b (ix2 i j) = ∑ k : Fin 2048, a (ix3 0 i k) * b (ix4 0 0 j k) := by
  pointwise [k0_pay1]

theorem point (t : Fin cfg0.N) : outsAt0 m c t = k0_pay1 (iblk m c 0 t) (iblk m c 1 t) := by
  unfold outsAt0; frame_out

theorem at_y (t : Fin cfg0.N) (i : Fin 512) (j : Fin 1024) :
    outsAt0 m c t (ix2 i j) = prod (lhs m c) (rhs m c) (row t i) (col t j) := by
  rw [point]
  exact (pay _ _ i j).trans (Finset.sum_congr rfl fun k _ => by rw [blk0, blk1])

theorem arr : (dats m 0 c).arrAt 2 (cfgs 0).N = fun y => prod (lhs m c) (rhs m c) (y 0) (y 1) := by
  refine (dats m 0 c).arrAt_eq_of_covers 2 _ (by decide +kernel) fun t hf y => ?_
  have e : ∀ i j, ((cfg0.win 2).blk t).view.emb (ix2 (i : Fin 512) (j : Fin 1024)) = ix2 (row t i) (col t j) :=
    fun i j => by blk_ext [idx2 t, row, col]
  blk_simp
  rw [after0_2]
  idx_vars y
  refine Eq.trans ?_ (congrArg (fun y : S4096x2048.Idx => prod (lhs m c) (rhs m c) (y 0) (y 1)) (e y0 y1).symm)
  exact at_y m c t y0 y1

end Kernel

section Reference

open Cert.ReferenceSqDzIdeal Cert.ReferenceSqDzIdeal.Read

variable (x0 : (⟨S4096x2048, .f32⟩ : BufTy).Contents (Elt Ideal)) (x1 : (⟨S2048x2048, .f32⟩ : BufTy).Contents (Elt Ideal))

theorem ref (r : Fin 4096) (d : Fin 2048) : val_main_v2 (F := Ideal) x0 x1 (ix2 r d) = prod (fun i j => x0 (ix2 i j)) (fun i j => x1 (ix2 i j)) r d := by
  refine (val_main_v2_apply x0 x1 _).trans (Finset.sum_congr rfl fun k _ => ?_)
  have e0 : lidx_main_v2 (ix2 r d) k = ix2 r k := eq_ix2 _
  have e1 : ridx_main_v2 (ix2 r d) k = ix2 d k := eq_ix2 _
  rw [e0, e1]

end Reference

theorem equal : Cert.algebraic_KernelSqDzIdeal_ReferenceSqDzIdeal := by
  intro m g m' g' _ hagree
  refine ⟨_, Cert.KernelSqDzIdeal.Value.run_blocks m g, ?_⟩
  refine θ_run_mono (Cert.ReferenceSqDzIdeal.Value.run m' g') fun r hr c => ?_
  obtain ⟨a0, a1⟩ := hagree c
  obtain ⟨r0, k⟩ := hr c
  refine ⟨(r0.trans (Cert.ReferenceSqDzIdeal.Read.val_main_v2_eq _ _)).trans (Eq.trans ?_ (arr m c).symm), k⟩
  funext y
  rw [eq_ix2 y]
  refine (ref _ _ (y 0) (y 1)).trans ?_
  rw [a0, a1]
  rfl

end Cert.SqDz
-- ==== Proof.HgrnDwinLo.lean ====
/- The gradient of the recurrence's input weights, the first half of their rows: the kernel's blocks put together are the
   reference's product. -/
module

public import proofs.«01_k».proof.Defs
public import proofs.«01_k».proof.Proof.Gen.KernelHgrnDwinLoIdeal.Value
public import proofs.«01_k».proof.Proof.Gen.ReferenceHgrnDwinLoIdeal.Run
public import proofs.«01_k».proof.Proof.Gen.ReferenceHgrnDwinLoIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.HgrnDwinLo

open Idealize.ShloMosaic Idealize.ShloMosaic.TcCoe Idealize.SL.Sem

/-- The column of the weights that a column of a shard is. -/
def fcol (p : Fin 8) (f : Fin 1024) : Fin 8192 := ⟨p.val * 1024 + f.val, by omega⟩

/-- The row of the weights that a row of the half is. -/
def half (d : Fin 1024) : Fin 2048 := ⟨d.val, by omega⟩

/-- A weight's gradient: the sum over the rows of the input's entry and the cotangent's. -/
def grad (x : Fin 4096 → Fin 2048 → EReal) (y : Fin 4096 → Fin 8192 → EReal) (d : Fin 2048) (f : Fin 8192) : EReal :=
  ∑ s, x s d * y s f

section Kernel

open Cert.KernelHgrnDwinLoIdeal Cert.KernelHgrnDwinLoIdeal.Gen

variable (m : (ℓ : Loc nD τ sig) → Buf (Elt Ideal) ℓ) (c : Dev nD)

/-- The kernel's arguments, by row and column. -/
def inp (s : Fin 4096) (d : Fin 2048) : EReal := m ((c : Thread nD τ).loc main_arg0) (ix2 s d)
def dab (s : Fin 4096) (f : Fin 8192) : EReal := m ((c : Thread nD τ).loc main_arg1) (ix2 s f)

theorem idx0 : ∀ t : Fin grid0.N, win0_0.index t = ![0, t.val % 2, 0] := by decide +kernel
theorem idx1 : ∀ t : Fin grid0.N, win0_1.index t = ![0, t.val / 2] := by decide +kernel
theorem idx2 : ∀ t : Fin grid0.N, win0_2.index t = ![t.val / 2, t.val % 2, 0] := by decide +kernel

/-- The shard of a grid point, and the row of the half that a row of its block is. -/
def shard (t : Fin cfg0.N) : Fin 8 := ⟨t.val / 2, by have : t.val < 16 := t.isLt; omega⟩
def row (t : Fin cfg0.N) (i : Fin 512) : Fin 1024 := ⟨t.val % 2 * 512 + i.val, by omega⟩

theorem host_a (d : Fin 1024) (s : Fin 4096) : V m c main_v2 (ix3 0 d s) = inp m c s (half d) := by
  unfold V
  after_reads_at
  unfold half inp
  rfl

theorem host_b (p : Fin 8) (s : Fin 4096) (f : Fin 1024) : V m c main_v3 (ix2 s (fcol p f)) = dab m c s (fcol p f) := by
  unfold V
  after_reads_at
  rfl

theorem blk0 (t : Fin cfg0.N) (i : Fin 512) (s : Fin 4096) : iblk m c 0 t (ix3 0 i s) = inp m c s (half (row t i)) := by
  rw [← host_a]
  show iblk m c 0 t (ix3 0 i s) = V m c main_v2 (ix3 0 (row t i) s)
  blk_ext [iblk, idx0 t, row]

theorem blk1 (t : Fin cfg0.N) (s : Fin 4096) (j : Fin 1024) : iblk m c 1 t (ix2 s j) = dab m c s (fcol (shard t) j) := by
  rw [← host_b]
  show iblk m c 1 t (ix2 s j) = V m c main_v3 (ix2 s (fcol (shard t) j))
  blk_ext [iblk, idx1 t, shard, fcol]

theorem pay (a : Vec Ideal S1x512x4096 .bf16) (b : Vec Ideal S4096x1024 .bf16) (i : Fin 512) (j : Fin 1024) :
    k0_pay1 (F := Ideal) a b (ix3 0 i j) = ∑ s : Fin 4096, a (ix3 0 i s) * b (ix2 s j) := by
  pointwise [k0_pay1]

theorem point (t : Fin cfg0.N) : outsAt0 m c t = k0_pay1 (iblk m c 0 t) (iblk m c 1 t) := by
  unfold outsAt0; frame_out

theorem arr : (dats m 0 c).arrAt 2 (cfgs 0).N = fun y => grad (inp m c) (dab m c) (half (y 1)) (fcol (y 0) (y 2)) := by
  refine (dats m 0 c).arrAt_eq_of_covers 2 _ (by decide +kernel) fun t hf y => ?_
  have e : ∀ i j, ((cfg0.win 2).blk t).view.emb (ix3 (0 : Fin 1) (i : Fin 512) (j : Fin 1024)) = ix3 (shard t) (row t i) j :=
    fun i j => by blk_ext [idx2 t, shard, row]
  blk_simp
  rw [after0_2, point]
  idx_vars y
  obtain rfl : y0 = 0 := Subsingleton.elim _ _
  refine Eq.trans ?_ (congrArg (fun y : S8x1024x1024.Idx => grad (inp m c) (dab m c) (half (y 1)) (fcol (y 0) (y 2))) (e y1 y2).symm)
  refine (pay _ _ y1 y2).trans (Finset.sum_congr rfl fun s _ => ?_)
  rw [blk0, blk1]
  rfl

end Kernel

section Reference

open Cert.ReferenceHgrnDwinLoIdeal Cert.ReferenceHgrnDwinLoIdeal.Read

theorem ref (x0 : (⟨S4096x2048, .f32⟩ : BufTy).Contents (Elt Ideal)) (x1 : (⟨S4096x8192, .f32⟩ : BufTy).Contents (Elt Ideal)) :
    val_main_v7 (F := Ideal) x0 x1 = fun y => grad (fun s d => x0 (ix2 s d)) (fun s f => x1 (ix2 s f)) (half (y 1)) (fcol (y 0) (y 2)) := by
  funext y
  obtain ⟨p, d, f, rfl⟩ : ∃ (p : Fin 8) (d : Fin 1024) (f : Fin 1024), y = ix3 p d f := ⟨y 0, y 1, y 2, eq_ix3 y⟩
  have e4 : val_main_v5 (F := Ideal) x0 x1 (ix3 p (half d) f) = val_main_v2 (F := Ideal) x0 x1 (ix2 (fcol p f) (half d)) := by
    unfold val_main_v5 val_main_v4 val_main_v3
    generalize val_main_v2 (F := Ideal) x0 x1 = z
    pointwise []
    rfl
  have e7 : val_main_v7 (F := Ideal) x0 x1 (ix3 p d f) = val_main_v5 (F := Ideal) x0 x1 (ix3 p (half d) f) := by
    unfold val_main_v7 val_main_v6
    generalize val_main_v5 (F := Ideal) x0 x1 = z
    pointwise []
    rfl
  rw [e7, e4]
  refine (val_main_v2_apply x0 x1 _).trans (Finset.sum_congr rfl fun s _ => ?_)
  rw [mul_comm]
  have e0 : ridx_main_v2 (ix2 (fcol p f) (half d)) s = ix2 s (half d) := eq_ix2 _
  have e1 : lidx_main_v2 (ix2 (fcol p f) (half d)) s = ix2 s (fcol p f) := eq_ix2 _
  rw [e0, e1]
  rfl

end Reference

theorem equal : Cert.algebraic_KernelHgrnDwinLoIdeal_ReferenceHgrnDwinLoIdeal := by
  intro m g m' g' _ hagree
  refine ⟨_, Cert.KernelHgrnDwinLoIdeal.Value.run_blocks m g, ?_⟩
  refine θ_run_mono (Cert.ReferenceHgrnDwinLoIdeal.Value.run m' g') fun r hr c => ?_
  obtain ⟨a0, a1⟩ := hagree c
  obtain ⟨r0, k⟩ := hr c
  refine ⟨(r0.trans (Cert.ReferenceHgrnDwinLoIdeal.Read.val_main_v7_eq _ _)).trans ((ref _ _).trans (Eq.trans ?_ (arr m c).symm)), k⟩
  rw [a0, a1]
  rfl

end Cert.HgrnDwinLo
-- ==== Proof.HgrnDwinHi.lean ====
/- The gradient of the recurrence's input weights, the second half of their rows: the kernel's blocks put together are the
   reference's product. -/
module

public import proofs.«01_k».proof.Defs
public import proofs.«01_k».proof.Proof.Gen.KernelHgrnDwinHiIdeal.Value
public import proofs.«01_k».proof.Proof.Gen.ReferenceHgrnDwinHiIdeal.Run
public import proofs.«01_k».proof.Proof.Gen.ReferenceHgrnDwinHiIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.HgrnDwinHi

open Idealize.ShloMosaic Idealize.ShloMosaic.TcCoe Idealize.SL.Sem

/-- The column of the weights that a column of a shard is. -/
def fcol (p : Fin 8) (f : Fin 1024) : Fin 8192 := ⟨p.val * 1024 + f.val, by omega⟩

/-- The row of the weights that a row of the half is. -/
def half (d : Fin 1024) : Fin 2048 := ⟨1024 + d.val, by omega⟩

/-- A weight's gradient: the sum over the rows of the input's entry and the cotangent's. -/
def grad (x : Fin 4096 → Fin 2048 → EReal) (y : Fin 4096 → Fin 8192 → EReal) (d : Fin 2048) (f : Fin 8192) : EReal :=
  ∑ s, x s d * y s f

section Kernel

open Cert.KernelHgrnDwinHiIdeal Cert.KernelHgrnDwinHiIdeal.Gen

variable (m : (ℓ : Loc nD τ sig) → Buf (Elt Ideal) ℓ) (c : Dev nD)

/-- The kernel's arguments, by row and column. -/
def inp (s : Fin 4096) (d : Fin 2048) : EReal := m ((c : Thread nD τ).loc main_arg0) (ix2 s d)
def dab (s : Fin 4096) (f : Fin 8192) : EReal := m ((c : Thread nD τ).loc main_arg1) (ix2 s f)

theorem idx0 : ∀ t : Fin grid0.N, win0_0.index t = ![1, t.val % 2, 0] := by decide +kernel
theorem idx1 : ∀ t : Fin grid0.N, win0_1.index t = ![0, t.val / 2] := by decide +kernel
theorem idx2 : ∀ t : Fin grid0.N, win0_2.index t = ![t.val / 2, t.val % 2, 0] := by decide +kernel

/-- The shard of a grid point, and the row of the half that a row of its block is. -/
def shard (t : Fin cfg0.N) : Fin 8 := ⟨t.val / 2, by have : t.val < 16 := t.isLt; omega⟩
def row (t : Fin cfg0.N) (i : Fin 512) : Fin 1024 := ⟨t.val % 2 * 512 + i.val, by omega⟩

theorem host_a (d : Fin 1024) (s : Fin 4096) : V m c main_v2 (ix3 1 d s) = inp m c s (half d) := by
  unfold V
  after_reads_at
  unfold half inp
  congr 2

theorem host_b (p : Fin 8) (s : Fin 4096) (f : Fin 1024) : V m c main_v3 (ix2 s (fcol p f)) = dab m c s (fcol p f) := by
  unfold V
  after_reads_at
  rfl

theorem blk0 (t : Fin cfg0.N) (i : Fin 512) (s : Fin 4096) : iblk m c 0 t (ix3 0 i s) = inp m c s (half (row t i)) := by
  rw [← host_a]
  show iblk m c 0 t (ix3 0 i s) = V m c main_v2 (ix3 1 (row t i) s)
  blk_ext [iblk, idx0 t, row]

theorem blk1 (t : Fin cfg0.N) (s : Fin 4096) (j : Fin 1024) : iblk m c 1 t (ix2 s j) = dab m c s (fcol (shard t) j) := by
  rw [← host_b]
  show iblk m c 1 t (ix2 s j) = V m c main_v3 (ix2 s (fcol (shard t) j))
  blk_ext [iblk, idx1 t, shard, fcol]

theorem pay (a : Vec Ideal S1x512x4096 .bf16) (b : Vec Ideal S4096x1024 .bf16) (i : Fin 512) (j : Fin 1024) :
    k0_pay1 (F := Ideal) a b (ix3 0 i j) = ∑ s : Fin 4096, a (ix3 0 i s) * b (ix2 s j) := by
  pointwise [k0_pay1]

theorem point (t : Fin cfg0.N) : outsAt0 m c t = k0_pay1 (iblk m c 0 t) (iblk m c 1 t) := by
  unfold outsAt0; frame_out

theorem arr : (dats m 0 c).arrAt 2 (cfgs 0).N = fun y => grad (inp m c) (dab m c) (half (y 1)) (fcol (y 0) (y 2)) := by
  refine (dats m 0 c).arrAt_eq_of_covers 2 _ (by decide +kernel) fun t hf y => ?_
  have e : ∀ i j, ((cfg0.win 2).blk t).view.emb (ix3 (0 : Fin 1) (i : Fin 512) (j : Fin 1024)) = ix3 (shard t) (row t i) j :=
    fun i j => by blk_ext [idx2 t, shard, row]
  blk_simp
  rw [after0_2, point]
  idx_vars y
  obtain rfl : y0 = 0 := Subsingleton.elim _ _
  refine Eq.trans ?_ (congrArg (fun y : S8x1024x1024.Idx => grad (inp m c) (dab m c) (half (y 1)) (fcol (y 0) (y 2))) (e y1 y2).symm)
  refine (pay _ _ y1 y2).trans (Finset.sum_congr rfl fun s _ => ?_)
  rw [blk0, blk1]
  rfl

end Kernel

section Reference

open Cert.ReferenceHgrnDwinHiIdeal Cert.ReferenceHgrnDwinHiIdeal.Read

theorem ref (x0 : (⟨S4096x2048, .f32⟩ : BufTy).Contents (Elt Ideal)) (x1 : (⟨S4096x8192, .f32⟩ : BufTy).Contents (Elt Ideal)) :
    val_main_v7 (F := Ideal) x0 x1 = fun y => grad (fun s d => x0 (ix2 s d)) (fun s f => x1 (ix2 s f)) (half (y 1)) (fcol (y 0) (y 2)) := by
  funext y
  obtain ⟨p, d, f, rfl⟩ : ∃ (p : Fin 8) (d : Fin 1024) (f : Fin 1024), y = ix3 p d f := ⟨y 0, y 1, y 2, eq_ix3 y⟩
  have e4 : val_main_v5 (F := Ideal) x0 x1 (ix3 p (half d) f) = val_main_v2 (F := Ideal) x0 x1 (ix2 (fcol p f) (half d)) := by
    unfold val_main_v5 val_main_v4 val_main_v3
    generalize val_main_v2 (F := Ideal) x0 x1 = z
    pointwise []
    rfl
  have e7 : val_main_v7 (F := Ideal) x0 x1 (ix3 p d f) = val_main_v5 (F := Ideal) x0 x1 (ix3 p (half d) f) := by
    unfold val_main_v7 val_main_v6
    generalize val_main_v5 (F := Ideal) x0 x1 = z
    pointwise []
    rfl
  rw [e7, e4]
  refine (val_main_v2_apply x0 x1 _).trans (Finset.sum_congr rfl fun s _ => ?_)
  rw [mul_comm]
  have e0 : ridx_main_v2 (ix2 (fcol p f) (half d)) s = ix2 s (half d) := eq_ix2 _
  have e1 : lidx_main_v2 (ix2 (fcol p f) (half d)) s = ix2 s (fcol p f) := eq_ix2 _
  rw [e0, e1]
  rfl

end Reference

theorem equal : Cert.algebraic_KernelHgrnDwinHiIdeal_ReferenceHgrnDwinHiIdeal := by
  intro m g m' g' _ hagree
  refine ⟨_, Cert.KernelHgrnDwinHiIdeal.Value.run_blocks m g, ?_⟩
  refine θ_run_mono (Cert.ReferenceHgrnDwinHiIdeal.Value.run m' g') fun r hr c => ?_
  obtain ⟨a0, a1⟩ := hagree c
  obtain ⟨r0, k⟩ := hr c
  refine ⟨(r0.trans (Cert.ReferenceHgrnDwinHiIdeal.Read.val_main_v7_eq _ _)).trans ((ref _ _).trans (Eq.trans ?_ (arr m c).symm)), k⟩
  rw [a0, a1]
  rfl

end Cert.HgrnDwinHi
-- ==== Proof.HgrnDu.lean ====
/- The gradient of the recurrence's input projection's input: the kernel's blocks, each a sum over eight grid points of one shard each, put
   together are the reference's product. -/
module

public import proofs.«01_k».proof.Defs
public import proofs.«01_k».proof.Proof.Gen.KernelHgrnDuIdeal.Value
public import proofs.«01_k».proof.Proof.Gen.ReferenceHgrnDuIdeal.Run
public import proofs.«01_k».proof.Proof.Gen.ReferenceHgrnDuIdeal.Read
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.HgrnDu

open Idealize.ShloMosaic Idealize.ShloMosaic.TcCoe Idealize.SL.Sem

/-- The column of the weights that a column of a shard is. -/
def fcol (p : Fin 8) (f : Fin 1024) : Fin 8192 := ⟨p.val * 1024 + f.val, by omega⟩

/-- A sum over the columns, shard by shard. -/
theorem sum_shards (g : Fin 8192 → EReal) : ∑ f, g f = ∑ p : Fin 8, ∑ k : Fin 1024, g (fcol p k) := by
  rw [← Fintype.sum_prod_type']
  refine (Fintype.sum_equiv (finProdFinEquiv (m := 8) (n := 1024)) _ _ fun x => congrArg g (Fin.ext ?_)).symm
  show x.1.val * 1024 + x.2.val = x.2.val + 1024 * x.1.val
  omega

/-- The product of the cotangent and the weights transposed. -/
def prod (x : Fin 4096 → Fin 8192 → EReal) (w : Fin 2048 → Fin 8192 → EReal) (s : Fin 4096) (d : Fin 2048) : EReal :=
  ∑ f, x s f * w d f

section Kernel

open Cert.KernelHgrnDuIdeal Cert.KernelHgrnDuIdeal.Gen

variable (m : (ℓ : Loc nD τ sig) → Buf (Elt Ideal) ℓ) (c : Dev nD)

/-- The kernel's arguments, by row and column. -/
def dab (s : Fin 4096) (f : Fin 8192) : EReal := m ((c : Thread nD τ).loc main_arg0) (ix2 s f)
def wts (d : Fin 2048) (f : Fin 8192) : EReal := m ((c : Thread nD τ).loc main_arg1) (ix2 d f)

theorem idx0 : ∀ t : Fin grid0.N, win0_0.index t = ![t.val / 8 % 8, t.val % 8] := by decide +kernel
theorem idx1 : ∀ t : Fin grid0.N, win0_1.index t = ![t.val % 8, 0, t.val / 64, 0] := by decide +kernel
theorem idx2 : ∀ t : Fin grid0.N, win0_2.index t = ![t.val / 8 % 8, t.val / 64] := by decide +kernel

/-- The shard of a grid point, and the row and the column of the arrays that those of its block are. -/
def grp (t : Fin cfg0.N) : Fin 8 := ⟨t.val % 8, by omega⟩
def row (t : Fin cfg0.N) (i : Fin 512) : Fin 4096 := ⟨t.val / 8 % 8 * 512 + i.val, by omega⟩
def col (t : Fin cfg0.N) (j : Fin 1024) : Fin 2048 := ⟨t.val / 64 * 1024 + j.val, by have : t.val < 128 := t.isLt; omega⟩

theorem host_a (s : Fin 4096) (f : Fin 8192) : V m c main_v0 (ix2 s f) = dab m c s f := by
  unfold V
  after_reads_at
  rfl

theorem host_b (k : Fin 8) (d : Fin 2048) (f : Fin 1024) : V m c main_v4 (ix4 k 0 d f) = wts m c d (fcol k f) := by
  unfold V
  after_reads_at
  rfl

theorem blk0 (t : Fin cfg0.N) (i : Fin 512) (f : Fin 1024) :
    iblk m c 0 t (ix2 i f) = dab m c (row t i) (fcol (grp t) f) := by
  rw [← host_a]
  show iblk m c 0 t (ix2 i f) = V m c main_v0 (ix2 (row t i) (fcol (grp t) f))
  blk_ext [iblk, idx0 t, row, grp, fcol]

theorem blk1 (t : Fin cfg0.N) (j : Fin 1024) (f : Fin 1024) :
    iblk m c 1 t (ix4 0 0 j f) = wts m c (col t j) (fcol (grp t) f) := by
  rw [← host_b]
  show iblk m c 1 t (ix4 0 0 j f) = V m c main_v4 (ix4 (grp t) 0 (col t j) f)
  blk_ext [iblk, idx1 t, col, grp]

/-- The sum over a shard's columns of the products of their slices. -/
def dots (X : Vec Ideal S512x1024 .bf16) (Y : Vec Ideal S1x1x1024x1024 .bf16) (i : Fin 512) (j : Fin 1024) : EReal :=
  ∑ f : Fin 1024, X (ix2 i f) * Y (ix4 0 0 j f)

/-- What the scratch holds after a shard sum's first point, -/
theorem pointA (t : Fin cfg0.N) (h : t.val % 8 = 0) (i : Fin 512) (j : Fin 1024) :
    (outsAt0 m c t.val t.isLt).2 (ix2 i j) = dots (iblk m c 0 t) (iblk m c 1 t) i j := by
  rw [outsAt0_A m c t h (by omega) (by omega)]; frame_out
  generalize iblk m c 0 t = X
  generalize iblk m c 1 t = Y
  unfold dots
  pointwise [k0_pay2, k0_pay1]

/-- and after another, over what the one before left; -/
theorem pointB (t : Fin cfg0.N) (h : ¬t.val % 8 = 0) (i : Fin 512) (j : Fin 1024) :
    (outsAt0 m c t.val t.isLt).2 (ix2 i j) =
      (outsAt0 m c (t.val - 1) (Nat.lt_of_le_of_lt (Nat.sub_le _ _) t.isLt)).2 (ix2 i j) + dots (iblk m c 0 t) (iblk m c 1 t) i j := by
  by_cases h3 : t.val % 8 = 7
  · rw [outsAt0_C m c t h (by omega) h3]; frame_out
    simp only [read_unread_whole]
    generalize iblk m c 0 t = X
    generalize iblk m c 1 t = Y
    generalize (outsAt0 m c (t.val - 1) _).2 = Z
    unfold dots
    pointwise [k0_pay3, k0_pay1]
  · rw [outsAt0_B m c t h (by omega) h3]; frame_out
    simp only [read_unread_whole]
    generalize iblk m c 0 t = X
    generalize iblk m c 1 t = Y
    generalize (outsAt0 m c (t.val - 1) _).2 = Z
    unfold dots
    pointwise [k0_pay3, k0_pay1]

/-- the last point stores the scratch. -/
theorem pointC (t : Fin cfg0.N) (h3 : t.val % 8 = 7) : (outsAt0 m c t.val t.isLt).1 = (outsAt0 m c t.val t.isLt).2 := by
  rw [outsAt0_C m c t (by omega) (by omega) h3]; frame_out

theorem at_d (t : Fin cfg0.N) (i : Fin 512) (j : Fin 1024) :
    dots (iblk m c 0 t) (iblk m c 1 t) i j =
      ∑ f : Fin 1024, dab m c (row t i) (fcol (grp t) f) * wts m c (col t j) (fcol (grp t) f) :=
  Finset.sum_congr rfl fun f _ => by rw [blk0, blk1]

theorem at_y (t : Fin cfg0.N) (h3 : t.val % 8 = 7) (i : Fin 512) (j : Fin 1024) :
    (outsAt0 m c t.val t.isLt).2 (ix2 i j) = prod (dab m c) (wts m c) (row t i) (col t j) := by
  have hs := Pipeline.eq_sum_fin_of_reset_step_apply_of_flush (M := EReal) (ι := S512x1024.Idx) (N := cfg0.N)
    (fun n h => (outsAt0 m c n h).2) 8 (fun _ => (0 : EReal))
    (fun t y => dots (iblk m c 0 t) (iblk m c 1 t) (y 0) (y 1))
    (fun t h y => by
      idx_vars y
      exact (pointA m c t h y0 y1).trans (zero_add _).symm)
    (fun t h y => by
      idx_vars y
      exact pointB m c t h y0 y1)
    t h3 (ix2 i j)
  refine hs.trans ((zero_add _).trans (Eq.trans ?_ (sum_shards _).symm))
  refine Finset.sum_congr rfl fun k _ => ?_
  have hk := k.isLt
  have ek : ∀ h, grp ⟨8 * (t.val / 8) + k.val, h⟩ = k := fun h => Fin.ext (by show (8 * (t.val / 8) + k.val) % 8 = k.val; omega)
  have er : ∀ h, row ⟨8 * (t.val / 8) + k.val, h⟩ i = row t i := fun h => Fin.ext (by
    show (8 * (t.val / 8) + k.val) / 8 % 8 * 512 + i.val = t.val / 8 % 8 * 512 + i.val; omega)
  have ec : ∀ h, col ⟨8 * (t.val / 8) + k.val, h⟩ j = col t j := fun h => Fin.ext (by
    show (8 * (t.val / 8) + k.val) / 64 * 1024 + j.val = t.val / 64 * 1024 + j.val; omega)
  refine (at_d m c _ i j).trans ?_
  rw [ek, er, ec]

theorem arr : (dats m 0 c).arrAt 2 (cfgs 0).N = fun y => prod (dab m c) (wts m c) (y 0) (y 1) := by
  refine (dats m 0 c).arrAt_eq_of_covers 2 _ (by decide +kernel) fun t hf y => ?_
  have h3 : t.val % 8 = 7 := (flush0_2 t).mp hf
  have e : ∀ i j, ((cfg0.win 2).blk t).view.emb (ix2 (i : Fin 512) (j : Fin 1024)) = ix2 (row t i) (col t j) :=
    fun i j => by blk_ext [idx2 t, row, col]
  blk_simp
  rw [after0_2, pointC m c t h3]
  idx_vars y
  refine Eq.trans ?_ (congrArg (fun y : S4096x2048.Idx => prod (dab m c) (wts m c) (y 0) (y 1)) (e y0 y1).symm)
  exact at_y m c t h3 y0 y1

end Kernel

section Reference

open Cert.ReferenceHgrnDuIdeal Cert.ReferenceHgrnDuIdeal.Read

variable (x0 : (⟨S4096x8192, .f32⟩ : BufTy).Contents (Elt Ideal)) (x1 : (⟨S2048x8192, .f32⟩ : BufTy).Contents (Elt Ideal))

theorem ref (s : Fin 4096) (d : Fin 2048) :
    val_main_v2 (F := Ideal) x0 x1 (ix2 s d) = prod (fun s f => x0 (ix2 s f)) (fun d f => x1 (ix2 d f)) s d := by
  refine (val_main_v2_apply x0 x1 _).trans (Finset.sum_congr rfl fun k _ => ?_)
  have e0 : lidx_main_v2 (ix2 s d) k = ix2 s k := eq_ix2 _
  have e1 : ridx_main_v2 (ix2 s d) k = ix2 d k := eq_ix2 _
  rw [e0, e1]

end Reference

theorem equal : Cert.algebraic_KernelHgrnDuIdeal_ReferenceHgrnDuIdeal := by
  intro m g m' g' _ hagree
  refine ⟨_, Cert.KernelHgrnDuIdeal.Value.run_blocks m g, ?_⟩
  refine θ_run_mono (Cert.ReferenceHgrnDuIdeal.Value.run m' g') fun r hr c => ?_
  obtain ⟨a0, a1⟩ := hagree c
  obtain ⟨r0, k⟩ := hr c
  refine ⟨(r0.trans (Cert.ReferenceHgrnDuIdeal.Read.val_main_v2_eq _ _)).trans (Eq.trans ?_ (arr m c).symm), k⟩
  funext y
  rw [eq_ix2 y]
  refine (ref _ _ (y 0) (y 1)).trans ?_
  rw [a0, a1]
  rfl

end Cert.HgrnDu
-- ==== Proof.HgrnProj.lean ====
/- The recurrence's input projection: the kernel's blocks put together are the
   reference's product. -/
module

public import proofs.«01_k».proof.Defs
public import proofs.«01_k».proof.Proof.Gen.KernelHgrnProjIdeal.Value
public import proofs.«01_k».proof.Proof.Gen.ReferenceHgrnProjIdeal.Run
public import proofs.«01_k».proof.Proof.Gen.ReferenceHgrnProjIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.HgrnProj

open Idealize.ShloMosaic Idealize.ShloMosaic.TcCoe Idealize.SL.Sem

/-- The column of the weights that a column of a shard is. -/
def fcol (p : Fin 8) (f : Fin 1024) : Fin 8192 := ⟨p.val * 1024 + f.val, by omega⟩

/-- The product of the input and the weights. -/
def prod (x : Fin 4096 → Fin 2048 → EReal) (w : Fin 2048 → Fin 8192 → EReal) (r : Fin 4096) (d : Fin 8192) : EReal :=
  ∑ k, x r k * w k d

section Kernel

open Cert.KernelHgrnProjIdeal Cert.KernelHgrnProjIdeal.Gen

variable (m : (ℓ : Loc nD τ sig) → Buf (Elt Ideal) ℓ) (c : Dev nD)

/-- The kernel's arguments, by row and column. -/
def lhs (i : Fin 4096) (j : Fin 2048) : EReal := m ((c : Thread nD τ).loc main_arg0) (ix2 i j)
def rhs (i : Fin 2048) (j : Fin 8192) : EReal := m ((c : Thread nD τ).loc main_arg1) (ix2 i j)

theorem idx0 : ∀ t : Fin grid0.N, win0_0.index t = ![0, t.val % 8, 0] := by decide +kernel
theorem idx1 : ∀ t : Fin grid0.N, win0_1.index t = ![0, t.val / 8, 0, 0] := by decide +kernel
theorem idx2 : ∀ t : Fin grid0.N, win0_2.index t = ![t.val % 8, t.val / 8] := by decide +kernel

/-- The row and the column of the result that those of a grid point's block are. -/
def row (t : Fin cfg0.N) (i : Fin 512) : Fin 4096 := ⟨t.val % 8 * 512 + i.val, by omega⟩
def shard (t : Fin cfg0.N) : Fin 8 := ⟨t.val / 8, by have : t.val < 64 := t.isLt; omega⟩
def col (t : Fin cfg0.N) (j : Fin 1024) : Fin 8192 := fcol (shard t) j

theorem host_a (r : Fin 4096) (k : Fin 2048) : V m c main_v1 (ix3 0 r k) = lhs m c r k := by
  unfold V
  after_reads_at
  rfl

theorem host_b (p : Fin 8) (k : Fin 2048) (d : Fin 1024) : V m c main_v5 (ix4 0 p k d) = rhs m c k (fcol p d) := by
  unfold V
  after_reads_at
  rfl

theorem blk0 (t : Fin cfg0.N) (i : Fin 512) (k : Fin 2048) : iblk m c 0 t (ix3 0 i k) = lhs m c (row t i) k := by
  rw [← host_a]
  show iblk m c 0 t (ix3 0 i k) = V m c main_v1 (ix3 0 (row t i) k)
  blk_ext [iblk, idx0 t, row]

theorem blk1 (t : Fin cfg0.N) (k : Fin 2048) (j : Fin 1024) : iblk m c 1 t (ix4 0 0 k j) = rhs m c k (col t j) := by
  show _ = rhs m c k (fcol (shard t) j)
  rw [← host_b]
  show iblk m c 1 t (ix4 0 0 k j) = V m c main_v5 (ix4 0 (shard t) k j)
  blk_ext [iblk, idx1 t, shard]

theorem pay (a : Vec Ideal S1x512x2048 .bf16) (b : Vec Ideal S1x1x2048x1024 .bf16) (i : Fin 512) (j : Fin 1024) :
    k0_pay1 (F := Ideal) a b (ix2 i j) = ∑ k : Fin 2048, a (ix3 0 i k) * b (ix4 0 0 k j) := by
  pointwise [k0_pay1]

theorem point (t : Fin cfg0.N) : outsAt0 m c t = k0_pay1 (iblk m c 0 t) (iblk m c 1 t) := by
  unfold outsAt0; frame_out

theorem at_y (t : Fin cfg0.N) (i : Fin 512) (j : Fin 1024) :
    outsAt0 m c t (ix2 i j) = prod (lhs m c) (rhs m c) (row t i) (col t j) := by
  rw [point]
  exact (pay _ _ i j).trans (Finset.sum_congr rfl fun k _ => by rw [blk0, blk1])

theorem arr : (dats m 0 c).arrAt 2 (cfgs 0).N = fun y => prod (lhs m c) (rhs m c) (y 0) (y 1) := by
  refine (dats m 0 c).arrAt_eq_of_covers 2 _ (by decide +kernel) fun t hf y => ?_
  have e : ∀ i j, ((cfg0.win 2).blk t).view.emb (ix2 (i : Fin 512) (j : Fin 1024)) = ix2 (row t i) (col t j) :=
    fun i j => by blk_ext [idx2 t, row, col, shard, fcol]
  blk_simp
  rw [after0_2]
  idx_vars y
  refine Eq.trans ?_ (congrArg (fun y : S4096x8192.Idx => prod (lhs m c) (rhs m c) (y 0) (y 1)) (e y0 y1).symm)
  exact at_y m c t y0 y1

end Kernel

section Reference

open Cert.ReferenceHgrnProjIdeal Cert.ReferenceHgrnProjIdeal.Read

variable (x0 : (⟨S4096x2048, .f32⟩ : BufTy).Contents (Elt Ideal)) (x1 : (⟨S2048x8192, .f32⟩ : BufTy).Contents (Elt Ideal))

theorem ref (r : Fin 4096) (d : Fin 8192) : val_main_v0 (F := Ideal) x0 x1 (ix2 r d) = prod (fun i j => x0 (ix2 i j)) (fun i j => x1 (ix2 i j)) r d := by
  refine (val_main_v0_apply x0 x1 _).trans (Finset.sum_congr rfl fun k _ => ?_)
  have e0 : lidx_main_v0 (ix2 r d) k = ix2 r k := eq_ix2 _
  have e1 : ridx_main_v0 (ix2 r d) k = ix2 k d := eq_ix2 _
  rw [e0, e1]

end Reference

theorem equal : Cert.algebraic_KernelHgrnProjIdeal_ReferenceHgrnProjIdeal := by
  intro m g m' g' _ hagree
  refine ⟨_, Cert.KernelHgrnProjIdeal.Value.run_blocks m g, ?_⟩
  refine θ_run_mono (Cert.ReferenceHgrnProjIdeal.Value.run m' g') fun r hr c => ?_
  obtain ⟨a0, a1⟩ := hagree c
  obtain ⟨r0, k⟩ := hr c
  refine ⟨(r0.trans (Cert.ReferenceHgrnProjIdeal.Read.val_main_v0_eq _ _)).trans (Eq.trans ?_ (arr m c).symm), k⟩
  funext y
  rw [eq_ix2 y]
  refine (ref _ _ (y 0) (y 1)).trans ?_
  rw [a0, a1]
  rfl

end Cert.HgrnProj
-- ==== Proof.SqOut.lean ====
/- A branch's output product with a square matrix: the kernel's blocks put together are the reference's product, and the residual stream
   with the gated product added. -/
module

public import proofs.«01_k».proof.Defs
public import proofs.«01_k».proof.Proof.Gen.KernelSqOutIdeal.Value
public import proofs.«01_k».proof.Proof.Gen.ReferenceSqOutIdeal.Run
public import proofs.«01_k».proof.Proof.Gen.ReferenceSqOutIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.SqOut

open Idealize.ShloMosaic Idealize.ShloMosaic.TcCoe Idealize.SL.Sem

/-- The product of the input and the weights. -/
def prod (x : Fin 4096 → Fin 2048 → EReal) (w : Fin 2048 → Fin 2048 → EReal) (s : Fin 4096) (d : Fin 2048) : EReal :=
  ∑ f, x s f * w f d

/-- The residual stream after the layer. -/
def res (h g y : EReal) : EReal := h + g * y

section Kernel

open Cert.KernelSqOutIdeal Cert.KernelSqOutIdeal.Gen

variable (m : (ℓ : Loc nD τ sig) → Buf (Elt Ideal) ℓ) (c : Dev nD)

/-- The kernel's arguments, by row and column. -/
def hid (s : Fin 4096) (f : Fin 2048) : EReal := m ((c : Thread nD τ).loc main_arg0) (ix2 s f)
def wts (f : Fin 2048) (d : Fin 2048) : EReal := m ((c : Thread nD τ).loc main_arg1) (ix2 f d)
def strm (s : Fin 4096) (d : Fin 2048) : EReal := m ((c : Thread nD τ).loc main_arg2) (ix2 s d)
def gate (d : Fin 2048) : EReal := m ((c : Thread nD τ).loc main_arg3) (ix2 0 d)

theorem idx0 : ∀ t : Fin grid0.N, win0_0.index t = ![0, t.val % 8, 0] := by decide +kernel
theorem idx1 : ∀ t : Fin grid0.N, win0_1.index t = ![0, 0, 0, t.val / 8] := by decide +kernel
theorem idx2 : ∀ t : Fin grid0.N, win0_2.index t = ![t.val % 8, t.val / 8] := by decide +kernel
theorem idx3 : ∀ t : Fin grid0.N, win0_3.index t = ![0, t.val / 8] := by decide +kernel
theorem idx4 : ∀ t : Fin grid0.N, win0_4.index t = ![t.val % 8, t.val / 8] := by decide +kernel
theorem idx5 : ∀ t : Fin grid0.N, win0_5.index t = ![t.val % 8, t.val / 8] := by decide +kernel

/-- The row and the column of the arrays that those of a grid point's block are. -/
def row (t : Fin cfg0.N) (i : Fin 512) : Fin 4096 := ⟨t.val % 8 * 512 + i.val, by omega⟩
def col (t : Fin cfg0.N) (j : Fin 1024) : Fin 2048 := ⟨t.val / 8 * 1024 + j.val, by have : t.val < 16 := t.isLt; omega⟩

theorem host_a (s : Fin 4096) (f : Fin 2048) : V m c main_v1 (ix3 0 s f) = hid m c s f := by
  unfold V
  after_reads_at
  rfl

theorem host_b (f : Fin 2048) (d : Fin 2048) : V m c main_v3 (ix4 0 0 f d) = wts m c f d := by
  unfold V
  after_reads_at
  rfl

theorem host_h (s : Fin 4096) (d : Fin 2048) : V m c main_arg2 (ix2 s d) = strm m c s d := by
  unfold V
  after_reads_at
  rfl

theorem host_g (d : Fin 2048) : V m c main_arg3 (ix2 0 d) = gate m c d := by
  unfold V
  after_reads_at
  rfl

theorem blk0 (t : Fin cfg0.N) (i : Fin 512) (k : Fin 2048) : iblk m c 0 t (ix3 0 i k) = hid m c (row t i) k := by
  rw [← host_a]
  show iblk m c 0 t (ix3 0 i k) = V m c main_v1 (ix3 0 (row t i) k)
  blk_ext [iblk, idx0 t, row]

theorem blk1 (t : Fin cfg0.N) (k : Fin 2048) (j : Fin 1024) : iblk m c 1 t (ix4 0 0 k j) = wts m c k (col t j) := by
  rw [← host_b]
  show iblk m c 1 t (ix4 0 0 k j) = V m c main_v3 (ix4 0 0 k (col t j))
  blk_ext [iblk, idx1 t, col]

theorem blk2 (t : Fin cfg0.N) (i : Fin 512) (j : Fin 1024) : iblk m c 2 t (ix2 i j) = strm m c (row t i) (col t j) := by
  rw [← host_h]
  show iblk m c 2 t (ix2 i j) = V m c main_arg2 (ix2 (row t i) (col t j))
  blk_ext [iblk, idx2 t, row, col]

theorem blk3 (t : Fin cfg0.N) (j : Fin 1024) : iblk m c 3 t (ix2 0 j) = gate m c (col t j) := by
  rw [← host_g]
  show iblk m c 3 t (ix2 0 j) = V m c main_arg3 (ix2 0 (col t j))
  blk_ext [iblk, idx3 t, col]

/-- The product of two blocks. -/
def dots (X : Vec Ideal S1x512x2048 .bf16) (Y : Vec Ideal S1x1x2048x1024 .bf16) (i : Fin 512) (j : Fin 1024) : EReal :=
  ∑ k : Fin 2048, X (ix3 0 i k) * Y (ix4 0 0 k j)

theorem point4 (t : Fin cfg0.N) (i : Fin 512) (j : Fin 1024) :
    (outsAt0 m c t).1 (ix2 i j) = dots (iblk m c 0 t) (iblk m c 1 t) i j := by
  unfold outsAt0; frame_out
  generalize iblk m c 0 t = X
  generalize iblk m c 1 t = Y
  unfold dots
  pointwise [k0_pay2, k0_pay1]

theorem point5 (t : Fin cfg0.N) : (outsAt0 m c t).2 = k0_pay4 (outsAt0 m c t).1 (iblk m c 2 t) (iblk m c 3 t) := by
  unfold outsAt0; frame_out

theorem pay4 (y h : Vec Ideal S512x1024 .f32) (g : Vec Ideal S1x1024 .f32) (i : Fin 512) (j : Fin 1024) :
    k0_pay4 (F := Ideal) y h g (ix2 i j) = res (h (ix2 i j)) (g (ix2 0 j)) (y (ix2 i j)) := by
  unfold res
  pointwise [k0_pay4]

theorem at_y (t : Fin cfg0.N) (i : Fin 512) (j : Fin 1024) :
    (outsAt0 m c t).1 (ix2 i j) = prod (hid m c) (wts m c) (row t i) (col t j) := by
  exact (point4 m c t i j).trans (Finset.sum_congr rfl fun k _ => by rw [blk0, blk1])

theorem arr4 : (dats m 0 c).arrAt 4 (cfgs 0).N = fun y => prod (hid m c) (wts m c) (y 0) (y 1) := by
  refine (dats m 0 c).arrAt_eq_of_covers 4 _ (by decide +kernel) fun t hf y => ?_
  have e : ∀ i j, ((cfg0.win 4).blk t).view.emb (ix2 (i : Fin 512) (j : Fin 1024)) = ix2 (row t i) (col t j) :=
    fun i j => by blk_ext [idx4 t, row, col]
  blk_simp
  rw [after0_4]
  idx_vars y
  refine Eq.trans ?_ (congrArg (fun y : S4096x2048.Idx => prod (hid m c) (wts m c) (y 0) (y 1)) (e y0 y1).symm)
  exact at_y m c t y0 y1

theorem arr5 : (dats m 0 c).arrAt 5 (cfgs 0).N =
    fun y => res (strm m c (y 0) (y 1)) (gate m c (y 1)) (prod (hid m c) (wts m c) (y 0) (y 1)) := by
  refine (dats m 0 c).arrAt_eq_of_covers 5 _ (by decide +kernel) fun t hf y => ?_
  have e : ∀ i j, ((cfg0.win 5).blk t).view.emb (ix2 (i : Fin 512) (j : Fin 1024)) = ix2 (row t i) (col t j) :=
    fun i j => by blk_ext [idx5 t, row, col]
  blk_simp
  rw [after0_5]
  idx_vars y
  refine Eq.trans ?_ (congrArg (fun y : S4096x2048.Idx =>
    res (strm m c (y 0) (y 1)) (gate m c (y 1)) (prod (hid m c) (wts m c) (y 0) (y 1))) (e y0 y1).symm)
  rw [point5]
  refine (pay4 _ _ _ y0 y1).trans ?_
  rw [at_y, blk2, blk3]
  rfl

end Kernel

section Reference

open Cert.ReferenceSqOutIdeal Cert.ReferenceSqOutIdeal.Read

variable (x0 : (⟨S4096x2048, .f32⟩ : BufTy).Contents (Elt Ideal)) (x1 : (⟨S2048x2048, .f32⟩ : BufTy).Contents (Elt Ideal))
  (x2 : (⟨S4096x2048, .f32⟩ : BufTy).Contents (Elt Ideal)) (x3 : (⟨S1x2048, .f32⟩ : BufTy).Contents (Elt Ideal))

theorem ref0 (s : Fin 4096) (d : Fin 2048) :
    val_main_v0 (F := Ideal) x0 x1 (ix2 s d) = prod (fun s f => x0 (ix2 s f)) (fun f d => x1 (ix2 f d)) s d := by
  refine (val_main_v0_apply x0 x1 _).trans (Finset.sum_congr rfl fun k _ => ?_)
  have e0 : lidx_main_v0 (ix2 s d) k = ix2 s k := eq_ix2 _
  have e1 : ridx_main_v0 (ix2 s d) k = ix2 k d := eq_ix2 _
  rw [e0, e1]

theorem ref3 (s : Fin 4096) (d : Fin 2048) :
    val_main_v3 (F := Ideal) x0 x1 x2 x3 (ix2 s d) =
      res (x2 (ix2 s d)) (x3 (ix2 0 d)) (prod (fun s f => x0 (ix2 s f)) (fun f d => x1 (ix2 f d)) s d) := by
  rw [← ref0]
  unfold val_main_v3 val_main_v2 val_main_v1 res
  generalize val_main_v0 (F := Ideal) x0 x1 = y
  pointwise []

end Reference

theorem equal : Cert.algebraic_KernelSqOutIdeal_ReferenceSqOutIdeal := by
  intro m g m' g' _ hagree
  refine ⟨_, _, Cert.KernelSqOutIdeal.Value.run_blocks m g, ?_⟩
  refine θ_run_mono (Cert.ReferenceSqOutIdeal.Value.run m' g') fun r hr c => ?_
  obtain ⟨a0, a1, a2, a3⟩ := hagree c
  obtain ⟨r0, r1, k⟩ := hr c
  refine ⟨(r0.trans (Cert.ReferenceSqOutIdeal.Read.val_main_v0_eq _ _)).trans (Eq.trans ?_ (arr4 m c).symm),
    (r1.trans (Cert.ReferenceSqOutIdeal.Read.val_main_v3_eq _ _ _ _)).trans (Eq.trans ?_ (arr5 m c).symm), k⟩
  · funext y
    rw [eq_ix2 y]
    refine (ref0 _ _ (y 0) (y 1)).trans ?_
    rw [a0, a1]
    rfl
  · funext y
    rw [eq_ix2 y]
    refine (ref3 _ _ _ _ (y 0) (y 1)).trans ?_
    rw [a0, a1, a2, a3]
    rfl

end Cert.SqOut
-- ==== Proof.Q.lean ====
/- The projection to the queries: the kernel's blocks put together are the
   reference's product. -/
module

public import proofs.«01_k».proof.Defs
public import proofs.«01_k».proof.Proof.Gen.KernelQIdeal.Value
public import proofs.«01_k».proof.Proof.Gen.ReferenceQIdeal.Run
public import proofs.«01_k».proof.Proof.Gen.ReferenceQIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Q

open Idealize.ShloMosaic Idealize.ShloMosaic.TcCoe Idealize.SL.Sem

/-- The product of the input and the weights, and the bias. -/
def prod (x : Fin 4096 → Fin 2048 → EReal) (w : Fin 2048 → Fin 2048 → EReal) (b : Fin 2048 → EReal) (r : Fin 4096) (d : Fin 2048) : EReal :=
  (∑ k, x r k * w k d) + b d

section Kernel

open Cert.KernelQIdeal Cert.KernelQIdeal.Gen

variable (m : (ℓ : Loc nD τ sig) → Buf (Elt Ideal) ℓ) (c : Dev nD)

/-- The kernel's arguments, by row and column. -/
def lhs (i : Fin 4096) (j : Fin 2048) : EReal := m ((c : Thread nD τ).loc main_arg0) (ix2 i j)
def rhs (i : Fin 2048) (j : Fin 2048) : EReal := m ((c : Thread nD τ).loc main_arg1) (ix2 i j)
def shift (d : Fin 2048) : EReal := m ((c : Thread nD τ).loc main_arg2) (ix2 0 d)

theorem idx0 : ∀ t : Fin grid0.N, win0_0.index t = ![0, t.val % 8, 0] := by decide +kernel
theorem idx1 : ∀ t : Fin grid0.N, win0_1.index t = ![0, 0, 0, t.val / 8] := by decide +kernel
theorem idx2 : ∀ t : Fin grid0.N, win0_2.index t = ![0, t.val / 8] := by decide +kernel
theorem idx3 : ∀ t : Fin grid0.N, win0_3.index t = ![t.val % 8, t.val / 8] := by decide +kernel

/-- The row and the column of the result that those of a grid point's block are. -/
def row (t : Fin cfg0.N) (i : Fin 512) : Fin 4096 := ⟨t.val % 8 * 512 + i.val, by omega⟩
def col (t : Fin cfg0.N) (j : Fin 1024) : Fin 2048 := ⟨t.val / 8 * 1024 + j.val, by have : t.val < 16 := t.isLt; omega⟩

theorem host_a (r : Fin 4096) (k : Fin 2048) : V m c main_v1 (ix3 0 r k) = lhs m c r k := by
  unfold V
  after_reads_at
  rfl

theorem host_b (k : Fin 2048) (d : Fin 2048) : V m c main_v3 (ix4 0 0 k d) = rhs m c k d := by
  unfold V
  after_reads_at
  rfl

theorem host_c (d : Fin 2048) : V m c main_arg2 (ix2 0 d) = shift m c d := by
  unfold V
  after_reads_at
  rfl

theorem blk0 (t : Fin cfg0.N) (i : Fin 512) (k : Fin 2048) : iblk m c 0 t (ix3 0 i k) = lhs m c (row t i) k := by
  rw [← host_a]
  show iblk m c 0 t (ix3 0 i k) = V m c main_v1 (ix3 0 (row t i) k)
  blk_ext [iblk, idx0 t, row]

theorem blk1 (t : Fin cfg0.N) (k : Fin 2048) (j : Fin 1024) : iblk m c 1 t (ix4 0 0 k j) = rhs m c k (col t j) := by
  rw [← host_b]
  show iblk m c 1 t (ix4 0 0 k j) = V m c main_v3 (ix4 0 0 k (col t j))
  blk_ext [iblk, idx1 t, col]

theorem blk2 (t : Fin cfg0.N) (j : Fin 1024) : iblk m c 2 t (ix2 0 j) = shift m c (col t j) := by
  rw [← host_c]
  show iblk m c 2 t (ix2 0 j) = V m c main_arg2 (ix2 0 (col t j))
  blk_ext [iblk, idx2 t, col]

theorem pay (a : Vec Ideal S1x512x2048 .bf16) (b : Vec Ideal S1x1x2048x1024 .bf16) (e : Vec Ideal S1x1024 .f32) (i : Fin 512) (j : Fin 1024) :
    k0_pay1 (F := Ideal) a b e (ix2 i j) = (∑ k : Fin 2048, a (ix3 0 i k) * b (ix4 0 0 k j)) + e (ix2 0 j) := by
  pointwise [k0_pay1]

theorem point (t : Fin cfg0.N) : outsAt0 m c t = k0_pay1 (iblk m c 0 t) (iblk m c 1 t) (iblk m c 2 t) := by
  unfold outsAt0; frame_out

theorem at_y (t : Fin cfg0.N) (i : Fin 512) (j : Fin 1024) :
    outsAt0 m c t (ix2 i j) = prod (lhs m c) (rhs m c) (shift m c) (row t i) (col t j) := by
  rw [point]
  refine (pay _ _ _ i j).trans ?_
  rw [blk2]
  exact congrArg (· + shift m c (col t j)) (Finset.sum_congr rfl fun k _ => by rw [blk0, blk1])

theorem arr : (dats m 0 c).arrAt 3 (cfgs 0).N = fun y => prod (lhs m c) (rhs m c) (shift m c) (y 0) (y 1) := by
  refine (dats m 0 c).arrAt_eq_of_covers 3 _ (by decide +kernel) fun t hf y => ?_
  have e : ∀ i j, ((cfg0.win 3).blk t).view.emb (ix2 (i : Fin 512) (j : Fin 1024)) = ix2 (row t i) (col t j) :=
    fun i j => by blk_ext [idx3 t, row, col]
  blk_simp
  rw [after0_3]
  idx_vars y
  refine Eq.trans ?_ (congrArg (fun y : S4096x2048.Idx => prod (lhs m c) (rhs m c) (shift m c) (y 0) (y 1)) (e y0 y1).symm)
  exact at_y m c t y0 y1

end Kernel

section Reference

open Cert.ReferenceQIdeal Cert.ReferenceQIdeal.Read

variable (x0 : (⟨S4096x2048, .f32⟩ : BufTy).Contents (Elt Ideal)) (x1 : (⟨S2048x2048, .f32⟩ : BufTy).Contents (Elt Ideal)) (x2 : (⟨S1x2048, .f32⟩ : BufTy).Contents (Elt Ideal))

theorem ref0 (r : Fin 4096) (d : Fin 2048) :
    val_main_v0 (F := Ideal) x0 x1 (ix2 r d) = ∑ k : Fin 2048, x0 (ix2 r k) * x1 (ix2 k d) := by
  refine (val_main_v0_apply x0 x1 _).trans (Finset.sum_congr rfl fun k _ => ?_)
  have e0 : lidx_main_v0 (ix2 r d) k = ix2 r k := eq_ix2 _
  have e1 : ridx_main_v0 (ix2 r d) k = ix2 k d := eq_ix2 _
  rw [e0, e1]

theorem ref (r : Fin 4096) (d : Fin 2048) : val_main_v2 (F := Ideal) x0 x1 x2 (ix2 r d) = prod (fun i j => x0 (ix2 i j)) (fun i j => x1 (ix2 i j)) (fun d => x2 (ix2 0 d)) r d := by
  unfold prod
  rw [← ref0]
  unfold val_main_v2 val_main_v1
  generalize val_main_v0 (F := Ideal) x0 x1 = y
  pointwise []

end Reference

theorem equal : Cert.algebraic_KernelQIdeal_ReferenceQIdeal := by
  intro m g m' g' _ hagree
  refine ⟨_, Cert.KernelQIdeal.Value.run_blocks m g, ?_⟩
  refine θ_run_mono (Cert.ReferenceQIdeal.Value.run m' g') fun r hr c => ?_
  obtain ⟨a0, a1, a2⟩ := hagree c
  obtain ⟨r0, k⟩ := hr c
  refine ⟨(r0.trans (Cert.ReferenceQIdeal.Read.val_main_v2_eq _ _ _)).trans (Eq.trans ?_ (arr m c).symm), k⟩
  funext y
  rw [eq_ix2 y]
  refine (ref _ _ _ (y 0) (y 1)).trans ?_
  rw [a0, a1, a2]
  rfl

end Cert.Q
-- ==== Proof.Kv.lean ====
/- The projection to the keys and values: the kernel's blocks put together are the
   reference's product. -/
module

public import proofs.«01_k».proof.Defs
public import proofs.«01_k».proof.Proof.Gen.KernelKvIdeal.Value
public import proofs.«01_k».proof.Proof.Gen.ReferenceKvIdeal.Run
public import proofs.«01_k».proof.Proof.Gen.ReferenceKvIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kv

open Idealize.ShloMosaic Idealize.ShloMosaic.TcCoe Idealize.SL.Sem

/-- The product of the input and the weights, and the bias. -/
def prod (x : Fin 4096 → Fin 2048 → EReal) (w : Fin 2048 → Fin 512 → EReal) (b : Fin 512 → EReal) (r : Fin 4096) (d : Fin 512) : EReal :=
  (∑ k, x r k * w k d) + b d

section Kernel

open Cert.KernelKvIdeal Cert.KernelKvIdeal.Gen

variable (m : (ℓ : Loc nD τ sig) → Buf (Elt Ideal) ℓ) (c : Dev nD)

/-- The kernel's arguments, by row and column. -/
def lhs (i : Fin 4096) (j : Fin 2048) : EReal := m ((c : Thread nD τ).loc main_arg0) (ix2 i j)
def rhs (i : Fin 2048) (j : Fin 512) : EReal := m ((c : Thread nD τ).loc main_arg1) (ix2 i j)
def shift (d : Fin 512) : EReal := m ((c : Thread nD τ).loc main_arg2) (ix2 0 d)

theorem idx0 : ∀ t : Fin grid0.N, win0_0.index t = ![0, t.val, 0] := by decide +kernel
theorem idx1 : ∀ t : Fin grid0.N, win0_1.index t = ![0, 0, 0, 0] := by decide +kernel
theorem idx2 : ∀ t : Fin grid0.N, win0_2.index t = ![0, 0] := by decide +kernel
theorem idx3 : ∀ t : Fin grid0.N, win0_3.index t = ![t.val, 0] := by decide +kernel

/-- The row and the column of the result that those of a grid point's block are. -/
def row (t : Fin cfg0.N) (i : Fin 512) : Fin 4096 := ⟨t.val * 512 + i.val, by have : t.val < 8 := t.isLt; omega⟩
def col (_ : Fin cfg0.N) (j : Fin 512) : Fin 512 := j

theorem host_a (r : Fin 4096) (k : Fin 2048) : V m c main_v1 (ix3 0 r k) = lhs m c r k := by
  unfold V
  after_reads_at
  rfl

theorem host_b (k : Fin 2048) (d : Fin 512) : V m c main_v3 (ix4 0 0 k d) = rhs m c k d := by
  unfold V
  after_reads_at
  rfl

theorem host_c (d : Fin 512) : V m c main_arg2 (ix2 0 d) = shift m c d := by
  unfold V
  after_reads_at
  rfl

theorem blk0 (t : Fin cfg0.N) (i : Fin 512) (k : Fin 2048) : iblk m c 0 t (ix3 0 i k) = lhs m c (row t i) k := by
  rw [← host_a]
  show iblk m c 0 t (ix3 0 i k) = V m c main_v1 (ix3 0 (row t i) k)
  blk_ext [iblk, idx0 t, row]

theorem blk1 (t : Fin cfg0.N) (k : Fin 2048) (j : Fin 512) : iblk m c 1 t (ix4 0 0 k j) = rhs m c k (col t j) := by
  rw [← host_b]
  show iblk m c 1 t (ix4 0 0 k j) = V m c main_v3 (ix4 0 0 k (col t j))
  blk_ext [iblk, idx1 t, col]

theorem blk2 (t : Fin cfg0.N) (j : Fin 512) : iblk m c 2 t (ix2 0 j) = shift m c (col t j) := by
  rw [← host_c]
  show iblk m c 2 t (ix2 0 j) = V m c main_arg2 (ix2 0 (col t j))
  blk_ext [iblk, idx2 t, col]

theorem pay (a : Vec Ideal S1x512x2048 .bf16) (b : Vec Ideal S1x1x2048x512 .bf16) (e : Vec Ideal S1x512 .f32) (i : Fin 512) (j : Fin 512) :
    k0_pay1 (F := Ideal) a b e (ix2 i j) = (∑ k : Fin 2048, a (ix3 0 i k) * b (ix4 0 0 k j)) + e (ix2 0 j) := by
  pointwise [k0_pay1]

theorem point (t : Fin cfg0.N) : outsAt0 m c t = k0_pay1 (iblk m c 0 t) (iblk m c 1 t) (iblk m c 2 t) := by
  unfold outsAt0; frame_out

theorem at_y (t : Fin cfg0.N) (i : Fin 512) (j : Fin 512) :
    outsAt0 m c t (ix2 i j) = prod (lhs m c) (rhs m c) (shift m c) (row t i) (col t j) := by
  rw [point]
  refine (pay _ _ _ i j).trans ?_
  rw [blk2]
  exact congrArg (· + shift m c (col t j)) (Finset.sum_congr rfl fun k _ => by rw [blk0, blk1])

theorem arr : (dats m 0 c).arrAt 3 (cfgs 0).N = fun y => prod (lhs m c) (rhs m c) (shift m c) (y 0) (y 1) := by
  refine (dats m 0 c).arrAt_eq_of_covers 3 _ (by decide +kernel) fun t hf y => ?_
  have e : ∀ i j, ((cfg0.win 3).blk t).view.emb (ix2 (i : Fin 512) (j : Fin 512)) = ix2 (row t i) (col t j) :=
    fun i j => by blk_ext [idx3 t, row, col]
  blk_simp
  rw [after0_3]
  idx_vars y
  refine Eq.trans ?_ (congrArg (fun y : S4096x512.Idx => prod (lhs m c) (rhs m c) (shift m c) (y 0) (y 1)) (e y0 y1).symm)
  exact at_y m c t y0 y1

end Kernel

section Reference

open Cert.ReferenceKvIdeal Cert.ReferenceKvIdeal.Read

variable (x0 : (⟨S4096x2048, .f32⟩ : BufTy).Contents (Elt Ideal)) (x1 : (⟨S2048x512, .f32⟩ : BufTy).Contents (Elt Ideal)) (x2 : (⟨S1x512, .f32⟩ : BufTy).Contents (Elt Ideal))

theorem ref0 (r : Fin 4096) (d : Fin 512) :
    val_main_v0 (F := Ideal) x0 x1 (ix2 r d) = ∑ k : Fin 2048, x0 (ix2 r k) * x1 (ix2 k d) := by
  refine (val_main_v0_apply x0 x1 _).trans (Finset.sum_congr rfl fun k _ => ?_)
  have e0 : lidx_main_v0 (ix2 r d) k = ix2 r k := eq_ix2 _
  have e1 : ridx_main_v0 (ix2 r d) k = ix2 k d := eq_ix2 _
  rw [e0, e1]

theorem ref (r : Fin 4096) (d : Fin 512) : val_main_v2 (F := Ideal) x0 x1 x2 (ix2 r d) = prod (fun i j => x0 (ix2 i j)) (fun i j => x1 (ix2 i j)) (fun d => x2 (ix2 0 d)) r d := by
  unfold prod
  rw [← ref0]
  unfold val_main_v2 val_main_v1
  generalize val_main_v0 (F := Ideal) x0 x1 = y
  pointwise []

end Reference

theorem equal : Cert.algebraic_KernelKvIdeal_ReferenceKvIdeal := by
  intro m g m' g' _ hagree
  refine ⟨_, Cert.KernelKvIdeal.Value.run_blocks m g, ?_⟩
  refine θ_run_mono (Cert.ReferenceKvIdeal.Value.run m' g') fun r hr c => ?_
  obtain ⟨a0, a1, a2⟩ := hagree c
  obtain ⟨r0, k⟩ := hr c
  refine ⟨(r0.trans (Cert.ReferenceKvIdeal.Read.val_main_v2_eq _ _ _)).trans (Eq.trans ?_ (arr m c).symm), k⟩
  funext y
  rw [eq_ix2 y]
  refine (ref _ _ _ (y 0) (y 1)).trans ?_
  rw [a0, a1, a2]
  rfl

end Cert.Kv
-- ==== Proof.KvDw.lean ====
/- The gradient of the weights of the keys and values: the kernel's blocks put together are the
   reference's product. -/
module

public import proofs.«01_k».proof.Defs
public import proofs.«01_k».proof.Proof.Gen.KernelKvDwIdeal.Value
public import proofs.«01_k».proof.Proof.Gen.ReferenceKvDwIdeal.Run
public import proofs.«01_k».proof.Proof.Gen.ReferenceKvDwIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KvDw

open Idealize.ShloMosaic Idealize.ShloMosaic.TcCoe Idealize.SL.Sem

/-- A weight's gradient: the sum over the rows of the input's entry and the cotangent's. -/
def prod (x : Fin 4096 → Fin 2048 → EReal) (w : Fin 4096 → Fin 512 → EReal) (r : Fin 2048) (d : Fin 512) : EReal :=
  ∑ k, x k r * w k d

section Kernel

open Cert.KernelKvDwIdeal Cert.KernelKvDwIdeal.Gen

variable (m : (ℓ : Loc nD τ sig) → Buf (Elt Ideal) ℓ) (c : Dev nD)

/-- The kernel's arguments, by row and column. -/
def lhs (i : Fin 4096) (j : Fin 2048) : EReal := m ((c : Thread nD τ).loc main_arg0) (ix2 i j)
def rhs (i : Fin 4096) (j : Fin 512) : EReal := m ((c : Thread nD τ).loc main_arg1) (ix2 i j)

theorem idx0 : ∀ t : Fin grid0.N, win0_0.index t = ![0, t.val, 0] := by decide +kernel
theorem idx1 : ∀ t : Fin grid0.N, win0_1.index t = ![0, 0, 0, 0] := by decide +kernel
theorem idx2 : ∀ t : Fin grid0.N, win0_2.index t = ![t.val, 0] := by decide +kernel

/-- The row and the column of the result that those of a grid point's block are. -/
def row (t : Fin cfg0.N) (i : Fin 512) : Fin 2048 := ⟨t.val * 512 + i.val, by have : t.val < 4 := t.isLt; omega⟩
def col (_ : Fin cfg0.N) (j : Fin 512) : Fin 512 := j

theorem host_a (r : Fin 2048) (k : Fin 4096) : V m c main_v2 (ix3 0 r k) = lhs m c k r := by
  unfold V
  after_reads_at
  rfl

theorem host_b (k : Fin 4096) (d : Fin 512) : V m c main_v3 (ix4 0 0 k d) = rhs m c k d := by
  unfold V
  after_reads_at
  rfl

theorem blk0 (t : Fin cfg0.N) (i : Fin 512) (k : Fin 4096) : iblk m c 0 t (ix3 0 i k) = lhs m c k (row t i) := by
  rw [← host_a]
  show iblk m c 0 t (ix3 0 i k) = V m c main_v2 (ix3 0 (row t i) k)
  blk_ext [iblk, idx0 t, row]

theorem blk1 (t : Fin cfg0.N) (k : Fin 4096) (j : Fin 512) : iblk m c 1 t (ix4 0 0 k j) = rhs m c k (col t j) := by
  rw [← host_b]
  show iblk m c 1 t (ix4 0 0 k j) = V m c main_v3 (ix4 0 0 k (col t j))
  blk_ext [iblk, idx1 t, col]

theorem pay (a : Vec Ideal S1x512x4096 .bf16) (b : Vec Ideal S1x1x4096x512 .f32) (i : Fin 512) (j : Fin 512) :
    k0_pay1 (F := Ideal) a b (ix2 i j) = ∑ k : Fin 4096, a (ix3 0 i k) * b (ix4 0 0 k j) := by
  pointwise [k0_pay1]

theorem point (t : Fin cfg0.N) : outsAt0 m c t = k0_pay1 (iblk m c 0 t) (iblk m c 1 t) := by
  unfold outsAt0; frame_out

theorem at_y (t : Fin cfg0.N) (i : Fin 512) (j : Fin 512) :
    outsAt0 m c t (ix2 i j) = prod (lhs m c) (rhs m c) (row t i) (col t j) := by
  rw [point]
  exact (pay _ _ i j).trans (Finset.sum_congr rfl fun k _ => by rw [blk0, blk1])

theorem arr : (dats m 0 c).arrAt 2 (cfgs 0).N = fun y => prod (lhs m c) (rhs m c) (y 0) (y 1) := by
  refine (dats m 0 c).arrAt_eq_of_covers 2 _ (by decide +kernel) fun t hf y => ?_
  have e : ∀ i j, ((cfg0.win 2).blk t).view.emb (ix2 (i : Fin 512) (j : Fin 512)) = ix2 (row t i) (col t j) :=
    fun i j => by blk_ext [idx2 t, row, col]
  blk_simp
  rw [after0_2]
  idx_vars y
  refine Eq.trans ?_ (congrArg (fun y : S2048x512.Idx => prod (lhs m c) (rhs m c) (y 0) (y 1)) (e y0 y1).symm)
  exact at_y m c t y0 y1

end Kernel

section Reference

open Cert.ReferenceKvDwIdeal Cert.ReferenceKvDwIdeal.Read

variable (x0 : (⟨S4096x2048, .f32⟩ : BufTy).Contents (Elt Ideal)) (x1 : (⟨S4096x512, .f32⟩ : BufTy).Contents (Elt Ideal))

theorem ref (r : Fin 2048) (d : Fin 512) : val_main_v4 (F := Ideal) x0 x1 (ix2 r d) = prod (fun i j => x0 (ix2 i j)) (fun i j => x1 (ix2 i j)) r d := by
  rw [val_main_v4_apply, val_main_v3_apply]
  refine (val_main_v2_apply x0 x1 _).trans (Finset.sum_congr rfl fun k _ => ?_)
  rw [mul_comm]
  have e0 : ridx_main_v2 (idx_main_v3 (ix2 r d)) k = ix2 k r := eq_ix2 _
  have e1 : lidx_main_v2 (idx_main_v3 (ix2 r d)) k = ix2 k d := eq_ix2 _
  rw [e0, e1]

end Reference

theorem equal : Cert.algebraic_KernelKvDwIdeal_ReferenceKvDwIdeal := by
  intro m g m' g' _ hagree
  refine ⟨_, Cert.KernelKvDwIdeal.Value.run_blocks m g, ?_⟩
  refine θ_run_mono (Cert.ReferenceKvDwIdeal.Value.run m' g') fun r hr c => ?_
  obtain ⟨a0, a1⟩ := hagree c
  obtain ⟨r0, k⟩ := hr c
  refine ⟨(r0.trans (Cert.ReferenceKvDwIdeal.Read.val_main_v4_eq _ _)).trans (Eq.trans ?_ (arr m c).symm), k⟩
  funext y
  rw [eq_ix2 y]
  refine (ref _ _ (y 0) (y 1)).trans ?_
  rw [a0, a1]
  rfl

end Cert.KvDw
-- ==== Proof.KvDu.lean ====
/- The gradient of the input of the keys and values: the kernel's blocks put together are the
   reference's product. -/
module

public import proofs.«01_k».proof.Defs
public import proofs.«01_k».proof.Proof.Gen.KernelKvDuIdeal.Value
public import proofs.«01_k».proof.Proof.Gen.ReferenceKvDuIdeal.Run
public import proofs.«01_k».proof.Proof.Gen.ReferenceKvDuIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KvDu

open Idealize.ShloMosaic Idealize.ShloMosaic.TcCoe Idealize.SL.Sem

/-- The product of the cotangent and the weights transposed. -/
def prod (x : Fin 4096 → Fin 512 → EReal) (w : Fin 2048 → Fin 512 → EReal) (r : Fin 4096) (d : Fin 2048) : EReal :=
  ∑ k, x r k * w d k

section Kernel

open Cert.KernelKvDuIdeal Cert.KernelKvDuIdeal.Gen

variable (m : (ℓ : Loc nD τ sig) → Buf (Elt Ideal) ℓ) (c : Dev nD)

/-- The kernel's arguments, by row and column. -/
def lhs (i : Fin 4096) (j : Fin 512) : EReal := m ((c : Thread nD τ).loc main_arg0) (ix2 i j)
def rhs (i : Fin 2048) (j : Fin 512) : EReal := m ((c : Thread nD τ).loc main_arg1) (ix2 i j)

theorem idx0 : ∀ t : Fin grid0.N, win0_0.index t = ![0, t.val % 8, 0] := by decide +kernel
theorem idx1 : ∀ t : Fin grid0.N, win0_1.index t = ![0, 0, t.val / 8, 0] := by decide +kernel
theorem idx2 : ∀ t : Fin grid0.N, win0_2.index t = ![t.val % 8, t.val / 8] := by decide +kernel

/-- The row and the column of the result that those of a grid point's block are. -/
def row (t : Fin cfg0.N) (i : Fin 512) : Fin 4096 := ⟨t.val % 8 * 512 + i.val, by omega⟩
def col (t : Fin cfg0.N) (j : Fin 1024) : Fin 2048 := ⟨t.val / 8 * 1024 + j.val, by have : t.val < 16 := t.isLt; omega⟩

theorem host_a (r : Fin 4096) (k : Fin 512) : V m c main_v0 (ix3 0 r k) = lhs m c r k := by
  unfold V
  after_reads_at
  rfl

theorem host_b (k : Fin 512) (d : Fin 2048) : V m c main_v2 (ix4 0 0 d k) = rhs m c d k := by
  unfold V
  after_reads_at
  rfl

theorem blk0 (t : Fin cfg0.N) (i : Fin 512) (k : Fin 512) : iblk m c 0 t (ix3 0 i k) = lhs m c (row t i) k := by
  rw [← host_a]
  show iblk m c 0 t (ix3 0 i k) = V m c main_v0 (ix3 0 (row t i) k)
  blk_ext [iblk, idx0 t, row]

theorem blk1 (t : Fin cfg0.N) (k : Fin 512) (j : Fin 1024) : iblk m c 1 t (ix4 0 0 j k) = rhs m c (col t j) k := by
  rw [← host_b]
  show iblk m c 1 t (ix4 0 0 j k) = V m c main_v2 (ix4 0 0 (col t j) k)
  blk_ext [iblk, idx1 t, col]

theorem pay (a : Vec Ideal S1x512x512 .f32) (b : Vec Ideal S1x1x1024x512 .bf16) (i : Fin 512) (j : Fin 1024) :
    k0_pay1 (F := Ideal) a b (ix2 i j) = ∑ k : Fin 512, a (ix3 0 i k) * b (ix4 0 0 j k) := by
  pointwise [k0_pay1]

theorem point (t : Fin cfg0.N) : outsAt0 m c t = k0_pay1 (iblk m c 0 t) (iblk m c 1 t) := by
  unfold outsAt0; frame_out

theorem at_y (t : Fin cfg0.N) (i : Fin 512) (j : Fin 1024) :
    outsAt0 m c t (ix2 i j) = prod (lhs m c) (rhs m c) (row t i) (col t j) := by
  rw [point]
  exact (pay _ _ i j).trans (Finset.sum_congr rfl fun k _ => by rw [blk0, blk1])

theorem arr : (dats m 0 c).arrAt 2 (cfgs 0).N = fun y => prod (lhs m c) (rhs m c) (y 0) (y 1) := by
  refine (dats m 0 c).arrAt_eq_of_covers 2 _ (by decide +kernel) fun t hf y => ?_
  have e : ∀ i j, ((cfg0.win 2).blk t).view.emb (ix2 (i : Fin 512) (j : Fin 1024)) = ix2 (row t i) (col t j) :=
    fun i j => by blk_ext [idx2 t, row, col]
  blk_simp
  rw [after0_2]
  idx_vars y
  refine Eq.trans ?_ (congrArg (fun y : S4096x2048.Idx => prod (lhs m c) (rhs m c) (y 0) (y 1)) (e y0 y1).symm)
  exact at_y m c t y0 y1

end Kernel

section Reference

open Cert.ReferenceKvDuIdeal Cert.ReferenceKvDuIdeal.Read

variable (x0 : (⟨S4096x512, .f32⟩ : BufTy).Contents (Elt Ideal)) (x1 : (⟨S2048x512, .f32⟩ : BufTy).Contents (Elt Ideal))

theorem ref (r : Fin 4096) (d : Fin 2048) : val_main_v2 (F := Ideal) x0 x1 (ix2 r d) = prod (fun i j => x0 (ix2 i j)) (fun i j => x1 (ix2 i j)) r d := by
  refine (val_main_v2_apply x0 x1 _).trans (Finset.sum_congr rfl fun k _ => ?_)
  have e0 : lidx_main_v2 (ix2 r d) k = ix2 r k := eq_ix2 _
  have e1 : ridx_main_v2 (ix2 r d) k = ix2 d k := eq_ix2 _
  rw [e0, e1]

end Reference

theorem equal : Cert.algebraic_KernelKvDuIdeal_ReferenceKvDuIdeal := by
  intro m g m' g' _ hagree
  refine ⟨_, Cert.KernelKvDuIdeal.Value.run_blocks m g, ?_⟩
  refine θ_run_mono (Cert.ReferenceKvDuIdeal.Value.run m' g') fun r hr c => ?_
  obtain ⟨a0, a1⟩ := hagree c
  obtain ⟨r0, k⟩ := hr c
  refine ⟨(r0.trans (Cert.ReferenceKvDuIdeal.Read.val_main_v2_eq _ _)).trans (Eq.trans ?_ (arr m c).symm), k⟩
  funext y
  rw [eq_ix2 y]
  refine (ref _ _ (y 0) (y 1)).trans ?_
  rw [a0, a1]
  rfl

end Cert.KvDu
-- ==== Proof.AttOut.lean ====
/- The attention's output product: the kernel's blocks put together are the reference's product, and the residual stream
   with the gated product added. -/
module

public import proofs.«01_k».proof.Defs
public import proofs.«01_k».proof.Proof.Gen.KernelAttOutIdeal.Value
public import proofs.«01_k».proof.Proof.Gen.ReferenceAttOutIdeal.Run
public import proofs.«01_k».proof.Proof.Gen.ReferenceAttOutIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.AttOut

open Idealize.ShloMosaic Idealize.ShloMosaic.TcCoe Idealize.SL.Sem

/-- The product of the input and the weights. -/
def prod (x : Fin 4096 → Fin 2048 → EReal) (w : Fin 2048 → Fin 2048 → EReal) (s : Fin 4096) (d : Fin 2048) : EReal :=
  ∑ f, x s f * w f d

/-- The residual stream after the layer. -/
def res (h g y : EReal) : EReal := h + g * y

section Kernel

open Cert.KernelAttOutIdeal Cert.KernelAttOutIdeal.Gen

variable (m : (ℓ : Loc nD τ sig) → Buf (Elt Ideal) ℓ) (c : Dev nD)

/-- The kernel's arguments, by row and column. -/
def hid (s : Fin 4096) (f : Fin 2048) : EReal := m ((c : Thread nD τ).loc main_arg0) (ix2 s f)
def wts (f : Fin 2048) (d : Fin 2048) : EReal := m ((c : Thread nD τ).loc main_arg1) (ix2 f d)
def strm (s : Fin 4096) (d : Fin 2048) : EReal := m ((c : Thread nD τ).loc main_arg2) (ix2 s d)
def gate (d : Fin 2048) : EReal := m ((c : Thread nD τ).loc main_arg3) (ix2 0 d)

theorem idx0 : ∀ t : Fin grid0.N, win0_0.index t = ![0, t.val % 8, 0] := by decide +kernel
theorem idx1 : ∀ t : Fin grid0.N, win0_1.index t = ![0, 0, 0, t.val / 8] := by decide +kernel
theorem idx2 : ∀ t : Fin grid0.N, win0_2.index t = ![t.val % 8, t.val / 8] := by decide +kernel
theorem idx3 : ∀ t : Fin grid0.N, win0_3.index t = ![0, t.val / 8] := by decide +kernel
theorem idx4 : ∀ t : Fin grid0.N, win0_4.index t = ![t.val % 8, t.val / 8] := by decide +kernel
theorem idx5 : ∀ t : Fin grid0.N, win0_5.index t = ![t.val % 8, t.val / 8] := by decide +kernel

/-- The row and the column of the arrays that those of a grid point's block are. -/
def row (t : Fin cfg0.N) (i : Fin 512) : Fin 4096 := ⟨t.val % 8 * 512 + i.val, by omega⟩
def col (t : Fin cfg0.N) (j : Fin 1024) : Fin 2048 := ⟨t.val / 8 * 1024 + j.val, by have : t.val < 16 := t.isLt; omega⟩

theorem host_a (s : Fin 4096) (f : Fin 2048) : V m c main_v0 (ix3 0 s f) = hid m c s f := by
  unfold V
  after_reads_at
  rfl

theorem host_b (f : Fin 2048) (d : Fin 2048) : V m c main_v2 (ix4 0 0 f d) = wts m c f d := by
  unfold V
  after_reads_at
  rfl

theorem host_h (s : Fin 4096) (d : Fin 2048) : V m c main_arg2 (ix2 s d) = strm m c s d := by
  unfold V
  after_reads_at
  rfl

theorem host_g (d : Fin 2048) : V m c main_arg3 (ix2 0 d) = gate m c d := by
  unfold V
  after_reads_at
  rfl

theorem blk0 (t : Fin cfg0.N) (i : Fin 512) (k : Fin 2048) : iblk m c 0 t (ix3 0 i k) = hid m c (row t i) k := by
  rw [← host_a]
  show iblk m c 0 t (ix3 0 i k) = V m c main_v0 (ix3 0 (row t i) k)
  blk_ext [iblk, idx0 t, row]

theorem blk1 (t : Fin cfg0.N) (k : Fin 2048) (j : Fin 1024) : iblk m c 1 t (ix4 0 0 k j) = wts m c k (col t j) := by
  rw [← host_b]
  show iblk m c 1 t (ix4 0 0 k j) = V m c main_v2 (ix4 0 0 k (col t j))
  blk_ext [iblk, idx1 t, col]

theorem blk2 (t : Fin cfg0.N) (i : Fin 512) (j : Fin 1024) : iblk m c 2 t (ix2 i j) = strm m c (row t i) (col t j) := by
  rw [← host_h]
  show iblk m c 2 t (ix2 i j) = V m c main_arg2 (ix2 (row t i) (col t j))
  blk_ext [iblk, idx2 t, row, col]

theorem blk3 (t : Fin cfg0.N) (j : Fin 1024) : iblk m c 3 t (ix2 0 j) = gate m c (col t j) := by
  rw [← host_g]
  show iblk m c 3 t (ix2 0 j) = V m c main_arg3 (ix2 0 (col t j))
  blk_ext [iblk, idx3 t, col]

/-- The product of two blocks. -/
def dots (X : Vec Ideal S1x512x2048 .f32) (Y : Vec Ideal S1x1x2048x1024 .bf16) (i : Fin 512) (j : Fin 1024) : EReal :=
  ∑ k : Fin 2048, X (ix3 0 i k) * Y (ix4 0 0 k j)

theorem point4 (t : Fin cfg0.N) (i : Fin 512) (j : Fin 1024) :
    (outsAt0 m c t).1 (ix2 i j) = dots (iblk m c 0 t) (iblk m c 1 t) i j := by
  unfold outsAt0; frame_out
  generalize iblk m c 0 t = X
  generalize iblk m c 1 t = Y
  unfold dots
  pointwise [k0_pay2, k0_pay1]

theorem point5 (t : Fin cfg0.N) : (outsAt0 m c t).2 = k0_pay4 (outsAt0 m c t).1 (iblk m c 2 t) (iblk m c 3 t) := by
  unfold outsAt0; frame_out

theorem pay4 (y h : Vec Ideal S512x1024 .f32) (g : Vec Ideal S1x1024 .f32) (i : Fin 512) (j : Fin 1024) :
    k0_pay4 (F := Ideal) y h g (ix2 i j) = res (h (ix2 i j)) (g (ix2 0 j)) (y (ix2 i j)) := by
  unfold res
  pointwise [k0_pay4]

theorem at_y (t : Fin cfg0.N) (i : Fin 512) (j : Fin 1024) :
    (outsAt0 m c t).1 (ix2 i j) = prod (hid m c) (wts m c) (row t i) (col t j) := by
  exact (point4 m c t i j).trans (Finset.sum_congr rfl fun k _ => by rw [blk0, blk1])

theorem arr4 : (dats m 0 c).arrAt 4 (cfgs 0).N = fun y => prod (hid m c) (wts m c) (y 0) (y 1) := by
  refine (dats m 0 c).arrAt_eq_of_covers 4 _ (by decide +kernel) fun t hf y => ?_
  have e : ∀ i j, ((cfg0.win 4).blk t).view.emb (ix2 (i : Fin 512) (j : Fin 1024)) = ix2 (row t i) (col t j) :=
    fun i j => by blk_ext [idx4 t, row, col]
  blk_simp
  rw [after0_4]
  idx_vars y
  refine Eq.trans ?_ (congrArg (fun y : S4096x2048.Idx => prod (hid m c) (wts m c) (y 0) (y 1)) (e y0 y1).symm)
  exact at_y m c t y0 y1

theorem arr5 : (dats m 0 c).arrAt 5 (cfgs 0).N =
    fun y => res (strm m c (y 0) (y 1)) (gate m c (y 1)) (prod (hid m c) (wts m c) (y 0) (y 1)) := by
  refine (dats m 0 c).arrAt_eq_of_covers 5 _ (by decide +kernel) fun t hf y => ?_
  have e : ∀ i j, ((cfg0.win 5).blk t).view.emb (ix2 (i : Fin 512) (j : Fin 1024)) = ix2 (row t i) (col t j) :=
    fun i j => by blk_ext [idx5 t, row, col]
  blk_simp
  rw [after0_5]
  idx_vars y
  refine Eq.trans ?_ (congrArg (fun y : S4096x2048.Idx =>
    res (strm m c (y 0) (y 1)) (gate m c (y 1)) (prod (hid m c) (wts m c) (y 0) (y 1))) (e y0 y1).symm)
  rw [point5]
  refine (pay4 _ _ _ y0 y1).trans ?_
  rw [at_y, blk2, blk3]
  rfl

end Kernel

section Reference

open Cert.ReferenceAttOutIdeal Cert.ReferenceAttOutIdeal.Read

variable (x0 : (⟨S4096x2048, .f32⟩ : BufTy).Contents (Elt Ideal)) (x1 : (⟨S2048x2048, .f32⟩ : BufTy).Contents (Elt Ideal))
  (x2 : (⟨S4096x2048, .f32⟩ : BufTy).Contents (Elt Ideal)) (x3 : (⟨S1x2048, .f32⟩ : BufTy).Contents (Elt Ideal))

theorem ref0 (s : Fin 4096) (d : Fin 2048) :
    val_main_v0 (F := Ideal) x0 x1 (ix2 s d) = prod (fun s f => x0 (ix2 s f)) (fun f d => x1 (ix2 f d)) s d := by
  refine (val_main_v0_apply x0 x1 _).trans (Finset.sum_congr rfl fun k _ => ?_)
  have e0 : lidx_main_v0 (ix2 s d) k = ix2 s k := eq_ix2 _
  have e1 : ridx_main_v0 (ix2 s d) k = ix2 k d := eq_ix2 _
  rw [e0, e1]

theorem ref3 (s : Fin 4096) (d : Fin 2048) :
    val_main_v3 (F := Ideal) x0 x1 x2 x3 (ix2 s d) =
      res (x2 (ix2 s d)) (x3 (ix2 0 d)) (prod (fun s f => x0 (ix2 s f)) (fun f d => x1 (ix2 f d)) s d) := by
  rw [← ref0]
  unfold val_main_v3 val_main_v2 val_main_v1 res
  generalize val_main_v0 (F := Ideal) x0 x1 = y
  pointwise []

end Reference

theorem equal : Cert.algebraic_KernelAttOutIdeal_ReferenceAttOutIdeal := by
  intro m g m' g' _ hagree
  refine ⟨_, _, Cert.KernelAttOutIdeal.Value.run_blocks m g, ?_⟩
  refine θ_run_mono (Cert.ReferenceAttOutIdeal.Value.run m' g') fun r hr c => ?_
  obtain ⟨a0, a1, a2, a3⟩ := hagree c
  obtain ⟨r0, r1, k⟩ := hr c
  refine ⟨(r0.trans (Cert.ReferenceAttOutIdeal.Read.val_main_v0_eq _ _)).trans (Eq.trans ?_ (arr4 m c).symm),
    (r1.trans (Cert.ReferenceAttOutIdeal.Read.val_main_v3_eq _ _ _ _)).trans (Eq.trans ?_ (arr5 m c).symm), k⟩
  · funext y
    rw [eq_ix2 y]
    refine (ref0 _ _ (y 0) (y 1)).trans ?_
    rw [a0, a1]
    rfl
  · funext y
    rw [eq_ix2 y]
    refine (ref3 _ _ _ _ (y 0) (y 1)).trans ?_
    rw [a0, a1, a2, a3]
    rfl

end Cert.AttOut
-- ==== Proof.AttDw.lean ====
/- The gradient of the attention's output weights: the kernel's blocks put together are the
   reference's product. -/
module

public import proofs.«01_k».proof.Defs
public import proofs.«01_k».proof.Proof.Gen.KernelAttDwIdeal.Value
public import proofs.«01_k».proof.Proof.Gen.ReferenceAttDwIdeal.Run
public import proofs.«01_k».proof.Proof.Gen.ReferenceAttDwIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.AttDw

open Idealize.ShloMosaic Idealize.ShloMosaic.TcCoe Idealize.SL.Sem

/-- A weight's gradient: the sum over the rows of the input's entry and the cotangent's. -/
def prod (x : Fin 4096 → Fin 2048 → EReal) (w : Fin 4096 → Fin 2048 → EReal) (r : Fin 2048) (d : Fin 2048) : EReal :=
  ∑ k, x k r * w k d

section Kernel

open Cert.KernelAttDwIdeal Cert.KernelAttDwIdeal.Gen

variable (m : (ℓ : Loc nD τ sig) → Buf (Elt Ideal) ℓ) (c : Dev nD)

/-- The kernel's arguments, by row and column. -/
def lhs (i : Fin 4096) (j : Fin 2048) : EReal := m ((c : Thread nD τ).loc main_arg0) (ix2 i j)
def rhs (i : Fin 4096) (j : Fin 2048) : EReal := m ((c : Thread nD τ).loc main_arg1) (ix2 i j)

theorem idx0 : ∀ t : Fin grid0.N, win0_0.index t = ![0, t.val % 4, 0] := by decide +kernel
theorem idx1 : ∀ t : Fin grid0.N, win0_1.index t = ![0, 0, 0, t.val / 4] := by decide +kernel
theorem idx2 : ∀ t : Fin grid0.N, win0_2.index t = ![t.val % 4, t.val / 4] := by decide +kernel

/-- The row and the column of the result that those of a grid point's block are. -/
def row (t : Fin cfg0.N) (i : Fin 512) : Fin 2048 := ⟨t.val % 4 * 512 + i.val, by omega⟩
def col (t : Fin cfg0.N) (j : Fin 1024) : Fin 2048 := ⟨t.val / 4 * 1024 + j.val, by have : t.val < 8 := t.isLt; omega⟩

theorem host_a (r : Fin 2048) (k : Fin 4096) : V m c main_v2 (ix3 0 r k) = lhs m c k r := by
  unfold V
  after_reads_at
  rfl

theorem host_b (k : Fin 4096) (d : Fin 2048) : V m c main_v3 (ix4 0 0 k d) = rhs m c k d := by
  unfold V
  after_reads_at
  rfl

theorem blk0 (t : Fin cfg0.N) (i : Fin 512) (k : Fin 4096) : iblk m c 0 t (ix3 0 i k) = lhs m c k (row t i) := by
  rw [← host_a]
  show iblk m c 0 t (ix3 0 i k) = V m c main_v2 (ix3 0 (row t i) k)
  blk_ext [iblk, idx0 t, row]

theorem blk1 (t : Fin cfg0.N) (k : Fin 4096) (j : Fin 1024) : iblk m c 1 t (ix4 0 0 k j) = rhs m c k (col t j) := by
  rw [← host_b]
  show iblk m c 1 t (ix4 0 0 k j) = V m c main_v3 (ix4 0 0 k (col t j))
  blk_ext [iblk, idx1 t, col]

theorem pay (a : Vec Ideal S1x512x4096 .f32) (b : Vec Ideal S1x1x4096x1024 .bf16) (i : Fin 512) (j : Fin 1024) :
    k0_pay1 (F := Ideal) a b (ix2 i j) = ∑ k : Fin 4096, a (ix3 0 i k) * b (ix4 0 0 k j) := by
  pointwise [k0_pay1]

theorem point (t : Fin cfg0.N) : outsAt0 m c t = k0_pay1 (iblk m c 0 t) (iblk m c 1 t) := by
  unfold outsAt0; frame_out

theorem at_y (t : Fin cfg0.N) (i : Fin 512) (j : Fin 1024) :
    outsAt0 m c t (ix2 i j) = prod (lhs m c) (rhs m c) (row t i) (col t j) := by
  rw [point]
  exact (pay _ _ i j).trans (Finset.sum_congr rfl fun k _ => by rw [blk0, blk1])

theorem arr : (dats m 0 c).arrAt 2 (cfgs 0).N = fun y => prod (lhs m c) (rhs m c) (y 0) (y 1) := by
  refine (dats m 0 c).arrAt_eq_of_covers 2 _ (by decide +kernel) fun t hf y => ?_
  have e : ∀ i j, ((cfg0.win 2).blk t).view.emb (ix2 (i : Fin 512) (j : Fin 1024)) = ix2 (row t i) (col t j) :=
    fun i j => by blk_ext [idx2 t, row, col]
  blk_simp
  rw [after0_2]
  idx_vars y
  refine Eq.trans ?_ (congrArg (fun y : S2048x2048.Idx => prod (lhs m c) (rhs m c) (y 0) (y 1)) (e y0 y1).symm)
  exact at_y m c t y0 y1

end Kernel

section Reference

open Cert.ReferenceAttDwIdeal Cert.ReferenceAttDwIdeal.Read

variable (x0 : (⟨S4096x2048, .f32⟩ : BufTy).Contents (Elt Ideal)) (x1 : (⟨S4096x2048, .f32⟩ : BufTy).Contents (Elt Ideal))

theorem ref (r : Fin 2048) (d : Fin 2048) : val_main_v4 (F := Ideal) x0 x1 (ix2 r d) = prod (fun i j => x0 (ix2 i j)) (fun i j => x1 (ix2 i j)) r d := by
  rw [val_main_v4_apply, val_main_v3_apply]
  refine (val_main_v2_apply x0 x1 _).trans (Finset.sum_congr rfl fun k _ => ?_)
  rw [mul_comm]
  have e0 : ridx_main_v2 (idx_main_v3 (ix2 r d)) k = ix2 k r := eq_ix2 _
  have e1 : lidx_main_v2 (idx_main_v3 (ix2 r d)) k = ix2 k d := eq_ix2 _
  rw [e0, e1]

end Reference

theorem equal : Cert.algebraic_KernelAttDwIdeal_ReferenceAttDwIdeal := by
  intro m g m' g' _ hagree
  refine ⟨_, Cert.KernelAttDwIdeal.Value.run_blocks m g, ?_⟩
  refine θ_run_mono (Cert.ReferenceAttDwIdeal.Value.run m' g') fun r hr c => ?_
  obtain ⟨a0, a1⟩ := hagree c
  obtain ⟨r0, k⟩ := hr c
  refine ⟨(r0.trans (Cert.ReferenceAttDwIdeal.Read.val_main_v4_eq _ _)).trans (Eq.trans ?_ (arr m c).symm), k⟩
  funext y
  rw [eq_ix2 y]
  refine (ref _ _ (y 0) (y 1)).trans ?_
  rw [a0, a1]
  rfl

end Cert.AttDw
-- ==== Proof.QDw.lean ====
/- The gradient of the weights of the queries: the kernel's blocks put together are the
   reference's product. -/
module

public import proofs.«01_k».proof.Defs
public import proofs.«01_k».proof.Proof.Gen.KernelQDwIdeal.Value
public import proofs.«01_k».proof.Proof.Gen.ReferenceQDwIdeal.Run
public import proofs.«01_k».proof.Proof.Gen.ReferenceQDwIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.QDw

open Idealize.ShloMosaic Idealize.ShloMosaic.TcCoe Idealize.SL.Sem

/-- A weight's gradient: the sum over the rows of the input's entry and the cotangent's. -/
def prod (x : Fin 4096 → Fin 2048 → EReal) (w : Fin 4096 → Fin 2048 → EReal) (r : Fin 2048) (d : Fin 2048) : EReal :=
  ∑ k, x k r * w k d

section Kernel

open Cert.KernelQDwIdeal Cert.KernelQDwIdeal.Gen

variable (m : (ℓ : Loc nD τ sig) → Buf (Elt Ideal) ℓ) (c : Dev nD)

/-- The kernel's arguments, by row and column. -/
def lhs (i : Fin 4096) (j : Fin 2048) : EReal := m ((c : Thread nD τ).loc main_arg0) (ix2 i j)
def rhs (i : Fin 4096) (j : Fin 2048) : EReal := m ((c : Thread nD τ).loc main_arg1) (ix2 i j)

theorem idx0 : ∀ t : Fin grid0.N, win0_0.index t = ![0, t.val % 4, 0] := by decide +kernel
theorem idx1 : ∀ t : Fin grid0.N, win0_1.index t = ![0, 0, 0, t.val / 4] := by decide +kernel
theorem idx2 : ∀ t : Fin grid0.N, win0_2.index t = ![t.val % 4, t.val / 4] := by decide +kernel

/-- The row and the column of the result that those of a grid point's block are. -/
def row (t : Fin cfg0.N) (i : Fin 512) : Fin 2048 := ⟨t.val % 4 * 512 + i.val, by omega⟩
def col (t : Fin cfg0.N) (j : Fin 1024) : Fin 2048 := ⟨t.val / 4 * 1024 + j.val, by have : t.val < 8 := t.isLt; omega⟩

theorem host_a (r : Fin 2048) (k : Fin 4096) : V m c main_v2 (ix3 0 r k) = lhs m c k r := by
  unfold V
  after_reads_at
  rfl

theorem host_b (k : Fin 4096) (d : Fin 2048) : V m c main_v3 (ix4 0 0 k d) = rhs m c k d := by
  unfold V
  after_reads_at
  rfl

theorem blk0 (t : Fin cfg0.N) (i : Fin 512) (k : Fin 4096) : iblk m c 0 t (ix3 0 i k) = lhs m c k (row t i) := by
  rw [← host_a]
  show iblk m c 0 t (ix3 0 i k) = V m c main_v2 (ix3 0 (row t i) k)
  blk_ext [iblk, idx0 t, row]

theorem blk1 (t : Fin cfg0.N) (k : Fin 4096) (j : Fin 1024) : iblk m c 1 t (ix4 0 0 k j) = rhs m c k (col t j) := by
  rw [← host_b]
  show iblk m c 1 t (ix4 0 0 k j) = V m c main_v3 (ix4 0 0 k (col t j))
  blk_ext [iblk, idx1 t, col]

theorem pay (a : Vec Ideal S1x512x4096 .bf16) (b : Vec Ideal S1x1x4096x1024 .f32) (i : Fin 512) (j : Fin 1024) :
    k0_pay1 (F := Ideal) a b (ix2 i j) = ∑ k : Fin 4096, a (ix3 0 i k) * b (ix4 0 0 k j) := by
  pointwise [k0_pay1]

theorem point (t : Fin cfg0.N) : outsAt0 m c t = k0_pay1 (iblk m c 0 t) (iblk m c 1 t) := by
  unfold outsAt0; frame_out

theorem at_y (t : Fin cfg0.N) (i : Fin 512) (j : Fin 1024) :
    outsAt0 m c t (ix2 i j) = prod (lhs m c) (rhs m c) (row t i) (col t j) := by
  rw [point]
  exact (pay _ _ i j).trans (Finset.sum_congr rfl fun k _ => by rw [blk0, blk1])

theorem arr : (dats m 0 c).arrAt 2 (cfgs 0).N = fun y => prod (lhs m c) (rhs m c) (y 0) (y 1) := by
  refine (dats m 0 c).arrAt_eq_of_covers 2 _ (by decide +kernel) fun t hf y => ?_
  have e : ∀ i j, ((cfg0.win 2).blk t).view.emb (ix2 (i : Fin 512) (j : Fin 1024)) = ix2 (row t i) (col t j) :=
    fun i j => by blk_ext [idx2 t, row, col]
  blk_simp
  rw [after0_2]
  idx_vars y
  refine Eq.trans ?_ (congrArg (fun y : S2048x2048.Idx => prod (lhs m c) (rhs m c) (y 0) (y 1)) (e y0 y1).symm)
  exact at_y m c t y0 y1

end Kernel

section Reference

open Cert.ReferenceQDwIdeal Cert.ReferenceQDwIdeal.Read

variable (x0 : (⟨S4096x2048, .f32⟩ : BufTy).Contents (Elt Ideal)) (x1 : (⟨S4096x2048, .f32⟩ : BufTy).Contents (Elt Ideal))

theorem ref (r : Fin 2048) (d : Fin 2048) : val_main_v4 (F := Ideal) x0 x1 (ix2 r d) = prod (fun i j => x0 (ix2 i j)) (fun i j => x1 (ix2 i j)) r d := by
  rw [val_main_v4_apply, val_main_v3_apply]
  refine (val_main_v2_apply x0 x1 _).trans (Finset.sum_congr rfl fun k _ => ?_)
  rw [mul_comm]
  have e0 : ridx_main_v2 (idx_main_v3 (ix2 r d)) k = ix2 k r := eq_ix2 _
  have e1 : lidx_main_v2 (idx_main_v3 (ix2 r d)) k = ix2 k d := eq_ix2 _
  rw [e0, e1]

end Reference

theorem equal : Cert.algebraic_KernelQDwIdeal_ReferenceQDwIdeal := by
  intro m g m' g' _ hagree
  refine ⟨_, Cert.KernelQDwIdeal.Value.run_blocks m g, ?_⟩
  refine θ_run_mono (Cert.ReferenceQDwIdeal.Value.run m' g') fun r hr c => ?_
  obtain ⟨a0, a1⟩ := hagree c
  obtain ⟨r0, k⟩ := hr c
  refine ⟨(r0.trans (Cert.ReferenceQDwIdeal.Read.val_main_v4_eq _ _)).trans (Eq.trans ?_ (arr m c).symm), k⟩
  funext y
  rw [eq_ix2 y]
  refine (ref _ _ (y 0) (y 1)).trans ?_
  rw [a0, a1]
  rfl

end Cert.QDw
-- ==== Proof.QDu.lean ====
/- The gradient of the input of the queries: the kernel's blocks put together are the
   reference's product. -/
module

public import proofs.«01_k».proof.Defs
public import proofs.«01_k».proof.Proof.Gen.KernelQDuIdeal.Value
public import proofs.«01_k».proof.Proof.Gen.ReferenceQDuIdeal.Run
public import proofs.«01_k».proof.Proof.Gen.ReferenceQDuIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.QDu

open Idealize.ShloMosaic Idealize.ShloMosaic.TcCoe Idealize.SL.Sem

/-- The product of the cotangent and the weights transposed. -/
def prod (x : Fin 4096 → Fin 2048 → EReal) (w : Fin 2048 → Fin 2048 → EReal) (r : Fin 4096) (d : Fin 2048) : EReal :=
  ∑ k, x r k * w d k

section Kernel

open Cert.KernelQDuIdeal Cert.KernelQDuIdeal.Gen

variable (m : (ℓ : Loc nD τ sig) → Buf (Elt Ideal) ℓ) (c : Dev nD)

/-- The kernel's arguments, by row and column. -/
def lhs (i : Fin 4096) (j : Fin 2048) : EReal := m ((c : Thread nD τ).loc main_arg0) (ix2 i j)
def rhs (i : Fin 2048) (j : Fin 2048) : EReal := m ((c : Thread nD τ).loc main_arg1) (ix2 i j)

theorem idx0 : ∀ t : Fin grid0.N, win0_0.index t = ![0, t.val % 8, 0] := by decide +kernel
theorem idx1 : ∀ t : Fin grid0.N, win0_1.index t = ![0, 0, t.val / 8, 0] := by decide +kernel
theorem idx2 : ∀ t : Fin grid0.N, win0_2.index t = ![t.val % 8, t.val / 8] := by decide +kernel

/-- The row and the column of the result that those of a grid point's block are. -/
def row (t : Fin cfg0.N) (i : Fin 512) : Fin 4096 := ⟨t.val % 8 * 512 + i.val, by omega⟩
def col (t : Fin cfg0.N) (j : Fin 1024) : Fin 2048 := ⟨t.val / 8 * 1024 + j.val, by have : t.val < 16 := t.isLt; omega⟩

theorem host_a (r : Fin 4096) (k : Fin 2048) : V m c main_v0 (ix3 0 r k) = lhs m c r k := by
  unfold V
  after_reads_at
  rfl

theorem host_b (k : Fin 2048) (d : Fin 2048) : V m c main_v2 (ix4 0 0 d k) = rhs m c d k := by
  unfold V
  after_reads_at
  rfl

theorem blk0 (t : Fin cfg0.N) (i : Fin 512) (k : Fin 2048) : iblk m c 0 t (ix3 0 i k) = lhs m c (row t i) k := by
  rw [← host_a]
  show iblk m c 0 t (ix3 0 i k) = V m c main_v0 (ix3 0 (row t i) k)
  blk_ext [iblk, idx0 t, row]

theorem blk1 (t : Fin cfg0.N) (k : Fin 2048) (j : Fin 1024) : iblk m c 1 t (ix4 0 0 j k) = rhs m c (col t j) k := by
  rw [← host_b]
  show iblk m c 1 t (ix4 0 0 j k) = V m c main_v2 (ix4 0 0 (col t j) k)
  blk_ext [iblk, idx1 t, col]

theorem pay (a : Vec Ideal S1x512x2048 .f32) (b : Vec Ideal S1x1x1024x2048 .bf16) (i : Fin 512) (j : Fin 1024) :
    k0_pay1 (F := Ideal) a b (ix2 i j) = ∑ k : Fin 2048, a (ix3 0 i k) * b (ix4 0 0 j k) := by
  pointwise [k0_pay1]

theorem point (t : Fin cfg0.N) : outsAt0 m c t = k0_pay1 (iblk m c 0 t) (iblk m c 1 t) := by
  unfold outsAt0; frame_out

theorem at_y (t : Fin cfg0.N) (i : Fin 512) (j : Fin 1024) :
    outsAt0 m c t (ix2 i j) = prod (lhs m c) (rhs m c) (row t i) (col t j) := by
  rw [point]
  exact (pay _ _ i j).trans (Finset.sum_congr rfl fun k _ => by rw [blk0, blk1])

theorem arr : (dats m 0 c).arrAt 2 (cfgs 0).N = fun y => prod (lhs m c) (rhs m c) (y 0) (y 1) := by
  refine (dats m 0 c).arrAt_eq_of_covers 2 _ (by decide +kernel) fun t hf y => ?_
  have e : ∀ i j, ((cfg0.win 2).blk t).view.emb (ix2 (i : Fin 512) (j : Fin 1024)) = ix2 (row t i) (col t j) :=
    fun i j => by blk_ext [idx2 t, row, col]
  blk_simp
  rw [after0_2]
  idx_vars y
  refine Eq.trans ?_ (congrArg (fun y : S4096x2048.Idx => prod (lhs m c) (rhs m c) (y 0) (y 1)) (e y0 y1).symm)
  exact at_y m c t y0 y1

end Kernel

section Reference

open Cert.ReferenceQDuIdeal Cert.ReferenceQDuIdeal.Read

variable (x0 : (⟨S4096x2048, .f32⟩ : BufTy).Contents (Elt Ideal)) (x1 : (⟨S2048x2048, .f32⟩ : BufTy).Contents (Elt Ideal))

theorem ref (r : Fin 4096) (d : Fin 2048) : val_main_v2 (F := Ideal) x0 x1 (ix2 r d) = prod (fun i j => x0 (ix2 i j)) (fun i j => x1 (ix2 i j)) r d := by
  refine (val_main_v2_apply x0 x1 _).trans (Finset.sum_congr rfl fun k _ => ?_)
  have e0 : lidx_main_v2 (ix2 r d) k = ix2 r k := eq_ix2 _
  have e1 : ridx_main_v2 (ix2 r d) k = ix2 d k := eq_ix2 _
  rw [e0, e1]

end Reference

theorem equal : Cert.algebraic_KernelQDuIdeal_ReferenceQDuIdeal := by
  intro m g m' g' _ hagree
  refine ⟨_, Cert.KernelQDuIdeal.Value.run_blocks m g, ?_⟩
  refine θ_run_mono (Cert.ReferenceQDuIdeal.Value.run m' g') fun r hr c => ?_
  obtain ⟨a0, a1⟩ := hagree c
  obtain ⟨r0, k⟩ := hr c
  refine ⟨(r0.trans (Cert.ReferenceQDuIdeal.Read.val_main_v2_eq _ _)).trans (Eq.trans ?_ (arr m c).symm), k⟩
  funext y
  rw [eq_ix2 y]
  refine (ref _ _ (y 0) (y 1)).trans ?_
  rw [a0, a1]
  rfl

end Cert.QDu
-- ==== Proof.Norm.lean ====
/- The adaptive norm: each row over the root of its mean square, scaled and shifted by column. The kernel's blocks of rows put
   together are the reference's array, and its transpose. -/
module

public import proofs.«01_k».proof.Defs
public import proofs.«01_k».proof.Proof.Gen.KernelNormIdeal.Value
public import proofs.«01_k».proof.Proof.Gen.ReferenceNormIdeal.Run
public import proofs.«01_k».proof.Proof.Gen.ReferenceNormIdeal.Read
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Norm

open Idealize.ShloMosaic Idealize.ShloMosaic.TcCoe Idealize.SL.Sem

/-- The mean square of a row, with the small constant. -/
def msq (x : Fin 2048 → EReal) : EReal :=
  FloatOps.divf (F := Ideal) (φ := .f32) (∑ k, x k * x k) (FloatOps.ofBits (F := Ideal) .f32 0x45000000#32) +
    FloatOps.ofBits (F := Ideal) .f32 0x358637BD#32

/-- An entry of the norm's result, from its row, its column and the column's gain, shift and scale. -/
def ada (x : Fin 2048 → EReal) (g b a : EReal) (d : Fin 2048) : EReal :=
  x d * FloatOps.rsqrt (F := Ideal) (φ := .f32) (msq x) * g * (FloatOps.ofBits (F := Ideal) .f32 0x3F800000#32 + a) + b

section Kernel

open Cert.KernelNormIdeal Cert.KernelNormIdeal.Gen

variable (m : (ℓ : Loc nD τ sig) → Buf (Elt Ideal) ℓ) (c : Dev nD)

/-- The kernel's arguments, by row and column. -/
def strm (s : Fin 4096) (d : Fin 2048) : EReal := m ((c : Thread nD τ).loc main_arg0) (ix2 s d)
def gain (d : Fin 2048) : EReal := m ((c : Thread nD τ).loc main_arg1) (ix2 0 d)
def shift (d : Fin 2048) : EReal := m ((c : Thread nD τ).loc main_arg2) (ix2 0 d)
def scale (d : Fin 2048) : EReal := m ((c : Thread nD τ).loc main_arg3) (ix2 0 d)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, t.val] := by decide +kernel

/-- The row of the arrays that a row of a grid point's block is. -/
def row (t : Fin cfg0.N) (i : Fin 256) : Fin 4096 := ⟨t.val * 256 + i.val, by have : t.val < 16 := t.isLt; omega⟩

theorem blk0 (t : Fin cfg0.N) (i : Fin 256) (d : Fin 2048) : iblk m c 0 t (ix2 i d) = strm m c (row t i) d := by
  refine Eq.trans ?_ (congrFun (V_main_arg0 m c) _)
  show iblk m c 0 t (ix2 i d) = V m c main_arg0 (ix2 (row t i) d)
  blk_ext [iblk, idx0 t, row]

theorem blk1 (t : Fin cfg0.N) (d : Fin 2048) : iblk m c 1 t (ix2 0 d) = gain m c d := by
  refine Eq.trans ?_ (congrFun (V_main_arg1 m c) _)
  show iblk m c 1 t (ix2 0 d) = V m c main_arg1 (ix2 0 d)
  blk_ext [iblk, idx1 t]

theorem blk2 (t : Fin cfg0.N) (d : Fin 2048) : iblk m c 2 t (ix2 0 d) = shift m c d := by
  refine Eq.trans ?_ (congrFun (V_main_arg2 m c) _)
  show iblk m c 2 t (ix2 0 d) = V m c main_arg2 (ix2 0 d)
  blk_ext [iblk, idx2 t]

theorem blk3 (t : Fin cfg0.N) (d : Fin 2048) : iblk m c 3 t (ix2 0 d) = scale m c d := by
  refine Eq.trans ?_ (congrFun (V_main_arg3 m c) _)
  show iblk m c 3 t (ix2 0 d) = V m c main_arg3 (ix2 0 d)
  blk_ext [iblk, idx3 t]

theorem pay1 (X : Vec Ideal S256x2048 .f32) (G B A : Vec Ideal S1x2048 .f32) (i : Fin 256) (d : Fin 2048) :
    k0_pay1 (F := Ideal) X G B A (ix2 i d) = ada (fun k => X (ix2 i k)) (G (ix2 0 d)) (B (ix2 0 d)) (A (ix2 0 d)) d := by
  unfold ada msq
  pointwise [k0_pay1]

theorem pay3 (X : Vec Ideal S256x2048 .f32) (G B A : Vec Ideal S1x2048 .f32) (i : Fin 256) (d : Fin 2048) :
    k0_pay3 (F := Ideal) X G B A (ix2 d i) = k0_pay1 (F := Ideal) X G B A (ix2 i d) := by
  unfold k0_pay3
  generalize k0_pay1 (F := Ideal) X G B A = Y
  pointwise []

theorem at_u (t : Fin cfg0.N) (i : Fin 256) (d : Fin 2048) :
    k0_pay1 (F := Ideal) (iblk m c 0 t) (iblk m c 1 t) (iblk m c 2 t) (iblk m c 3 t) (ix2 i d) =
      ada (strm m c (row t i)) (gain m c d) (shift m c d) (scale m c d) d := by
  refine (pay1 _ _ _ _ i d).trans ?_
  rw [blk1, blk2, blk3]
  exact congrArg (fun x => ada x (gain m c d) (shift m c d) (scale m c d) d) (funext fun k => blk0 m c t i k)

theorem arr4 : (dats m 0 c).arrAt 4 (cfgs 0).N =
    fun y => ada (strm m c (y 0)) (gain m c (y 1)) (shift m c (y 1)) (scale m c (y 1)) (y 1) := by
  refine (dats m 0 c).arrAt_eq_of_covers 4 _ (by decide +kernel) fun t hf y => ?_
  have e : ∀ i j, ((cfg0.win 4).blk t).view.emb (ix2 (i : Fin 256) (j : Fin 2048)) = ix2 (row t i) j :=
    fun i j => by blk_ext [idx4 t, row]
  blk_simp
  rw [after0_4]
  frame_out
  idx_vars y
  refine Eq.trans ?_ (congrArg (fun y : S4096x2048.Idx =>
    ada (strm m c (y 0)) (gain m c (y 1)) (shift m c (y 1)) (scale m c (y 1)) (y 1)) (e y0 y1).symm)
  exact at_u m c t y0 y1

theorem arr5 : (dats m 0 c).arrAt 5 (cfgs 0).N =
    fun y => ada (strm m c (y 1)) (gain m c (y 0)) (shift m c (y 0)) (scale m c (y 0)) (y 0) := by
  refine (dats m 0 c).arrAt_eq_of_covers 5 _ (by decide +kernel) fun t hf y => ?_
  have e : ∀ i j, ((cfg0.win 5).blk t).view.emb (ix2 (j : Fin 2048) (i : Fin 256)) = ix2 j (row t i) :=
    fun i j => by blk_ext [idx5 t, row]
  blk_simp
  rw [after0_5]
  frame_out
  idx_vars y
  refine Eq.trans ?_ (congrArg (fun y : S2048x4096.Idx =>
    ada (strm m c (y 1)) (gain m c (y 0)) (shift m c (y 0)) (scale m c (y 0)) (y 0)) (e y1 y0).symm)
  exact (pay3 _ _ _ _ y1 y0).trans (at_u m c t y1 y0)

end Kernel

section Reference

open Cert.ReferenceNormIdeal Cert.ReferenceNormIdeal.Read

variable (x0 : (⟨S4096x2048, .f32⟩ : BufTy).Contents (Elt Ideal)) (x1 x2 x3 : (⟨S1x2048, .f32⟩ : BufTy).Contents (Elt Ideal))

theorem ref17 (s : Fin 4096) (d : Fin 2048) :
    val_main_v17 (F := Ideal) x0 x1 x2 x3 (ix2 s d) =
      ada (fun k => x0 (ix2 s k)) (x1 (ix2 0 d)) (x2 (ix2 0 d)) (x3 (ix2 0 d)) d := by
  unfold val_main_v17 val_main_v16 val_main_v15 val_main_v14 val_main_v13 val_main_v12 val_main_v11 val_main_v10 val_main_v9
    val_main_v8 val_main_v7 val_main_v6 val_main_v5 val_main_v4 val_main_v3 val_main_v2 val_main_v1 val_main_v0 val_main_cst
    val_main_cst_0 val_main_cst_1 val_main_cst_2 ada msq
  pointwise []

theorem ref20 (s : Fin 4096) (d : Fin 2048) :
    val_main_v20 (F := Ideal) x0 x1 x2 x3 (ix2 d s) = val_main_v17 (F := Ideal) x0 x1 x2 x3 (ix2 s d) := by
  unfold val_main_v20 val_main_v19
  generalize val_main_v17 (F := Ideal) x0 x1 x2 x3 = y
  pointwise []

end Reference

theorem equal : Cert.algebraic_KernelNormIdeal_ReferenceNormIdeal := by
  intro m g m' g' _ hagree
  refine ⟨_, _, Cert.KernelNormIdeal.Value.run_blocks m g, ?_⟩
  refine θ_run_mono (Cert.ReferenceNormIdeal.Value.run m' g') fun r hr c => ?_
  obtain ⟨a0, a1, a2, a3⟩ := hagree c
  obtain ⟨r0, r1, k⟩ := hr c
  refine ⟨(r0.trans (Cert.ReferenceNormIdeal.Read.val_main_v18_eq _ _ _ _)).trans (Eq.trans ?_ (arr4 m c).symm),
    (r1.trans (Cert.ReferenceNormIdeal.Read.val_main_v20_eq _ _ _ _)).trans (Eq.trans ?_ (arr5 m c).symm), k⟩
  · funext y
    rw [eq_ix2 y]
    refine (ref17 _ _ _ _ (y 0) (y 1)).trans ?_
    rw [a0, a1, a2, a3]
    rfl
  · funext y
    rw [eq_ix2 y]
    refine (ref20 _ _ _ _ (y 1) (y 0)).trans ((ref17 _ _ _ _ (y 1) (y 0)).trans ?_)
    rw [a0, a1, a2, a3]
    rfl

end Cert.Norm
-- ==== Proof.NormBwd.lean ====
/- The gradients of the adaptive norm: of the stream, row by row, and of its gain, shift and scale, sums over the rows. The kernel's
   blocks of rows put together are the reference's array, and its sixteen blocks' sums the reference's sums over all the rows. -/
module

public import proofs.«01_k».proof.Defs
public import proofs.«01_k».proof.Proof.Gen.KernelNormBwdIdeal.Value
public import proofs.«01_k».proof.Proof.Gen.ReferenceNormBwdIdeal.Run
public import proofs.«01_k».proof.Proof.Gen.ReferenceNormBwdIdeal.Read
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.NormBwd

open Idealize.ShloMosaic Idealize.ShloMosaic.TcCoe Idealize.SL.Sem

/-- The row of the arrays that a row of a block is. -/
def frow (p : Fin 16) (i : Fin 256) : Fin 4096 := ⟨p.val * 256 + i.val, by omega⟩

/-- A sum over the rows, block by block. -/
theorem sum_blocks (g : Fin 4096 → EReal) : ∑ s, g s = ∑ p : Fin 16, ∑ i : Fin 256, g (frow p i) := by
  rw [← Fintype.sum_prod_type']
  refine (Fintype.sum_equiv (finProdFinEquiv (m := 16) (n := 256)) _ _ fun x => congrArg g (Fin.ext ?_)).symm
  show x.1.val * 256 + x.2.val = x.2.val + 256 * x.1.val
  omega

/-- A row of the stream or of the cotangent; a vector over the columns. -/
abbrev Row := Fin 2048 → EReal

/-- The mean square of a row, with the small constant, and the reciprocal of its root. -/
def msq (x : Row) : EReal :=
  FloatOps.divf (F := Ideal) (φ := .f32) (∑ k, x k * x k) (FloatOps.ofBits (F := Ideal) .f32 0x45000000#32) +
    FloatOps.ofBits (F := Ideal) .f32 0x358637BD#32
def inv (x : Row) : EReal := FloatOps.rsqrt (F := Ideal) (φ := .f32) (msq x)

/-- The row over the root of its mean square; the cotangent scaled, and with the gain. -/
def nrm (x : Row) (d : Fin 2048) : EReal := x d * inv x
def cot (u a : Row) (d : Fin 2048) : EReal := u d * (FloatOps.ofBits (F := Ideal) .f32 0x3F800000#32 + a d)
def cotg (u g a : Row) (d : Fin 2048) : EReal := cot u a d * g d

/-- The gradient of a row through its mean square, per entry of the row, half of it. -/
def through (x u g a : Row) : EReal :=
  FloatOps.divf (F := Ideal) (φ := .f32) ((∑ k, x k * cotg u g a k) *
    (FloatOps.ofBits (F := Ideal) .f32 0xBF000000#32 * FloatOps.divf (F := Ideal) (φ := .f32) (inv x) (msq x)))
    (FloatOps.ofBits (F := Ideal) .f32 0x45000000#32)

/-- The stream's gradient, and what a row adds to the gain's and the scale's. -/
def dh (x u g a r : Row) (d : Fin 2048) : EReal :=
  r d + (cotg u g a d * inv x + x d * through x u g a + through x u g a * x d)
def dg (x u a : Row) (d : Fin 2048) : EReal := nrm x d * cot u a d
def da (x u g : Row) (d : Fin 2048) : EReal := nrm x d * g d * u d

section Kernel

open Cert.KernelNormBwdIdeal Cert.KernelNormBwdIdeal.Gen

variable (m : (ℓ : Loc nD τ sig) → Buf (Elt Ideal) ℓ) (c : Dev nD)

/-- The kernel's arguments, by row and column. -/
def strm (s : Fin 4096) (d : Fin 2048) : EReal := m ((c : Thread nD τ).loc main_arg0) (ix2 s d)
def gain (d : Fin 2048) : EReal := m ((c : Thread nD τ).loc main_arg1) (ix2 0 d)
def scale (d : Fin 2048) : EReal := m ((c : Thread nD τ).loc main_arg3) (ix2 0 d)
def ct (s : Fin 4096) (d : Fin 2048) : EReal := m ((c : Thread nD τ).loc main_arg4) (ix2 s d)
def res (s : Fin 4096) (d : Fin 2048) : EReal := m ((c : Thread nD τ).loc main_arg5) (ix2 s d)

theorem idx0 : ∀ t : Fin grid0.N, win0_0.index t = ![t.val, 0] := by decide +kernel
theorem idx1 : ∀ t : Fin grid0.N, win0_1.index t = ![0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel

/-- The block of a grid point, and the row of the arrays that a row of it is. -/
def grp (t : Fin cfg0.N) : Fin 16 := ⟨t.val, t.isLt⟩
def row (t : Fin cfg0.N) (i : Fin 256) : Fin 4096 := frow (grp t) i

theorem blk0 (t : Fin cfg0.N) (i : Fin 256) (d : Fin 2048) : iblk m c 0 t (ix2 i d) = strm m c (row t i) d := by
  refine Eq.trans ?_ (congrFun (V_main_arg0 m c) _)
  show iblk m c 0 t (ix2 i d) = V m c main_arg0 (ix2 (row t i) d)
  blk_ext [iblk, idx0 t, row, frow, grp]

theorem blk1 (t : Fin cfg0.N) (d : Fin 2048) : iblk m c 1 t (ix2 0 d) = gain m c d := by
  refine Eq.trans ?_ (congrFun (V_main_arg1 m c) _)
  show iblk m c 1 t (ix2 0 d) = V m c main_arg1 (ix2 0 d)
  blk_ext [iblk, idx1 t]

theorem blk3 (t : Fin cfg0.N) (d : Fin 2048) : iblk m c 3 t (ix2 0 d) = scale m c d := by
  refine Eq.trans ?_ (congrFun (V_main_arg3 m c) _)
  show iblk m c 3 t (ix2 0 d) = V m c main_arg3 (ix2 0 d)
  blk_ext [iblk, idx3 t]

theorem blk4 (t : Fin cfg0.N) (i : Fin 256) (d : Fin 2048) : iblk m c 4 t (ix2 i d) = ct m c (row t i) d := by
  refine Eq.trans ?_ (congrFun (V_main_arg4 m c) _)
  show iblk m c 4 t (ix2 i d) = V m c main_arg4 (ix2 (row t i) d)
  blk_ext [iblk, idx4 t, row, frow, grp]

theorem blk5 (t : Fin cfg0.N) (i : Fin 256) (d : Fin 2048) : iblk m c 5 t (ix2 i d) = res m c (row t i) d := by
  refine Eq.trans ?_ (congrFun (V_main_arg5 m c) _)
  show iblk m c 5 t (ix2 i d) = V m c main_arg5 (ix2 (row t i) d)
  blk_ext [iblk, idx5 t, row, frow, grp]

section Payloads

variable (X U R : Vec Ideal S256x2048 .f32) (G A : Vec Ideal S1x2048 .f32)

/-- A row of a block; the vector of a block of one row. -/
def ofRow (Z : Vec Ideal S256x2048 .f32) (i : Fin 256) : Row := fun k => Z (ix2 i k)
def ofVec (Z : Vec Ideal S1x2048 .f32) : Row := fun k => Z (ix2 0 k)

theorem pay8 (i : Fin 256) : k0_pay8 (F := Ideal) X (ix2 i 0) = msq (ofRow X i) := by
  unfold msq ofRow
  pointwise [k0_pay8]

theorem pay9 (i : Fin 256) : k0_pay9 (F := Ideal) X (ix2 i 0) = inv (ofRow X i) := by
  unfold inv
  rw [← pay8]
  unfold k0_pay9
  generalize k0_pay8 (F := Ideal) X = Y
  pointwise []

theorem pay10 (i : Fin 256) (d : Fin 2048) : k0_pay10 (F := Ideal) X (ix2 i d) = nrm (ofRow X i) d := by
  unfold nrm
  rw [← pay9]
  unfold k0_pay10 ofRow
  generalize k0_pay9 (F := Ideal) X = Y
  pointwise []

theorem pay14 (i : Fin 256) (d : Fin 2048) : k0_pay14 (F := Ideal) A U (ix2 i d) = cot (ofRow U i) (ofVec A) d := by
  unfold cot ofRow ofVec
  pointwise [k0_pay14, k0_pay11]

theorem pay16 (i : Fin 256) (d : Fin 2048) :
    k0_pay16 (F := Ideal) G A U (ix2 i d) = cotg (ofRow U i) (ofVec G) (ofVec A) d := by
  unfold cotg
  rw [← pay14]
  unfold k0_pay16 ofVec
  generalize k0_pay14 (F := Ideal) A U = Y
  pointwise []

theorem pay17 (i : Fin 256) (d : Fin 2048) :
    k0_pay17 (F := Ideal) X G A U (ix2 i d) = cotg (ofRow U i) (ofVec G) (ofVec A) d * inv (ofRow X i) := by
  rw [← pay16, ← pay9]
  unfold k0_pay17
  generalize k0_pay16 (F := Ideal) G A U = Y
  generalize k0_pay9 (F := Ideal) X = Z
  pointwise []

theorem pay18 (i : Fin 256) :
    FloatOps.divf (F := Ideal) (φ := .f32) (k0_pay18 (F := Ideal) X G A U (ix2 i 0)) (k0_pay19 (F := Ideal) (ix2 i 0)) =
      through (ofRow X i) (ofRow U i) (ofVec G) (ofVec A) := by
  unfold through
  rw [← pay8, ← pay9]
  simp only [← pay16]
  unfold k0_pay18 ofRow
  generalize k0_pay16 (F := Ideal) G A U = Y
  generalize k0_pay9 (F := Ideal) X = Z
  generalize k0_pay8 (F := Ideal) X = W
  pointwise [k0_pay19]

theorem pay1 (Y : FVec Ideal S256x2048 .f32) (Z W : FVec Ideal S256x1 .f32) (i : Fin 256) (d : Fin 2048) :
    k0_pay1 (F := Ideal) X Y Z W R (ix2 i d) =
      R (ix2 i d) + (Y (ix2 i d) + X (ix2 i d) * FloatOps.divf (F := Ideal) (φ := .f32) (Z (ix2 i 0)) (W (ix2 i 0)) +
        FloatOps.divf (F := Ideal) (φ := .f32) (Z (ix2 i 0)) (W (ix2 i 0)) * X (ix2 i d)) := by
  pointwise [k0_pay1]
  simp only [Fin.sum_univ_one]

theorem pay_dh (i : Fin 256) (d : Fin 2048) :
    k0_pay1 (F := Ideal) X (k0_pay17 X G A U) (k0_pay18 X G A U) k0_pay19 R (ix2 i d) =
      dh (ofRow X i) (ofRow U i) (ofVec G) (ofVec A) (ofRow R i) d := by
  refine (pay1 _ _ _ _ _ i d).trans ?_
  rw [pay18, pay17]
  rfl

theorem pay_dg (Z : Vec Ideal S1x2048 .f32) (d : Fin 2048) :
    k0_pay5 (F := Ideal) (k0_pay15 X A U) Z (ix2 0 d) =
      Z (ix2 0 d) + ∑ i : Fin 256, dg (ofRow X i) (ofRow U i) (ofVec A) d := by
  unfold dg
  simp only [← pay10, ← pay14]
  unfold k0_pay5 k0_pay15
  generalize k0_pay10 (F := Ideal) X = Y
  generalize k0_pay14 (F := Ideal) A U = W
  pointwise []

theorem pay_db (Z : Vec Ideal S1x2048 .f32) (d : Fin 2048) :
    k0_pay6 (F := Ideal) (k0_pay12 U) Z (ix2 0 d) = Z (ix2 0 d) + ∑ i : Fin 256, ofRow U i d := by
  unfold ofRow
  pointwise [k0_pay6, k0_pay12]

theorem pay_da (Z : Vec Ideal S1x2048 .f32) (d : Fin 2048) :
    k0_pay7 (F := Ideal) (k0_pay13 X G U) Z (ix2 0 d) =
      Z (ix2 0 d) + ∑ i : Fin 256, da (ofRow X i) (ofRow U i) (ofVec G) d := by
  unfold da
  simp only [← pay10]
  unfold k0_pay7 k0_pay13 k0_pay11 ofRow ofVec
  generalize k0_pay10 (F := Ideal) X = Y
  pointwise []

theorem zeros (d : Fin 2048) : (k0_pay2 (F := Ideal) (ix2 0 d) = (0 : EReal)) ∧ (k0_pay3 (F := Ideal) (ix2 0 d) = (0 : EReal)) ∧
    k0_pay4 (F := Ideal) (ix2 0 d) = (0 : EReal) := by
  refine ⟨?_, ?_, ?_⟩
  · pointwise [k0_pay2]
  · pointwise [k0_pay3]
  · pointwise [k0_pay4]

end Payloads

theorem point6 (t : Fin cfg0.N) : (outsAt0 m c t.val t.isLt).1 =
    k0_pay1 (iblk m c 0 t) (k0_pay17 (iblk m c 0 t) (iblk m c 1 t) (iblk m c 3 t) (iblk m c 4 t))
      (k0_pay18 (iblk m c 0 t) (iblk m c 1 t) (iblk m c 3 t) (iblk m c 4 t)) k0_pay19 (iblk m c 5 t) := by
  by_cases h : t.val % 16 = 0
  · rw [outsAt0_A m c t h]; frame_out
  · rw [outsAt0_B m c t h]; frame_out

/-- What the sums hold after the first point, -/
theorem pointA (t : Fin cfg0.N) (h : t.val % 16 = 0) :
    (outsAt0 m c t.val t.isLt).2.1 = k0_pay5 (k0_pay15 (iblk m c 0 t) (iblk m c 3 t) (iblk m c 4 t)) (k0_pay2 (F := Ideal)) ∧
    (outsAt0 m c t.val t.isLt).2.2.1 = k0_pay6 (k0_pay12 (iblk m c 4 t)) (k0_pay3 (F := Ideal)) ∧
    (outsAt0 m c t.val t.isLt).2.2.2 = k0_pay7 (k0_pay13 (iblk m c 0 t) (iblk m c 1 t) (iblk m c 4 t)) (k0_pay4 (F := Ideal)) := by
  refine ⟨?_, ?_, ?_⟩
  · rw [outsAt0_A m c t h]; frame_out
  · rw [outsAt0_A m c t h]; frame_out
  · rw [outsAt0_A m c t h]; frame_out

/-- and after another, over what the one before left. -/
theorem pointB (t : Fin cfg0.N) (h : ¬t.val % 16 = 0) :
    (outsAt0 m c t.val t.isLt).2.1 = k0_pay5 (k0_pay15 (iblk m c 0 t) (iblk m c 3 t) (iblk m c 4 t))
      (outsAt0 m c (t.val - 1) (Nat.lt_of_le_of_lt (Nat.sub_le _ _) t.isLt)).2.1 ∧
    (outsAt0 m c t.val t.isLt).2.2.1 = k0_pay6 (k0_pay12 (iblk m c 4 t))
      (outsAt0 m c (t.val - 1) (Nat.lt_of_le_of_lt (Nat.sub_le _ _) t.isLt)).2.2.1 ∧
    (outsAt0 m c t.val t.isLt).2.2.2 = k0_pay7 (k0_pay13 (iblk m c 0 t) (iblk m c 1 t) (iblk m c 4 t))
      (outsAt0 m c (t.val - 1) (Nat.lt_of_le_of_lt (Nat.sub_le _ _) t.isLt)).2.2.2 := by
  refine ⟨?_, ?_, ?_⟩
  · rw [outsAt0_B m c t h]; frame_out
  · rw [outsAt0_B m c t h]; frame_out
  · rw [outsAt0_B m c t h]; frame_out

theorem row0 (t : Fin cfg0.N) (i : Fin 256) : ofRow (iblk m c 0 t) i = strm m c (row t i) := funext fun k => blk0 m c t i k
theorem row4 (t : Fin cfg0.N) (i : Fin 256) : ofRow (iblk m c 4 t) i = ct m c (row t i) := funext fun k => blk4 m c t i k
theorem row5 (t : Fin cfg0.N) (i : Fin 256) : ofRow (iblk m c 5 t) i = res m c (row t i) := funext fun k => blk5 m c t i k
theorem vec1 (t : Fin cfg0.N) : ofVec (iblk m c 1 t) = gain m c := funext fun k => blk1 m c t k
theorem vec3 (t : Fin cfg0.N) : ofVec (iblk m c 3 t) = scale m c := funext fun k => blk3 m c t k

/-- The three sums over the rows. -/
def sg (d : Fin 2048) : EReal := ∑ s, dg (strm m c s) (ct m c s) (scale m c) d
def sb (d : Fin 2048) : EReal := ∑ s, ct m c s d
def sa (d : Fin 2048) : EReal := ∑ s, da (strm m c s) (ct m c s) (gain m c) d

/-- A window that adds up what each point gives over its rows holds the sum over all the rows after the last point. -/
theorem total (w : (n : ℕ) → n < cfg0.N → Vec Ideal S1x2048 .f32) (g : Fin 4096 → Row)
    (hA : ∀ t : Fin cfg0.N, t.val % 16 = 0 → ∀ d, w t.val t.isLt (ix2 0 d) = 0 + ∑ i, g (row t i) d)
    (hB : ∀ t : Fin cfg0.N, ¬t.val % 16 = 0 → ∀ d, w t.val t.isLt (ix2 0 d) =
      w (t.val - 1) (Nat.lt_of_le_of_lt (Nat.sub_le _ _) t.isLt) (ix2 0 d) + ∑ i, g (row t i) d)
    (t : Fin cfg0.N) (h : t.val % 16 = 15) (d : Fin 2048) : w t.val t.isLt (ix2 0 d) = ∑ s, g s d := by
  have hs := Pipeline.eq_sum_fin_of_reset_step_apply_of_flush (M := EReal) (ι := S1x2048.Idx) (N := cfg0.N)
    w 16 (fun _ => (0 : EReal)) (fun t y => ∑ i, g (row t i) (y 1))
    (fun t h y => by
      idx_vars y
      obtain rfl : y0 = 0 := Subsingleton.elim _ _
      exact hA t h y1)
    (fun t h y => by
      idx_vars y
      obtain rfl : y0 = 0 := Subsingleton.elim _ _
      exact hB t h y1)
    t h (ix2 0 d)
  refine hs.trans ((zero_add _).trans (Eq.trans ?_ (sum_blocks _).symm))
  refine Finset.sum_congr rfl fun p _ => Finset.sum_congr rfl fun i _ => ?_
  have h1 : t.val < 16 := t.isLt
  have e : ∀ h, row ⟨16 * (t.val / 16) + p.val, h⟩ i = frow p i := fun h => Fin.ext (by
    show (16 * (t.val / 16) + p.val) * 256 + i.val = p.val * 256 + i.val; omega)
  rw [e]
  rfl

theorem at7 (t : Fin cfg0.N) (h : t.val % 16 = 15) (d : Fin 2048) : (outsAt0 m c t.val t.isLt).2.1 (ix2 0 d) = sg m c d := by
  refine total (fun n h => (outsAt0 m c n h).2.1) (fun s => dg (strm m c s) (ct m c s) (scale m c)) (fun t h d => ?_)
    (fun t h d => ?_) t h d
  · refine (congrFun (pointA m c t h).1 _).trans ((pay_dg _ _ _ _ d).trans ?_)
    rw [(zeros d).1]
    simp only [row0, row4, vec3]
  · refine (congrFun (pointB m c t h).1 _).trans ((pay_dg _ _ _ _ d).trans ?_)
    simp only [row0, row4, vec3]

theorem at8 (t : Fin cfg0.N) (h : t.val % 16 = 15) (d : Fin 2048) : (outsAt0 m c t.val t.isLt).2.2.1 (ix2 0 d) = sb m c d := by
  refine total (fun n h => (outsAt0 m c n h).2.2.1) (fun s => ct m c s) (fun t h d => ?_) (fun t h d => ?_) t h d
  · refine (congrFun (pointA m c t h).2.1 _).trans ((pay_db _ _ d).trans ?_)
    rw [(zeros d).2.1]
    simp only [row4]
  · refine (congrFun (pointB m c t h).2.1 _).trans ((pay_db _ _ d).trans ?_)
    simp only [row4]

theorem at9 (t : Fin cfg0.N) (h : t.val % 16 = 15) (d : Fin 2048) : (outsAt0 m c t.val t.isLt).2.2.2 (ix2 0 d) = sa m c d := by
  refine total (fun n h => (outsAt0 m c n h).2.2.2) (fun s => da (strm m c s) (ct m c s) (gain m c)) (fun t h d => ?_)
    (fun t h d => ?_) t h d
  · refine (congrFun (pointA m c t h).2.2 _).trans ((pay_da _ _ _ _ d).trans ?_)
    rw [(zeros d).2.2]
    simp only [row0, row4, vec1]
  · refine (congrFun (pointB m c t h).2.2 _).trans ((pay_da _ _ _ _ d).trans ?_)
    simp only [row0, row4, vec1]

theorem arr6 : (dats m 0 c).arrAt 6 (cfgs 0).N =
    fun y => dh (strm m c (y 0)) (ct m c (y 0)) (gain m c) (scale m c) (res m c (y 0)) (y 1) := by
  refine (dats m 0 c).arrAt_eq_of_covers 6 _ (by decide +kernel) fun t hf y => ?_
  have e : ∀ i j, ((cfg0.win 6).blk t).view.emb (ix2 (i : Fin 256) (j : Fin 2048)) = ix2 (row t i) j :=
    fun i j => by blk_ext [idx6 t, row, frow, grp]
  blk_simp
  rw [after0_6, point6]
  idx_vars y
  refine Eq.trans ?_ (congrArg (fun y : S4096x2048.Idx =>
    dh (strm m c (y 0)) (ct m c (y 0)) (gain m c) (scale m c) (res m c (y 0)) (y 1)) (e y0 y1).symm)
  refine (pay_dh _ _ _ _ _ y0 y1).trans ?_
  rw [row0, row4, row5, vec1, vec3]
  rfl

theorem arr7 : (dats m 0 c).arrAt 7 (cfgs 0).N = fun y => sg m c (y 1) := by
  refine (dats m 0 c).arrAt_eq_of_covers 7 _ (by decide +kernel) fun t hf y => ?_
  have e : ∀ j, ((cfg0.win 7).blk t).view.emb (ix2 (0 : Fin 1) (j : Fin 2048)) = ix2 0 j := fun j => by blk_ext [idx7 t]
  blk_simp
  rw [after0_7]
  idx_vars y
  obtain rfl : y0 = 0 := Subsingleton.elim _ _
  refine Eq.trans ?_ (congrArg (fun y : S1x2048.Idx => sg m c (y 1)) (e y1).symm)
  exact at7 m c t ((flush0_7 t).mp hf) y1

theorem arr8 : (dats m 0 c).arrAt 8 (cfgs 0).N = fun y => sb m c (y 1) := by
  refine (dats m 0 c).arrAt_eq_of_covers 8 _ (by decide +kernel) fun t hf y => ?_
  have e : ∀ j, ((cfg0.win 8).blk t).view.emb (ix2 (0 : Fin 1) (j : Fin 2048)) = ix2 0 j := fun j => by blk_ext [idx8 t]
  blk_simp
  rw [after0_8]
  idx_vars y
  obtain rfl : y0 = 0 := Subsingleton.elim _ _
  refine Eq.trans ?_ (congrArg (fun y : S1x2048.Idx => sb m c (y 1)) (e y1).symm)
  exact at8 m c t ((flush0_8 t).mp hf) y1

theorem arr9 : (dats m 0 c).arrAt 9 (cfgs 0).N = fun y => sa m c (y 1) := by
  refine (dats m 0 c).arrAt_eq_of_covers 9 _ (by decide +kernel) fun t hf y => ?_
  have e : ∀ j, ((cfg0.win 9).blk t).view.emb (ix2 (0 : Fin 1) (j : Fin 2048)) = ix2 0 j := fun j => by blk_ext [idx9 t]
  blk_simp
  rw [after0_9]
  idx_vars y
  obtain rfl : y0 = 0 := Subsingleton.elim _ _
  refine Eq.trans ?_ (congrArg (fun y : S1x2048.Idx => sa m c (y 1)) (e y1).symm)
  exact at9 m c t ((flush0_9 t).mp hf) y1

end Kernel

section Reference

open Cert.ReferenceNormBwdIdeal Cert.ReferenceNormBwdIdeal.Read

variable (x0 x4 x5 : (⟨S4096x2048, .f32⟩ : BufTy).Contents (Elt Ideal)) (x1 x3 : (⟨S1x2048, .f32⟩ : BufTy).Contents (Elt Ideal))

/-- A row of an array; the vector of an array of one row. -/
def rRow (z : (⟨S4096x2048, .f32⟩ : BufTy).Contents (Elt Ideal)) (s : Fin 4096) : Row := fun k => z (ix2 s k)
def rVec (z : (⟨S1x2048, .f32⟩ : BufTy).Contents (Elt Ideal)) : Row := fun k => z (ix2 0 k)

theorem ref6 (s : Fin 4096) : val_main_v6 (F := Ideal) x0 (ix2 s 0) = msq (rRow x0 s) := by
  unfold val_main_v6 val_main_v5 val_main_v4 val_main_v3 val_main_v2 val_main_v1 val_main_v0 val_main_cst val_main_cst_0
    val_main_cst_1 msq rRow
  pointwise []

theorem ref7 (s : Fin 4096) : val_main_v7 (F := Ideal) x0 (ix2 s 0) = inv (rRow x0 s) := by
  unfold inv
  rw [← ref6]
  unfold val_main_v7
  generalize val_main_v6 (F := Ideal) x0 = y
  pointwise []

theorem ref10 (s : Fin 4096) : val_main_v10 (F := Ideal) x0 (ix2 s 0) =
    FloatOps.ofBits (F := Ideal) .f32 0xBF000000#32 *
      FloatOps.divf (F := Ideal) (φ := .f32) (inv (rRow x0 s)) (msq (rRow x0 s)) := by
  rw [← ref7, ← ref6]
  unfold val_main_v10 val_main_v9 val_main_v8 val_main_cst_2
  generalize val_main_v7 (F := Ideal) x0 = y
  generalize val_main_v6 (F := Ideal) x0 = z
  pointwise []

theorem ref12 (s : Fin 4096) (d : Fin 2048) : val_main_v12 (F := Ideal) x0 (ix2 s d) = nrm (rRow x0 s) d := by
  unfold nrm
  rw [← ref7]
  unfold val_main_v12 val_main_v11 rRow
  generalize val_main_v7 (F := Ideal) x0 = y
  pointwise []

theorem ref28 (s : Fin 4096) (d : Fin 2048) : val_main_v28 (F := Ideal) x3 x4 (ix2 s d) = cot (rRow x4 s) (rVec x3) d := by
  unfold val_main_v28 val_main_v27 val_main_v21 val_main_v16 val_main_v15 val_main_cst_3 cot rRow rVec
  pointwise []

theorem ref33 (s : Fin 4096) (d : Fin 2048) :
    val_main_v33 (F := Ideal) x1 x3 x4 (ix2 s d) = cotg (rRow x4 s) (rVec x1) (rVec x3) d := by
  unfold cotg
  rw [← ref28]
  unfold val_main_v33 val_main_v32 rVec
  generalize val_main_v28 (F := Ideal) x3 x4 = y
  pointwise []

theorem ref38 (s : Fin 4096) (d : Fin 2048) :
    val_main_v38 (F := Ideal) x0 x1 x3 x4 (ix2 s d) = cotg (rRow x4 s) (rVec x1) (rVec x3) d * inv (rRow x0 s) := by
  rw [← ref33, ← ref7]
  unfold val_main_v38 val_main_v37
  generalize val_main_v33 (F := Ideal) x1 x3 x4 = y
  generalize val_main_v7 (F := Ideal) x0 = z
  pointwise []

theorem ref41 (s : Fin 4096) :
    val_main_v41 (F := Ideal) x0 x1 x3 x4 (ix2 s 0) = through (rRow x0 s) (rRow x4 s) (rVec x1) (rVec x3) := by
  unfold through
  rw [← ref10]
  simp only [← ref33]
  unfold val_main_v41 val_main_v40 val_main_v39 val_main_v36 val_main_v35 val_main_v34 val_main_cst_7 val_main_cst_8 rRow
  generalize val_main_v33 (F := Ideal) x1 x3 x4 = y
  generalize val_main_v10 (F := Ideal) x0 = z
  pointwise []

theorem ref43 (s : Fin 4096) (d : Fin 2048) :
    val_main_v43 (F := Ideal) x0 x1 x3 x4 (ix2 s d) = through (rRow x0 s) (rRow x4 s) (rVec x1) (rVec x3) := by
  rw [← ref41]
  unfold val_main_v43 val_main_v42 val_main_cst_9
  generalize val_main_v41 (F := Ideal) x0 x1 x3 x4 = y
  pointwise []
  exact Fin.sum_univ_one _

theorem ref48 (s : Fin 4096) (d : Fin 2048) :
    val_main_v48 (F := Ideal) x0 x1 x3 x4 x5 (ix2 s d) =
      dh (rRow x0 s) (rRow x4 s) (rVec x1) (rVec x3) (rRow x5 s) d := by
  unfold dh
  rw [← ref43 x0 x4 x1 x3 s d, ← ref38]
  unfold val_main_v48 val_main_v47 val_main_v46 val_main_v45 val_main_v44 rRow
  generalize val_main_v43 (F := Ideal) x0 x1 x3 x4 = y
  generalize val_main_v38 (F := Ideal) x0 x1 x3 x4 = z
  pointwise []

theorem ref31 (d : Fin 2048) :
    val_main_v31 (F := Ideal) x0 x3 x4 (ix2 0 d) = ∑ s, dg (rRow x0 s) (rRow x4 s) (rVec x3) d := by
  unfold dg
  simp only [← ref12, ← ref28]
  unfold val_main_v31 val_main_v30 val_main_v29 val_main_cst_6
  generalize val_main_v12 (F := Ideal) x0 = y
  generalize val_main_v28 (F := Ideal) x3 x4 = z
  pointwise []

theorem ref23 (d : Fin 2048) : val_main_v23 (F := Ideal) x4 (ix2 0 d) = ∑ s, rRow x4 s d := by
  unfold val_main_v23 val_main_v22 val_main_cst_4 rRow
  pointwise []

theorem ref26 (d : Fin 2048) :
    val_main_v26 (F := Ideal) x0 x1 x4 (ix2 0 d) = ∑ s, da (rRow x0 s) (rRow x4 s) (rVec x1) d := by
  unfold da
  simp only [← ref12]
  unfold val_main_v26 val_main_v25 val_main_v24 val_main_v21 val_main_v14 val_main_v13 val_main_cst_5 rRow rVec
  generalize val_main_v12 (F := Ideal) x0 = y
  pointwise []

end Reference

theorem equal : Cert.algebraic_KernelNormBwdIdeal_ReferenceNormBwdIdeal := by
  intro m g m' g' _ hagree
  refine ⟨_, _, _, _, Cert.KernelNormBwdIdeal.Value.run_blocks m g, ?_⟩
  refine θ_run_mono (Cert.ReferenceNormBwdIdeal.Value.run m' g') fun r hr c => ?_
  obtain ⟨a0, a1, a2, a3, a4, a5⟩ := hagree c
  obtain ⟨r0, r1, r2, r3, k⟩ := hr c
  refine ⟨(r0.trans (Cert.ReferenceNormBwdIdeal.Read.val_main_v48_eq m' c)).trans (Eq.trans ?_ (arr6 m c).symm),
    (r1.trans (Cert.ReferenceNormBwdIdeal.Read.val_main_v31_eq _ _ _)).trans (Eq.trans ?_ (arr7 m c).symm),
    (r2.trans (Cert.ReferenceNormBwdIdeal.Read.val_main_v23_eq _)).trans (Eq.trans ?_ (arr8 m c).symm),
    (r3.trans (Cert.ReferenceNormBwdIdeal.Read.val_main_v26_eq _ _ _)).trans (Eq.trans ?_ (arr9 m c).symm), k⟩
  · funext y
    rw [eq_ix2 y]
    refine (ref48 _ _ _ _ _ (y 0) (y 1)).trans ?_
    rw [a0, a1, a3, a4, a5]
    rfl
  · funext y
    idx_vars y
    obtain rfl : y0 = 0 := Subsingleton.elim _ _
    refine (ref31 _ _ _ y1).trans ?_
    rw [a0, a3, a4]
    rfl
  · funext y
    idx_vars y
    obtain rfl : y0 = 0 := Subsingleton.elim _ _
    refine (ref23 _ y1).trans ?_
    rw [a4]
    rfl
  · funext y
    idx_vars y
    obtain rfl : y0 = 0 := Subsingleton.elim _ _
    refine (ref26 _ _ _ y1).trans ?_
    rw [a0, a1, a4]
    rfl

end Cert.NormBwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelDact
public import proofs.«01_k».proof.Proof.Gen.KernelDact.Skeleton
public import proofs.«01_k».proof.Proof.Gen.KernelDact.Launch
public import proofs.«01_k».proof.Proof.Gen.KernelDact.Points
public import proofs.«01_k».proof.Proof.Gen.KernelDact.Frame
public import proofs.«01_k».proof.Proof.Gen.KernelDactIdeal
public import proofs.«01_k».proof.Proof.Gen.KernelDactIdeal.Skeleton
public import proofs.«01_k».proof.Proof.Gen.KernelDactIdeal.Launch
public import proofs.«01_k».proof.Proof.Gen.KernelDactIdeal.Points
public import proofs.«01_k».proof.Proof.Gen.KernelDactIdeal.Frame
public import proofs.«01_k».proof.Proof.Gen.KernelDactIdeal.Value
public import proofs.«01_k».proof.Proof.Gen.ReferenceDactIdeal
public import proofs.«01_k».proof.Proof.Gen.ReferenceDactIdeal.Run
public import proofs.«01_k».proof.Proof.Gen.ReferenceDactIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelDwout
public import proofs.«01_k».proof.Proof.Gen.KernelDwout.Skeleton
public import proofs.«01_k».proof.Proof.Gen.KernelDwout.Launch
public import proofs.«01_k».proof.Proof.Gen.KernelDwout.Points
public import proofs.«01_k».proof.Proof.Gen.KernelDwout.Frame
public import proofs.«01_k».proof.Proof.Gen.KernelDwoutIdeal
public import proofs.«01_k».proof.Proof.Gen.KernelDwoutIdeal.Skeleton
public import proofs.«01_k».proof.Proof.Gen.KernelDwoutIdeal.Launch
public import proofs.«01_k».proof.Proof.Gen.KernelDwoutIdeal.Points
public import proofs.«01_k».proof.Proof.Gen.KernelDwoutIdeal.Frame
public import proofs.«01_k».proof.Proof.Gen.KernelDwoutIdeal.Value
public import proofs.«01_k».proof.Proof.Gen.ReferenceDwoutIdeal
public import proofs.«01_k».proof.Proof.Gen.ReferenceDwoutIdeal.Run
public import proofs.«01_k».proof.Proof.Gen.ReferenceDwoutIdeal.Read
public import proofs.«01_k».proof.Proof.Gen.KernelDwinLo
public import proofs.«01_k».proof.Proof.Gen.KernelDwinLo.Skeleton
public import proofs.«01_k».proof.Proof.Gen.KernelDwinLo.Launch
public import proofs.«01_k».proof.Proof.Gen.KernelDwinLo.Points
public import proofs.«01_k».proof.Proof.Gen.KernelDwinLo.Frame
public import proofs.«01_k».proof.Proof.Gen.KernelDwinLoIdeal
public import proofs.«01_k».proof.Proof.Gen.KernelDwinLoIdeal.Skeleton
public import proofs.«01_k».proof.Proof.Gen.KernelDwinLoIdeal.Launch
public import proofs.«01_k».proof.Proof.Gen.KernelDwinLoIdeal.Points
public import proofs.«01_k».proof.Proof.Gen.KernelDwinLoIdeal.Frame
public import proofs.«01_k».proof.Proof.Gen.KernelDwinLoIdeal.Value
public import proofs.«01_k».proof.Proof.Gen.ReferenceDwinLoIdeal
public import proofs.«01_k».proof.Proof.Gen.ReferenceDwinLoIdeal.Run
public import proofs.«01_k».proof.Proof.Gen.ReferenceDwinLoIdeal.Read
public import proofs.«01_k».proof.Proof.Gen.KernelDwinHi
public import proofs.«01_k».proof.Proof.Gen.KernelDwinHi.Skeleton
public import proofs.«01_k».proof.Proof.Gen.KernelDwinHi.Launch
public import proofs.«01_k».proof.Proof.Gen.KernelDwinHi.Points
public import proofs.«01_k».proof.Proof.Gen.KernelDwinHi.Frame
public import proofs.«01_k».proof.Proof.Gen.KernelDwinHiIdeal
public import proofs.«01_k».proof.Proof.Gen.KernelDwinHiIdeal.Skeleton
public import proofs.«01_k».proof.Proof.Gen.KernelDwinHiIdeal.Launch
public import proofs.«01_k».proof.Proof.Gen.KernelDwinHiIdeal.Points
public import proofs.«01_k».proof.Proof.Gen.KernelDwinHiIdeal.Frame
public import proofs.«01_k».proof.Proof.Gen.KernelDwinHiIdeal.Value
public import proofs.«01_k».proof.Proof.Gen.ReferenceDwinHiIdeal
public import proofs.«01_k».proof.Proof.Gen.ReferenceDwinHiIdeal.Run
public import proofs.«01_k».proof.Proof.Gen.ReferenceDwinHiIdeal.Read
public import proofs.«01_k».proof.Proof.Gen.KernelDu
public import proofs.«01_k».proof.Proof.Gen.KernelDu.Skeleton
public import proofs.«01_k».proof.Proof.Gen.KernelDu.Launch
public import proofs.«01_k».proof.Proof.Gen.KernelDu.Points
public import proofs.«01_k».proof.Proof.Gen.KernelDu.Frame
public import proofs.«01_k».proof.Proof.Gen.KernelDuIdeal
public import proofs.«01_k».proof.Proof.Gen.KernelDuIdeal.Skeleton
public import proofs.«01_k».proof.Proof.Gen.KernelDuIdeal.Launch
public import proofs.«01_k».proof.Proof.Gen.KernelDuIdeal.Points
public import proofs.«01_k».proof.Proof.Gen.KernelDuIdeal.Frame
public import proofs.«01_k».proof.Proof.Gen.KernelDuIdeal.Value
public import proofs.«01_k».proof.Proof.Gen.ReferenceDuIdeal
public import proofs.«01_k».proof.Proof.Gen.ReferenceDuIdeal.Run
public import proofs.«01_k».proof.Proof.Gen.ReferenceDuIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelSqDw
public import proofs.«01_k».proof.Proof.Gen.KernelSqDw.Skeleton
public import proofs.«01_k».proof.Proof.Gen.KernelSqDw.Launch
public import proofs.«01_k».proof.Proof.Gen.KernelSqDw.Points
public import proofs.«01_k».proof.Proof.Gen.KernelSqDw.Frame
public import proofs.«01_k».proof.Proof.Gen.KernelSqDwIdeal
public import proofs.«01_k».proof.Proof.Gen.KernelSqDwIdeal.Skeleton
public import proofs.«01_k».proof.Proof.Gen.KernelSqDwIdeal.Launch
public import proofs.«01_k».proof.Proof.Gen.KernelSqDwIdeal.Points
public import proofs.«01_k».proof.Proof.Gen.KernelSqDwIdeal.Frame
public import proofs.«01_k».proof.Proof.Gen.KernelSqDwIdeal.Value
public import proofs.«01_k».proof.Proof.Gen.ReferenceSqDwIdeal
public import proofs.«01_k».proof.Proof.Gen.ReferenceSqDwIdeal.Run
public import proofs.«01_k».proof.Proof.Gen.ReferenceSqDwIdeal.Read
public import proofs.«01_k».proof.Proof.Gen.KernelSqDz
public import proofs.«01_k».proof.Proof.Gen.KernelSqDz.Skeleton
public import proofs.«01_k».proof.Proof.Gen.KernelSqDz.Launch
public import proofs.«01_k».proof.Proof.Gen.KernelSqDz.Points
public import proofs.«01_k».proof.Proof.Gen.KernelSqDz.Frame
public import proofs.«01_k».proof.Proof.Gen.KernelSqDzIdeal
public import proofs.«01_k».proof.Proof.Gen.KernelSqDzIdeal.Skeleton
public import proofs.«01_k».proof.Proof.Gen.KernelSqDzIdeal.Launch
public import proofs.«01_k».proof.Proof.Gen.KernelSqDzIdeal.Points
public import proofs.«01_k».proof.Proof.Gen.KernelSqDzIdeal.Frame
public import proofs.«01_k».proof.Proof.Gen.KernelSqDzIdeal.Value
public import proofs.«01_k».proof.Proof.Gen.ReferenceSqDzIdeal
public import proofs.«01_k».proof.Proof.Gen.ReferenceSqDzIdeal.Run
public import proofs.«01_k».proof.Proof.Gen.ReferenceSqDzIdeal.Read
public import proofs.«01_k».proof.Proof.Gen.KernelHgrnDwinLo
public import proofs.«01_k».proof.Proof.Gen.KernelHgrnDwinLo.Skeleton
public import proofs.«01_k».proof.Proof.Gen.KernelHgrnDwinLo.Launch
public import proofs.«01_k».proof.Proof.Gen.KernelHgrnDwinLo.Points
public import proofs.«01_k».proof.Proof.Gen.KernelHgrnDwinLo.Frame
public import proofs.«01_k».proof.Proof.Gen.KernelHgrnDwinLoIdeal
public import proofs.«01_k».proof.Proof.Gen.KernelHgrnDwinLoIdeal.Skeleton
public import proofs.«01_k».proof.Proof.Gen.KernelHgrnDwinLoIdeal.Launch
public import proofs.«01_k».proof.Proof.Gen.KernelHgrnDwinLoIdeal.Points
public import proofs.«01_k».proof.Proof.Gen.KernelHgrnDwinLoIdeal.Frame
public import proofs.«01_k».proof.Proof.Gen.KernelHgrnDwinLoIdeal.Value
public import proofs.«01_k».proof.Proof.Gen.ReferenceHgrnDwinLoIdeal
public import proofs.«01_k».proof.Proof.Gen.ReferenceHgrnDwinLoIdeal.Run
public import proofs.«01_k».proof.Proof.Gen.ReferenceHgrnDwinLoIdeal.Read
public import proofs.«01_k».proof.Proof.Gen.KernelHgrnDwinHi
public import proofs.«01_k».proof.Proof.Gen.KernelHgrnDwinHi.Skeleton
public import proofs.«01_k».proof.Proof.Gen.KernelHgrnDwinHi.Launch
public import proofs.«01_k».proof.Proof.Gen.KernelHgrnDwinHi.Points
public import proofs.«01_k».proof.Proof.Gen.KernelHgrnDwinHi.Frame
public import proofs.«01_k».proof.Proof.Gen.KernelHgrnDwinHiIdeal
public import proofs.«01_k».proof.Proof.Gen.KernelHgrnDwinHiIdeal.Skeleton
public import proofs.«01_k».proof.Proof.Gen.KernelHgrnDwinHiIdeal.Launch
public import proofs.«01_k».proof.Proof.Gen.KernelHgrnDwinHiIdeal.Points
public import proofs.«01_k».proof.Proof.Gen.KernelHgrnDwinHiIdeal.Frame
public import proofs.«01_k».proof.Proof.Gen.KernelHgrnDwinHiIdeal.Value
public import proofs.«01_k».proof.Proof.Gen.ReferenceHgrnDwinHiIdeal
public import proofs.«01_k».proof.Proof.Gen.ReferenceHgrnDwinHiIdeal.Run
public import proofs.«01_k».proof.Proof.Gen.ReferenceHgrnDwinHiIdeal.Read
public import proofs.«01_k».proof.Proof.Gen.KernelHgrnDu
public import proofs.«01_k».proof.Proof.Gen.KernelHgrnDu.Skeleton
public import proofs.«01_k».proof.Proof.Gen.KernelHgrnDu.Launch
public import proofs.«01_k».proof.Proof.Gen.KernelHgrnDu.Points
public import proofs.«01_k».proof.Proof.Gen.KernelHgrnDu.Frame
public import proofs.«01_k».proof.Proof.Gen.KernelHgrnDuIdeal
public import proofs.«01_k».proof.Proof.Gen.KernelHgrnDuIdeal.Skeleton
public import proofs.«01_k».proof.Proof.Gen.KernelHgrnDuIdeal.Launch
public import proofs.«01_k».proof.Proof.Gen.KernelHgrnDuIdeal.Points
public import proofs.«01_k».proof.Proof.Gen.KernelHgrnDuIdeal.Frame
public import proofs.«01_k».proof.Proof.Gen.KernelHgrnDuIdeal.Value
public import proofs.«01_k».proof.Proof.Gen.ReferenceHgrnDuIdeal
public import proofs.«01_k».proof.Proof.Gen.ReferenceHgrnDuIdeal.Run
public import proofs.«01_k».proof.Proof.Gen.ReferenceHgrnDuIdeal.Read
public import proofs.«01_k».proof.Proof.Gen.KernelHgrnProj
public import proofs.«01_k».proof.Proof.Gen.KernelHgrnProj.Skeleton
public import proofs.«01_k».proof.Proof.Gen.KernelHgrnProj.Launch
public import proofs.«01_k».proof.Proof.Gen.KernelHgrnProj.Points
public import proofs.«01_k».proof.Proof.Gen.KernelHgrnProj.Frame
public import proofs.«01_k».proof.Proof.Gen.KernelHgrnProjIdeal
public import proofs.«01_k».proof.Proof.Gen.KernelHgrnProjIdeal.Skeleton
public import proofs.«01_k».proof.Proof.Gen.KernelHgrnProjIdeal.Launch
public import proofs.«01_k».proof.Proof.Gen.KernelHgrnProjIdeal.Points
public import proofs.«01_k».proof.Proof.Gen.KernelHgrnProjIdeal.Frame
public import proofs.«01_k».proof.Proof.Gen.KernelHgrnProjIdeal.Value
public import proofs.«01_k».proof.Proof.Gen.ReferenceHgrnProjIdeal
public import proofs.«01_k».proof.Proof.Gen.ReferenceHgrnProjIdeal.Run
public import proofs.«01_k».proof.Proof.Gen.ReferenceHgrnProjIdeal.Read
public import proofs.«01_k».proof.Proof.Gen.KernelSqOut
public import proofs.«01_k».proof.Proof.Gen.KernelSqOut.Skeleton
public import proofs.«01_k».proof.Proof.Gen.KernelSqOut.Launch
public import proofs.«01_k».proof.Proof.Gen.KernelSqOut.Points
public import proofs.«01_k».proof.Proof.Gen.KernelSqOut.Frame
public import proofs.«01_k».proof.Proof.Gen.KernelSqOutIdeal
public import proofs.«01_k».proof.Proof.Gen.KernelSqOutIdeal.Skeleton
public import proofs.«01_k».proof.Proof.Gen.KernelSqOutIdeal.Launch
public import proofs.«01_k».proof.Proof.Gen.KernelSqOutIdeal.Points
public import proofs.«01_k».proof.Proof.Gen.KernelSqOutIdeal.Frame
public import proofs.«01_k».proof.Proof.Gen.KernelSqOutIdeal.Value
public import proofs.«01_k».proof.Proof.Gen.ReferenceSqOutIdeal
public import proofs.«01_k».proof.Proof.Gen.ReferenceSqOutIdeal.Run
public import proofs.«01_k».proof.Proof.Gen.ReferenceSqOutIdeal.Read
public import proofs.«01_k».proof.Proof.Gen.KernelQ
public import proofs.«01_k».proof.Proof.Gen.KernelQ.Skeleton
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.KernelQIdeal.Value
public import proofs.«01_k».proof.Proof.Gen.ReferenceQIdeal
public import proofs.«01_k».proof.Proof.Gen.ReferenceQIdeal.Run
public import proofs.«01_k».proof.Proof.Gen.ReferenceQIdeal.Read
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Proof.Gen.ReferenceKvIdeal.Read
public import proofs.«01_k».proof.Proof.Gen.KernelKvDw
public import proofs.«01_k».proof.Proof.Gen.KernelKvDw.Skeleton
public import proofs.«01_k».proof.Proof.Gen.KernelKvDw.Launch
public import proofs.«01_k».proof.Proof.Gen.KernelKvDw.Points
public import proofs.«01_k».proof.Proof.Gen.KernelKvDw.Frame
public import proofs.«01_k».proof.Proof.Gen.KernelKvDwIdeal
public import proofs.«01_k».proof.Proof.Gen.KernelKvDwIdeal.Skeleton
public import proofs.«01_k».proof.Proof.Gen.KernelKvDwIdeal.Launch
public import proofs.«01_k».proof.Proof.Gen.KernelKvDwIdeal.Points
public import proofs.«01_k».proof.Proof.Gen.KernelKvDwIdeal.Frame
public import proofs.«01_k».proof.Proof.Gen.KernelKvDwIdeal.Value
public import proofs.«01_k».proof.Proof.Gen.ReferenceKvDwIdeal
public import proofs.«01_k».proof.Proof.Gen.ReferenceKvDwIdeal.Run
public import proofs.«01_k».proof.Proof.Gen.ReferenceKvDwIdeal.Read
public import proofs.«01_k».proof.Proof.Gen.KernelKvDu
public import proofs.«01_k».proof.Proof.Gen.KernelKvDu.Skeleton
public import proofs.«01_k».proof.Proof.Gen.KernelKvDu.Launch
public import proofs.«01_k».proof.Proof.Gen.KernelKvDu.Points
public import proofs.«01_k».proof.Proof.Gen.KernelKvDu.Frame
public import proofs.«01_k».proof.Proof.Gen.KernelKvDuIdeal
public import proofs.«01_k».proof.Proof.Gen.KernelKvDuIdeal.Skeleton
public import proofs.«01_k».proof.Proof.Gen.KernelKvDuIdeal.Launch
public import proofs.«01_k».proof.Proof.Gen.KernelKvDuIdeal.Points
public import proofs.«01_k».proof.Proof.Gen.KernelKvDuIdeal.Frame
public import proofs.«01_k».proof.Proof.Gen.KernelKvDuIdeal.Value
public import proofs.«01_k».proof.Proof.Gen.ReferenceKvDuIdeal
public import proofs.«01_k».proof.Proof.Gen.ReferenceKvDuIdeal.Run
public import proofs.«01_k».proof.Proof.Gen.ReferenceKvDuIdeal.Read
public import proofs.«01_k».proof.Proof.Gen.KernelAttOut
public import proofs.«01_k».proof.Proof.Gen.KernelAttOut.Skeleton
public import proofs.«01_k».proof.Proof.Gen.KernelAttOut.Launch
public import proofs.«01_k».proof.Proof.Gen.KernelAttOut.Points
public import proofs.«01_k».proof.Proof.Gen.KernelAttOut.Frame
public import proofs.«01_k».proof.Proof.Gen.KernelAttOutIdeal
public import proofs.«01_k».proof.Proof.Gen.KernelAttOutIdeal.Skeleton
public import proofs.«01_k».proof.Proof.Gen.KernelAttOutIdeal.Launch
public import proofs.«01_k».proof.Proof.Gen.KernelAttOutIdeal.Points
public import proofs.«01_k».proof.Proof.Gen.KernelAttOutIdeal.Frame
public import proofs.«01_k».proof.Proof.Gen.KernelAttOutIdeal.Value
public import proofs.«01_k».proof.Proof.Gen.ReferenceAttOutIdeal
public import proofs.«01_k».proof.Proof.Gen.ReferenceAttOutIdeal.Run
public import proofs.«01_k».proof.Proof.Gen.ReferenceAttOutIdeal.Read
public import proofs.«01_k».proof.Proof.Gen.KernelAttDw
public import proofs.«01_k».proof.Proof.Gen.KernelAttDw.Skeleton
public import proofs.«01_k».proof.Proof.Gen.KernelAttDw.Launch
public import proofs.«01_k».proof.Proof.Gen.KernelAttDw.Points
public import proofs.«01_k».proof.Proof.Gen.KernelAttDw.Frame
public import proofs.«01_k».proof.Proof.Gen.KernelAttDwIdeal
public import proofs.«01_k».proof.Proof.Gen.KernelAttDwIdeal.Skeleton
public import proofs.«01_k».proof.Proof.Gen.KernelAttDwIdeal.Launch
public import proofs.«01_k».proof.Proof.Gen.KernelAttDwIdeal.Points
public import proofs.«01_k».proof.Proof.Gen.KernelAttDwIdeal.Frame
public import proofs.«01_k».proof.Proof.Gen.KernelAttDwIdeal.Value
public import proofs.«01_k».proof.Proof.Gen.ReferenceAttDwIdeal
public import proofs.«01_k».proof.Proof.Gen.ReferenceAttDwIdeal.Run
public import proofs.«01_k».proof.Proof.Gen.ReferenceAttDwIdeal.Read
public import proofs.«01_k».proof.Proof.Gen.KernelQDw
public import proofs.«01_k».proof.Proof.Gen.KernelQDw.Skeleton
public import proofs.«01_k».proof.Proof.Gen.KernelQDw.Launch
public import proofs.«01_k».proof.Proof.Gen.KernelQDw.Points
public import proofs.«01_k».proof.Proof.Gen.KernelQDw.Frame
public import proofs.«01_k».proof.Proof.Gen.KernelQDwIdeal
public import proofs.«01_k».proof.Proof.Gen.KernelQDwIdeal.Skeleton
public import proofs.«01_k».proof.Proof.Gen.KernelQDwIdeal.Launch
public import proofs.«01_k».proof.Proof.Gen.KernelQDwIdeal.Points
public import proofs.«01_k».proof.Proof.Gen.KernelQDwIdeal.Frame
public import proofs.«01_k».proof.Proof.Gen.KernelQDwIdeal.Value
public import proofs.«01_k».proof.Proof.Gen.ReferenceQDwIdeal
public import proofs.«01_k».proof.Proof.Gen.ReferenceQDwIdeal.Run
public import proofs.«01_k».proof.Proof.Gen.ReferenceQDwIdeal.Read
public import proofs.«01_k».proof.Proof.Gen.KernelQDu
public import proofs.«01_k».proof.Proof.Gen.KernelQDu.Skeleton
public import proofs.«01_k».proof.Proof.Gen.KernelQDu.Launch
public import proofs.«01_k».proof.Proof.Gen.KernelQDu.Points
public import proofs.«01_k».proof.Proof.Gen.KernelQDu.Frame
public import proofs.«01_k».proof.Proof.Gen.KernelQDuIdeal
public import proofs.«01_k».proof.Proof.Gen.KernelQDuIdeal.Skeleton
public import proofs.«01_k».proof.Proof.Gen.KernelQDuIdeal.Launch
public import proofs.«01_k».proof.Proof.Gen.KernelQDuIdeal.Points
public import proofs.«01_k».proof.Proof.Gen.KernelQDuIdeal.Frame
public import proofs.«01_k».proof.Proof.Gen.KernelQDuIdeal.Value
public import proofs.«01_k».proof.Proof.Gen.ReferenceQDuIdeal
public import proofs.«01_k».proof.Proof.Gen.ReferenceQDuIdeal.Run
public import proofs.«01_k».proof.Proof.Gen.ReferenceQDuIdeal.Read
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.ReferenceNormIdeal.Read
public import proofs.«01_k».proof.Proof.Gen.KernelNormBwd
public import proofs.«01_k».proof.Proof.Gen.KernelNormBwd.Skeleton
public import proofs.«01_k».proof.Proof.Gen.KernelNormBwd.Launch
public import proofs.«01_k».proof.Proof.Gen.KernelNormBwd.Points
public import proofs.«01_k».proof.Proof.Gen.KernelNormBwd.Frame
public import proofs.«01_k».proof.Proof.Gen.KernelNormBwdIdeal
public import proofs.«01_k».proof.Proof.Gen.KernelNormBwdIdeal.Skeleton
public import proofs.«01_k».proof.Proof.Gen.KernelNormBwdIdeal.Launch
public import proofs.«01_k».proof.Proof.Gen.KernelNormBwdIdeal.Points
public import proofs.«01_k».proof.Proof.Gen.KernelNormBwdIdeal.Frame
public import proofs.«01_k».proof.Proof.Gen.KernelNormBwdIdeal.Value
public import proofs.«01_k».proof.Proof.Gen.ReferenceNormBwdIdeal
public import proofs.«01_k».proof.Proof.Gen.ReferenceNormBwdIdeal.Run
public import proofs.«01_k».proof.Proof.Gen.ReferenceNormBwdIdeal.Read
public import proofs.«01_k».proof.Proof.Results
public import proofs.«01_k».proof.Proof.Dact
public import proofs.«01_k».proof.Proof.In
public import proofs.«01_k».proof.Proof.Dwout
public import proofs.«01_k».proof.Proof.DwinLo
public import proofs.«01_k».proof.Proof.DwinHi
public import proofs.«01_k».proof.Proof.Du
public import proofs.«01_k».proof.Proof.Out
public import proofs.«01_k».proof.Proof.SqDw
public import proofs.«01_k».proof.Proof.SqDz
public import proofs.«01_k».proof.Proof.HgrnDwinLo
public import proofs.«01_k».proof.Proof.HgrnDwinHi
public import proofs.«01_k».proof.Proof.HgrnDu
public import proofs.«01_k».proof.Proof.HgrnProj
public import proofs.«01_k».proof.Proof.SqOut
public import proofs.«01_k».proof.Proof.Q
public import proofs.«01_k».proof.Proof.Kv
public import proofs.«01_k».proof.Proof.KvDw
public import proofs.«01_k».proof.Proof.KvDu
public import proofs.«01_k».proof.Proof.AttOut
public import proofs.«01_k».proof.Proof.AttDw
public import proofs.«01_k».proof.Proof.QDw
public import proofs.«01_k».proof.Proof.QDu
public import proofs.«01_k».proof.Proof.Norm
public import proofs.«01_k».proof.Proof.NormBwd
public import Idealize.ShloMosaic.Adequacy
public import Idealize.ShloMosaic.Init

@[expose] public section

noncomputable section

namespace Cert.Proof

open Idealize.ShloMosaic Idealize.SL.Sem Cert.Kernel

/-- The reference runs, keeps its arguments and uses no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0 :=
  (θ_run Cert.ReferenceIdeal.defs _ _).mono (fun r h => ⟨fun c => (h c).2.2.2.2.2.2, sem_eq_zero_of_no_sems (by decide) r.2⟩)
    (Cert.ReferenceIdeal.Value.run m ρ)

theorem frame_dact : Cert.quiescent_ReferenceDactIdeal := fun m ρ _ =>
  (θ_run Cert.ReferenceDactIdeal.defs _ _).mono (fun r h => ⟨fun c => (h c).2, sem_eq_zero_of_no_sems (by decide) r.2⟩)
    (Cert.ReferenceDactIdeal.Value.run m ρ)

theorem frame_in : Cert.quiescent_ReferenceInIdeal := fun m ρ _ =>
  (θ_run Cert.ReferenceInIdeal.defs _ _).mono (fun r h => ⟨fun c => (h c).2.2.2, sem_eq_zero_of_no_sems (by decide) r.2⟩)
    (Cert.ReferenceInIdeal.Value.run m ρ)

theorem frame_dwout : Cert.quiescent_ReferenceDwoutIdeal := fun m ρ _ =>
  (θ_run Cert.ReferenceDwoutIdeal.defs _ _).mono (fun r h => ⟨fun c => (h c).2, sem_eq_zero_of_no_sems (by decide) r.2⟩)
    (Cert.ReferenceDwoutIdeal.Value.run m ρ)

theorem frame_dwinlo : Cert.quiescent_ReferenceDwinLoIdeal := fun m ρ _ =>
  (θ_run Cert.ReferenceDwinLoIdeal.defs _ _).mono (fun r h => ⟨fun c => (h c).2, sem_eq_zero_of_no_sems (by decide) r.2⟩)
    (Cert.ReferenceDwinLoIdeal.Value.run m ρ)

theorem frame_dwinhi : Cert.quiescent_ReferenceDwinHiIdeal := fun m ρ _ =>
  (θ_run Cert.ReferenceDwinHiIdeal.defs _ _).mono (fun r h => ⟨fun c => (h c).2, sem_eq_zero_of_no_sems (by decide) r.2⟩)
    (Cert.ReferenceDwinHiIdeal.Value.run m ρ)

theorem frame_du : Cert.quiescent_ReferenceDuIdeal := fun m ρ _ =>
  (θ_run Cert.ReferenceDuIdeal.defs _ _).mono (fun r h => ⟨fun c => (h c).2, sem_eq_zero_of_no_sems (by decide) r.2⟩)
    (Cert.ReferenceDuIdeal.Value.run m ρ)

theorem frame_out : Cert.quiescent_ReferenceOutIdeal := fun m ρ _ =>
  (θ_run Cert.ReferenceOutIdeal.defs _ _).mono (fun r h => ⟨fun c => (h c).2.2, sem_eq_zero_of_no_sems (by decide) r.2⟩)
    (Cert.ReferenceOutIdeal.Value.run m ρ)

theorem frame_sqdw : Cert.quiescent_ReferenceSqDwIdeal := fun m ρ _ =>
  (θ_run Cert.ReferenceSqDwIdeal.defs _ _).mono (fun r h => ⟨fun c => (h c).2, sem_eq_zero_of_no_sems (by decide) r.2⟩)
    (Cert.ReferenceSqDwIdeal.Value.run m ρ)

theorem frame_sqdz : Cert.quiescent_ReferenceSqDzIdeal := fun m ρ _ =>
  (θ_run Cert.ReferenceSqDzIdeal.defs _ _).mono (fun r h => ⟨fun c => (h c).2, sem_eq_zero_of_no_sems (by decide) r.2⟩)
    (Cert.ReferenceSqDzIdeal.Value.run m ρ)

theorem frame_hgrndwinlo : Cert.quiescent_ReferenceHgrnDwinLoIdeal := fun m ρ _ =>
  (θ_run Cert.ReferenceHgrnDwinLoIdeal.defs _ _).mono (fun r h => ⟨fun c => (h c).2, sem_eq_zero_of_no_sems (by decide) r.2⟩)
    (Cert.ReferenceHgrnDwinLoIdeal.Value.run m ρ)

theorem frame_hgrndwinhi : Cert.quiescent_ReferenceHgrnDwinHiIdeal := fun m ρ _ =>
  (θ_run Cert.ReferenceHgrnDwinHiIdeal.defs _ _).mono (fun r h => ⟨fun c => (h c).2, sem_eq_zero_of_no_sems (by decide) r.2⟩)
    (Cert.ReferenceHgrnDwinHiIdeal.Value.run m ρ)

theorem frame_hgrndu : Cert.quiescent_ReferenceHgrnDuIdeal := fun m ρ _ =>
  (θ_run Cert.ReferenceHgrnDuIdeal.defs _ _).mono (fun r h => ⟨fun c => (h c).2, sem_eq_zero_of_no_sems (by decide) r.2⟩)
    (Cert.ReferenceHgrnDuIdeal.Value.run m ρ)

theorem frame_hgrnproj : Cert.quiescent_ReferenceHgrnProjIdeal := fun m ρ _ =>
  (θ_run Cert.ReferenceHgrnProjIdeal.defs _ _).mono (fun r h => ⟨fun c => (h c).2, sem_eq_zero_of_no_sems (by decide) r.2⟩)
    (Cert.ReferenceHgrnProjIdeal.Value.run m ρ)

theorem frame_sqout : Cert.quiescent_ReferenceSqOutIdeal := fun m ρ _ =>
  (θ_run Cert.ReferenceSqOutIdeal.defs _ _).mono (fun r h => ⟨fun c => (h c).2.2, sem_eq_zero_of_no_sems (by decide) r.2⟩)
    (Cert.ReferenceSqOutIdeal.Value.run m ρ)

theorem frame_q : Cert.quiescent_ReferenceQIdeal := fun m ρ _ =>
  (θ_run Cert.ReferenceQIdeal.defs _ _).mono (fun r h => ⟨fun c => (h c).2, sem_eq_zero_of_no_sems (by decide) r.2⟩)
    (Cert.ReferenceQIdeal.Value.run m ρ)

theorem frame_kv : Cert.quiescent_ReferenceKvIdeal := fun m ρ _ =>
  (θ_run Cert.ReferenceKvIdeal.defs _ _).mono (fun r h => ⟨fun c => (h c).2, sem_eq_zero_of_no_sems (by decide) r.2⟩)
    (Cert.ReferenceKvIdeal.Value.run m ρ)

theorem frame_kvdw : Cert.quiescent_ReferenceKvDwIdeal := fun m ρ _ =>
  (θ_run Cert.ReferenceKvDwIdeal.defs _ _).mono (fun r h => ⟨fun c => (h c).2, sem_eq_zero_of_no_sems (by decide) r.2⟩)
    (Cert.ReferenceKvDwIdeal.Value.run m ρ)

theorem frame_kvdu : Cert.quiescent_ReferenceKvDuIdeal := fun m ρ _ =>
  (θ_run Cert.ReferenceKvDuIdeal.defs _ _).mono (fun r h => ⟨fun c => (h c).2, sem_eq_zero_of_no_sems (by decide) r.2⟩)
    (Cert.ReferenceKvDuIdeal.Value.run m ρ)

theorem frame_attout : Cert.quiescent_ReferenceAttOutIdeal := fun m ρ _ =>
  (θ_run Cert.ReferenceAttOutIdeal.defs _ _).mono (fun r h => ⟨fun c => (h c).2.2, sem_eq_zero_of_no_sems (by decide) r.2⟩)
    (Cert.ReferenceAttOutIdeal.Value.run m ρ)

theorem frame_attdw : Cert.quiescent_ReferenceAttDwIdeal := fun m ρ _ =>
  (θ_run Cert.ReferenceAttDwIdeal.defs _ _).mono (fun r h => ⟨fun c => (h c).2, sem_eq_zero_of_no_sems (by decide) r.2⟩)
    (Cert.ReferenceAttDwIdeal.Value.run m ρ)

theorem frame_qdw : Cert.quiescent_ReferenceQDwIdeal := fun m ρ _ =>
  (θ_run Cert.ReferenceQDwIdeal.defs _ _).mono (fun r h => ⟨fun c => (h c).2, sem_eq_zero_of_no_sems (by decide) r.2⟩)
    (Cert.ReferenceQDwIdeal.Value.run m ρ)

theorem frame_qdu : Cert.quiescent_ReferenceQDuIdeal := fun m ρ _ =>
  (θ_run Cert.ReferenceQDuIdeal.defs _ _).mono (fun r h => ⟨fun c => (h c).2, sem_eq_zero_of_no_sems (by decide) r.2⟩)
    (Cert.ReferenceQDuIdeal.Value.run m ρ)

theorem frame_norm : Cert.quiescent_ReferenceNormIdeal := fun m ρ _ =>
  (θ_run Cert.ReferenceNormIdeal.defs _ _).mono (fun r h => ⟨fun c => (h c).2.2, sem_eq_zero_of_no_sems (by decide) r.2⟩)
    (Cert.ReferenceNormIdeal.Value.run m ρ)

theorem frame_normbwd : Cert.quiescent_ReferenceNormBwdIdeal := fun m ρ _ =>
  (θ_run Cert.ReferenceNormBwdIdeal.defs _ _).mono (fun r h => ⟨fun c => (h c).2.2.2.2, sem_eq_zero_of_no_sems (by decide) r.2⟩)
    (Cert.ReferenceNormBwdIdeal.Value.run m ρ)

theorem claim : Cert.Claim := ⟨Cert.Kernel.Gen.facts, Cert.KernelIdeal.Gen.facts, Cert.ReferenceIdeal.Gen.facts,
  Cert.KernelDact.Gen.facts, Cert.KernelDactIdeal.Gen.facts, Cert.ReferenceDactIdeal.Gen.facts,
  Cert.KernelIn.Gen.facts, Cert.KernelInIdeal.Gen.facts, Cert.ReferenceInIdeal.Gen.facts,
  Cert.KernelDwout.Gen.facts, Cert.KernelDwoutIdeal.Gen.facts, Cert.ReferenceDwoutIdeal.Gen.facts,
  Cert.KernelDwinLo.Gen.facts, Cert.KernelDwinLoIdeal.Gen.facts, Cert.ReferenceDwinLoIdeal.Gen.facts,
  Cert.KernelDwinHi.Gen.facts, Cert.KernelDwinHiIdeal.Gen.facts, Cert.ReferenceDwinHiIdeal.Gen.facts,
  Cert.KernelDu.Gen.facts, Cert.KernelDuIdeal.Gen.facts, Cert.ReferenceDuIdeal.Gen.facts,
  Cert.KernelOut.Gen.facts, Cert.KernelOutIdeal.Gen.facts, Cert.ReferenceOutIdeal.Gen.facts,
  Cert.KernelSqDw.Gen.facts, Cert.KernelSqDwIdeal.Gen.facts, Cert.ReferenceSqDwIdeal.Gen.facts,
  Cert.KernelSqDz.Gen.facts, Cert.KernelSqDzIdeal.Gen.facts, Cert.ReferenceSqDzIdeal.Gen.facts,
  Cert.KernelHgrnDwinLo.Gen.facts, Cert.KernelHgrnDwinLoIdeal.Gen.facts, Cert.ReferenceHgrnDwinLoIdeal.Gen.facts,
  Cert.KernelHgrnDwinHi.Gen.facts, Cert.KernelHgrnDwinHiIdeal.Gen.facts, Cert.ReferenceHgrnDwinHiIdeal.Gen.facts,
  Cert.KernelHgrnDu.Gen.facts, Cert.KernelHgrnDuIdeal.Gen.facts, Cert.ReferenceHgrnDuIdeal.Gen.facts,
  Cert.KernelHgrnProj.Gen.facts, Cert.KernelHgrnProjIdeal.Gen.facts, Cert.ReferenceHgrnProjIdeal.Gen.facts,
  Cert.KernelSqOut.Gen.facts, Cert.KernelSqOutIdeal.Gen.facts, Cert.ReferenceSqOutIdeal.Gen.facts,
  Cert.KernelQ.Gen.facts, Cert.KernelQIdeal.Gen.facts, Cert.ReferenceQIdeal.Gen.facts,
  Cert.KernelKv.Gen.facts, Cert.KernelKvIdeal.Gen.facts, Cert.ReferenceKvIdeal.Gen.facts,
  Cert.KernelKvDw.Gen.facts, Cert.KernelKvDwIdeal.Gen.facts, Cert.ReferenceKvDwIdeal.Gen.facts,
  Cert.KernelKvDu.Gen.facts, Cert.KernelKvDuIdeal.Gen.facts, Cert.ReferenceKvDuIdeal.Gen.facts,
  Cert.KernelAttOut.Gen.facts, Cert.KernelAttOutIdeal.Gen.facts, Cert.ReferenceAttOutIdeal.Gen.facts,
  Cert.KernelAttDw.Gen.facts, Cert.KernelAttDwIdeal.Gen.facts, Cert.ReferenceAttDwIdeal.Gen.facts,
  Cert.KernelQDw.Gen.facts, Cert.KernelQDwIdeal.Gen.facts, Cert.ReferenceQDwIdeal.Gen.facts,
  Cert.KernelQDu.Gen.facts, Cert.KernelQDuIdeal.Gen.facts, Cert.ReferenceQDuIdeal.Gen.facts,
  Cert.KernelNorm.Gen.facts, Cert.KernelNormIdeal.Gen.facts, Cert.ReferenceNormIdeal.Gen.facts,
  Cert.KernelNormBwd.Gen.facts, Cert.KernelNormBwdIdeal.Gen.facts, Cert.ReferenceNormBwdIdeal.Gen.facts,
  Cert.Finite.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.KernelDact.Gen.frame m ρ, fun m ρ _ => Cert.KernelDactIdeal.Gen.frame m ρ, frame_dact,
  fun m ρ _ => Cert.KernelIn.Gen.frame m ρ, fun m ρ _ => Cert.KernelInIdeal.Gen.frame m ρ, frame_in,
  fun m ρ _ => Cert.KernelDwout.Gen.frame m ρ, fun m ρ _ => Cert.KernelDwoutIdeal.Gen.frame m ρ, frame_dwout,
  fun m ρ _ => Cert.KernelDwinLo.Gen.frame m ρ, fun m ρ _ => Cert.KernelDwinLoIdeal.Gen.frame m ρ, frame_dwinlo,
  fun m ρ _ => Cert.KernelDwinHi.Gen.frame m ρ, fun m ρ _ => Cert.KernelDwinHiIdeal.Gen.frame m ρ, frame_dwinhi,
  fun m ρ _ => Cert.KernelDu.Gen.frame m ρ, fun m ρ _ => Cert.KernelDuIdeal.Gen.frame m ρ, frame_du,
  fun m ρ _ => Cert.KernelOut.Gen.frame m ρ, fun m ρ _ => Cert.KernelOutIdeal.Gen.frame m ρ, frame_out,
  fun m ρ _ => Cert.KernelSqDw.Gen.frame m ρ, fun m ρ _ => Cert.KernelSqDwIdeal.Gen.frame m ρ, frame_sqdw,
  fun m ρ _ => Cert.KernelSqDz.Gen.frame m ρ, fun m ρ _ => Cert.KernelSqDzIdeal.Gen.frame m ρ, frame_sqdz,
  fun m ρ _ => Cert.KernelHgrnDwinLo.Gen.frame m ρ, fun m ρ _ => Cert.KernelHgrnDwinLoIdeal.Gen.frame m ρ, frame_hgrndwinlo,
  fun m ρ _ => Cert.KernelHgrnDwinHi.Gen.frame m ρ, fun m ρ _ => Cert.KernelHgrnDwinHiIdeal.Gen.frame m ρ, frame_hgrndwinhi,
  fun m ρ _ => Cert.KernelHgrnDu.Gen.frame m ρ, fun m ρ _ => Cert.KernelHgrnDuIdeal.Gen.frame m ρ, frame_hgrndu,
  fun m ρ _ => Cert.KernelHgrnProj.Gen.frame m ρ, fun m ρ _ => Cert.KernelHgrnProjIdeal.Gen.frame m ρ, frame_hgrnproj,
  fun m ρ _ => Cert.KernelSqOut.Gen.frame m ρ, fun m ρ _ => Cert.KernelSqOutIdeal.Gen.frame m ρ, frame_sqout,
  fun m ρ _ => Cert.KernelQ.Gen.frame m ρ, fun m ρ _ => Cert.KernelQIdeal.Gen.frame m ρ, frame_q,
  fun m ρ _ => Cert.KernelKv.Gen.frame m ρ, fun m ρ _ => Cert.KernelKvIdeal.Gen.frame m ρ, frame_kv,
  fun m ρ _ => Cert.KernelKvDw.Gen.frame m ρ, fun m ρ _ => Cert.KernelKvDwIdeal.Gen.frame m ρ, frame_kvdw,
  fun m ρ _ => Cert.KernelKvDu.Gen.frame m ρ, fun m ρ _ => Cert.KernelKvDuIdeal.Gen.frame m ρ, frame_kvdu,
  fun m ρ _ => Cert.KernelAttOut.Gen.frame m ρ, fun m ρ _ => Cert.KernelAttOutIdeal.Gen.frame m ρ, frame_attout,
  fun m ρ _ => Cert.KernelAttDw.Gen.frame m ρ, fun m ρ _ => Cert.KernelAttDwIdeal.Gen.frame m ρ, frame_attdw,
  fun m ρ _ => Cert.KernelQDw.Gen.frame m ρ, fun m ρ _ => Cert.KernelQDwIdeal.Gen.frame m ρ, frame_qdw,
  fun m ρ _ => Cert.KernelQDu.Gen.frame m ρ, fun m ρ _ => Cert.KernelQDuIdeal.Gen.frame m ρ, frame_qdu,
  fun m ρ _ => Cert.KernelNorm.Gen.frame m ρ, fun m ρ _ => Cert.KernelNormIdeal.Gen.frame m ρ, frame_norm,
  fun m ρ _ => Cert.KernelNormBwd.Gen.frame m ρ, fun m ρ _ => Cert.KernelNormBwdIdeal.Gen.frame m ρ, frame_normbwd,
  IdealRules.named_const.statement Cert.KernelIdeal.κ "mask" .f32 0xF149F2CA#32 ⊥ rfl,
  Cert.Results.equal,
  trivial, Cert.Dact.equal,
  trivial, Cert.In.equal,
  trivial, Cert.Dwout.equal,
  trivial, Cert.DwinLo.equal,
  trivial, Cert.DwinHi.equal,
  trivial, Cert.Du.equal,
  trivial, Cert.Out.equal,
  trivial, Cert.SqDw.equal,
  trivial, Cert.SqDz.equal,
  trivial, Cert.HgrnDwinLo.equal,
  trivial, Cert.HgrnDwinHi.equal,
  trivial, Cert.HgrnDu.equal,
  trivial, Cert.HgrnProj.equal,
  trivial, Cert.SqOut.equal,
  trivial, Cert.Q.equal,
  trivial, Cert.Kv.equal,
  trivial, Cert.KvDw.equal,
  trivial, Cert.KvDu.equal,
  trivial, Cert.AttOut.equal,
  trivial, Cert.AttDw.equal,
  trivial, Cert.QDw.equal,
  trivial, Cert.QDu.equal,
  trivial, Cert.Norm.equal,
  trivial, Cert.NormBwd.equal⟩

end Cert.Proof

end
